-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def preserves_Kernel_KernelIdeal : Prop :=
  IdealRules.named_const.Statement Cert.KernelIdeal.κ "mask" .f32 0xF149F2CA#32 ⊥

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v31) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v50) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  IdealRules.named_const.Statement Cert.Kernel4Ideal.κ "scale" .f32 0x3E38AA3B#32 (((Real.sqrt 64)⁻¹ * (Real.log 2)⁻¹ : ℝ) : EReal)

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v26_0)) (v1 : (c : Dev Cert.Kernel4Ideal.nD) → Buf (Elt Ideal) ((c.tc : Thread Cert.Kernel4Ideal.nD Cert.Kernel4Ideal.τ).loc Cert.Kernel4Ideal.main_v26_1)) (v2 : (c : Dev Cert.Kernel4Ideal.nD) → Buf (Elt Ideal) ((c.tc : Thread Cert.Kernel4Ideal.nD Cert.Kernel4Ideal.τ).loc Cert.Kernel4Ideal.main_v26_2)) (v3 : (c : Dev Cert.Kernel4Ideal.nD) → Buf (Elt Ideal) ((c.tc : Thread Cert.Kernel4Ideal.nD Cert.Kernel4Ideal.τ).loc Cert.Kernel4Ideal.main_v26_3)) (v4 : (c : Dev Cert.Kernel4Ideal.nD) → Buf (Elt Ideal) ((c.tc : Thread Cert.Kernel4Ideal.nD Cert.Kernel4Ideal.τ).loc Cert.Kernel4Ideal.main_v26_4)) (v5 : (c : Dev Cert.Kernel4Ideal.nD) → Buf (Elt Ideal) ((c.tc : Thread Cert.Kernel4Ideal.nD Cert.Kernel4Ideal.τ).loc Cert.Kernel4Ideal.main_v26_5)) (v6 : (c : Dev Cert.Kernel4Ideal.nD) → Buf (Elt Ideal) ((c.tc : Thread Cert.Kernel4Ideal.nD Cert.Kernel4Ideal.τ).loc Cert.Kernel4Ideal.main_v26_6)) (v7 : (c : Dev Cert.Kernel4Ideal.nD) → Buf (Elt Ideal) ((c.tc : Thread Cert.Kernel4Ideal.nD Cert.Kernel4Ideal.τ).loc Cert.Kernel4Ideal.main_v26_7)) (v8 : (c : Dev Cert.Kernel4Ideal.nD) → Buf (Elt Ideal) ((c.tc : Thread Cert.Kernel4Ideal.nD Cert.Kernel4Ideal.τ).loc Cert.Kernel4Ideal.main_v26_8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v26_0) = v0 c
          ∧ r.2.mem ((c.tc : Thread Cert.Kernel4Ideal.nD Cert.Kernel4Ideal.τ).loc Cert.Kernel4Ideal.main_v26_1) = v1 c
          ∧ r.2.mem ((c.tc : Thread Cert.Kernel4Ideal.nD Cert.Kernel4Ideal.τ).loc Cert.Kernel4Ideal.main_v26_2) = v2 c
          ∧ r.2.mem ((c.tc : Thread Cert.Kernel4Ideal.nD Cert.Kernel4Ideal.τ).loc Cert.Kernel4Ideal.main_v26_3) = v3 c
          ∧ r.2.mem ((c.tc : Thread Cert.Kernel4Ideal.nD Cert.Kernel4Ideal.τ).loc Cert.Kernel4Ideal.main_v26_4) = v4 c
          ∧ r.2.mem ((c.tc : Thread Cert.Kernel4Ideal.nD Cert.Kernel4Ideal.τ).loc Cert.Kernel4Ideal.main_v26_5) = v5 c
          ∧ r.2.mem ((c.tc : Thread Cert.Kernel4Ideal.nD Cert.Kernel4Ideal.τ).loc Cert.Kernel4Ideal.main_v26_6) = v6 c
          ∧ r.2.mem ((c.tc : Thread Cert.Kernel4Ideal.nD Cert.Kernel4Ideal.τ).loc Cert.Kernel4Ideal.main_v26_7) = v7 c
          ∧ r.2.mem ((c.tc : Thread Cert.Kernel4Ideal.nD Cert.Kernel4Ideal.τ).loc Cert.Kernel4Ideal.main_v26_8) = v8 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v125) = v0 c
          ∧ r.2.mem ((c.tc : Thread Cert.Reference4Ideal.nD Cert.Reference4Ideal.τ).loc Cert.Reference4Ideal.main_v126) = v1 c
          ∧ r.2.mem ((c.tc : Thread Cert.Reference4Ideal.nD Cert.Reference4Ideal.τ).loc Cert.Reference4Ideal.main_v144) = v2 c
          ∧ r.2.mem ((c.tc : Thread Cert.Reference4Ideal.nD Cert.Reference4Ideal.τ).loc Cert.Reference4Ideal.main_v27) = v3 c
          ∧ r.2.mem ((c.tc : Thread Cert.Reference4Ideal.nD Cert.Reference4Ideal.τ).loc Cert.Reference4Ideal.main_v145) = v4 c
          ∧ r.2.mem ((c.tc : Thread Cert.Reference4Ideal.nD Cert.Reference4Ideal.τ).loc Cert.Reference4Ideal.main_v150) = v5 c
          ∧ r.2.mem ((c.tc : Thread Cert.Reference4Ideal.nD Cert.Reference4Ideal.τ).loc Cert.Reference4Ideal.main_v169) = v6 c
          ∧ r.2.mem ((c.tc : Thread Cert.Reference4Ideal.nD Cert.Reference4Ideal.τ).loc Cert.Reference4Ideal.main_v174) = v7 c
          ∧ r.2.mem ((c.tc : Thread Cert.Reference4Ideal.nD Cert.Reference4Ideal.τ).loc Cert.Reference4Ideal.main_v181) = v8 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def Claim : Prop :=
  ∃ (hKernel : Cert.Kernel.Facts) (hKernelIdeal : Cert.KernelIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_KernelIdeal (hKernelIdeal := hKernelIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S2x2x4x8192x64 : Shape := ⟨5, ![2, 2, 4, 8192, 64]⟩
abbrev S2x2x8192x128 : Shape := ⟨4, ![2, 2, 8192, 128]⟩
abbrev S2x2x8192x64 : Shape := ⟨4, ![2, 2, 8192, 64]⟩
abbrev S2x2x4x8192x3 : Shape := ⟨5, ![2, 2, 4, 8192, 3]⟩
abbrev S512 : Shape := ⟨1, ![512]⟩
abbrev S_ : Shape := ⟨0, ![]⟩
abbrev S2x2x4x64x8192 : Shape := ⟨5, ![2, 2, 4, 64, 8192]⟩
abbrev S2x512x8192 : Shape := ⟨3, ![2, 512, 8192]⟩
abbrev S2x2x4x3x8192 : Shape := ⟨5, ![2, 2, 4, 3, 8192]⟩
abbrev S2x2x12x8192 : Shape := ⟨4, ![2, 2, 12, 8192]⟩
abbrev S2x2x128x8192 : Shape := ⟨4, ![2, 2, 128, 8192]⟩
abbrev S2x256x8192 : Shape := ⟨3, ![2, 256, 8192]⟩
abbrev S2x2x8192x256 : Shape := ⟨4, ![2, 2, 8192, 256]⟩
abbrev S2x2x16x8192 : Shape := ⟨4, ![2, 2, 16, 8192]⟩
abbrev S2x2x64x8192 : Shape := ⟨4, ![2, 2, 64, 8192]⟩
abbrev S2x2x80x8192 : Shape := ⟨4, ![2, 2, 80, 8192]⟩
abbrev S512x1 : Shape := ⟨2, ![512, 1]⟩
abbrev S2x8192x512 : Shape := ⟨3, ![2, 8192, 512]⟩
abbrev S1x256x256 : Shape := ⟨3, ![1, 256, 256]⟩
abbrev S1x128x256 : Shape := ⟨3, ![1, 128, 256]⟩
abbrev S1x1x128x256 : Shape := ⟨4, ![1, 1, 128, 256]⟩
abbrev S1x1x4x64x256 : Shape := ⟨5, ![1, 1, 4, 64, 256]⟩
abbrev S1x1x8192x256 : Shape := ⟨4, ![1, 1, 8192, 256]⟩
abbrev S1x1x80x8192 : Shape := ⟨4, ![1, 1, 80, 8192]⟩
abbrev S1x1x8192x64 : Shape := ⟨4, ![1, 1, 8192, 64]⟩
abbrev S256x1 : Shape := ⟨2, ![256, 1]⟩
abbrev S512x1024 : Shape := ⟨2, ![512, 1024]⟩
abbrev S768x1024 : Shape := ⟨2, ![768, 1024]⟩
abbrev S256x1024 : Shape := ⟨2, ![256, 1024]⟩
abbrev S80x1024 : Shape := ⟨2, ![80, 1024]⟩
abbrev S1x256 : Shape := ⟨2, ![1, 256]⟩
abbrev S16x1 : Shape := ⟨2, ![16, 1]⟩
abbrev S256x256 : Shape := ⟨2, ![256, 256]⟩
abbrev S64x256 : Shape := ⟨2, ![64, 256]⟩
abbrev S64x1024 : Shape := ⟨2, ![64, 1024]⟩
abbrev S128x256 : Shape := ⟨2, ![128, 256]⟩
abbrev S128x1024 : Shape := ⟨2, ![128, 1024]⟩
abbrev S1x1x768x64 : Shape := ⟨4, ![1, 1, 768, 64]⟩
abbrev S768x64 : Shape := ⟨2, ![768, 64]⟩
abbrev S1x1x512x256 : Shape := ⟨4, ![1, 1, 512, 256]⟩
abbrev S512x256 : Shape := ⟨2, ![512, 256]⟩
abbrev S8x1024 : Shape := ⟨2, ![8, 1024]⟩
abbrev S16x256 : Shape := ⟨2, ![16, 256]⟩
abbrev S16x1024 : Shape := ⟨2, ![16, 1024]⟩
abbrev S1024 : Shape := ⟨1, ![1024]⟩
abbrev S1x1024 : Shape := ⟨2, ![1, 1024]⟩
abbrev S1x1x80x768 : Shape := ⟨4, ![1, 1, 80, 768]⟩
abbrev S80x768 : Shape := ⟨2, ![80, 768]⟩
abbrev S1x1x80x512 : Shape := ⟨4, ![1, 1, 80, 512]⟩
abbrev S80x512 : Shape := ⟨2, ![80, 512]⟩
abbrev S1x1x1x64x256 : Shape := ⟨5, ![1, 1, 1, 64, 256]⟩
abbrev S256 : Shape := ⟨1, ![256]⟩
abbrev S64x1 : Shape := ⟨2, ![64, 1]⟩
abbrev S256x64 : Shape := ⟨2, ![256, 64]⟩

abbrev nBuf : Space → Nat
  | .hbm => 79
  | .vmem => 28
  | .smem => 0
  | _ => 0

abbrev bufTy : (tb : Table) → Fin (tcTables nBuf tb) → BufTy
  | .hbm, ⟨0, _⟩ => ⟨S2x2x4x8192x64, .f32⟩
  | .hbm, ⟨1, _⟩ => ⟨S2x2x8192x128, .i32⟩
  | .hbm, ⟨2, _⟩ => ⟨S2x2x4x8192x64, .f32⟩
  | .hbm, ⟨3, _⟩ => ⟨S2x2x8192x64, .f32⟩
  | .hbm, ⟨4, _⟩ => ⟨S2x2x8192x64, .f32⟩
  | .hbm, ⟨5, _⟩ => ⟨S2x2x8192x64, .f32⟩
  | .hbm, ⟨6, _⟩ => ⟨S2x2x8192x64, .f32⟩
  | .hbm, ⟨7, _⟩ => ⟨S2x2x4x8192x3, .f32⟩
  | .hbm, ⟨8, _⟩ => ⟨S512, .f32⟩
  | .hbm, ⟨9, _⟩ => ⟨S_, .f32⟩
  | .hbm, ⟨10, _⟩ => ⟨S2x2x4x8192x64, .f32⟩
  | .hbm, ⟨11, _⟩ => ⟨S2x2x4x8192x64, .f32⟩
  | .hbm, ⟨12, _⟩ => ⟨S2x2x4x8192x64, .bf16⟩
  | .hbm, ⟨13, _⟩ => ⟨S2x2x4x64x8192, .bf16⟩
  | .hbm, ⟨14, _⟩ => ⟨S2x512x8192, .bf16⟩
  | .hbm, ⟨15, _⟩ => ⟨S2x2x4x8192x3, .f32⟩
  | .hbm, ⟨16, _⟩ => ⟨S2x2x4x8192x3, .f32⟩
  | .hbm, ⟨17, _⟩ => ⟨S_, .f32⟩
  | .hbm, ⟨18, _⟩ => ⟨S2x2x4x8192x3, .f32⟩
  | .hbm, ⟨19, _⟩ => ⟨S2x2x4x8192x3, .f32⟩
  | .hbm, ⟨20, _⟩ => ⟨S_, .f32⟩
  | .hbm, ⟨21, _⟩ => ⟨S2x2x4x8192x3, .f32⟩
  | .hbm, ⟨22, _⟩ => ⟨S2x2x4x8192x3, .f32⟩
  | .hbm, ⟨23, _⟩ => ⟨S2x2x4x3x8192, .f32⟩
  | .hbm, ⟨24, _⟩ => ⟨S2x2x12x8192, .f32⟩
  | .hbm, ⟨25, _⟩ => ⟨S_, .i32⟩
  | .hbm, ⟨26, _⟩ => ⟨S_, .f32⟩
  | .hbm, ⟨27, _⟩ => ⟨S2x2x128x8192, .f32⟩
  | .hbm, ⟨28, _⟩ => ⟨S2x256x8192, .f32⟩
  | .hbm, ⟨29, _⟩ => ⟨S_, .i32⟩
  | .hbm, ⟨30, _⟩ => ⟨S2x2x8192x128, .i32⟩
  | .hbm, ⟨31, _⟩ => ⟨S2x2x8192x128, .i1⟩
  | .hbm, ⟨32, _⟩ => ⟨S_, .f32⟩
  | .hbm, ⟨33, _⟩ => ⟨S_, .f32⟩
  | .hbm, ⟨34, _⟩ => ⟨S2x2x8192x128, .f32⟩
  | .hbm, ⟨35, _⟩ => ⟨S2x2x8192x128, .f32⟩
  | .hbm, ⟨36, _⟩ => ⟨S2x2x8192x128, .f32⟩
  | .hbm, ⟨37, _⟩ => ⟨S2x2x8192x128, .bf16⟩
  | .hbm, ⟨38, _⟩ => ⟨S2x2x128x8192, .bf16⟩
  | .hbm, ⟨39, _⟩ => ⟨S2x2x8192x128, .i32⟩
  | .hbm, ⟨40, _⟩ => ⟨S_, .i32⟩
  | .hbm, ⟨41, _⟩ => ⟨S_, .i32⟩
  | .hbm, ⟨42, _⟩ => ⟨S2x2x8192x128, .i32⟩
  | .hbm, ⟨43, _⟩ => ⟨S2x2x8192x128, .i32⟩
  | .hbm, ⟨44, _⟩ => ⟨S2x2x8192x128, .i32⟩
  | .hbm, ⟨45, _⟩ => ⟨S_, .i32⟩
  | .hbm, ⟨46, _⟩ => ⟨S2x2x8192x128, .i32⟩
  | .hbm, ⟨47, _⟩ => ⟨S2x2x8192x128, .i1⟩
  | .hbm, ⟨48, _⟩ => ⟨S2x2x8192x128, .i32⟩
  | .hbm, ⟨49, _⟩ => ⟨S2x2x8192x128, .i32⟩
  | .hbm, ⟨50, _⟩ => ⟨S_, .i32⟩
  | .hbm, ⟨51, _⟩ => ⟨S2x2x8192x128, .i32⟩
  | .hbm, ⟨52, _⟩ => ⟨S2x2x8192x128, .i1⟩
  | .hbm, ⟨53, _⟩ => ⟨S2x2x8192x128, .i1⟩
  | .hbm, ⟨54, _⟩ => ⟨S_, .i32⟩
  | .hbm, ⟨55, _⟩ => ⟨S2x2x8192x128, .i32⟩
  | .hbm, ⟨56, _⟩ => ⟨S2x2x8192x128, .i32⟩
  | .hbm, ⟨57, _⟩ => ⟨S2x2x8192x128, .i32⟩
  | .hbm, ⟨58, _⟩ => ⟨S2x2x8192x128, .i32⟩
  | .hbm, ⟨59, _⟩ => ⟨S2x2x8192x128, .i1⟩
  | .hbm, ⟨60, _⟩ => ⟨S2x2x8192x128, .f32⟩
  | .hbm, ⟨61, _⟩ => ⟨S2x2x8192x128, .bf16⟩
  | .hbm, ⟨62, _⟩ => ⟨S2x2x8192x64, .bf16⟩
  | .hbm, ⟨63, _⟩ => ⟨S_, .bf16⟩
  | .hbm, ⟨64, _⟩ => ⟨S2x2x8192x64, .bf16⟩
  | .hbm, ⟨65, _⟩ => ⟨S2x2x8192x256, .bf16⟩
  | .hbm, ⟨66, _⟩ => ⟨S_, .bf16⟩
  | .hbm, ⟨67, _⟩ => ⟨S2x2x16x8192, .bf16⟩
  | .hbm, ⟨68, _⟩ => ⟨S2x2x8192x64, .bf16⟩
  | .hbm, ⟨69, _⟩ => ⟨S2x2x64x8192, .bf16⟩
  | .hbm, ⟨70, _⟩ => ⟨S2x2x80x8192, .bf16⟩
  | .hbm, ⟨71, _⟩ => ⟨S2x2x8192x64, .bf16⟩
  | .hbm, ⟨72, _⟩ => ⟨S2x2x64x8192, .bf16⟩
  | .hbm, ⟨73, _⟩ => ⟨S2x2x80x8192, .bf16⟩
  | .hbm, ⟨74, _⟩ => ⟨S2x2x4x64x8192, .f32⟩
  | .hbm, ⟨75, _⟩ => ⟨S2x2x8192x64, .bf16⟩
  | .hbm, ⟨76, _⟩ => ⟨S512x1, .f32⟩
  | .hbm, ⟨77, _⟩ => ⟨S2x8192x512, .bf16⟩
  | .hbm, ⟨78, _⟩ => ⟨S2x8192x512, .f32⟩
  | .local _ .vmem, ⟨0, _⟩ => ⟨S1x256x256, .bf16⟩
  | .local _ .vmem, ⟨1, _⟩ => ⟨S1x256x256, .bf16⟩
  | .local _ .vmem, ⟨2, _⟩ => ⟨S1x128x256, .f32⟩
  | .local _ .vmem, ⟨3, _⟩ => ⟨S1x128x256, .f32⟩
  | .local _ .vmem, ⟨4, _⟩ => ⟨S1x1x128x256, .bf16⟩
  | .local _ .vmem, ⟨5, _⟩ => ⟨S1x1x128x256, .bf16⟩
  | .local _ .vmem, ⟨6, _⟩ => ⟨S1x1x4x64x256, .f32⟩
  | .local _ .vmem, ⟨7, _⟩ => ⟨S1x1x4x64x256, .f32⟩
  | .local _ .vmem, ⟨8, _⟩ => ⟨S1x1x8192x256, .bf16⟩
  | .local _ .vmem, ⟨9, _⟩ => ⟨S1x1x8192x256, .bf16⟩
  | .local _ .vmem, ⟨10, _⟩ => ⟨S1x1x80x8192, .bf16⟩
  | .local _ .vmem, ⟨11, _⟩ => ⟨S1x1x80x8192, .bf16⟩
  | .local _ .vmem, ⟨12, _⟩ => ⟨S1x1x8192x64, .bf16⟩
  | .local _ .vmem, ⟨13, _⟩ => ⟨S1x1x8192x64, .bf16⟩
  | .local _ .vmem, ⟨14, _⟩ => ⟨S1x1x80x8192, .bf16⟩
  | .local _ .vmem, ⟨15, _⟩ => ⟨S1x1x80x8192, .bf16⟩
  | .local _ .vmem, ⟨16, _⟩ => ⟨S256x1, .f32⟩
  | .local _ .vmem, ⟨17, _⟩ => ⟨S256x1, .f32⟩
  | .local _ .vmem, ⟨18, _⟩ => ⟨S1x256x256, .bf16⟩
  | .local _ .vmem, ⟨19, _⟩ => ⟨S1x256x256, .bf16⟩
  | .local _ .vmem, ⟨20, _⟩ => ⟨S512x1024, .f32⟩
  | .local _ .vmem, ⟨21, _⟩ => ⟨S512x1024, .f32⟩
  | .local _ .vmem, ⟨22, _⟩ => ⟨S512x1024, .bf16⟩
  | .local _ .vmem, ⟨23, _⟩ => ⟨S512x1024, .bf16⟩
  | .local _ .vmem, ⟨24, _⟩ => ⟨S768x1024, .f32⟩
  | .local _ .vmem, ⟨25, _⟩ => ⟨S768x1024, .bf16⟩
  | .local _ .vmem, ⟨26, _⟩ => ⟨S256x1024, .bf16⟩
  | .local _ .vmem, ⟨27, _⟩ => ⟨S80x1024, .f32⟩
  | _, _ => ⟨S2x2x4x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_call0_v0 : Ref sig .tc := ⟨.hbm, 26, rfl⟩
abbrev main_v13 : Ref sig .tc := ⟨.hbm, 27, rfl⟩
abbrev main_v14 : Ref sig .tc := ⟨.hbm, 28, rfl⟩
abbrev main_c_2 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_cst_4 : Ref sig .tc := ⟨.hbm, 33, rfl⟩
abbrev main_call1_v0 : Ref sig .tc := ⟨.hbm, 34, rfl⟩
abbrev main_call1_v1 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_5 : Ref sig .tc := ⟨.hbm, 40, rfl⟩
abbrev main_call2_v0 : Ref sig .tc := ⟨.hbm, 41, rfl⟩
abbrev main_call2_v1 : Ref sig .tc := ⟨.hbm, 42, rfl⟩
abbrev main_call2_v2 : Ref sig .tc := ⟨.hbm, 43, rfl⟩
abbrev main_call2_v3 : Ref sig .tc := ⟨.hbm, 44, rfl⟩
abbrev main_call2_v4 : Ref sig .tc := ⟨.hbm, 45, rfl⟩
abbrev main_call2_v5 : Ref sig .tc := ⟨.hbm, 46, rfl⟩
abbrev main_call2_v6 : Ref sig .tc := ⟨.hbm, 47, rfl⟩
abbrev main_call2_v7 : Ref sig .tc := ⟨.hbm, 48, rfl⟩
abbrev main_call2_v8 : Ref sig .tc := ⟨.hbm, 49, rfl⟩
abbrev main_call2_c : Ref sig .tc := ⟨.hbm, 50, rfl⟩
abbrev main_call2_v9 : Ref sig .tc := ⟨.hbm, 51, rfl⟩
abbrev main_call2_v10 : Ref sig .tc := ⟨.hbm, 52, rfl⟩
abbrev main_call2_v11 : Ref sig .tc := ⟨.hbm, 53, rfl⟩
abbrev main_call2_c_0 : Ref sig .tc := ⟨.hbm, 54, rfl⟩
abbrev main_call2_v12 : Ref sig .tc := ⟨.hbm, 55, rfl⟩
abbrev main_call2_v13 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_cst_6 : Ref sig .tc := ⟨.hbm, 63, rfl⟩
abbrev main_v27 : Ref sig .tc := ⟨.hbm, 64, rfl⟩
abbrev main_v28 : Ref sig .tc := ⟨.hbm, 65, rfl⟩
abbrev main_cst_7 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_scratch7 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![2, 2, 32], ![false, false, false]⟩

def k0_mult1 (i : grid0.Coords) : BitVec 32 :=
  let arg2 : BitVec 32 := BitVec.ofNat 32 (i 2).val
  let c256_i32 : BitVec 32 := 256#32
  let v0 : BitVec 32 := Scalar.muli arg2 c256_i32
  let c512_i32 : BitVec 32 := 512#32
  let v20 : BitVec 32 := Scalar.subi v0 c512_i32
  let c0_i32 : BitVec 32 := 0#32
  let v21 : BitVec 32 := Scalar.maxsi v20 c0_i32
  v21
def k0_off1 (i : grid0.Coords) : Fin 4 → Nat :=
  let c0_8 : Index := 0#32
  let c0_9 : Index := 0#32
  let arg2 : BitVec 32 := BitVec.ofNat 32 (i 2).val
  let c256_i32 : BitVec 32 := 256#32
  let v0 : BitVec 32 := Scalar.muli arg2 c256_i32
  let c512_i32 : BitVec 32 := 512#32
  let v20 : BitVec 32 := Scalar.subi v0 c512_i32
  let c0_i32 : BitVec 32 := 0#32
  let v21 : BitVec 32 := Scalar.maxsi v20 c0_i32
  let v22 : BitVec 32 := v21
  let v23 : Index := Scalar.indexCast v22
  let c0_10 : Index := 0#32
  ![0, 0, v23.toNat, 0]
def k0_mult2 (i : grid0.Coords) : BitVec 32 :=
  let c0_i32_26 : BitVec 32 := 0#32
  let arg2 : BitVec 32 := BitVec.ofNat 32 (i 2).val
  let c256_i32 : BitVec 32 := 256#32
  let v0 : BitVec 32 := Scalar.muli arg2 c256_i32
  let c0_i32_15 : BitVec 32 := 0#32
  let v31 : BitVec 1 := Scalar.cmpi .sgt v0 c0_i32_15
  let v32 : BitVec 32 := Scalar.extui v31
  let c0_i32_16 : BitVec 32 := 0#32
  let v33 : BitVec 1 := Scalar.cmpi .slt v0 c0_i32_16
  let v34 : BitVec 32 := Scalar.extui v33
  let v35 : BitVec 32 := Scalar.subi v32 v34
  let c512_i32_14 : BitVec 32 := 512#32
  let c0_i32_17 : BitVec 32 := 0#32
  let v36 : BitVec 1 := Scalar.cmpi .sgt c512_i32_14 c0_i32_17
  let v37 : BitVec 32 := Scalar.extui v36
  let c0_i32_18 : BitVec 32 := 0#32
  let v38 : BitVec 1 := Scalar.cmpi .slt c512_i32_14 c0_i32_18
  let v39 : BitVec 32 := Scalar.extui v38
  let v40 : BitVec 32 := Scalar.subi v37 v39
  let v41 : BitVec 1 := Scalar.cmpi .ne v35 v40
  let v42 : BitVec 32 := Scalar.remsi v0 c512_i32_14
  let c0_i32_19 : BitVec 32 := 0#32
  let v43 : BitVec 1 := Scalar.cmpi .ne v42 c0_i32_19
  let v44 : BitVec 1 := Scalar.andi v41 v43
  let v30 : BitVec 32 := Scalar.divsi v0 c512_i32_14
  let c1_i32 : BitVec 32 := 1#32
  let v45 : BitVec 32 := Scalar.subi v30 c1_i32
  let v46 : BitVec 32 := Scalar.select v44 v45 v30
  let v55 : BitVec 32 := Scalar.minsi c0_i32_26 v46
  let c512_i32_27 : BitVec 32 := 512#32
  let v56 : BitVec 32 := Scalar.muli v55 c512_i32_27
  v56
def k0_off2 (i : grid0.Coords) : Fin 4 → Nat :=
  let c0_28 : Index := 0#32
  let c0_29 : Index := 0#32
  let c0_i32_26 : BitVec 32 := 0#32
  let arg2 : BitVec 32 := BitVec.ofNat 32 (i 2).val
  let c256_i32 : BitVec 32 := 256#32
  let v0 : BitVec 32 := Scalar.muli arg2 c256_i32
  let c0_i32_15 : BitVec 32 := 0#32
  let v31 : BitVec 1 := Scalar.cmpi .sgt v0 c0_i32_15
  let v32 : BitVec 32 := Scalar.extui v31
  let c0_i32_16 : BitVec 32 := 0#32
  let v33 : BitVec 1 := Scalar.cmpi .slt v0 c0_i32_16
  let v34 : BitVec 32 := Scalar.extui v33
  let v35 : BitVec 32 := Scalar.subi v32 v34
  let c512_i32_14 : BitVec 32 := 512#32
  let c0_i32_17 : BitVec 32 := 0#32
  let v36 : BitVec 1 := Scalar.cmpi .sgt c512_i32_14 c0_i32_17
  let v37 : BitVec 32 := Scalar.extui v36
  let c0_i32_18 : BitVec 32 := 0#32
  let v38 : BitVec 1 := Scalar.cmpi .slt c512_i32_14 c0_i32_18
  let v39 : BitVec 32 := Scalar.extui v38
  let v40 : BitVec 32 := Scalar.subi v37 v39
  let v41 : BitVec 1 := Scalar.cmpi .ne v35 v40
  let v42 : BitVec 32 := Scalar.remsi v0 c512_i32_14
  let c0_i32_19 : BitVec 32 := 0#32
  let v43 : BitVec 1 := Scalar.cmpi .ne v42 c0_i32_19
  let v44 : BitVec 1 := Scalar.andi v41 v43
  let v30 : BitVec 32 := Scalar.divsi v0 c512_i32_14
  let c1_i32 : BitVec 32 := 1#32
  let v45 : BitVec 32 := Scalar.subi v30 c1_i32
  let v46 : BitVec 32 := Scalar.select v44 v45 v30
  let v55 : BitVec 32 := Scalar.minsi c0_i32_26 v46
  let c512_i32_27 : BitVec 32 := 512#32
  let v56 : BitVec 32 := Scalar.muli v55 c512_i32_27
  let v57 : BitVec 32 := v56
  let v58 : Index := Scalar.indexCast v57
  let c0_30 : Index := 0#32
  ![0, 0, v58.toNat, 0]
def k0_off3 (i : grid0.Coords) : Fin 4 → Nat :=
  let c0_570 : Index := 0#32
  let c0_571 : Index := 0#32
  let c0_572 : Index := 0#32
  let arg2 : BitVec 32 := BitVec.ofNat 32 (i 2).val
  let c256_i32 : BitVec 32 := 256#32
  let v0 : BitVec 32 := Scalar.muli arg2 c256_i32
  let c512_i32 : BitVec 32 := 512#32
  let v20 : BitVec 32 := Scalar.subi v0 c512_i32
  let c0_i32 : BitVec 32 := 0#32
  let v21 : BitVec 32 := Scalar.maxsi v20 c0_i32
  let v22 : BitVec 32 := v21
  let v1606 : Index := Scalar.indexCast v22
  ![0, 0, 0, v1606.toNat]
def k0_cond1 (i : grid0.Coords) : BitVec 1 :=
  let arg2 : BitVec 32 := BitVec.ofNat 32 (i 2).val
  let c256_i32 : BitVec 32 := 256#32
  let v0 : BitVec 32 := Scalar.muli arg2 c256_i32
  let c0_i32_15 : BitVec 32 := 0#32
  let v31 : BitVec 1 := Scalar.cmpi .sgt v0 c0_i32_15
  let v32 : BitVec 32 := Scalar.extui v31
  let c0_i32_16 : BitVec 32 := 0#32
  let v33 : BitVec 1 := Scalar.cmpi .slt v0 c0_i32_16
  let v34 : BitVec 32 := Scalar.extui v33
  let v35 : BitVec 32 := Scalar.subi v32 v34
  let c512_i32_14 : BitVec 32 := 512#32
  let c0_i32_17 : BitVec 32 := 0#32
  let v36 : BitVec 1 := Scalar.cmpi .sgt c512_i32_14 c0_i32_17
  let v37 : BitVec 32 := Scalar.extui v36
  let c0_i32_18 : BitVec 32 := 0#32
  let v38 : BitVec 1 := Scalar.cmpi .slt c512_i32_14 c0_i32_18
  let v39 : BitVec 32 := Scalar.extui v38
  let v40 : BitVec 32 := Scalar.subi v37 v39
  let v41 : BitVec 1 := Scalar.cmpi .ne v35 v40
  let v42 : BitVec 32 := Scalar.remsi v0 c512_i32_14
  let c0_i32_19 : BitVec 32 := 0#32
  let v43 : BitVec 1 := Scalar.cmpi .ne v42 c0_i32_19
  let v44 : BitVec 1 := Scalar.andi v41 v43
  let v30 : BitVec 32 := Scalar.divsi v0 c512_i32_14
  let c1_i32 : BitVec 32 := 1#32
  let v45 : BitVec 32 := Scalar.subi v30 c1_i32
  let v46 : BitVec 32 := Scalar.select v44 v45 v30
  let c0_i32_577 : BitVec 32 := 0#32
  let v1618 : BitVec 1 := Scalar.cmpi .sgt v46 c0_i32_577
  let v1619 : BitVec 32 := Scalar.extui v1618
  let c0_i32_578 : BitVec 32 := 0#32
  let v1620 : BitVec 1 := Scalar.cmpi .slt v46 c0_i32_578
  let v1621 : BitVec 32 := Scalar.extui v1620
  let v1622 : BitVec 32 := Scalar.subi v1619 v1621
  let c2_i32 : BitVec 32 := 2#32
  let c0_i32_579 : BitVec 32 := 0#32
  let v1623 : BitVec 1 := Scalar.cmpi .sgt c2_i32 c0_i32_579
  let v1624 : BitVec 32 := Scalar.extui v1623
  let c0_i32_580 : BitVec 32 := 0#32
  let v1625 : BitVec 1 := Scalar.cmpi .slt c2_i32 c0_i32_580
  let v1626 : BitVec 32 := Scalar.extui v1625
  let v1627 : BitVec 32 := Scalar.subi v1624 v1626
  let v1628 : BitVec 1 := Scalar.cmpi .ne v1622 v1627
  let v1629 : BitVec 32 := Scalar.remsi v46 c2_i32
  let c0_i32_581 : BitVec 32 := 0#32
  let v1630 : BitVec 1 := Scalar.cmpi .ne v1629 c0_i32_581
  let v1631 : BitVec 1 := Scalar.andi v1628 v1630
  let v1617 : BitVec 32 := Scalar.divsi v46 c2_i32
  let c1_i32_582 : BitVec 32 := 1#32
  let v1632 : BitVec 32 := Scalar.subi v1617 c1_i32_582
  let v1633 : BitVec 32 := Scalar.select v1631 v1632 v1617
  let c1_i32_583 : BitVec 32 := 1#32
  let v1634 : BitVec 1 := Scalar.cmpi .sge v1633 c1_i32_583
  let v1636 : BitVec 32 := Scalar.extui v1634
  let c0_i32_585 : BitVec 32 := 0#32
  let v1637 : BitVec 1 := Scalar.cmpi .ne v1636 c0_i32_585
  v1637

def k0_mult3 (i : grid0.Coords) : BitVec 32 :=
  let c1_i32_669 : BitVec 32 := 1#32
  let arg2 : BitVec 32 := BitVec.ofNat 32 (i 2).val
  let c256_i32 : BitVec 32 := 256#32
  let v0 : BitVec 32 := Scalar.muli arg2 c256_i32
  let c0_i32_15 : BitVec 32 := 0#32
  let v31 : BitVec 1 := Scalar.cmpi .sgt v0 c0_i32_15
  let v32 : BitVec 32 := Scalar.extui v31
  let c0_i32_16 : BitVec 32 := 0#32
  let v33 : BitVec 1 := Scalar.cmpi .slt v0 c0_i32_16
  let v34 : BitVec 32 := Scalar.extui v33
  let v35 : BitVec 32 := Scalar.subi v32 v34
  let c512_i32_14 : BitVec 32 := 512#32
  let c0_i32_17 : BitVec 32 := 0#32
  let v36 : BitVec 1 := Scalar.cmpi .sgt c512_i32_14 c0_i32_17
  let v37 : BitVec 32 := Scalar.extui v36
  let c0_i32_18 : BitVec 32 := 0#32
  let v38 : BitVec 1 := Scalar.cmpi .slt c512_i32_14 c0_i32_18
  let v39 : BitVec 32 := Scalar.extui v38
  let v40 : BitVec 32 := Scalar.subi v37 v39
  let v41 : BitVec 1 := Scalar.cmpi .ne v35 v40
  let v42 : BitVec 32 := Scalar.remsi v0 c512_i32_14
  let c0_i32_19 : BitVec 32 := 0#32
  let v43 : BitVec 1 := Scalar.cmpi .ne v42 c0_i32_19
  let v44 : BitVec 1 := Scalar.andi v41 v43
  let v30 : BitVec 32 := Scalar.divsi v0 c512_i32_14
  let c1_i32 : BitVec 32 := 1#32
  let v45 : BitVec 32 := Scalar.subi v30 c1_i32
  let v46 : BitVec 32 := Scalar.select v44 v45 v30
  let v1839 : BitVec 32 := Scalar.minsi c1_i32_669 v46
  let c512_i32_670 : BitVec 32 := 512#32
  let v1840 : BitVec 32 := Scalar.muli v1839 c512_i32_670
  v1840
def k0_off4 (i : grid0.Coords) (c1_i32_669 : BitVec 32) : Fin 4 → Nat :=
  let c0_671 : Index := 0#32
  let c0_672 : Index := 0#32
  let arg2 : BitVec 32 := BitVec.ofNat 32 (i 2).val
  let c256_i32 : BitVec 32 := 256#32
  let v0 : BitVec 32 := Scalar.muli arg2 c256_i32
  let c0_i32_15 : BitVec 32 := 0#32
  let v31 : BitVec 1 := Scalar.cmpi .sgt v0 c0_i32_15
  let v32 : BitVec 32 := Scalar.extui v31
  let c0_i32_16 : BitVec 32 := 0#32
  let v33 : BitVec 1 := Scalar.cmpi .slt v0 c0_i32_16
  let v34 : BitVec 32 := Scalar.extui v33
  let v35 : BitVec 32 := Scalar.subi v32 v34
  let c512_i32_14 : BitVec 32 := 512#32
  let c0_i32_17 : BitVec 32 := 0#32
  let v36 : BitVec 1 := Scalar.cmpi .sgt c512_i32_14 c0_i32_17
  let v37 : BitVec 32 := Scalar.extui v36
  let c0_i32_18 : BitVec 32 := 0#32
  let v38 : BitVec 1 := Scalar.cmpi .slt c512_i32_14 c0_i32_18
  let v39 : BitVec 32 := Scalar.extui v38
  let v40 : BitVec 32 := Scalar.subi v37 v39
  let v41 : BitVec 1 := Scalar.cmpi .ne v35 v40
  let v42 : BitVec 32 := Scalar.remsi v0 c512_i32_14
  let c0_i32_19 : BitVec 32 := 0#32
  let v43 : BitVec 1 := Scalar.cmpi .ne v42 c0_i32_19
  let v44 : BitVec 1 := Scalar.andi v41 v43
  let v30 : BitVec 32 := Scalar.divsi v0 c512_i32_14
  let c1_i32 : BitVec 32 := 1#32
  let v45 : BitVec 32 := Scalar.subi v30 c1_i32
  let v46 : BitVec 32 := Scalar.select v44 v45 v30
  let v1839 : BitVec 32 := Scalar.minsi c1_i32_669 v46
  let c512_i32_670 : BitVec 32 := 512#32
  let v1840 : BitVec 32 := Scalar.muli v1839 c512_i32_670
  let v1841 : BitVec 32 := v1840
  let v1842 : Index := Scalar.indexCast v1841
  let c0_673 : Index := 0#32
  ![0, 0, v1842.toNat, 0]
def k0_mult4 (i : grid0.Coords) : BitVec 32 :=
  let arg2 : BitVec 32 := BitVec.ofNat 32 (i 2).val
  let c256_i32 : BitVec 32 := 256#32
  let v0 : BitVec 32 := Scalar.muli arg2 c256_i32
  let c0_i32_15 : BitVec 32 := 0#32
  let v31 : BitVec 1 := Scalar.cmpi .sgt v0 c0_i32_15
  let v32 : BitVec 32 := Scalar.extui v31
  let c0_i32_16 : BitVec 32 := 0#32
  let v33 : BitVec 1 := Scalar.cmpi .slt v0 c0_i32_16
  let v34 : BitVec 32 := Scalar.extui v33
  let v35 : BitVec 32 := Scalar.subi v32 v34
  let c512_i32_14 : BitVec 32 := 512#32
  let c0_i32_17 : BitVec 32 := 0#32
  let v36 : BitVec 1 := Scalar.cmpi .sgt c512_i32_14 c0_i32_17
  let v37 : BitVec 32 := Scalar.extui v36
  let c0_i32_18 : BitVec 32 := 0#32
  let v38 : BitVec 1 := Scalar.cmpi .slt c512_i32_14 c0_i32_18
  let v39 : BitVec 32 := Scalar.extui v38
  let v40 : BitVec 32 := Scalar.subi v37 v39
  let v41 : BitVec 1 := Scalar.cmpi .ne v35 v40
  let v42 : BitVec 32 := Scalar.remsi v0 c512_i32_14
  let c0_i32_19 : BitVec 32 := 0#32
  let v43 : BitVec 1 := Scalar.cmpi .ne v42 c0_i32_19
  let v44 : BitVec 1 := Scalar.andi v41 v43
  let v30 : BitVec 32 := Scalar.divsi v0 c512_i32_14
  let c1_i32 : BitVec 32 := 1#32
  let v45 : BitVec 32 := Scalar.subi v30 c1_i32
  let v46 : BitVec 32 := Scalar.select v44 v45 v30
  let c0_i32_878 : BitVec 32 := 0#32
  let c0_i32_877 : BitVec 32 := 0#32
  let v2279 : BitVec 32 := Scalar.maxsi c0_i32_878 c0_i32_877
  let v2280 : BitVec 32 := Scalar.minsi v46 v2279
  let c512_i32_879 : BitVec 32 := 512#32
  let v2281 : BitVec 32 := Scalar.muli v2280 c512_i32_879
  v2281
def k0_off5 (i : grid0.Coords) : Fin 4 → Nat :=
  let c0_880 : Index := 0#32
  let c0_881 : Index := 0#32
  let c0_882 : Index := 0#32
  let arg2 : BitVec 32 := BitVec.ofNat 32 (i 2).val
  let c256_i32 : BitVec 32 := 256#32
  let v0 : BitVec 32 := Scalar.muli arg2 c256_i32
  let c0_i32_15 : BitVec 32 := 0#32
  let v31 : BitVec 1 := Scalar.cmpi .sgt v0 c0_i32_15
  let v32 : BitVec 32 := Scalar.extui v31
  let c0_i32_16 : BitVec 32 := 0#32
  let v33 : BitVec 1 := Scalar.cmpi .slt v0 c0_i32_16
  let v34 : BitVec 32 := Scalar.extui v33
  let v35 : BitVec 32 := Scalar.subi v32 v34
  let c512_i32_14 : BitVec 32 := 512#32
  let c0_i32_17 : BitVec 32 := 0#32
  let v36 : BitVec 1 := Scalar.cmpi .sgt c512_i32_14 c0_i32_17
  let v37 : BitVec 32 := Scalar.extui v36
  let c0_i32_18 : BitVec 32 := 0#32
  let v38 : BitVec 1 := Scalar.cmpi .slt c512_i32_14 c0_i32_18
  let v39 : BitVec 32 := Scalar.extui v38
  let v40 : BitVec 32 := Scalar.subi v37 v39
  let v41 : BitVec 1 := Scalar.cmpi .ne v35 v40
  let v42 : BitVec 32 := Scalar.remsi v0 c512_i32_14
  let c0_i32_19 : BitVec 32 := 0#32
  let v43 : BitVec 1 := Scalar.cmpi .ne v42 c0_i32_19
  let v44 : BitVec 1 := Scalar.andi v41 v43
  let v30 : BitVec 32 := Scalar.divsi v0 c512_i32_14
  let c1_i32 : BitVec 32 := 1#32
  let v45 : BitVec 32 := Scalar.subi v30 c1_i32
  let v46 : BitVec 32 := Scalar.select v44 v45 v30
  let c0_i32_878 : BitVec 32 := 0#32
  let c0_i32_877 : BitVec 32 := 0#32
  let v2279 : BitVec 32 := Scalar.maxsi c0_i32_878 c0_i32_877
  let v2280 : BitVec 32 := Scalar.minsi v46 v2279
  let c512_i32_879 : BitVec 32 := 512#32
  let v2281 : BitVec 32 := Scalar.muli v2280 c512_i32_879
  let v2282 : BitVec 32 := v2281
  let v2283 : Index := Scalar.indexCast v2282
  ![0, 0, 0, v2283.toNat]
def k0_mult5 (i : grid0.Coords) : BitVec 32 :=
  let c2_i32_886 : BitVec 32 := 2#32
  let arg2 : BitVec 32 := BitVec.ofNat 32 (i 2).val
  let c256_i32 : BitVec 32 := 256#32
  let v0 : BitVec 32 := Scalar.muli arg2 c256_i32
  let c0_i32_15 : BitVec 32 := 0#32
  let v31 : BitVec 1 := Scalar.cmpi .sgt v0 c0_i32_15
  let v32 : BitVec 32 := Scalar.extui v31
  let c0_i32_16 : BitVec 32 := 0#32
  let v33 : BitVec 1 := Scalar.cmpi .slt v0 c0_i32_16
  let v34 : BitVec 32 := Scalar.extui v33
  let v35 : BitVec 32 := Scalar.subi v32 v34
  let c512_i32_14 : BitVec 32 := 512#32
  let c0_i32_17 : BitVec 32 := 0#32
  let v36 : BitVec 1 := Scalar.cmpi .sgt c512_i32_14 c0_i32_17
  let v37 : BitVec 32 := Scalar.extui v36
  let c0_i32_18 : BitVec 32 := 0#32
  let v38 : BitVec 1 := Scalar.cmpi .slt c512_i32_14 c0_i32_18
  let v39 : BitVec 32 := Scalar.extui v38
  let v40 : BitVec 32 := Scalar.subi v37 v39
  let v41 : BitVec 1 := Scalar.cmpi .ne v35 v40
  let v42 : BitVec 32 := Scalar.remsi v0 c512_i32_14
  let c0_i32_19 : BitVec 32 := 0#32
  let v43 : BitVec 1 := Scalar.cmpi .ne v42 c0_i32_19
  let v44 : BitVec 1 := Scalar.andi v41 v43
  let v30 : BitVec 32 := Scalar.divsi v0 c512_i32_14
  let c1_i32 : BitVec 32 := 1#32
  let v45 : BitVec 32 := Scalar.subi v30 c1_i32
  let v46 : BitVec 32 := Scalar.select v44 v45 v30
  let v2288 : BitVec 32 := Scalar.minsi c2_i32_886 v46
  let c512_i32_887 : BitVec 32 := 512#32
  let v2289 : BitVec 32 := Scalar.muli v2288 c512_i32_887
  v2289
@[reducible] def k0_t1_loop (i : grid0.Coords) : Scf.Loop 32 :=
  let c0_i32_595 : BitVec 32 := 0#32
  let arg2 : BitVec 32 := BitVec.ofNat 32 (i 2).val
  let c256_i32 : BitVec 32 := 256#32
  let v0 : BitVec 32 := Scalar.muli arg2 c256_i32
  let c0_i32_15 : BitVec 32 := 0#32
  let v31 : BitVec 1 := Scalar.cmpi .sgt v0 c0_i32_15
  let v32 : BitVec 32 := Scalar.extui v31
  let c0_i32_16 : BitVec 32 := 0#32
  let v33 : BitVec 1 := Scalar.cmpi .slt v0 c0_i32_16
  let v34 : BitVec 32 := Scalar.extui v33
  let v35 : BitVec 32 := Scalar.subi v32 v34
  let c512_i32_14 : BitVec 32 := 512#32
  let c0_i32_17 : BitVec 32 := 0#32
  let v36 : BitVec 1 := Scalar.cmpi .sgt c512_i32_14 c0_i32_17
  let v37 : BitVec 32 := Scalar.extui v36
  let c0_i32_18 : BitVec 32 := 0#32
  let v38 : BitVec 1 := Scalar.cmpi .slt c512_i32_14 c0_i32_18
  let v39 : BitVec 32 := Scalar.extui v38
  let v40 : BitVec 32 := Scalar.subi v37 v39
  let v41 : BitVec 1 := Scalar.cmpi .ne v35 v40
  let v42 : BitVec 32 := Scalar.remsi v0 c512_i32_14
  let c0_i32_19 : BitVec 32 := 0#32
  let v43 : BitVec 1 := Scalar.cmpi .ne v42 c0_i32_19
  let v44 : BitVec 1 := Scalar.andi v41 v43
  let v30 : BitVec 32 := Scalar.divsi v0 c512_i32_14
  let c1_i32 : BitVec 32 := 1#32
  let v45 : BitVec 32 := Scalar.subi v30 c1_i32
  let v46 : BitVec 32 := Scalar.select v44 v45 v30
  let c0_i32_577 : BitVec 32 := 0#32
  let v1618 : BitVec 1 := Scalar.cmpi .sgt v46 c0_i32_577
  let v1619 : BitVec 32 := Scalar.extui v1618
  let c0_i32_578 : BitVec 32 := 0#32
  let v1620 : BitVec 1 := Scalar.cmpi .slt v46 c0_i32_578
  let v1621 : BitVec 32 := Scalar.extui v1620
  let v1622 : BitVec 32 := Scalar.subi v1619 v1621
  let c2_i32 : BitVec 32 := 2#32
  let c0_i32_579 : BitVec 32 := 0#32
  let v1623 : BitVec 1 := Scalar.cmpi .sgt c2_i32 c0_i32_579
  let v1624 : BitVec 32 := Scalar.extui v1623
  let c0_i32_580 : BitVec 32 := 0#32
  let v1625 : BitVec 1 := Scalar.cmpi .slt c2_i32 c0_i32_580
  let v1626 : BitVec 32 := Scalar.extui v1625
  let v1627 : BitVec 32 := Scalar.subi v1624 v1626
  let v1628 : BitVec 1 := Scalar.cmpi .ne v1622 v1627
  let v1629 : BitVec 32 := Scalar.remsi v46 c2_i32
  let c0_i32_581 : BitVec 32 := 0#32
  let v1630 : BitVec 1 := Scalar.cmpi .ne v1629 c0_i32_581
  let v1631 : BitVec 1 := Scalar.andi v1628 v1630
  let v1617 : BitVec 32 := Scalar.divsi v46 c2_i32
  let c1_i32_582 : BitVec 32 := 1#32
  let v1632 : BitVec 32 := Scalar.subi v1617 c1_i32_582
  let v1633 : BitVec 32 := Scalar.select v1631 v1632 v1617
  let c1_i32_586 : BitVec 32 := 1#32
  let v1639 : BitVec 32 := Scalar.subi v1633 c1_i32_586
  let c0_i32_587 : BitVec 32 := 0#32
  let v1640 : BitVec 32 := Scalar.maxsi v1639 c0_i32_587
  let c0_i32_589 : BitVec 32 := 0#32
  let v1642 : BitVec 1 := Scalar.cmpi .sgt v1640 c0_i32_589
  let v1643 : BitVec 32 := Scalar.extui v1642
  let c0_i32_590 : BitVec 32 := 0#32
  let v1644 : BitVec 1 := Scalar.cmpi .slt v1640 c0_i32_590
  let v1645 : BitVec 32 := Scalar.extui v1644
  let v1646 : BitVec 32 := Scalar.subi v1643 v1645
  let c2_i32_588 : BitVec 32 := 2#32
  let c0_i32_591 : BitVec 32 := 0#32
  let v1647 : BitVec 1 := Scalar.cmpi .sgt c2_i32_588 c0_i32_591
  let v1648 : BitVec 32 := Scalar.extui v1647
  let c0_i32_592 : BitVec 32 := 0#32
  let v1649 : BitVec 1 := Scalar.cmpi .slt c2_i32_588 c0_i32_592
  let v1650 : BitVec 32 := Scalar.extui v1649
  let v1651 : BitVec 32 := Scalar.subi v1648 v1650
  let v1652 : BitVec 1 := Scalar.cmpi .ne v1646 v1651
  let v1653 : BitVec 32 := Scalar.remsi v1640 c2_i32_588
  let c0_i32_593 : BitVec 32 := 0#32
  let v1654 : BitVec 1 := Scalar.cmpi .ne v1653 c0_i32_593
  let v1655 : BitVec 1 := Scalar.andi v1652 v1654
  let v1641 : BitVec 32 := Scalar.divsi v1640 c2_i32_588
  let c1_i32_594 : BitVec 32 := 1#32
  let v1656 : BitVec 32 := Scalar.subi v1641 c1_i32_594
  let v1657 : BitVec 32 := Scalar.select v1655 v1656 v1641
  let v1658 : BitVec 32 := Scalar.subi v1657 c0_i32_595
  let c1_i32_596 : BitVec 32 := 1#32
  let v1660 : BitVec 32 := Scalar.divsi v1658 c1_i32_596
  let v1661 : BitVec 32 := Scalar.muli v1660 c1_i32_596
  let v1662 : BitVec 32 := Scalar.addi c0_i32_595 v1661
  let c1_i32_597 : BitVec 32 := 1#32
  ⟨c0_i32_595, v1662, c1_i32_597⟩
def k0_mult6 (i : grid0.Coords) (k0_t1 : Fin (k0_t1_loop i).trips) : BitVec 32 :=
  let arg2 : BitVec 32 := BitVec.ofNat 32 (i 2).val
  let c256_i32 : BitVec 32 := 256#32
  let v0 : BitVec 32 := Scalar.muli arg2 c256_i32
  let c0_i32_15 : BitVec 32 := 0#32
  let v31 : BitVec 1 := Scalar.cmpi .sgt v0 c0_i32_15
  let v32 : BitVec 32 := Scalar.extui v31
  let c0_i32_16 : BitVec 32 := 0#32
  let v33 : BitVec 1 := Scalar.cmpi .slt v0 c0_i32_16
  let v34 : BitVec 32 := Scalar.extui v33
  let v35 : BitVec 32 := Scalar.subi v32 v34
  let c512_i32_14 : BitVec 32 := 512#32
  let c0_i32_17 : BitVec 32 := 0#32
  let v36 : BitVec 1 := Scalar.cmpi .sgt c512_i32_14 c0_i32_17
  let v37 : BitVec 32 := Scalar.extui v36
  let c0_i32_18 : BitVec 32 := 0#32
  let v38 : BitVec 1 := Scalar.cmpi .slt c512_i32_14 c0_i32_18
  let v39 : BitVec 32 := Scalar.extui v38
  let v40 : BitVec 32 := Scalar.subi v37 v39
  let v41 : BitVec 1 := Scalar.cmpi .ne v35 v40
  let v42 : BitVec 32 := Scalar.remsi v0 c512_i32_14
  let c0_i32_19 : BitVec 32 := 0#32
  let v43 : BitVec 1 := Scalar.cmpi .ne v42 c0_i32_19
  let v44 : BitVec 1 := Scalar.andi v41 v43
  let v30 : BitVec 32 := Scalar.divsi v0 c512_i32_14
  let c1_i32 : BitVec 32 := 1#32
  let v45 : BitVec 32 := Scalar.subi v30 c1_i32
  let v46 : BitVec 32 := Scalar.select v44 v45 v30
  let c0_i32_675 : BitVec 32 := 0#32
  let c2_i32_673 : BitVec 32 := 2#32
  let c2_i32_671 : BitVec 32 := 2#32
  let c0_i32_595 : BitVec 32 := 0#32
  let c1_i32_597 : BitVec 32 := 1#32
  let arg21 : BitVec 32 := Scf.iv c0_i32_595 c1_i32_597 k0_t1
  let v1841 : BitVec 32 := Scalar.muli c2_i32_671 arg21
  let c1_i32_672 : BitVec 32 := 1#32
  let v1842 : BitVec 32 := Scalar.addi v1841 c1_i32_672
  let v1843 : BitVec 32 := Scalar.muli c2_i32_673 v1842
  let c1_i32_674 : BitVec 32 := 1#32
  let v1844 : BitVec 32 := Scalar.subi v1843 c1_i32_674
  let v1845 : BitVec 32 := Scalar.maxsi c0_i32_675 v1844
  let v1846 : BitVec 32 := Scalar.minsi v46 v1845
  let c512_i32_676 : BitVec 32 := 512#32
  let v1847 : BitVec 32 := Scalar.muli v1846 c512_i32_676
  v1847
def k0_off6 (i : grid0.Coords) (k0_t1 : Fin (k0_t1_loop i).trips) (c1_i32_672 : BitVec 32) : Fin 4 → Nat :=
  let c0_677 : Index := 0#32
  let c0_678 : Index := 0#32
  let c0_679 : Index := 0#32
  let arg2 : BitVec 32 := BitVec.ofNat 32 (i 2).val
  let c256_i32 : BitVec 32 := 256#32
  let v0 : BitVec 32 := Scalar.muli arg2 c256_i32
  let c0_i32_15 : BitVec 32 := 0#32
  let v31 : BitVec 1 := Scalar.cmpi .sgt v0 c0_i32_15
  let v32 : BitVec 32 := Scalar.extui v31
  let c0_i32_16 : BitVec 32 := 0#32
  let v33 : BitVec 1 := Scalar.cmpi .slt v0 c0_i32_16
  let v34 : BitVec 32 := Scalar.extui v33
  let v35 : BitVec 32 := Scalar.subi v32 v34
  let c512_i32_14 : BitVec 32 := 512#32
  let c0_i32_17 : BitVec 32 := 0#32
  let v36 : BitVec 1 := Scalar.cmpi .sgt c512_i32_14 c0_i32_17
  let v37 : BitVec 32 := Scalar.extui v36
  let c0_i32_18 : BitVec 32 := 0#32
  let v38 : BitVec 1 := Scalar.cmpi .slt c512_i32_14 c0_i32_18
  let v39 : BitVec 32 := Scalar.extui v38
  let v40 : BitVec 32 := Scalar.subi v37 v39
  let v41 : BitVec 1 := Scalar.cmpi .ne v35 v40
  let v42 : BitVec 32 := Scalar.remsi v0 c512_i32_14
  let c0_i32_19 : BitVec 32 := 0#32
  let v43 : BitVec 1 := Scalar.cmpi .ne v42 c0_i32_19
  let v44 : BitVec 1 := Scalar.andi v41 v43
  let v30 : BitVec 32 := Scalar.divsi v0 c512_i32_14
  let c1_i32 : BitVec 32 := 1#32
  let v45 : BitVec 32 := Scalar.subi v30 c1_i32
  let v46 : BitVec 32 := Scalar.select v44 v45 v30
  let c0_i32_675 : BitVec 32 := 0#32
  let c2_i32_673 : BitVec 32 := 2#32
  let c2_i32_671 : BitVec 32 := 2#32
  let c0_i32_595 : BitVec 32 := 0#32
  let c1_i32_597 : BitVec 32 := 1#32
  let arg21 : BitVec 32 := Scf.iv c0_i32_595 c1_i32_597 k0_t1
  let v1841 : BitVec 32 := Scalar.muli c2_i32_671 arg21
  let v1842 : BitVec 32 := Scalar.addi v1841 c1_i32_672
  let v1843 : BitVec 32 := Scalar.muli c2_i32_673 v1842
  let c1_i32_674 : BitVec 32 := 1#32
  let v1844 : BitVec 32 := Scalar.subi v1843 c1_i32_674
  let v1845 : BitVec 32 := Scalar.maxsi c0_i32_675 v1844
  let v1846 : BitVec 32 := Scalar.minsi v46 v1845
  let c512_i32_676 : BitVec 32 := 512#32
  let v1847 : BitVec 32 := Scalar.muli v1846 c512_i32_676
  let v1848 : BitVec 32 := v1847
  let v1849 : Index := Scalar.indexCast v1848
  ![0, 0, 0, v1849.toNat]
def k0_mult7 (i : grid0.Coords) (k0_t1 : Fin (k0_t1_loop i).trips) : BitVec 32 :=
  let c2_i32_683 : BitVec 32 := 2#32
  let c2_i32_671 : BitVec 32 := 2#32
  let c0_i32_595 : BitVec 32 := 0#32
  let c1_i32_597 : BitVec 32 := 1#32
  let arg21 : BitVec 32 := Scf.iv c0_i32_595 c1_i32_597 k0_t1
  let v1841 : BitVec 32 := Scalar.muli c2_i32_671 arg21
  let c1_i32_672 : BitVec 32 := 1#32
  let v1842 : BitVec 32 := Scalar.addi v1841 c1_i32_672
  let v1854 : BitVec 32 := Scalar.muli c2_i32_683 v1842
  let c1_i32_684 : BitVec 32 := 1#32
  let v1855 : BitVec 32 := Scalar.addi v1854 c1_i32_684
  let arg2 : BitVec 32 := BitVec.ofNat 32 (i 2).val
  let c256_i32 : BitVec 32 := 256#32
  let v0 : BitVec 32 := Scalar.muli arg2 c256_i32
  let c0_i32_15 : BitVec 32 := 0#32
  let v31 : BitVec 1 := Scalar.cmpi .sgt v0 c0_i32_15
  let v32 : BitVec 32 := Scalar.extui v31
  let c0_i32_16 : BitVec 32 := 0#32
  let v33 : BitVec 1 := Scalar.cmpi .slt v0 c0_i32_16
  let v34 : BitVec 32 := Scalar.extui v33
  let v35 : BitVec 32 := Scalar.subi v32 v34
  let c512_i32_14 : BitVec 32 := 512#32
  let c0_i32_17 : BitVec 32 := 0#32
  let v36 : BitVec 1 := Scalar.cmpi .sgt c512_i32_14 c0_i32_17
  let v37 : BitVec 32 := Scalar.extui v36
  let c0_i32_18 : BitVec 32 := 0#32
  let v38 : BitVec 1 := Scalar.cmpi .slt c512_i32_14 c0_i32_18
  let v39 : BitVec 32 := Scalar.extui v38
  let v40 : BitVec 32 := Scalar.subi v37 v39
  let v41 : BitVec 1 := Scalar.cmpi .ne v35 v40
  let v42 : BitVec 32 := Scalar.remsi v0 c512_i32_14
  let c0_i32_19 : BitVec 32 := 0#32
  let v43 : BitVec 1 := Scalar.cmpi .ne v42 c0_i32_19
  let v44 : BitVec 1 := Scalar.andi v41 v43
  let v30 : BitVec 32 := Scalar.divsi v0 c512_i32_14
  let c1_i32 : BitVec 32 := 1#32
  let v45 : BitVec 32 := Scalar.subi v30 c1_i32
  let v46 : BitVec 32 := Scalar.select v44 v45 v30
  let v1856 : BitVec 32 := Scalar.minsi v1855 v46
  let c512_i32_685 : BitVec 32 := 512#32
  let v1857 : BitVec 32 := Scalar.muli v1856 c512_i32_685
  v1857
def k0_off7 (i : grid0.Coords) (k0_t1 : Fin (k0_t1_loop i).trips) (c1_i32_672 : BitVec 32) (c1_i32_684 : BitVec 32) : Fin 4 → Nat :=
  let c0_686 : Index := 0#32
  let c0_687 : Index := 0#32
  let c2_i32_683 : BitVec 32 := 2#32
  let c2_i32_671 : BitVec 32 := 2#32
  let c0_i32_595 : BitVec 32 := 0#32
  let c1_i32_597 : BitVec 32 := 1#32
  let arg21 : BitVec 32 := Scf.iv c0_i32_595 c1_i32_597 k0_t1
  let v1841 : BitVec 32 := Scalar.muli c2_i32_671 arg21
  let v1842 : BitVec 32 := Scalar.addi v1841 c1_i32_672
  let v1854 : BitVec 32 := Scalar.muli c2_i32_683 v1842
  let v1855 : BitVec 32 := Scalar.addi v1854 c1_i32_684
  let arg2 : BitVec 32 := BitVec.ofNat 32 (i 2).val
  let c256_i32 : BitVec 32 := 256#32
  let v0 : BitVec 32 := Scalar.muli arg2 c256_i32
  let c0_i32_15 : BitVec 32 := 0#32
  let v31 : BitVec 1 := Scalar.cmpi .sgt v0 c0_i32_15
  let v32 : BitVec 32 := Scalar.extui v31
  let c0_i32_16 : BitVec 32 := 0#32
  let v33 : BitVec 1 := Scalar.cmpi .slt v0 c0_i32_16
  let v34 : BitVec 32 := Scalar.extui v33
  let v35 : BitVec 32 := Scalar.subi v32 v34
  let c512_i32_14 : BitVec 32 := 512#32
  let c0_i32_17 : BitVec 32 := 0#32
  let v36 : BitVec 1 := Scalar.cmpi .sgt c512_i32_14 c0_i32_17
  let v37 : BitVec 32 := Scalar.extui v36
  let c0_i32_18 : BitVec 32 := 0#32
  let v38 : BitVec 1 := Scalar.cmpi .slt c512_i32_14 c0_i32_18
  let v39 : BitVec 32 := Scalar.extui v38
  let v40 : BitVec 32 := Scalar.subi v37 v39
  let v41 : BitVec 1 := Scalar.cmpi .ne v35 v40
  let v42 : BitVec 32 := Scalar.remsi v0 c512_i32_14
  let c0_i32_19 : BitVec 32 := 0#32
  let v43 : BitVec 1 := Scalar.cmpi .ne v42 c0_i32_19
  let v44 : BitVec 1 := Scalar.andi v41 v43
  let v30 : BitVec 32 := Scalar.divsi v0 c512_i32_14
  let c1_i32 : BitVec 32 := 1#32
  let v45 : BitVec 32 := Scalar.subi v30 c1_i32
  let v46 : BitVec 32 := Scalar.select v44 v45 v30
  let v1856 : BitVec 32 := Scalar.minsi v1855 v46
  let c512_i32_685 : BitVec 32 := 512#32
  let v1857 : BitVec 32 := Scalar.muli v1856 c512_i32_685
  let v1858 : BitVec 32 := v1857
  let v1859 : Index := Scalar.indexCast v1858
  let c0_688 : Index := 0#32
  ![0, 0, v1859.toNat, 0]
def k0_mult8 (i : grid0.Coords) (k0_t1 : Fin (k0_t1_loop i).trips) : BitVec 32 :=
  let arg2 : BitVec 32 := BitVec.ofNat 32 (i 2).val
  let c256_i32 : BitVec 32 := 256#32
  let v0 : BitVec 32 := Scalar.muli arg2 c256_i32
  let c0_i32_15 : BitVec 32 := 0#32
  let v31 : BitVec 1 := Scalar.cmpi .sgt v0 c0_i32_15
  let v32 : BitVec 32 := Scalar.extui v31
  let c0_i32_16 : BitVec 32 := 0#32
  let v33 : BitVec 1 := Scalar.cmpi .slt v0 c0_i32_16
  let v34 : BitVec 32 := Scalar.extui v33
  let v35 : BitVec 32 := Scalar.subi v32 v34
  let c512_i32_14 : BitVec 32 := 512#32
  let c0_i32_17 : BitVec 32 := 0#32
  let v36 : BitVec 1 := Scalar.cmpi .sgt c512_i32_14 c0_i32_17
  let v37 : BitVec 32 := Scalar.extui v36
  let c0_i32_18 : BitVec 32 := 0#32
  let v38 : BitVec 1 := Scalar.cmpi .slt c512_i32_14 c0_i32_18
  let v39 : BitVec 32 := Scalar.extui v38
  let v40 : BitVec 32 := Scalar.subi v37 v39
  let v41 : BitVec 1 := Scalar.cmpi .ne v35 v40
  let v42 : BitVec 32 := Scalar.remsi v0 c512_i32_14
  let c0_i32_19 : BitVec 32 := 0#32
  let v43 : BitVec 1 := Scalar.cmpi .ne v42 c0_i32_19
  let v44 : BitVec 1 := Scalar.andi v41 v43
  let v30 : BitVec 32 := Scalar.divsi v0 c512_i32_14
  let c1_i32 : BitVec 32 := 1#32
  let v45 : BitVec 32 := Scalar.subi v30 c1_i32
  let v46 : BitVec 32 := Scalar.select v44 v45 v30
  let c0_i32_894 : BitVec 32 := 0#32
  let c2_i32_893 : BitVec 32 := 2#32
  let c2_i32_671 : BitVec 32 := 2#32
  let c0_i32_595 : BitVec 32 := 0#32
  let c1_i32_597 : BitVec 32 := 1#32
  let arg21 : BitVec 32 := Scf.iv c0_i32_595 c1_i32_597 k0_t1
  let v1841 : BitVec 32 := Scalar.muli c2_i32_671 arg21
  let c1_i32_672 : BitVec 32 := 1#32
  let v1842 : BitVec 32 := Scalar.addi v1841 c1_i32_672
  let v2298 : BitVec 32 := Scalar.muli c2_i32_893 v1842
  let v2299 : BitVec 32 := Scalar.maxsi c0_i32_894 v2298
  let v2300 : BitVec 32 := Scalar.minsi v46 v2299
  let c512_i32_895 : BitVec 32 := 512#32
  let v2301 : BitVec 32 := Scalar.muli v2300 c512_i32_895
  v2301
def k0_off8 (i : grid0.Coords) (k0_t1 : Fin (k0_t1_loop i).trips) (c1_i32_672 : BitVec 32) : Fin 4 → Nat :=
  let c0_896 : Index := 0#32
  let c0_897 : Index := 0#32
  let c0_898 : Index := 0#32
  let arg2 : BitVec 32 := BitVec.ofNat 32 (i 2).val
  let c256_i32 : BitVec 32 := 256#32
  let v0 : BitVec 32 := Scalar.muli arg2 c256_i32
  let c0_i32_15 : BitVec 32 := 0#32
  let v31 : BitVec 1 := Scalar.cmpi .sgt v0 c0_i32_15
  let v32 : BitVec 32 := Scalar.extui v31
  let c0_i32_16 : BitVec 32 := 0#32
  let v33 : BitVec 1 := Scalar.cmpi .slt v0 c0_i32_16
  let v34 : BitVec 32 := Scalar.extui v33
  let v35 : BitVec 32 := Scalar.subi v32 v34
  let c512_i32_14 : BitVec 32 := 512#32
  let c0_i32_17 : BitVec 32 := 0#32
  let v36 : BitVec 1 := Scalar.cmpi .sgt c512_i32_14 c0_i32_17
  let v37 : BitVec 32 := Scalar.extui v36
  let c0_i32_18 : BitVec 32 := 0#32
  let v38 : BitVec 1 := Scalar.cmpi .slt c512_i32_14 c0_i32_18
  let v39 : BitVec 32 := Scalar.extui v38
  let v40 : BitVec 32 := Scalar.subi v37 v39
  let v41 : BitVec 1 := Scalar.cmpi .ne v35 v40
  let v42 : BitVec 32 := Scalar.remsi v0 c512_i32_14
  let c0_i32_19 : BitVec 32 := 0#32
  let v43 : BitVec 1 := Scalar.cmpi .ne v42 c0_i32_19
  let v44 : BitVec 1 := Scalar.andi v41 v43
  let v30 : BitVec 32 := Scalar.divsi v0 c512_i32_14
  let c1_i32 : BitVec 32 := 1#32
  let v45 : BitVec 32 := Scalar.subi v30 c1_i32
  let v46 : BitVec 32 := Scalar.select v44 v45 v30
  let c0_i32_894 : BitVec 32 := 0#32
  let c2_i32_893 : BitVec 32 := 2#32
  let c2_i32_671 : BitVec 32 := 2#32
  let c0_i32_595 : BitVec 32 := 0#32
  let c1_i32_597 : BitVec 32 := 1#32
  let arg21 : BitVec 32 := Scf.iv c0_i32_595 c1_i32_597 k0_t1
  let v1841 : BitVec 32 := Scalar.muli c2_i32_671 arg21
  let v1842 : BitVec 32 := Scalar.addi v1841 c1_i32_672
  let v2298 : BitVec 32 := Scalar.muli c2_i32_893 v1842
  let v2299 : BitVec 32 := Scalar.maxsi c0_i32_894 v2298
  let v2300 : BitVec 32 := Scalar.minsi v46 v2299
  let c512_i32_895 : BitVec 32 := 512#32
  let v2301 : BitVec 32 := Scalar.muli v2300 c512_i32_895
  let v2302 : BitVec 32 := v2301
  let v2303 : Index := Scalar.indexCast v2302
  ![0, 0, 0, v2303.toNat]
def k0_mult9 (i : grid0.Coords) (k0_t1 : Fin (k0_t1_loop i).trips) : BitVec 32 :=
  let c2_i32_902 : BitVec 32 := 2#32
  let c2_i32_671 : BitVec 32 := 2#32
  let c0_i32_595 : BitVec 32 := 0#32
  let c1_i32_597 : BitVec 32 := 1#32
  let arg21 : BitVec 32 := Scf.iv c0_i32_595 c1_i32_597 k0_t1
  let v1841 : BitVec 32 := Scalar.muli c2_i32_671 arg21
  let c1_i32_672 : BitVec 32 := 1#32
  let v1842 : BitVec 32 := Scalar.addi v1841 c1_i32_672
  let v2308 : BitVec 32 := Scalar.muli c2_i32_902 v1842
  let c2_i32_903 : BitVec 32 := 2#32
  let v2309 : BitVec 32 := Scalar.addi v2308 c2_i32_903
  let arg2 : BitVec 32 := BitVec.ofNat 32 (i 2).val
  let c256_i32 : BitVec 32 := 256#32
  let v0 : BitVec 32 := Scalar.muli arg2 c256_i32
  let c0_i32_15 : BitVec 32 := 0#32
  let v31 : BitVec 1 := Scalar.cmpi .sgt v0 c0_i32_15
  let v32 : BitVec 32 := Scalar.extui v31
  let c0_i32_16 : BitVec 32 := 0#32
  let v33 : BitVec 1 := Scalar.cmpi .slt v0 c0_i32_16
  let v34 : BitVec 32 := Scalar.extui v33
  let v35 : BitVec 32 := Scalar.subi v32 v34
  let c512_i32_14 : BitVec 32 := 512#32
  let c0_i32_17 : BitVec 32 := 0#32
  let v36 : BitVec 1 := Scalar.cmpi .sgt c512_i32_14 c0_i32_17
  let v37 : BitVec 32 := Scalar.extui v36
  let c0_i32_18 : BitVec 32 := 0#32
  let v38 : BitVec 1 := Scalar.cmpi .slt c512_i32_14 c0_i32_18
  let v39 : BitVec 32 := Scalar.extui v38
  let v40 : BitVec 32 := Scalar.subi v37 v39
  let v41 : BitVec 1 := Scalar.cmpi .ne v35 v40
  let v42 : BitVec 32 := Scalar.remsi v0 c512_i32_14
  let c0_i32_19 : BitVec 32 := 0#32
  let v43 : BitVec 1 := Scalar.cmpi .ne v42 c0_i32_19
  let v44 : BitVec 1 := Scalar.andi v41 v43
  let v30 : BitVec 32 := Scalar.divsi v0 c512_i32_14
  let c1_i32 : BitVec 32 := 1#32
  let v45 : BitVec 32 := Scalar.subi v30 c1_i32
  let v46 : BitVec 32 := Scalar.select v44 v45 v30
  let v2310 : BitVec 32 := Scalar.minsi v2309 v46
  let c512_i32_904 : BitVec 32 := 512#32
  let v2311 : BitVec 32 := Scalar.muli v2310 c512_i32_904
  v2311
def k0_mult10 (i : grid0.Coords) (k0_t1 : Fin (k0_t1_loop i).trips) : BitVec 32 :=
  let arg2 : BitVec 32 := BitVec.ofNat 32 (i 2).val
  let c256_i32 : BitVec 32 := 256#32
  let v0 : BitVec 32 := Scalar.muli arg2 c256_i32
  let c0_i32_15 : BitVec 32 := 0#32
  let v31 : BitVec 1 := Scalar.cmpi .sgt v0 c0_i32_15
  let v32 : BitVec 32 := Scalar.extui v31
  let c0_i32_16 : BitVec 32 := 0#32
  let v33 : BitVec 1 := Scalar.cmpi .slt v0 c0_i32_16
  let v34 : BitVec 32 := Scalar.extui v33
  let v35 : BitVec 32 := Scalar.subi v32 v34
  let c512_i32_14 : BitVec 32 := 512#32
  let c0_i32_17 : BitVec 32 := 0#32
  let v36 : BitVec 1 := Scalar.cmpi .sgt c512_i32_14 c0_i32_17
  let v37 : BitVec 32 := Scalar.extui v36
  let c0_i32_18 : BitVec 32 := 0#32
  let v38 : BitVec 1 := Scalar.cmpi .slt c512_i32_14 c0_i32_18
  let v39 : BitVec 32 := Scalar.extui v38
  let v40 : BitVec 32 := Scalar.subi v37 v39
  let v41 : BitVec 1 := Scalar.cmpi .ne v35 v40
  let v42 : BitVec 32 := Scalar.remsi v0 c512_i32_14
  let c0_i32_19 : BitVec 32 := 0#32
  let v43 : BitVec 1 := Scalar.cmpi .ne v42 c0_i32_19
  let v44 : BitVec 1 := Scalar.andi v41 v43
  let v30 : BitVec 32 := Scalar.divsi v0 c512_i32_14
  let c1_i32 : BitVec 32 := 1#32
  let v45 : BitVec 32 := Scalar.subi v30 c1_i32
  let v46 : BitVec 32 := Scalar.select v44 v45 v30
  let c0_i32_1115 : BitVec 32 := 0#32
  let c2_i32_1113 : BitVec 32 := 2#32
  let c2_i32_669 : BitVec 32 := 2#32
  let c0_i32_595 : BitVec 32 := 0#32
  let c1_i32_597 : BitVec 32 := 1#32
  let arg21 : BitVec 32 := Scf.iv c0_i32_595 c1_i32_597 k0_t1
  let v1839 : BitVec 32 := Scalar.muli c2_i32_669 arg21
  let c2_i32_670 : BitVec 32 := 2#32
  let v1840 : BitVec 32 := Scalar.addi v1839 c2_i32_670
  let v2753 : BitVec 32 := Scalar.muli c2_i32_1113 v1840
  let c1_i32_1114 : BitVec 32 := 1#32
  let v2754 : BitVec 32 := Scalar.subi v2753 c1_i32_1114
  let v2755 : BitVec 32 := Scalar.maxsi c0_i32_1115 v2754
  let v2756 : BitVec 32 := Scalar.minsi v46 v2755
  let c512_i32_1116 : BitVec 32 := 512#32
  let v2757 : BitVec 32 := Scalar.muli v2756 c512_i32_1116
  v2757
def k0_mult11 (i : grid0.Coords) (k0_t1 : Fin (k0_t1_loop i).trips) : BitVec 32 :=
  let c2_i32_1123 : BitVec 32 := 2#32
  let c2_i32_669 : BitVec 32 := 2#32
  let c0_i32_595 : BitVec 32 := 0#32
  let c1_i32_597 : BitVec 32 := 1#32
  let arg21 : BitVec 32 := Scf.iv c0_i32_595 c1_i32_597 k0_t1
  let v1839 : BitVec 32 := Scalar.muli c2_i32_669 arg21
  let c2_i32_670 : BitVec 32 := 2#32
  let v1840 : BitVec 32 := Scalar.addi v1839 c2_i32_670
  let v2764 : BitVec 32 := Scalar.muli c2_i32_1123 v1840
  let c1_i32_1124 : BitVec 32 := 1#32
  let v2765 : BitVec 32 := Scalar.addi v2764 c1_i32_1124
  let arg2 : BitVec 32 := BitVec.ofNat 32 (i 2).val
  let c256_i32 : BitVec 32 := 256#32
  let v0 : BitVec 32 := Scalar.muli arg2 c256_i32
  let c0_i32_15 : BitVec 32 := 0#32
  let v31 : BitVec 1 := Scalar.cmpi .sgt v0 c0_i32_15
  let v32 : BitVec 32 := Scalar.extui v31
  let c0_i32_16 : BitVec 32 := 0#32
  let v33 : BitVec 1 := Scalar.cmpi .slt v0 c0_i32_16
  let v34 : BitVec 32 := Scalar.extui v33
  let v35 : BitVec 32 := Scalar.subi v32 v34
  let c512_i32_14 : BitVec 32 := 512#32
  let c0_i32_17 : BitVec 32 := 0#32
  let v36 : BitVec 1 := Scalar.cmpi .sgt c512_i32_14 c0_i32_17
  let v37 : BitVec 32 := Scalar.extui v36
  let c0_i32_18 : BitVec 32 := 0#32
  let v38 : BitVec 1 := Scalar.cmpi .slt c512_i32_14 c0_i32_18
  let v39 : BitVec 32 := Scalar.extui v38
  let v40 : BitVec 32 := Scalar.subi v37 v39
  let v41 : BitVec 1 := Scalar.cmpi .ne v35 v40
  let v42 : BitVec 32 := Scalar.remsi v0 c512_i32_14
  let c0_i32_19 : BitVec 32 := 0#32
  let v43 : BitVec 1 := Scalar.cmpi .ne v42 c0_i32_19
  let v44 : BitVec 1 := Scalar.andi v41 v43
  let v30 : BitVec 32 := Scalar.divsi v0 c512_i32_14
  let c1_i32 : BitVec 32 := 1#32
  let v45 : BitVec 32 := Scalar.subi v30 c1_i32
  let v46 : BitVec 32 := Scalar.select v44 v45 v30
  let v2766 : BitVec 32 := Scalar.minsi v2765 v46
  let c512_i32_1125 : BitVec 32 := 512#32
  let v2767 : BitVec 32 := Scalar.muli v2766 c512_i32_1125
  v2767
def k0_mult12 (i : grid0.Coords) (k0_t1 : Fin (k0_t1_loop i).trips) : BitVec 32 :=
  let arg2 : BitVec 32 := BitVec.ofNat 32 (i 2).val
  let c256_i32 : BitVec 32 := 256#32
  let v0 : BitVec 32 := Scalar.muli arg2 c256_i32
  let c0_i32_15 : BitVec 32 := 0#32
  let v31 : BitVec 1 := Scalar.cmpi .sgt v0 c0_i32_15
  let v32 : BitVec 32 := Scalar.extui v31
  let c0_i32_16 : BitVec 32 := 0#32
  let v33 : BitVec 1 := Scalar.cmpi .slt v0 c0_i32_16
  let v34 : BitVec 32 := Scalar.extui v33
  let v35 : BitVec 32 := Scalar.subi v32 v34
  let c512_i32_14 : BitVec 32 := 512#32
  let c0_i32_17 : BitVec 32 := 0#32
  let v36 : BitVec 1 := Scalar.cmpi .sgt c512_i32_14 c0_i32_17
  let v37 : BitVec 32 := Scalar.extui v36
  let c0_i32_18 : BitVec 32 := 0#32
  let v38 : BitVec 1 := Scalar.cmpi .slt c512_i32_14 c0_i32_18
  let v39 : BitVec 32 := Scalar.extui v38
  let v40 : BitVec 32 := Scalar.subi v37 v39
  let v41 : BitVec 1 := Scalar.cmpi .ne v35 v40
  let v42 : BitVec 32 := Scalar.remsi v0 c512_i32_14
  let c0_i32_19 : BitVec 32 := 0#32
  let v43 : BitVec 1 := Scalar.cmpi .ne v42 c0_i32_19
  let v44 : BitVec 1 := Scalar.andi v41 v43
  let v30 : BitVec 32 := Scalar.divsi v0 c512_i32_14
  let c1_i32 : BitVec 32 := 1#32
  let v45 : BitVec 32 := Scalar.subi v30 c1_i32
  let v46 : BitVec 32 := Scalar.select v44 v45 v30
  let c0_i32_1334 : BitVec 32 := 0#32
  let c2_i32_1333 : BitVec 32 := 2#32
  let c2_i32_669 : BitVec 32 := 2#32
  let c0_i32_595 : BitVec 32 := 0#32
  let c1_i32_597 : BitVec 32 := 1#32
  let arg21 : BitVec 32 := Scf.iv c0_i32_595 c1_i32_597 k0_t1
  let v1839 : BitVec 32 := Scalar.muli c2_i32_669 arg21
  let c2_i32_670 : BitVec 32 := 2#32
  let v1840 : BitVec 32 := Scalar.addi v1839 c2_i32_670
  let v3208 : BitVec 32 := Scalar.muli c2_i32_1333 v1840
  let v3209 : BitVec 32 := Scalar.maxsi c0_i32_1334 v3208
  let v3210 : BitVec 32 := Scalar.minsi v46 v3209
  let c512_i32_1335 : BitVec 32 := 512#32
  let v3211 : BitVec 32 := Scalar.muli v3210 c512_i32_1335
  v3211
def k0_mult13 (i : grid0.Coords) (k0_t1 : Fin (k0_t1_loop i).trips) : BitVec 32 :=
  let c2_i32_1342 : BitVec 32 := 2#32
  let c2_i32_669 : BitVec 32 := 2#32
  let c0_i32_595 : BitVec 32 := 0#32
  let c1_i32_597 : BitVec 32 := 1#32
  let arg21 : BitVec 32 := Scf.iv c0_i32_595 c1_i32_597 k0_t1
  let v1839 : BitVec 32 := Scalar.muli c2_i32_669 arg21
  let c2_i32_670 : BitVec 32 := 2#32
  let v1840 : BitVec 32 := Scalar.addi v1839 c2_i32_670
  let v3218 : BitVec 32 := Scalar.muli c2_i32_1342 v1840
  let c2_i32_1343 : BitVec 32 := 2#32
  let v3219 : BitVec 32 := Scalar.addi v3218 c2_i32_1343
  let arg2 : BitVec 32 := BitVec.ofNat 32 (i 2).val
  let c256_i32 : BitVec 32 := 256#32
  let v0 : BitVec 32 := Scalar.muli arg2 c256_i32
  let c0_i32_15 : BitVec 32 := 0#32
  let v31 : BitVec 1 := Scalar.cmpi .sgt v0 c0_i32_15
  let v32 : BitVec 32 := Scalar.extui v31
  let c0_i32_16 : BitVec 32 := 0#32
  let v33 : BitVec 1 := Scalar.cmpi .slt v0 c0_i32_16
  let v34 : BitVec 32 := Scalar.extui v33
  let v35 : BitVec 32 := Scalar.subi v32 v34
  let c512_i32_14 : BitVec 32 := 512#32
  let c0_i32_17 : BitVec 32 := 0#32
  let v36 : BitVec 1 := Scalar.cmpi .sgt c512_i32_14 c0_i32_17
  let v37 : BitVec 32 := Scalar.extui v36
  let c0_i32_18 : BitVec 32 := 0#32
  let v38 : BitVec 1 := Scalar.cmpi .slt c512_i32_14 c0_i32_18
  let v39 : BitVec 32 := Scalar.extui v38
  let v40 : BitVec 32 := Scalar.subi v37 v39
  let v41 : BitVec 1 := Scalar.cmpi .ne v35 v40
  let v42 : BitVec 32 := Scalar.remsi v0 c512_i32_14
  let c0_i32_19 : BitVec 32 := 0#32
  let v43 : BitVec 1 := Scalar.cmpi .ne v42 c0_i32_19
  let v44 : BitVec 1 := Scalar.andi v41 v43
  let v30 : BitVec 32 := Scalar.divsi v0 c512_i32_14
  let c1_i32 : BitVec 32 := 1#32
  let v45 : BitVec 32 := Scalar.subi v30 c1_i32
  let v46 : BitVec 32 := Scalar.select v44 v45 v30
  let v3220 : BitVec 32 := Scalar.minsi v3219 v46
  let c512_i32_1344 : BitVec 32 := 512#32
  let v3221 : BitVec 32 := Scalar.muli v3220 c512_i32_1344
  v3221
@[reducible] def k0_t2_loop (i : grid0.Coords) : Scf.Loop 32 :=
  let c0_i32_595 : BitVec 32 := 0#32
  let arg2 : BitVec 32 := BitVec.ofNat 32 (i 2).val
  let c256_i32 : BitVec 32 := 256#32
  let v0 : BitVec 32 := Scalar.muli arg2 c256_i32
  let c0_i32_15 : BitVec 32 := 0#32
  let v31 : BitVec 1 := Scalar.cmpi .sgt v0 c0_i32_15
  let v32 : BitVec 32 := Scalar.extui v31
  let c0_i32_16 : BitVec 32 := 0#32
  let v33 : BitVec 1 := Scalar.cmpi .slt v0 c0_i32_16
  let v34 : BitVec 32 := Scalar.extui v33
  let v35 : BitVec 32 := Scalar.subi v32 v34
  let c512_i32_14 : BitVec 32 := 512#32
  let c0_i32_17 : BitVec 32 := 0#32
  let v36 : BitVec 1 := Scalar.cmpi .sgt c512_i32_14 c0_i32_17
  let v37 : BitVec 32 := Scalar.extui v36
  let c0_i32_18 : BitVec 32 := 0#32
  let v38 : BitVec 1 := Scalar.cmpi .slt c512_i32_14 c0_i32_18
  let v39 : BitVec 32 := Scalar.extui v38
  let v40 : BitVec 32 := Scalar.subi v37 v39
  let v41 : BitVec 1 := Scalar.cmpi .ne v35 v40
  let v42 : BitVec 32 := Scalar.remsi v0 c512_i32_14
  let c0_i32_19 : BitVec 32 := 0#32
  let v43 : BitVec 1 := Scalar.cmpi .ne v42 c0_i32_19
  let v44 : BitVec 1 := Scalar.andi v41 v43
  let v30 : BitVec 32 := Scalar.divsi v0 c512_i32_14
  let c1_i32 : BitVec 32 := 1#32
  let v45 : BitVec 32 := Scalar.subi v30 c1_i32
  let v46 : BitVec 32 := Scalar.select v44 v45 v30
  let c0_i32_577 : BitVec 32 := 0#32
  let v1618 : BitVec 1 := Scalar.cmpi .sgt v46 c0_i32_577
  let v1619 : BitVec 32 := Scalar.extui v1618
  let c0_i32_578 : BitVec 32 := 0#32
  let v1620 : BitVec 1 := Scalar.cmpi .slt v46 c0_i32_578
  let v1621 : BitVec 32 := Scalar.extui v1620
  let v1622 : BitVec 32 := Scalar.subi v1619 v1621
  let c2_i32 : BitVec 32 := 2#32
  let c0_i32_579 : BitVec 32 := 0#32
  let v1623 : BitVec 1 := Scalar.cmpi .sgt c2_i32 c0_i32_579
  let v1624 : BitVec 32 := Scalar.extui v1623
  let c0_i32_580 : BitVec 32 := 0#32
  let v1625 : BitVec 1 := Scalar.cmpi .slt c2_i32 c0_i32_580
  let v1626 : BitVec 32 := Scalar.extui v1625
  let v1627 : BitVec 32 := Scalar.subi v1624 v1626
  let v1628 : BitVec 1 := Scalar.cmpi .ne v1622 v1627
  let v1629 : BitVec 32 := Scalar.remsi v46 c2_i32
  let c0_i32_581 : BitVec 32 := 0#32
  let v1630 : BitVec 1 := Scalar.cmpi .ne v1629 c0_i32_581
  let v1631 : BitVec 1 := Scalar.andi v1628 v1630
  let v1617 : BitVec 32 := Scalar.divsi v46 c2_i32
  let c1_i32_582 : BitVec 32 := 1#32
  let v1632 : BitVec 32 := Scalar.subi v1617 c1_i32_582
  let v1633 : BitVec 32 := Scalar.select v1631 v1632 v1617
  let c1_i32_586 : BitVec 32 := 1#32
  let v1639 : BitVec 32 := Scalar.subi v1633 c1_i32_586
  let c0_i32_587 : BitVec 32 := 0#32
  let v1640 : BitVec 32 := Scalar.maxsi v1639 c0_i32_587
  let c0_i32_589 : BitVec 32 := 0#32
  let v1642 : BitVec 1 := Scalar.cmpi .sgt v1640 c0_i32_589
  let v1643 : BitVec 32 := Scalar.extui v1642
  let c0_i32_590 : BitVec 32 := 0#32
  let v1644 : BitVec 1 := Scalar.cmpi .slt v1640 c0_i32_590
  let v1645 : BitVec 32 := Scalar.extui v1644
  let v1646 : BitVec 32 := Scalar.subi v1643 v1645
  let c2_i32_588 : BitVec 32 := 2#32
  let c0_i32_591 : BitVec 32 := 0#32
  let v1647 : BitVec 1 := Scalar.cmpi .sgt c2_i32_588 c0_i32_591
  let v1648 : BitVec 32 := Scalar.extui v1647
  let c0_i32_592 : BitVec 32 := 0#32
  let v1649 : BitVec 1 := Scalar.cmpi .slt c2_i32_588 c0_i32_592
  let v1650 : BitVec 32 := Scalar.extui v1649
  let v1651 : BitVec 32 := Scalar.subi v1648 v1650
  let v1652 : BitVec 1 := Scalar.cmpi .ne v1646 v1651
  let v1653 : BitVec 32 := Scalar.remsi v1640 c2_i32_588
  let c0_i32_593 : BitVec 32 := 0#32
  let v1654 : BitVec 1 := Scalar.cmpi .ne v1653 c0_i32_593
  let v1655 : BitVec 1 := Scalar.andi v1652 v1654
  let v1641 : BitVec 32 := Scalar.divsi v1640 c2_i32_588
  let c1_i32_594 : BitVec 32 := 1#32
  let v1656 : BitVec 32 := Scalar.subi v1641 c1_i32_594
  let v1657 : BitVec 32 := Scalar.select v1655 v1656 v1641
  let v1658 : BitVec 32 := Scalar.subi v1657 c0_i32_595
  let c1_i32_596 : BitVec 32 := 1#32
  let v1660 : BitVec 32 := Scalar.divsi v1658 c1_i32_596
  let v1661 : BitVec 32 := Scalar.muli v1660 c1_i32_596
  let v1662 : BitVec 32 := Scalar.addi c0_i32_595 v1661
  let v1659 : BitVec 32 := Scalar.addi c0_i32_595 v1658
  let c1_i32_598 : BitVec 32 := 1#32
  ⟨v1662, v1659, c1_i32_598⟩
def k0_mult14 (i : grid0.Coords) (k0_t2 : Fin (k0_t2_loop i).trips) : BitVec 32 :=
  let arg2 : BitVec 32 := BitVec.ofNat 32 (i 2).val
  let c256_i32 : BitVec 32 := 256#32
  let v0 : BitVec 32 := Scalar.muli arg2 c256_i32
  let c0_i32_15 : BitVec 32 := 0#32
  let v31 : BitVec 1 := Scalar.cmpi .sgt v0 c0_i32_15
  let v32 : BitVec 32 := Scalar.extui v31
  let c0_i32_16 : BitVec 32 := 0#32
  let v33 : BitVec 1 := Scalar.cmpi .slt v0 c0_i32_16
  let v34 : BitVec 32 := Scalar.extui v33
  let v35 : BitVec 32 := Scalar.subi v32 v34
  let c512_i32_14 : BitVec 32 := 512#32
  let c0_i32_17 : BitVec 32 := 0#32
  let v36 : BitVec 1 := Scalar.cmpi .sgt c512_i32_14 c0_i32_17
  let v37 : BitVec 32 := Scalar.extui v36
  let c0_i32_18 : BitVec 32 := 0#32
  let v38 : BitVec 1 := Scalar.cmpi .slt c512_i32_14 c0_i32_18
  let v39 : BitVec 32 := Scalar.extui v38
  let v40 : BitVec 32 := Scalar.subi v37 v39
  let v41 : BitVec 1 := Scalar.cmpi .ne v35 v40
  let v42 : BitVec 32 := Scalar.remsi v0 c512_i32_14
  let c0_i32_19 : BitVec 32 := 0#32
  let v43 : BitVec 1 := Scalar.cmpi .ne v42 c0_i32_19
  let v44 : BitVec 1 := Scalar.andi v41 v43
  let v30 : BitVec 32 := Scalar.divsi v0 c512_i32_14
  let c1_i32 : BitVec 32 := 1#32
  let v45 : BitVec 32 := Scalar.subi v30 c1_i32
  let v46 : BitVec 32 := Scalar.select v44 v45 v30
  let c0_i32_675 : BitVec 32 := 0#32
  let c2_i32_673 : BitVec 32 := 2#32
  let c2_i32_671 : BitVec 32 := 2#32
  let c0_i32_595 : BitVec 32 := 0#32
  let c0_i32_577 : BitVec 32 := 0#32
  let v1618 : BitVec 1 := Scalar.cmpi .sgt v46 c0_i32_577
  let v1619 : BitVec 32 := Scalar.extui v1618
  let c0_i32_578 : BitVec 32 := 0#32
  let v1620 : BitVec 1 := Scalar.cmpi .slt v46 c0_i32_578
  let v1621 : BitVec 32 := Scalar.extui v1620
  let v1622 : BitVec 32 := Scalar.subi v1619 v1621
  let c2_i32 : BitVec 32 := 2#32
  let c0_i32_579 : BitVec 32 := 0#32
  let v1623 : BitVec 1 := Scalar.cmpi .sgt c2_i32 c0_i32_579
  let v1624 : BitVec 32 := Scalar.extui v1623
  let c0_i32_580 : BitVec 32 := 0#32
  let v1625 : BitVec 1 := Scalar.cmpi .slt c2_i32 c0_i32_580
  let v1626 : BitVec 32 := Scalar.extui v1625
  let v1627 : BitVec 32 := Scalar.subi v1624 v1626
  let v1628 : BitVec 1 := Scalar.cmpi .ne v1622 v1627
  let v1629 : BitVec 32 := Scalar.remsi v46 c2_i32
  let c0_i32_581 : BitVec 32 := 0#32
  let v1630 : BitVec 1 := Scalar.cmpi .ne v1629 c0_i32_581
  let v1631 : BitVec 1 := Scalar.andi v1628 v1630
  let v1617 : BitVec 32 := Scalar.divsi v46 c2_i32
  let c1_i32_582 : BitVec 32 := 1#32
  let v1632 : BitVec 32 := Scalar.subi v1617 c1_i32_582
  let v1633 : BitVec 32 := Scalar.select v1631 v1632 v1617
  let c1_i32_586 : BitVec 32 := 1#32
  let v1639 : BitVec 32 := Scalar.subi v1633 c1_i32_586
  let c0_i32_587 : BitVec 32 := 0#32
  let v1640 : BitVec 32 := Scalar.maxsi v1639 c0_i32_587
  let c0_i32_589 : BitVec 32 := 0#32
  let v1642 : BitVec 1 := Scalar.cmpi .sgt v1640 c0_i32_589
  let v1643 : BitVec 32 := Scalar.extui v1642
  let c0_i32_590 : BitVec 32 := 0#32
  let v1644 : BitVec 1 := Scalar.cmpi .slt v1640 c0_i32_590
  let v1645 : BitVec 32 := Scalar.extui v1644
  let v1646 : BitVec 32 := Scalar.subi v1643 v1645
  let c2_i32_588 : BitVec 32 := 2#32
  let c0_i32_591 : BitVec 32 := 0#32
  let v1647 : BitVec 1 := Scalar.cmpi .sgt c2_i32_588 c0_i32_591
  let v1648 : BitVec 32 := Scalar.extui v1647
  let c0_i32_592 : BitVec 32 := 0#32
  let v1649 : BitVec 1 := Scalar.cmpi .slt c2_i32_588 c0_i32_592
  let v1650 : BitVec 32 := Scalar.extui v1649
  let v1651 : BitVec 32 := Scalar.subi v1648 v1650
  let v1652 : BitVec 1 := Scalar.cmpi .ne v1646 v1651
  let v1653 : BitVec 32 := Scalar.remsi v1640 c2_i32_588
  let c0_i32_593 : BitVec 32 := 0#32
  let v1654 : BitVec 1 := Scalar.cmpi .ne v1653 c0_i32_593
  let v1655 : BitVec 1 := Scalar.andi v1652 v1654
  let v1641 : BitVec 32 := Scalar.divsi v1640 c2_i32_588
  let c1_i32_594 : BitVec 32 := 1#32
  let v1656 : BitVec 32 := Scalar.subi v1641 c1_i32_594
  let v1657 : BitVec 32 := Scalar.select v1655 v1656 v1641
  let v1658 : BitVec 32 := Scalar.subi v1657 c0_i32_595
  let c1_i32_596 : BitVec 32 := 1#32
  let v1660 : BitVec 32 := Scalar.divsi v1658 c1_i32_596
  let v1661 : BitVec 32 := Scalar.muli v1660 c1_i32_596
  let v1662 : BitVec 32 := Scalar.addi c0_i32_595 v1661
  let c1_i32_598 : BitVec 32 := 1#32
  let arg21 : BitVec 32 := Scf.iv v1662 c1_i32_598 k0_t2
  let v1841 : BitVec 32 := Scalar.muli c2_i32_671 arg21
  let c1_i32_672 : BitVec 32 := 1#32
  let v1842 : BitVec 32 := Scalar.addi v1841 c1_i32_672
  let v1843 : BitVec 32 := Scalar.muli c2_i32_673 v1842
  let c1_i32_674 : BitVec 32 := 1#32
  let v1844 : BitVec 32 := Scalar.subi v1843 c1_i32_674
  let v1845 : BitVec 32 := Scalar.maxsi c0_i32_675 v1844
  let v1846 : BitVec 32 := Scalar.minsi v46 v1845
  let c512_i32_676 : BitVec 32 := 512#32
  let v1847 : BitVec 32 := Scalar.muli v1846 c512_i32_676
  v1847
def k0_off9 (i : grid0.Coords) (k0_t2 : Fin (k0_t2_loop i).trips) (c1_i32_672 : BitVec 32) : Fin 4 → Nat :=
  let c0_677 : Index := 0#32
  let c0_678 : Index := 0#32
  let c0_679 : Index := 0#32
  let arg2 : BitVec 32 := BitVec.ofNat 32 (i 2).val
  let c256_i32 : BitVec 32 := 256#32
  let v0 : BitVec 32 := Scalar.muli arg2 c256_i32
  let c0_i32_15 : BitVec 32 := 0#32
  let v31 : BitVec 1 := Scalar.cmpi .sgt v0 c0_i32_15
  let v32 : BitVec 32 := Scalar.extui v31
  let c0_i32_16 : BitVec 32 := 0#32
  let v33 : BitVec 1 := Scalar.cmpi .slt v0 c0_i32_16
  let v34 : BitVec 32 := Scalar.extui v33
  let v35 : BitVec 32 := Scalar.subi v32 v34
  let c512_i32_14 : BitVec 32 := 512#32
  let c0_i32_17 : BitVec 32 := 0#32
  let v36 : BitVec 1 := Scalar.cmpi .sgt c512_i32_14 c0_i32_17
  let v37 : BitVec 32 := Scalar.extui v36
  let c0_i32_18 : BitVec 32 := 0#32
  let v38 : BitVec 1 := Scalar.cmpi .slt c512_i32_14 c0_i32_18
  let v39 : BitVec 32 := Scalar.extui v38
  let v40 : BitVec 32 := Scalar.subi v37 v39
  let v41 : BitVec 1 := Scalar.cmpi .ne v35 v40
  let v42 : BitVec 32 := Scalar.remsi v0 c512_i32_14
  let c0_i32_19 : BitVec 32 := 0#32
  let v43 : BitVec 1 := Scalar.cmpi .ne v42 c0_i32_19
  let v44 : BitVec 1 := Scalar.andi v41 v43
  let v30 : BitVec 32 := Scalar.divsi v0 c512_i32_14
  let c1_i32 : BitVec 32 := 1#32
  let v45 : BitVec 32 := Scalar.subi v30 c1_i32
  let v46 : BitVec 32 := Scalar.select v44 v45 v30
  let c0_i32_675 : BitVec 32 := 0#32
  let c2_i32_673 : BitVec 32 := 2#32
  let c2_i32_671 : BitVec 32 := 2#32
  let c0_i32_595 : BitVec 32 := 0#32
  let c0_i32_577 : BitVec 32 := 0#32
  let v1618 : BitVec 1 := Scalar.cmpi .sgt v46 c0_i32_577
  let v1619 : BitVec 32 := Scalar.extui v1618
  let c0_i32_578 : BitVec 32 := 0#32
  let v1620 : BitVec 1 := Scalar.cmpi .slt v46 c0_i32_578
  let v1621 : BitVec 32 := Scalar.extui v1620
  let v1622 : BitVec 32 := Scalar.subi v1619 v1621
  let c2_i32 : BitVec 32 := 2#32
  let c0_i32_579 : BitVec 32 := 0#32
  let v1623 : BitVec 1 := Scalar.cmpi .sgt c2_i32 c0_i32_579
  let v1624 : BitVec 32 := Scalar.extui v1623
  let c0_i32_580 : BitVec 32 := 0#32
  let v1625 : BitVec 1 := Scalar.cmpi .slt c2_i32 c0_i32_580
  let v1626 : BitVec 32 := Scalar.extui v1625
  let v1627 : BitVec 32 := Scalar.subi v1624 v1626
  let v1628 : BitVec 1 := Scalar.cmpi .ne v1622 v1627
  let v1629 : BitVec 32 := Scalar.remsi v46 c2_i32
  let c0_i32_581 : BitVec 32 := 0#32
  let v1630 : BitVec 1 := Scalar.cmpi .ne v1629 c0_i32_581
  let v1631 : BitVec 1 := Scalar.andi v1628 v1630
  let v1617 : BitVec 32 := Scalar.divsi v46 c2_i32
  let c1_i32_582 : BitVec 32 := 1#32
  let v1632 : BitVec 32 := Scalar.subi v1617 c1_i32_582
  let v1633 : BitVec 32 := Scalar.select v1631 v1632 v1617
  let c1_i32_586 : BitVec 32 := 1#32
  let v1639 : BitVec 32 := Scalar.subi v1633 c1_i32_586
  let c0_i32_587 : BitVec 32 := 0#32
  let v1640 : BitVec 32 := Scalar.maxsi v1639 c0_i32_587
  let c0_i32_589 : BitVec 32 := 0#32
  let v1642 : BitVec 1 := Scalar.cmpi .sgt v1640 c0_i32_589
  let v1643 : BitVec 32 := Scalar.extui v1642
  let c0_i32_590 : BitVec 32 := 0#32
  let v1644 : BitVec 1 := Scalar.cmpi .slt v1640 c0_i32_590
  let v1645 : BitVec 32 := Scalar.extui v1644
  let v1646 : BitVec 32 := Scalar.subi v1643 v1645
  let c2_i32_588 : BitVec 32 := 2#32
  let c0_i32_591 : BitVec 32 := 0#32
  let v1647 : BitVec 1 := Scalar.cmpi .sgt c2_i32_588 c0_i32_591
  let v1648 : BitVec 32 := Scalar.extui v1647
  let c0_i32_592 : BitVec 32 := 0#32
  let v1649 : BitVec 1 := Scalar.cmpi .slt c2_i32_588 c0_i32_592
  let v1650 : BitVec 32 := Scalar.extui v1649
  let v1651 : BitVec 32 := Scalar.subi v1648 v1650
  let v1652 : BitVec 1 := Scalar.cmpi .ne v1646 v1651
  let v1653 : BitVec 32 := Scalar.remsi v1640 c2_i32_588
  let c0_i32_593 : BitVec 32 := 0#32
  let v1654 : BitVec 1 := Scalar.cmpi .ne v1653 c0_i32_593
  let v1655 : BitVec 1 := Scalar.andi v1652 v1654
  let v1641 : BitVec 32 := Scalar.divsi v1640 c2_i32_588
  let c1_i32_594 : BitVec 32 := 1#32
  let v1656 : BitVec 32 := Scalar.subi v1641 c1_i32_594
  let v1657 : BitVec 32 := Scalar.select v1655 v1656 v1641
  let v1658 : BitVec 32 := Scalar.subi v1657 c0_i32_595
  let c1_i32_596 : BitVec 32 := 1#32
  let v1660 : BitVec 32 := Scalar.divsi v1658 c1_i32_596
  let v1661 : BitVec 32 := Scalar.muli v1660 c1_i32_596
  let v1662 : BitVec 32 := Scalar.addi c0_i32_595 v1661
  let c1_i32_598 : BitVec 32 := 1#32
  let arg21 : BitVec 32 := Scf.iv v1662 c1_i32_598 k0_t2
  let v1841 : BitVec 32 := Scalar.muli c2_i32_671 arg21
  let v1842 : BitVec 32 := Scalar.addi v1841 c1_i32_672
  let v1843 : BitVec 32 := Scalar.muli c2_i32_673 v1842
  let c1_i32_674 : BitVec 32 := 1#32
  let v1844 : BitVec 32 := Scalar.subi v1843 c1_i32_674
  let v1845 : BitVec 32 := Scalar.maxsi c0_i32_675 v1844
  let v1846 : BitVec 32 := Scalar.minsi v46 v1845
  let c512_i32_676 : BitVec 32 := 512#32
  let v1847 : BitVec 32 := Scalar.muli v1846 c512_i32_676
  let v1848 : BitVec 32 := v1847
  let v1849 : Index := Scalar.indexCast v1848
  ![0, 0, 0, v1849.toNat]
def k0_mult15 (i : grid0.Coords) (k0_t2 : Fin (k0_t2_loop i).trips) : BitVec 32 :=
  let c2_i32_683 : BitVec 32 := 2#32
  let c2_i32_671 : BitVec 32 := 2#32
  let c0_i32_595 : BitVec 32 := 0#32
  let arg2 : BitVec 32 := BitVec.ofNat 32 (i 2).val
  let c256_i32 : BitVec 32 := 256#32
  let v0 : BitVec 32 := Scalar.muli arg2 c256_i32
  let c0_i32_15 : BitVec 32 := 0#32
  let v31 : BitVec 1 := Scalar.cmpi .sgt v0 c0_i32_15
  let v32 : BitVec 32 := Scalar.extui v31
  let c0_i32_16 : BitVec 32 := 0#32
  let v33 : BitVec 1 := Scalar.cmpi .slt v0 c0_i32_16
  let v34 : BitVec 32 := Scalar.extui v33
  let v35 : BitVec 32 := Scalar.subi v32 v34
  let c512_i32_14 : BitVec 32 := 512#32
  let c0_i32_17 : BitVec 32 := 0#32
  let v36 : BitVec 1 := Scalar.cmpi .sgt c512_i32_14 c0_i32_17
  let v37 : BitVec 32 := Scalar.extui v36
  let c0_i32_18 : BitVec 32 := 0#32
  let v38 : BitVec 1 := Scalar.cmpi .slt c512_i32_14 c0_i32_18
  let v39 : BitVec 32 := Scalar.extui v38
  let v40 : BitVec 32 := Scalar.subi v37 v39
  let v41 : BitVec 1 := Scalar.cmpi .ne v35 v40
  let v42 : BitVec 32 := Scalar.remsi v0 c512_i32_14
  let c0_i32_19 : BitVec 32 := 0#32
  let v43 : BitVec 1 := Scalar.cmpi .ne v42 c0_i32_19
  let v44 : BitVec 1 := Scalar.andi v41 v43
  let v30 : BitVec 32 := Scalar.divsi v0 c512_i32_14
  let c1_i32 : BitVec 32 := 1#32
  let v45 : BitVec 32 := Scalar.subi v30 c1_i32
  let v46 : BitVec 32 := Scalar.select v44 v45 v30
  let c0_i32_577 : BitVec 32 := 0#32
  let v1618 : BitVec 1 := Scalar.cmpi .sgt v46 c0_i32_577
  let v1619 : BitVec 32 := Scalar.extui v1618
  let c0_i32_578 : BitVec 32 := 0#32
  let v1620 : BitVec 1 := Scalar.cmpi .slt v46 c0_i32_578
  let v1621 : BitVec 32 := Scalar.extui v1620
  let v1622 : BitVec 32 := Scalar.subi v1619 v1621
  let c2_i32 : BitVec 32 := 2#32
  let c0_i32_579 : BitVec 32 := 0#32
  let v1623 : BitVec 1 := Scalar.cmpi .sgt c2_i32 c0_i32_579
  let v1624 : BitVec 32 := Scalar.extui v1623
  let c0_i32_580 : BitVec 32 := 0#32
  let v1625 : BitVec 1 := Scalar.cmpi .slt c2_i32 c0_i32_580
  let v1626 : BitVec 32 := Scalar.extui v1625
  let v1627 : BitVec 32 := Scalar.subi v1624 v1626
  let v1628 : BitVec 1 := Scalar.cmpi .ne v1622 v1627
  let v1629 : BitVec 32 := Scalar.remsi v46 c2_i32
  let c0_i32_581 : BitVec 32 := 0#32
  let v1630 : BitVec 1 := Scalar.cmpi .ne v1629 c0_i32_581
  let v1631 : BitVec 1 := Scalar.andi v1628 v1630
  let v1617 : BitVec 32 := Scalar.divsi v46 c2_i32
  let c1_i32_582 : BitVec 32 := 1#32
  let v1632 : BitVec 32 := Scalar.subi v1617 c1_i32_582
  let v1633 : BitVec 32 := Scalar.select v1631 v1632 v1617
  let c1_i32_586 : BitVec 32 := 1#32
  let v1639 : BitVec 32 := Scalar.subi v1633 c1_i32_586
  let c0_i32_587 : BitVec 32 := 0#32
  let v1640 : BitVec 32 := Scalar.maxsi v1639 c0_i32_587
  let c0_i32_589 : BitVec 32 := 0#32
  let v1642 : BitVec 1 := Scalar.cmpi .sgt v1640 c0_i32_589
  let v1643 : BitVec 32 := Scalar.extui v1642
  let c0_i32_590 : BitVec 32 := 0#32
  let v1644 : BitVec 1 := Scalar.cmpi .slt v1640 c0_i32_590
  let v1645 : BitVec 32 := Scalar.extui v1644
  let v1646 : BitVec 32 := Scalar.subi v1643 v1645
  let c2_i32_588 : BitVec 32 := 2#32
  let c0_i32_591 : BitVec 32 := 0#32
  let v1647 : BitVec 1 := Scalar.cmpi .sgt c2_i32_588 c0_i32_591
  let v1648 : BitVec 32 := Scalar.extui v1647
  let c0_i32_592 : BitVec 32 := 0#32
  let v1649 : BitVec 1 := Scalar.cmpi .slt c2_i32_588 c0_i32_592
  let v1650 : BitVec 32 := Scalar.extui v1649
  let v1651 : BitVec 32 := Scalar.subi v1648 v1650
  let v1652 : BitVec 1 := Scalar.cmpi .ne v1646 v1651
  let v1653 : BitVec 32 := Scalar.remsi v1640 c2_i32_588
  let c0_i32_593 : BitVec 32 := 0#32
  let v1654 : BitVec 1 := Scalar.cmpi .ne v1653 c0_i32_593
  let v1655 : BitVec 1 := Scalar.andi v1652 v1654
  let v1641 : BitVec 32 := Scalar.divsi v1640 c2_i32_588
  let c1_i32_594 : BitVec 32 := 1#32
  let v1656 : BitVec 32 := Scalar.subi v1641 c1_i32_594
  let v1657 : BitVec 32 := Scalar.select v1655 v1656 v1641
  let v1658 : BitVec 32 := Scalar.subi v1657 c0_i32_595
  let c1_i32_596 : BitVec 32 := 1#32
  let v1660 : BitVec 32 := Scalar.divsi v1658 c1_i32_596
  let v1661 : BitVec 32 := Scalar.muli v1660 c1_i32_596
  let v1662 : BitVec 32 := Scalar.addi c0_i32_595 v1661
  let c1_i32_598 : BitVec 32 := 1#32
  let arg21 : BitVec 32 := Scf.iv v1662 c1_i32_598 k0_t2
  let v1841 : BitVec 32 := Scalar.muli c2_i32_671 arg21
  let c1_i32_672 : BitVec 32 := 1#32
  let v1842 : BitVec 32 := Scalar.addi v1841 c1_i32_672
  let v1854 : BitVec 32 := Scalar.muli c2_i32_683 v1842
  let c1_i32_684 : BitVec 32 := 1#32
  let v1855 : BitVec 32 := Scalar.addi v1854 c1_i32_684
  let v1856 : BitVec 32 := Scalar.minsi v1855 v46
  let c512_i32_685 : BitVec 32 := 512#32
  let v1857 : BitVec 32 := Scalar.muli v1856 c512_i32_685
  v1857
def k0_off10 (i : grid0.Coords) (k0_t2 : Fin (k0_t2_loop i).trips) (c1_i32_672 : BitVec 32) (c1_i32_684 : BitVec 32) : Fin 4 → Nat :=
  let c0_686 : Index := 0#32
  let c0_687 : Index := 0#32
  let c2_i32_683 : BitVec 32 := 2#32
  let c2_i32_671 : BitVec 32 := 2#32
  let c0_i32_595 : BitVec 32 := 0#32
  let arg2 : BitVec 32 := BitVec.ofNat 32 (i 2).val
  let c256_i32 : BitVec 32 := 256#32
  let v0 : BitVec 32 := Scalar.muli arg2 c256_i32
  let c0_i32_15 : BitVec 32 := 0#32
  let v31 : BitVec 1 := Scalar.cmpi .sgt v0 c0_i32_15
  let v32 : BitVec 32 := Scalar.extui v31
  let c0_i32_16 : BitVec 32 := 0#32
  let v33 : BitVec 1 := Scalar.cmpi .slt v0 c0_i32_16
  let v34 : BitVec 32 := Scalar.extui v33
  let v35 : BitVec 32 := Scalar.subi v32 v34
  let c512_i32_14 : BitVec 32 := 512#32
  let c0_i32_17 : BitVec 32 := 0#32
  let v36 : BitVec 1 := Scalar.cmpi .sgt c512_i32_14 c0_i32_17
  let v37 : BitVec 32 := Scalar.extui v36
  let c0_i32_18 : BitVec 32 := 0#32
  let v38 : BitVec 1 := Scalar.cmpi .slt c512_i32_14 c0_i32_18
  let v39 : BitVec 32 := Scalar.extui v38
  let v40 : BitVec 32 := Scalar.subi v37 v39
  let v41 : BitVec 1 := Scalar.cmpi .ne v35 v40
  let v42 : BitVec 32 := Scalar.remsi v0 c512_i32_14
  let c0_i32_19 : BitVec 32 := 0#32
  let v43 : BitVec 1 := Scalar.cmpi .ne v42 c0_i32_19
  let v44 : BitVec 1 := Scalar.andi v41 v43
  let v30 : BitVec 32 := Scalar.divsi v0 c512_i32_14
  let c1_i32 : BitVec 32 := 1#32
  let v45 : BitVec 32 := Scalar.subi v30 c1_i32
  let v46 : BitVec 32 := Scalar.select v44 v45 v30
  let c0_i32_577 : BitVec 32 := 0#32
  let v1618 : BitVec 1 := Scalar.cmpi .sgt v46 c0_i32_577
  let v1619 : BitVec 32 := Scalar.extui v1618
  let c0_i32_578 : BitVec 32 := 0#32
  let v1620 : BitVec 1 := Scalar.cmpi .slt v46 c0_i32_578
  let v1621 : BitVec 32 := Scalar.extui v1620
  let v1622 : BitVec 32 := Scalar.subi v1619 v1621
  let c2_i32 : BitVec 32 := 2#32
  let c0_i32_579 : BitVec 32 := 0#32
  let v1623 : BitVec 1 := Scalar.cmpi .sgt c2_i32 c0_i32_579
  let v1624 : BitVec 32 := Scalar.extui v1623
  let c0_i32_580 : BitVec 32 := 0#32
  let v1625 : BitVec 1 := Scalar.cmpi .slt c2_i32 c0_i32_580
  let v1626 : BitVec 32 := Scalar.extui v1625
  let v1627 : BitVec 32 := Scalar.subi v1624 v1626
  let v1628 : BitVec 1 := Scalar.cmpi .ne v1622 v1627
  let v1629 : BitVec 32 := Scalar.remsi v46 c2_i32
  let c0_i32_581 : BitVec 32 := 0#32
  let v1630 : BitVec 1 := Scalar.cmpi .ne v1629 c0_i32_581
  let v1631 : BitVec 1 := Scalar.andi v1628 v1630
  let v1617 : BitVec 32 := Scalar.divsi v46 c2_i32
  let c1_i32_582 : BitVec 32 := 1#32
  let v1632 : BitVec 32 := Scalar.subi v1617 c1_i32_582
  let v1633 : BitVec 32 := Scalar.select v1631 v1632 v1617
  let c1_i32_586 : BitVec 32 := 1#32
  let v1639 : BitVec 32 := Scalar.subi v1633 c1_i32_586
  let c0_i32_587 : BitVec 32 := 0#32
  let v1640 : BitVec 32 := Scalar.maxsi v1639 c0_i32_587
  let c0_i32_589 : BitVec 32 := 0#32
  let v1642 : BitVec 1 := Scalar.cmpi .sgt v1640 c0_i32_589
  let v1643 : BitVec 32 := Scalar.extui v1642
  let c0_i32_590 : BitVec 32 := 0#32
  let v1644 : BitVec 1 := Scalar.cmpi .slt v1640 c0_i32_590
  let v1645 : BitVec 32 := Scalar.extui v1644
  let v1646 : BitVec 32 := Scalar.subi v1643 v1645
  let c2_i32_588 : BitVec 32 := 2#32
  let c0_i32_591 : BitVec 32 := 0#32
  let v1647 : BitVec 1 := Scalar.cmpi .sgt c2_i32_588 c0_i32_591
  let v1648 : BitVec 32 := Scalar.extui v1647
  let c0_i32_592 : BitVec 32 := 0#32
  let v1649 : BitVec 1 := Scalar.cmpi .slt c2_i32_588 c0_i32_592
  let v1650 : BitVec 32 := Scalar.extui v1649
  let v1651 : BitVec 32 := Scalar.subi v1648 v1650
  let v1652 : BitVec 1 := Scalar.cmpi .ne v1646 v1651
  let v1653 : BitVec 32 := Scalar.remsi v1640 c2_i32_588
  let c0_i32_593 : BitVec 32 := 0#32
  let v1654 : BitVec 1 := Scalar.cmpi .ne v1653 c0_i32_593
  let v1655 : BitVec 1 := Scalar.andi v1652 v1654
  let v1641 : BitVec 32 := Scalar.divsi v1640 c2_i32_588
  let c1_i32_594 : BitVec 32 := 1#32
  let v1656 : BitVec 32 := Scalar.subi v1641 c1_i32_594
  let v1657 : BitVec 32 := Scalar.select v1655 v1656 v1641
  let v1658 : BitVec 32 := Scalar.subi v1657 c0_i32_595
  let c1_i32_596 : BitVec 32 := 1#32
  let v1660 : BitVec 32 := Scalar.divsi v1658 c1_i32_596
  let v1661 : BitVec 32 := Scalar.muli v1660 c1_i32_596
  let v1662 : BitVec 32 := Scalar.addi c0_i32_595 v1661
  let c1_i32_598 : BitVec 32 := 1#32
  let arg21 : BitVec 32 := Scf.iv v1662 c1_i32_598 k0_t2
  let v1841 : BitVec 32 := Scalar.muli c2_i32_671 arg21
  let v1842 : BitVec 32 := Scalar.addi v1841 c1_i32_672
  let v1854 : BitVec 32 := Scalar.muli c2_i32_683 v1842
  let v1855 : BitVec 32 := Scalar.addi v1854 c1_i32_684
  let v1856 : BitVec 32 := Scalar.minsi v1855 v46
  let c512_i32_685 : BitVec 32 := 512#32
  let v1857 : BitVec 32 := Scalar.muli v1856 c512_i32_685
  let v1858 : BitVec 32 := v1857
  let v1859 : Index := Scalar.indexCast v1858
  let c0_688 : Index := 0#32
  ![0, 0, v1859.toNat, 0]
def k0_mult16 (i : grid0.Coords) (k0_t2 : Fin (k0_t2_loop i).trips) : BitVec 32 :=
  let arg2 : BitVec 32 := BitVec.ofNat 32 (i 2).val
  let c256_i32 : BitVec 32 := 256#32
  let v0 : BitVec 32 := Scalar.muli arg2 c256_i32
  let c0_i32_15 : BitVec 32 := 0#32
  let v31 : BitVec 1 := Scalar.cmpi .sgt v0 c0_i32_15
  let v32 : BitVec 32 := Scalar.extui v31
  let c0_i32_16 : BitVec 32 := 0#32
  let v33 : BitVec 1 := Scalar.cmpi .slt v0 c0_i32_16
  let v34 : BitVec 32 := Scalar.extui v33
  let v35 : BitVec 32 := Scalar.subi v32 v34
  let c512_i32_14 : BitVec 32 := 512#32
  let c0_i32_17 : BitVec 32 := 0#32
  let v36 : BitVec 1 := Scalar.cmpi .sgt c512_i32_14 c0_i32_17
  let v37 : BitVec 32 := Scalar.extui v36
  let c0_i32_18 : BitVec 32 := 0#32
  let v38 : BitVec 1 := Scalar.cmpi .slt c512_i32_14 c0_i32_18
  let v39 : BitVec 32 := Scalar.extui v38
  let v40 : BitVec 32 := Scalar.subi v37 v39
  let v41 : BitVec 1 := Scalar.cmpi .ne v35 v40
  let v42 : BitVec 32 := Scalar.remsi v0 c512_i32_14
  let c0_i32_19 : BitVec 32 := 0#32
  let v43 : BitVec 1 := Scalar.cmpi .ne v42 c0_i32_19
  let v44 : BitVec 1 := Scalar.andi v41 v43
  let v30 : BitVec 32 := Scalar.divsi v0 c512_i32_14
  let c1_i32 : BitVec 32 := 1#32
  let v45 : BitVec 32 := Scalar.subi v30 c1_i32
  let v46 : BitVec 32 := Scalar.select v44 v45 v30
  let c0_i32_894 : BitVec 32 := 0#32
  let c2_i32_893 : BitVec 32 := 2#32
  let c2_i32_671 : BitVec 32 := 2#32
  let c0_i32_595 : BitVec 32 := 0#32
  let c0_i32_577 : BitVec 32 := 0#32
  let v1618 : BitVec 1 := Scalar.cmpi .sgt v46 c0_i32_577
  let v1619 : BitVec 32 := Scalar.extui v1618
  let c0_i32_578 : BitVec 32 := 0#32
  let v1620 : BitVec 1 := Scalar.cmpi .slt v46 c0_i32_578
  let v1621 : BitVec 32 := Scalar.extui v1620
  let v1622 : BitVec 32 := Scalar.subi v1619 v1621
  let c2_i32 : BitVec 32 := 2#32
  let c0_i32_579 : BitVec 32 := 0#32
  let v1623 : BitVec 1 := Scalar.cmpi .sgt c2_i32 c0_i32_579
  let v1624 : BitVec 32 := Scalar.extui v1623
  let c0_i32_580 : BitVec 32 := 0#32
  let v1625 : BitVec 1 := Scalar.cmpi .slt c2_i32 c0_i32_580
  let v1626 : BitVec 32 := Scalar.extui v1625
  let v1627 : BitVec 32 := Scalar.subi v1624 v1626
  let v1628 : BitVec 1 := Scalar.cmpi .ne v1622 v1627
  let v1629 : BitVec 32 := Scalar.remsi v46 c2_i32
  let c0_i32_581 : BitVec 32 := 0#32
  let v1630 : BitVec 1 := Scalar.cmpi .ne v1629 c0_i32_581
  let v1631 : BitVec 1 := Scalar.andi v1628 v1630
  let v1617 : BitVec 32 := Scalar.divsi v46 c2_i32
  let c1_i32_582 : BitVec 32 := 1#32
  let v1632 : BitVec 32 := Scalar.subi v1617 c1_i32_582
  let v1633 : BitVec 32 := Scalar.select v1631 v1632 v1617
  let c1_i32_586 : BitVec 32 := 1#32
  let v1639 : BitVec 32 := Scalar.subi v1633 c1_i32_586
  let c0_i32_587 : BitVec 32 := 0#32
  let v1640 : BitVec 32 := Scalar.maxsi v1639 c0_i32_587
  let c0_i32_589 : BitVec 32 := 0#32
  let v1642 : BitVec 1 := Scalar.cmpi .sgt v1640 c0_i32_589
  let v1643 : BitVec 32 := Scalar.extui v1642
  let c0_i32_590 : BitVec 32 := 0#32
  let v1644 : BitVec 1 := Scalar.cmpi .slt v1640 c0_i32_590
  let v1645 : BitVec 32 := Scalar.extui v1644
  let v1646 : BitVec 32 := Scalar.subi v1643 v1645
  let c2_i32_588 : BitVec 32 := 2#32
  let c0_i32_591 : BitVec 32 := 0#32
  let v1647 : BitVec 1 := Scalar.cmpi .sgt c2_i32_588 c0_i32_591
  let v1648 : BitVec 32 := Scalar.extui v1647
  let c0_i32_592 : BitVec 32 := 0#32
  let v1649 : BitVec 1 := Scalar.cmpi .slt c2_i32_588 c0_i32_592
  let v1650 : BitVec 32 := Scalar.extui v1649
  let v1651 : BitVec 32 := Scalar.subi v1648 v1650
  let v1652 : BitVec 1 := Scalar.cmpi .ne v1646 v1651
  let v1653 : BitVec 32 := Scalar.remsi v1640 c2_i32_588
  let c0_i32_593 : BitVec 32 := 0#32
  let v1654 : BitVec 1 := Scalar.cmpi .ne v1653 c0_i32_593
  let v1655 : BitVec 1 := Scalar.andi v1652 v1654
  let v1641 : BitVec 32 := Scalar.divsi v1640 c2_i32_588
  let c1_i32_594 : BitVec 32 := 1#32
  let v1656 : BitVec 32 := Scalar.subi v1641 c1_i32_594
  let v1657 : BitVec 32 := Scalar.select v1655 v1656 v1641
  let v1658 : BitVec 32 := Scalar.subi v1657 c0_i32_595
  let c1_i32_596 : BitVec 32 := 1#32
  let v1660 : BitVec 32 := Scalar.divsi v1658 c1_i32_596
  let v1661 : BitVec 32 := Scalar.muli v1660 c1_i32_596
  let v1662 : BitVec 32 := Scalar.addi c0_i32_595 v1661
  let c1_i32_598 : BitVec 32 := 1#32
  let arg21 : BitVec 32 := Scf.iv v1662 c1_i32_598 k0_t2
  let v1841 : BitVec 32 := Scalar.muli c2_i32_671 arg21
  let c1_i32_672 : BitVec 32 := 1#32
  let v1842 : BitVec 32 := Scalar.addi v1841 c1_i32_672
  let v2298 : BitVec 32 := Scalar.muli c2_i32_893 v1842
  let v2299 : BitVec 32 := Scalar.maxsi c0_i32_894 v2298
  let v2300 : BitVec 32 := Scalar.minsi v46 v2299
  let c512_i32_895 : BitVec 32 := 512#32
  let v2301 : BitVec 32 := Scalar.muli v2300 c512_i32_895
  v2301
def k0_off11 (i : grid0.Coords) (k0_t2 : Fin (k0_t2_loop i).trips) (c1_i32_672 : BitVec 32) : Fin 4 → Nat :=
  let c0_896 : Index := 0#32
  let c0_897 : Index := 0#32
  let c0_898 : Index := 0#32
  let arg2 : BitVec 32 := BitVec.ofNat 32 (i 2).val
  let c256_i32 : BitVec 32 := 256#32
  let v0 : BitVec 32 := Scalar.muli arg2 c256_i32
  let c0_i32_15 : BitVec 32 := 0#32
  let v31 : BitVec 1 := Scalar.cmpi .sgt v0 c0_i32_15
  let v32 : BitVec 32 := Scalar.extui v31
  let c0_i32_16 : BitVec 32 := 0#32
  let v33 : BitVec 1 := Scalar.cmpi .slt v0 c0_i32_16
  let v34 : BitVec 32 := Scalar.extui v33
  let v35 : BitVec 32 := Scalar.subi v32 v34
  let c512_i32_14 : BitVec 32 := 512#32
  let c0_i32_17 : BitVec 32 := 0#32
  let v36 : BitVec 1 := Scalar.cmpi .sgt c512_i32_14 c0_i32_17
  let v37 : BitVec 32 := Scalar.extui v36
  let c0_i32_18 : BitVec 32 := 0#32
  let v38 : BitVec 1 := Scalar.cmpi .slt c512_i32_14 c0_i32_18
  let v39 : BitVec 32 := Scalar.extui v38
  let v40 : BitVec 32 := Scalar.subi v37 v39
  let v41 : BitVec 1 := Scalar.cmpi .ne v35 v40
  let v42 : BitVec 32 := Scalar.remsi v0 c512_i32_14
  let c0_i32_19 : BitVec 32 := 0#32
  let v43 : BitVec 1 := Scalar.cmpi .ne v42 c0_i32_19
  let v44 : BitVec 1 := Scalar.andi v41 v43
  let v30 : BitVec 32 := Scalar.divsi v0 c512_i32_14
  let c1_i32 : BitVec 32 := 1#32
  let v45 : BitVec 32 := Scalar.subi v30 c1_i32
  let v46 : BitVec 32 := Scalar.select v44 v45 v30
  let c0_i32_894 : BitVec 32 := 0#32
  let c2_i32_893 : BitVec 32 := 2#32
  let c2_i32_671 : BitVec 32 := 2#32
  let c0_i32_595 : BitVec 32 := 0#32
  let c0_i32_577 : BitVec 32 := 0#32
  let v1618 : BitVec 1 := Scalar.cmpi .sgt v46 c0_i32_577
  let v1619 : BitVec 32 := Scalar.extui v1618
  let c0_i32_578 : BitVec 32 := 0#32
  let v1620 : BitVec 1 := Scalar.cmpi .slt v46 c0_i32_578
  let v1621 : BitVec 32 := Scalar.extui v1620
  let v1622 : BitVec 32 := Scalar.subi v1619 v1621
  let c2_i32 : BitVec 32 := 2#32
  let c0_i32_579 : BitVec 32 := 0#32
  let v1623 : BitVec 1 := Scalar.cmpi .sgt c2_i32 c0_i32_579
  let v1624 : BitVec 32 := Scalar.extui v1623
  let c0_i32_580 : BitVec 32 := 0#32
  let v1625 : BitVec 1 := Scalar.cmpi .slt c2_i32 c0_i32_580
  let v1626 : BitVec 32 := Scalar.extui v1625
  let v1627 : BitVec 32 := Scalar.subi v1624 v1626
  let v1628 : BitVec 1 := Scalar.cmpi .ne v1622 v1627
  let v1629 : BitVec 32 := Scalar.remsi v46 c2_i32
  let c0_i32_581 : BitVec 32 := 0#32
  let v1630 : BitVec 1 := Scalar.cmpi .ne v1629 c0_i32_581
  let v1631 : BitVec 1 := Scalar.andi v1628 v1630
  let v1617 : BitVec 32 := Scalar.divsi v46 c2_i32
  let c1_i32_582 : BitVec 32 := 1#32
  let v1632 : BitVec 32 := Scalar.subi v1617 c1_i32_582
  let v1633 : BitVec 32 := Scalar.select v1631 v1632 v1617
  let c1_i32_586 : BitVec 32 := 1#32
  let v1639 : BitVec 32 := Scalar.subi v1633 c1_i32_586
  let c0_i32_587 : BitVec 32 := 0#32
  let v1640 : BitVec 32 := Scalar.maxsi v1639 c0_i32_587
  let c0_i32_589 : BitVec 32 := 0#32
  let v1642 : BitVec 1 := Scalar.cmpi .sgt v1640 c0_i32_589
  let v1643 : BitVec 32 := Scalar.extui v1642
  let c0_i32_590 : BitVec 32 := 0#32
  let v1644 : BitVec 1 := Scalar.cmpi .slt v1640 c0_i32_590
  let v1645 : BitVec 32 := Scalar.extui v1644
  let v1646 : BitVec 32 := Scalar.subi v1643 v1645
  let c2_i32_588 : BitVec 32 := 2#32
  let c0_i32_591 : BitVec 32 := 0#32
  let v1647 : BitVec 1 := Scalar.cmpi .sgt c2_i32_588 c0_i32_591
  let v1648 : BitVec 32 := Scalar.extui v1647
  let c0_i32_592 : BitVec 32 := 0#32
  let v1649 : BitVec 1 := Scalar.cmpi .slt c2_i32_588 c0_i32_592
  let v1650 : BitVec 32 := Scalar.extui v1649
  let v1651 : BitVec 32 := Scalar.subi v1648 v1650
  let v1652 : BitVec 1 := Scalar.cmpi .ne v1646 v1651
  let v1653 : BitVec 32 := Scalar.remsi v1640 c2_i32_588
  let c0_i32_593 : BitVec 32 := 0#32
  let v1654 : BitVec 1 := Scalar.cmpi .ne v1653 c0_i32_593
  let v1655 : BitVec 1 := Scalar.andi v1652 v1654
  let v1641 : BitVec 32 := Scalar.divsi v1640 c2_i32_588
  let c1_i32_594 : BitVec 32 := 1#32
  let v1656 : BitVec 32 := Scalar.subi v1641 c1_i32_594
  let v1657 : BitVec 32 := Scalar.select v1655 v1656 v1641
  let v1658 : BitVec 32 := Scalar.subi v1657 c0_i32_595
  let c1_i32_596 : BitVec 32 := 1#32
  let v1660 : BitVec 32 := Scalar.divsi v1658 c1_i32_596
  let v1661 : BitVec 32 := Scalar.muli v1660 c1_i32_596
  let v1662 : BitVec 32 := Scalar.addi c0_i32_595 v1661
  let c1_i32_598 : BitVec 32 := 1#32
  let arg21 : BitVec 32 := Scf.iv v1662 c1_i32_598 k0_t2
  let v1841 : BitVec 32 := Scalar.muli c2_i32_671 arg21
  let v1842 : BitVec 32 := Scalar.addi v1841 c1_i32_672
  let v2298 : BitVec 32 := Scalar.muli c2_i32_893 v1842
  let v2299 : BitVec 32 := Scalar.maxsi c0_i32_894 v2298
  let v2300 : BitVec 32 := Scalar.minsi v46 v2299
  let c512_i32_895 : BitVec 32 := 512#32
  let v2301 : BitVec 32 := Scalar.muli v2300 c512_i32_895
  let v2302 : BitVec 32 := v2301
  let v2303 : Index := Scalar.indexCast v2302
  ![0, 0, 0, v2303.toNat]
def k0_mult17 (i : grid0.Coords) (k0_t2 : Fin (k0_t2_loop i).trips) : BitVec 32 :=
  let c2_i32_902 : BitVec 32 := 2#32
  let c2_i32_671 : BitVec 32 := 2#32
  let c0_i32_595 : BitVec 32 := 0#32
  let arg2 : BitVec 32 := BitVec.ofNat 32 (i 2).val
  let c256_i32 : BitVec 32 := 256#32
  let v0 : BitVec 32 := Scalar.muli arg2 c256_i32
  let c0_i32_15 : BitVec 32 := 0#32
  let v31 : BitVec 1 := Scalar.cmpi .sgt v0 c0_i32_15
  let v32 : BitVec 32 := Scalar.extui v31
  let c0_i32_16 : BitVec 32 := 0#32
  let v33 : BitVec 1 := Scalar.cmpi .slt v0 c0_i32_16
  let v34 : BitVec 32 := Scalar.extui v33
  let v35 : BitVec 32 := Scalar.subi v32 v34
  let c512_i32_14 : BitVec 32 := 512#32
  let c0_i32_17 : BitVec 32 := 0#32
  let v36 : BitVec 1 := Scalar.cmpi .sgt c512_i32_14 c0_i32_17
  let v37 : BitVec 32 := Scalar.extui v36
  let c0_i32_18 : BitVec 32 := 0#32
  let v38 : BitVec 1 := Scalar.cmpi .slt c512_i32_14 c0_i32_18
  let v39 : BitVec 32 := Scalar.extui v38
  let v40 : BitVec 32 := Scalar.subi v37 v39
  let v41 : BitVec 1 := Scalar.cmpi .ne v35 v40
  let v42 : BitVec 32 := Scalar.remsi v0 c512_i32_14
  let c0_i32_19 : BitVec 32 := 0#32
  let v43 : BitVec 1 := Scalar.cmpi .ne v42 c0_i32_19
  let v44 : BitVec 1 := Scalar.andi v41 v43
  let v30 : BitVec 32 := Scalar.divsi v0 c512_i32_14
  let c1_i32 : BitVec 32 := 1#32
  let v45 : BitVec 32 := Scalar.subi v30 c1_i32
  let v46 : BitVec 32 := Scalar.select v44 v45 v30
  let c0_i32_577 : BitVec 32 := 0#32
  let v1618 : BitVec 1 := Scalar.cmpi .sgt v46 c0_i32_577
  let v1619 : BitVec 32 := Scalar.extui v1618
  let c0_i32_578 : BitVec 32 := 0#32
  let v1620 : BitVec 1 := Scalar.cmpi .slt v46 c0_i32_578
  let v1621 : BitVec 32 := Scalar.extui v1620
  let v1622 : BitVec 32 := Scalar.subi v1619 v1621
  let c2_i32 : BitVec 32 := 2#32
  let c0_i32_579 : BitVec 32 := 0#32
  let v1623 : BitVec 1 := Scalar.cmpi .sgt c2_i32 c0_i32_579
  let v1624 : BitVec 32 := Scalar.extui v1623
  let c0_i32_580 : BitVec 32 := 0#32
  let v1625 : BitVec 1 := Scalar.cmpi .slt c2_i32 c0_i32_580
  let v1626 : BitVec 32 := Scalar.extui v1625
  let v1627 : BitVec 32 := Scalar.subi v1624 v1626
  let v1628 : BitVec 1 := Scalar.cmpi .ne v1622 v1627
  let v1629 : BitVec 32 := Scalar.remsi v46 c2_i32
  let c0_i32_581 : BitVec 32 := 0#32
  let v1630 : BitVec 1 := Scalar.cmpi .ne v1629 c0_i32_581
  let v1631 : BitVec 1 := Scalar.andi v1628 v1630
  let v1617 : BitVec 32 := Scalar.divsi v46 c2_i32
  let c1_i32_582 : BitVec 32 := 1#32
  let v1632 : BitVec 32 := Scalar.subi v1617 c1_i32_582
  let v1633 : BitVec 32 := Scalar.select v1631 v1632 v1617
  let c1_i32_586 : BitVec 32 := 1#32
  let v1639 : BitVec 32 := Scalar.subi v1633 c1_i32_586
  let c0_i32_587 : BitVec 32 := 0#32
  let v1640 : BitVec 32 := Scalar.maxsi v1639 c0_i32_587
  let c0_i32_589 : BitVec 32 := 0#32
  let v1642 : BitVec 1 := Scalar.cmpi .sgt v1640 c0_i32_589
  let v1643 : BitVec 32 := Scalar.extui v1642
  let c0_i32_590 : BitVec 32 := 0#32
  let v1644 : BitVec 1 := Scalar.cmpi .slt v1640 c0_i32_590
  let v1645 : BitVec 32 := Scalar.extui v1644
  let v1646 : BitVec 32 := Scalar.subi v1643 v1645
  let c2_i32_588 : BitVec 32 := 2#32
  let c0_i32_591 : BitVec 32 := 0#32
  let v1647 : BitVec 1 := Scalar.cmpi .sgt c2_i32_588 c0_i32_591
  let v1648 : BitVec 32 := Scalar.extui v1647
  let c0_i32_592 : BitVec 32 := 0#32
  let v1649 : BitVec 1 := Scalar.cmpi .slt c2_i32_588 c0_i32_592
  let v1650 : BitVec 32 := Scalar.extui v1649
  let v1651 : BitVec 32 := Scalar.subi v1648 v1650
  let v1652 : BitVec 1 := Scalar.cmpi .ne v1646 v1651
  let v1653 : BitVec 32 := Scalar.remsi v1640 c2_i32_588
  let c0_i32_593 : BitVec 32 := 0#32
  let v1654 : BitVec 1 := Scalar.cmpi .ne v1653 c0_i32_593
  let v1655 : BitVec 1 := Scalar.andi v1652 v1654
  let v1641 : BitVec 32 := Scalar.divsi v1640 c2_i32_588
  let c1_i32_594 : BitVec 32 := 1#32
  let v1656 : BitVec 32 := Scalar.subi v1641 c1_i32_594
  let v1657 : BitVec 32 := Scalar.select v1655 v1656 v1641
  let v1658 : BitVec 32 := Scalar.subi v1657 c0_i32_595
  let c1_i32_596 : BitVec 32 := 1#32
  let v1660 : BitVec 32 := Scalar.divsi v1658 c1_i32_596
  let v1661 : BitVec 32 := Scalar.muli v1660 c1_i32_596
  let v1662 : BitVec 32 := Scalar.addi c0_i32_595 v1661
  let c1_i32_598 : BitVec 32 := 1#32
  let arg21 : BitVec 32 := Scf.iv v1662 c1_i32_598 k0_t2
  let v1841 : BitVec 32 := Scalar.muli c2_i32_671 arg21
  let c1_i32_672 : BitVec 32 := 1#32
  let v1842 : BitVec 32 := Scalar.addi v1841 c1_i32_672
  let v2308 : BitVec 32 := Scalar.muli c2_i32_902 v1842
  let c2_i32_903 : BitVec 32 := 2#32
  let v2309 : BitVec 32 := Scalar.addi v2308 c2_i32_903
  let v2310 : BitVec 32 := Scalar.minsi v2309 v46
  let c512_i32_904 : BitVec 32 := 512#32
  let v2311 : BitVec 32 := Scalar.muli v2310 c512_i32_904
  v2311
def k0_mult18 (i : grid0.Coords) (k0_t2 : Fin (k0_t2_loop i).trips) : BitVec 32 :=
  let arg2 : BitVec 32 := BitVec.ofNat 32 (i 2).val
  let c256_i32 : BitVec 32 := 256#32
  let v0 : BitVec 32 := Scalar.muli arg2 c256_i32
  let c0_i32_15 : BitVec 32 := 0#32
  let v31 : BitVec 1 := Scalar.cmpi .sgt v0 c0_i32_15
  let v32 : BitVec 32 := Scalar.extui v31
  let c0_i32_16 : BitVec 32 := 0#32
  let v33 : BitVec 1 := Scalar.cmpi .slt v0 c0_i32_16
  let v34 : BitVec 32 := Scalar.extui v33
  let v35 : BitVec 32 := Scalar.subi v32 v34
  let c512_i32_14 : BitVec 32 := 512#32
  let c0_i32_17 : BitVec 32 := 0#32
  let v36 : BitVec 1 := Scalar.cmpi .sgt c512_i32_14 c0_i32_17
  let v37 : BitVec 32 := Scalar.extui v36
  let c0_i32_18 : BitVec 32 := 0#32
  let v38 : BitVec 1 := Scalar.cmpi .slt c512_i32_14 c0_i32_18
  let v39 : BitVec 32 := Scalar.extui v38
  let v40 : BitVec 32 := Scalar.subi v37 v39
  let v41 : BitVec 1 := Scalar.cmpi .ne v35 v40
  let v42 : BitVec 32 := Scalar.remsi v0 c512_i32_14
  let c0_i32_19 : BitVec 32 := 0#32
  let v43 : BitVec 1 := Scalar.cmpi .ne v42 c0_i32_19
  let v44 : BitVec 1 := Scalar.andi v41 v43
  let v30 : BitVec 32 := Scalar.divsi v0 c512_i32_14
  let c1_i32 : BitVec 32 := 1#32
  let v45 : BitVec 32 := Scalar.subi v30 c1_i32
  let v46 : BitVec 32 := Scalar.select v44 v45 v30
  let c0_i32_1115 : BitVec 32 := 0#32
  let c2_i32_1113 : BitVec 32 := 2#32
  let c2_i32_669 : BitVec 32 := 2#32
  let c0_i32_595 : BitVec 32 := 0#32
  let c0_i32_577 : BitVec 32 := 0#32
  let v1618 : BitVec 1 := Scalar.cmpi .sgt v46 c0_i32_577
  let v1619 : BitVec 32 := Scalar.extui v1618
  let c0_i32_578 : BitVec 32 := 0#32
  let v1620 : BitVec 1 := Scalar.cmpi .slt v46 c0_i32_578
  let v1621 : BitVec 32 := Scalar.extui v1620
  let v1622 : BitVec 32 := Scalar.subi v1619 v1621
  let c2_i32 : BitVec 32 := 2#32
  let c0_i32_579 : BitVec 32 := 0#32
  let v1623 : BitVec 1 := Scalar.cmpi .sgt c2_i32 c0_i32_579
  let v1624 : BitVec 32 := Scalar.extui v1623
  let c0_i32_580 : BitVec 32 := 0#32
  let v1625 : BitVec 1 := Scalar.cmpi .slt c2_i32 c0_i32_580
  let v1626 : BitVec 32 := Scalar.extui v1625
  let v1627 : BitVec 32 := Scalar.subi v1624 v1626
  let v1628 : BitVec 1 := Scalar.cmpi .ne v1622 v1627
  let v1629 : BitVec 32 := Scalar.remsi v46 c2_i32
  let c0_i32_581 : BitVec 32 := 0#32
  let v1630 : BitVec 1 := Scalar.cmpi .ne v1629 c0_i32_581
  let v1631 : BitVec 1 := Scalar.andi v1628 v1630
  let v1617 : BitVec 32 := Scalar.divsi v46 c2_i32
  let c1_i32_582 : BitVec 32 := 1#32
  let v1632 : BitVec 32 := Scalar.subi v1617 c1_i32_582
  let v1633 : BitVec 32 := Scalar.select v1631 v1632 v1617
  let c1_i32_586 : BitVec 32 := 1#32
  let v1639 : BitVec 32 := Scalar.subi v1633 c1_i32_586
  let c0_i32_587 : BitVec 32 := 0#32
  let v1640 : BitVec 32 := Scalar.maxsi v1639 c0_i32_587
  let c0_i32_589 : BitVec 32 := 0#32
  let v1642 : BitVec 1 := Scalar.cmpi .sgt v1640 c0_i32_589
  let v1643 : BitVec 32 := Scalar.extui v1642
  let c0_i32_590 : BitVec 32 := 0#32
  let v1644 : BitVec 1 := Scalar.cmpi .slt v1640 c0_i32_590
  let v1645 : BitVec 32 := Scalar.extui v1644
  let v1646 : BitVec 32 := Scalar.subi v1643 v1645
  let c2_i32_588 : BitVec 32 := 2#32
  let c0_i32_591 : BitVec 32 := 0#32
  let v1647 : BitVec 1 := Scalar.cmpi .sgt c2_i32_588 c0_i32_591
  let v1648 : BitVec 32 := Scalar.extui v1647
  let c0_i32_592 : BitVec 32 := 0#32
  let v1649 : BitVec 1 := Scalar.cmpi .slt c2_i32_588 c0_i32_592
  let v1650 : BitVec 32 := Scalar.extui v1649
  let v1651 : BitVec 32 := Scalar.subi v1648 v1650
  let v1652 : BitVec 1 := Scalar.cmpi .ne v1646 v1651
  let v1653 : BitVec 32 := Scalar.remsi v1640 c2_i32_588
  let c0_i32_593 : BitVec 32 := 0#32
  let v1654 : BitVec 1 := Scalar.cmpi .ne v1653 c0_i32_593
  let v1655 : BitVec 1 := Scalar.andi v1652 v1654
  let v1641 : BitVec 32 := Scalar.divsi v1640 c2_i32_588
  let c1_i32_594 : BitVec 32 := 1#32
  let v1656 : BitVec 32 := Scalar.subi v1641 c1_i32_594
  let v1657 : BitVec 32 := Scalar.select v1655 v1656 v1641
  let v1658 : BitVec 32 := Scalar.subi v1657 c0_i32_595
  let c1_i32_596 : BitVec 32 := 1#32
  let v1660 : BitVec 32 := Scalar.divsi v1658 c1_i32_596
  let v1661 : BitVec 32 := Scalar.muli v1660 c1_i32_596
  let v1662 : BitVec 32 := Scalar.addi c0_i32_595 v1661
  let c1_i32_598 : BitVec 32 := 1#32
  let arg21 : BitVec 32 := Scf.iv v1662 c1_i32_598 k0_t2
  let v1839 : BitVec 32 := Scalar.muli c2_i32_669 arg21
  let c2_i32_670 : BitVec 32 := 2#32
  let v1840 : BitVec 32 := Scalar.addi v1839 c2_i32_670
  let v2753 : BitVec 32 := Scalar.muli c2_i32_1113 v1840
  let c1_i32_1114 : BitVec 32 := 1#32
  let v2754 : BitVec 32 := Scalar.subi v2753 c1_i32_1114
  let v2755 : BitVec 32 := Scalar.maxsi c0_i32_1115 v2754
  let v2756 : BitVec 32 := Scalar.minsi v46 v2755
  let c512_i32_1116 : BitVec 32 := 512#32
  let v2757 : BitVec 32 := Scalar.muli v2756 c512_i32_1116
  v2757
def k0_mult19 (i : grid0.Coords) (k0_t2 : Fin (k0_t2_loop i).trips) : BitVec 32 :=
  let c2_i32_1123 : BitVec 32 := 2#32
  let c2_i32_669 : BitVec 32 := 2#32
  let c0_i32_595 : BitVec 32 := 0#32
  let arg2 : BitVec 32 := BitVec.ofNat 32 (i 2).val
  let c256_i32 : BitVec 32 := 256#32
  let v0 : BitVec 32 := Scalar.muli arg2 c256_i32
  let c0_i32_15 : BitVec 32 := 0#32
  let v31 : BitVec 1 := Scalar.cmpi .sgt v0 c0_i32_15
  let v32 : BitVec 32 := Scalar.extui v31
  let c0_i32_16 : BitVec 32 := 0#32
  let v33 : BitVec 1 := Scalar.cmpi .slt v0 c0_i32_16
  let v34 : BitVec 32 := Scalar.extui v33
  let v35 : BitVec 32 := Scalar.subi v32 v34
  let c512_i32_14 : BitVec 32 := 512#32
  let c0_i32_17 : BitVec 32 := 0#32
  let v36 : BitVec 1 := Scalar.cmpi .sgt c512_i32_14 c0_i32_17
  let v37 : BitVec 32 := Scalar.extui v36
  let c0_i32_18 : BitVec 32 := 0#32
  let v38 : BitVec 1 := Scalar.cmpi .slt c512_i32_14 c0_i32_18
  let v39 : BitVec 32 := Scalar.extui v38
  let v40 : BitVec 32 := Scalar.subi v37 v39
  let v41 : BitVec 1 := Scalar.cmpi .ne v35 v40
  let v42 : BitVec 32 := Scalar.remsi v0 c512_i32_14
  let c0_i32_19 : BitVec 32 := 0#32
  let v43 : BitVec 1 := Scalar.cmpi .ne v42 c0_i32_19
  let v44 : BitVec 1 := Scalar.andi v41 v43
  let v30 : BitVec 32 := Scalar.divsi v0 c512_i32_14
  let c1_i32 : BitVec 32 := 1#32
  let v45 : BitVec 32 := Scalar.subi v30 c1_i32
  let v46 : BitVec 32 := Scalar.select v44 v45 v30
  let c0_i32_577 : BitVec 32 := 0#32
  let v1618 : BitVec 1 := Scalar.cmpi .sgt v46 c0_i32_577
  let v1619 : BitVec 32 := Scalar.extui v1618
  let c0_i32_578 : BitVec 32 := 0#32
  let v1620 : BitVec 1 := Scalar.cmpi .slt v46 c0_i32_578
  let v1621 : BitVec 32 := Scalar.extui v1620
  let v1622 : BitVec 32 := Scalar.subi v1619 v1621
  let c2_i32 : BitVec 32 := 2#32
  let c0_i32_579 : BitVec 32 := 0#32
  let v1623 : BitVec 1 := Scalar.cmpi .sgt c2_i32 c0_i32_579
  let v1624 : BitVec 32 := Scalar.extui v1623
  let c0_i32_580 : BitVec 32 := 0#32
  let v1625 : BitVec 1 := Scalar.cmpi .slt c2_i32 c0_i32_580
  let v1626 : BitVec 32 := Scalar.extui v1625
  let v1627 : BitVec 32 := Scalar.subi v1624 v1626
  let v1628 : BitVec 1 := Scalar.cmpi .ne v1622 v1627
  let v1629 : BitVec 32 := Scalar.remsi v46 c2_i32
  let c0_i32_581 : BitVec 32 := 0#32
  let v1630 : BitVec 1 := Scalar.cmpi .ne v1629 c0_i32_581
  let v1631 : BitVec 1 := Scalar.andi v1628 v1630
  let v1617 : BitVec 32 := Scalar.divsi v46 c2_i32
  let c1_i32_582 : BitVec 32 := 1#32
  let v1632 : BitVec 32 := Scalar.subi v1617 c1_i32_582
  let v1633 : BitVec 32 := Scalar.select v1631 v1632 v1617
  let c1_i32_586 : BitVec 32 := 1#32
  let v1639 : BitVec 32 := Scalar.subi v1633 c1_i32_586
  let c0_i32_587 : BitVec 32 := 0#32
  let v1640 : BitVec 32 := Scalar.maxsi v1639 c0_i32_587
  let c0_i32_589 : BitVec 32 := 0#32
  let v1642 : BitVec 1 := Scalar.cmpi .sgt v1640 c0_i32_589
  let v1643 : BitVec 32 := Scalar.extui v1642
  let c0_i32_590 : BitVec 32 := 0#32
  let v1644 : BitVec 1 := Scalar.cmpi .slt v1640 c0_i32_590
  let v1645 : BitVec 32 := Scalar.extui v1644
  let v1646 : BitVec 32 := Scalar.subi v1643 v1645
  let c2_i32_588 : BitVec 32 := 2#32
  let c0_i32_591 : BitVec 32 := 0#32
  let v1647 : BitVec 1 := Scalar.cmpi .sgt c2_i32_588 c0_i32_591
  let v1648 : BitVec 32 := Scalar.extui v1647
  let c0_i32_592 : BitVec 32 := 0#32
  let v1649 : BitVec 1 := Scalar.cmpi .slt c2_i32_588 c0_i32_592
  let v1650 : BitVec 32 := Scalar.extui v1649
  let v1651 : BitVec 32 := Scalar.subi v1648 v1650
  let v1652 : BitVec 1 := Scalar.cmpi .ne v1646 v1651
  let v1653 : BitVec 32 := Scalar.remsi v1640 c2_i32_588
  let c0_i32_593 : BitVec 32 := 0#32
  let v1654 : BitVec 1 := Scalar.cmpi .ne v1653 c0_i32_593
  let v1655 : BitVec 1 := Scalar.andi v1652 v1654
  let v1641 : BitVec 32 := Scalar.divsi v1640 c2_i32_588
  let c1_i32_594 : BitVec 32 := 1#32
  let v1656 : BitVec 32 := Scalar.subi v1641 c1_i32_594
  let v1657 : BitVec 32 := Scalar.select v1655 v1656 v1641
  let v1658 : BitVec 32 := Scalar.subi v1657 c0_i32_595
  let c1_i32_596 : BitVec 32 := 1#32
  let v1660 : BitVec 32 := Scalar.divsi v1658 c1_i32_596
  let v1661 : BitVec 32 := Scalar.muli v1660 c1_i32_596
  let v1662 : BitVec 32 := Scalar.addi c0_i32_595 v1661
  let c1_i32_598 : BitVec 32 := 1#32
  let arg21 : BitVec 32 := Scf.iv v1662 c1_i32_598 k0_t2
  let v1839 : BitVec 32 := Scalar.muli c2_i32_669 arg21
  let c2_i32_670 : BitVec 32 := 2#32
  let v1840 : BitVec 32 := Scalar.addi v1839 c2_i32_670
  let v2764 : BitVec 32 := Scalar.muli c2_i32_1123 v1840
  let c1_i32_1124 : BitVec 32 := 1#32
  let v2765 : BitVec 32 := Scalar.addi v2764 c1_i32_1124
  let v2766 : BitVec 32 := Scalar.minsi v2765 v46
  let c512_i32_1125 : BitVec 32 := 512#32
  let v2767 : BitVec 32 := Scalar.muli v2766 c512_i32_1125
  v2767
def k0_mult20 (i : grid0.Coords) (k0_t2 : Fin (k0_t2_loop i).trips) : BitVec 32 :=
  let arg2 : BitVec 32 := BitVec.ofNat 32 (i 2).val
  let c256_i32 : BitVec 32 := 256#32
  let v0 : BitVec 32 := Scalar.muli arg2 c256_i32
  let c0_i32_15 : BitVec 32 := 0#32
  let v31 : BitVec 1 := Scalar.cmpi .sgt v0 c0_i32_15
  let v32 : BitVec 32 := Scalar.extui v31
  let c0_i32_16 : BitVec 32 := 0#32
  let v33 : BitVec 1 := Scalar.cmpi .slt v0 c0_i32_16
  let v34 : BitVec 32 := Scalar.extui v33
  let v35 : BitVec 32 := Scalar.subi v32 v34
  let c512_i32_14 : BitVec 32 := 512#32
  let c0_i32_17 : BitVec 32 := 0#32
  let v36 : BitVec 1 := Scalar.cmpi .sgt c512_i32_14 c0_i32_17
  let v37 : BitVec 32 := Scalar.extui v36
  let c0_i32_18 : BitVec 32 := 0#32
  let v38 : BitVec 1 := Scalar.cmpi .slt c512_i32_14 c0_i32_18
  let v39 : BitVec 32 := Scalar.extui v38
  let v40 : BitVec 32 := Scalar.subi v37 v39
  let v41 : BitVec 1 := Scalar.cmpi .ne v35 v40
  let v42 : BitVec 32 := Scalar.remsi v0 c512_i32_14
  let c0_i32_19 : BitVec 32 := 0#32
  let v43 : BitVec 1 := Scalar.cmpi .ne v42 c0_i32_19
  let v44 : BitVec 1 := Scalar.andi v41 v43
  let v30 : BitVec 32 := Scalar.divsi v0 c512_i32_14
  let c1_i32 : BitVec 32 := 1#32
  let v45 : BitVec 32 := Scalar.subi v30 c1_i32
  let v46 : BitVec 32 := Scalar.select v44 v45 v30
  let c0_i32_1334 : BitVec 32 := 0#32
  let c2_i32_1333 : BitVec 32 := 2#32
  let c2_i32_669 : BitVec 32 := 2#32
  let c0_i32_595 : BitVec 32 := 0#32
  let c0_i32_577 : BitVec 32 := 0#32
  let v1618 : BitVec 1 := Scalar.cmpi .sgt v46 c0_i32_577
  let v1619 : BitVec 32 := Scalar.extui v1618
  let c0_i32_578 : BitVec 32 := 0#32
  let v1620 : BitVec 1 := Scalar.cmpi .slt v46 c0_i32_578
  let v1621 : BitVec 32 := Scalar.extui v1620
  let v1622 : BitVec 32 := Scalar.subi v1619 v1621
  let c2_i32 : BitVec 32 := 2#32
  let c0_i32_579 : BitVec 32 := 0#32
  let v1623 : BitVec 1 := Scalar.cmpi .sgt c2_i32 c0_i32_579
  let v1624 : BitVec 32 := Scalar.extui v1623
  let c0_i32_580 : BitVec 32 := 0#32
  let v1625 : BitVec 1 := Scalar.cmpi .slt c2_i32 c0_i32_580
  let v1626 : BitVec 32 := Scalar.extui v1625
  let v1627 : BitVec 32 := Scalar.subi v1624 v1626
  let v1628 : BitVec 1 := Scalar.cmpi .ne v1622 v1627
  let v1629 : BitVec 32 := Scalar.remsi v46 c2_i32
  let c0_i32_581 : BitVec 32 := 0#32
  let v1630 : BitVec 1 := Scalar.cmpi .ne v1629 c0_i32_581
  let v1631 : BitVec 1 := Scalar.andi v1628 v1630
  let v1617 : BitVec 32 := Scalar.divsi v46 c2_i32
  let c1_i32_582 : BitVec 32 := 1#32
  let v1632 : BitVec 32 := Scalar.subi v1617 c1_i32_582
  let v1633 : BitVec 32 := Scalar.select v1631 v1632 v1617
  let c1_i32_586 : BitVec 32 := 1#32
  let v1639 : BitVec 32 := Scalar.subi v1633 c1_i32_586
  let c0_i32_587 : BitVec 32 := 0#32
  let v1640 : BitVec 32 := Scalar.maxsi v1639 c0_i32_587
  let c0_i32_589 : BitVec 32 := 0#32
  let v1642 : BitVec 1 := Scalar.cmpi .sgt v1640 c0_i32_589
  let v1643 : BitVec 32 := Scalar.extui v1642
  let c0_i32_590 : BitVec 32 := 0#32
  let v1644 : BitVec 1 := Scalar.cmpi .slt v1640 c0_i32_590
  let v1645 : BitVec 32 := Scalar.extui v1644
  let v1646 : BitVec 32 := Scalar.subi v1643 v1645
  let c2_i32_588 : BitVec 32 := 2#32
  let c0_i32_591 : BitVec 32 := 0#32
  let v1647 : BitVec 1 := Scalar.cmpi .sgt c2_i32_588 c0_i32_591
  let v1648 : BitVec 32 := Scalar.extui v1647
  let c0_i32_592 : BitVec 32 := 0#32
  let v1649 : BitVec 1 := Scalar.cmpi .slt c2_i32_588 c0_i32_592
  let v1650 : BitVec 32 := Scalar.extui v1649
  let v1651 : BitVec 32 := Scalar.subi v1648 v1650
  let v1652 : BitVec 1 := Scalar.cmpi .ne v1646 v1651
  let v1653 : BitVec 32 := Scalar.remsi v1640 c2_i32_588
  let c0_i32_593 : BitVec 32 := 0#32
  let v1654 : BitVec 1 := Scalar.cmpi .ne v1653 c0_i32_593
  let v1655 : BitVec 1 := Scalar.andi v1652 v1654
  let v1641 : BitVec 32 := Scalar.divsi v1640 c2_i32_588
  let c1_i32_594 : BitVec 32 := 1#32
  let v1656 : BitVec 32 := Scalar.subi v1641 c1_i32_594
  let v1657 : BitVec 32 := Scalar.select v1655 v1656 v1641
  let v1658 : BitVec 32 := Scalar.subi v1657 c0_i32_595
  let c1_i32_596 : BitVec 32 := 1#32
  let v1660 : BitVec 32 := Scalar.divsi v1658 c1_i32_596
  let v1661 : BitVec 32 := Scalar.muli v1660 c1_i32_596
  let v1662 : BitVec 32 := Scalar.addi c0_i32_595 v1661
  let c1_i32_598 : BitVec 32 := 1#32
  let arg21 : BitVec 32 := Scf.iv v1662 c1_i32_598 k0_t2
  let v1839 : BitVec 32 := Scalar.muli c2_i32_669 arg21
  let c2_i32_670 : BitVec 32 := 2#32
  let v1840 : BitVec 32 := Scalar.addi v1839 c2_i32_670
  let v3208 : BitVec 32 := Scalar.muli c2_i32_1333 v1840
  let v3209 : BitVec 32 := Scalar.maxsi c0_i32_1334 v3208
  let v3210 : BitVec 32 := Scalar.minsi v46 v3209
  let c512_i32_1335 : BitVec 32 := 512#32
  let v3211 : BitVec 32 := Scalar.muli v3210 c512_i32_1335
  v3211
def k0_mult21 (i : grid0.Coords) (k0_t2 : Fin (k0_t2_loop i).trips) : BitVec 32 :=
  let c2_i32_1342 : BitVec 32 := 2#32
  let c2_i32_669 : BitVec 32 := 2#32
  let c0_i32_595 : BitVec 32 := 0#32
  let arg2 : BitVec 32 := BitVec.ofNat 32 (i 2).val
  let c256_i32 : BitVec 32 := 256#32
  let v0 : BitVec 32 := Scalar.muli arg2 c256_i32
  let c0_i32_15 : BitVec 32 := 0#32
  let v31 : BitVec 1 := Scalar.cmpi .sgt v0 c0_i32_15
  let v32 : BitVec 32 := Scalar.extui v31
  let c0_i32_16 : BitVec 32 := 0#32
  let v33 : BitVec 1 := Scalar.cmpi .slt v0 c0_i32_16
  let v34 : BitVec 32 := Scalar.extui v33
  let v35 : BitVec 32 := Scalar.subi v32 v34
  let c512_i32_14 : BitVec 32 := 512#32
  let c0_i32_17 : BitVec 32 := 0#32
  let v36 : BitVec 1 := Scalar.cmpi .sgt c512_i32_14 c0_i32_17
  let v37 : BitVec 32 := Scalar.extui v36
  let c0_i32_18 : BitVec 32 := 0#32
  let v38 : BitVec 1 := Scalar.cmpi .slt c512_i32_14 c0_i32_18
  let v39 : BitVec 32 := Scalar.extui v38
  let v40 : BitVec 32 := Scalar.subi v37 v39
  let v41 : BitVec 1 := Scalar.cmpi .ne v35 v40
  let v42 : BitVec 32 := Scalar.remsi v0 c512_i32_14
  let c0_i32_19 : BitVec 32 := 0#32
  let v43 : BitVec 1 := Scalar.cmpi .ne v42 c0_i32_19
  let v44 : BitVec 1 := Scalar.andi v41 v43
  let v30 : BitVec 32 := Scalar.divsi v0 c512_i32_14
  let c1_i32 : BitVec 32 := 1#32
  let v45 : BitVec 32 := Scalar.subi v30 c1_i32
  let v46 : BitVec 32 := Scalar.select v44 v45 v30
  let c0_i32_577 : BitVec 32 := 0#32
  let v1618 : BitVec 1 := Scalar.cmpi .sgt v46 c0_i32_577
  let v1619 : BitVec 32 := Scalar.extui v1618
  let c0_i32_578 : BitVec 32 := 0#32
  let v1620 : BitVec 1 := Scalar.cmpi .slt v46 c0_i32_578
  let v1621 : BitVec 32 := Scalar.extui v1620
  let v1622 : BitVec 32 := Scalar.subi v1619 v1621
  let c2_i32 : BitVec 32 := 2#32
  let c0_i32_579 : BitVec 32 := 0#32
  let v1623 : BitVec 1 := Scalar.cmpi .sgt c2_i32 c0_i32_579
  let v1624 : BitVec 32 := Scalar.extui v1623
  let c0_i32_580 : BitVec 32 := 0#32
  let v1625 : BitVec 1 := Scalar.cmpi .slt c2_i32 c0_i32_580
  let v1626 : BitVec 32 := Scalar.extui v1625
  let v1627 : BitVec 32 := Scalar.subi v1624 v1626
  let v1628 : BitVec 1 := Scalar.cmpi .ne v1622 v1627
  let v1629 : BitVec 32 := Scalar.remsi v46 c2_i32
  let c0_i32_581 : BitVec 32 := 0#32
  let v1630 : BitVec 1 := Scalar.cmpi .ne v1629 c0_i32_581
  let v1631 : BitVec 1 := Scalar.andi v1628 v1630
  let v1617 : BitVec 32 := Scalar.divsi v46 c2_i32
  let c1_i32_582 : BitVec 32 := 1#32
  let v1632 : BitVec 32 := Scalar.subi v1617 c1_i32_582
  let v1633 : BitVec 32 := Scalar.select v1631 v1632 v1617
  let c1_i32_586 : BitVec 32 := 1#32
  let v1639 : BitVec 32 := Scalar.subi v1633 c1_i32_586
  let c0_i32_587 : BitVec 32 := 0#32
  let v1640 : BitVec 32 := Scalar.maxsi v1639 c0_i32_587
  let c0_i32_589 : BitVec 32 := 0#32
  let v1642 : BitVec 1 := Scalar.cmpi .sgt v1640 c0_i32_589
  let v1643 : BitVec 32 := Scalar.extui v1642
  let c0_i32_590 : BitVec 32 := 0#32
  let v1644 : BitVec 1 := Scalar.cmpi .slt v1640 c0_i32_590
  let v1645 : BitVec 32 := Scalar.extui v1644
  let v1646 : BitVec 32 := Scalar.subi v1643 v1645
  let c2_i32_588 : BitVec 32 := 2#32
  let c0_i32_591 : BitVec 32 := 0#32
  let v1647 : BitVec 1 := Scalar.cmpi .sgt c2_i32_588 c0_i32_591
  let v1648 : BitVec 32 := Scalar.extui v1647
  let c0_i32_592 : BitVec 32 := 0#32
  let v1649 : BitVec 1 := Scalar.cmpi .slt c2_i32_588 c0_i32_592
  let v1650 : BitVec 32 := Scalar.extui v1649
  let v1651 : BitVec 32 := Scalar.subi v1648 v1650
  let v1652 : BitVec 1 := Scalar.cmpi .ne v1646 v1651
  let v1653 : BitVec 32 := Scalar.remsi v1640 c2_i32_588
  let c0_i32_593 : BitVec 32 := 0#32
  let v1654 : BitVec 1 := Scalar.cmpi .ne v1653 c0_i32_593
  let v1655 : BitVec 1 := Scalar.andi v1652 v1654
  let v1641 : BitVec 32 := Scalar.divsi v1640 c2_i32_588
  let c1_i32_594 : BitVec 32 := 1#32
  let v1656 : BitVec 32 := Scalar.subi v1641 c1_i32_594
  let v1657 : BitVec 32 := Scalar.select v1655 v1656 v1641
  let v1658 : BitVec 32 := Scalar.subi v1657 c0_i32_595
  let c1_i32_596 : BitVec 32 := 1#32
  let v1660 : BitVec 32 := Scalar.divsi v1658 c1_i32_596
  let v1661 : BitVec 32 := Scalar.muli v1660 c1_i32_596
  let v1662 : BitVec 32 := Scalar.addi c0_i32_595 v1661
  let c1_i32_598 : BitVec 32 := 1#32
  let arg21 : BitVec 32 := Scf.iv v1662 c1_i32_598 k0_t2
  let v1839 : BitVec 32 := Scalar.muli c2_i32_669 arg21
  let c2_i32_670 : BitVec 32 := 2#32
  let v1840 : BitVec 32 := Scalar.addi v1839 c2_i32_670
  let v3218 : BitVec 32 := Scalar.muli c2_i32_1342 v1840
  let c2_i32_1343 : BitVec 32 := 2#32
  let v3219 : BitVec 32 := Scalar.addi v3218 c2_i32_1343
  let v3220 : BitVec 32 := Scalar.minsi v3219 v46
  let c512_i32_1344 : BitVec 32 := 512#32
  let v3221 : BitVec 32 := Scalar.muli v3220 c512_i32_1344
  v3221
def k0_cond2 (i : grid0.Coords) : BitVec 1 :=
  let arg2 : BitVec 32 := BitVec.ofNat 32 (i 2).val
  let c256_i32 : BitVec 32 := 256#32
  let v0 : BitVec 32 := Scalar.muli arg2 c256_i32
  let c0_i32_15 : BitVec 32 := 0#32
  let v31 : BitVec 1 := Scalar.cmpi .sgt v0 c0_i32_15
  let v32 : BitVec 32 := Scalar.extui v31
  let c0_i32_16 : BitVec 32 := 0#32
  let v33 : BitVec 1 := Scalar.cmpi .slt v0 c0_i32_16
  let v34 : BitVec 32 := Scalar.extui v33
  let v35 : BitVec 32 := Scalar.subi v32 v34
  let c512_i32_14 : BitVec 32 := 512#32
  let c0_i32_17 : BitVec 32 := 0#32
  let v36 : BitVec 1 := Scalar.cmpi .sgt c512_i32_14 c0_i32_17
  let v37 : BitVec 32 := Scalar.extui v36
  let c0_i32_18 : BitVec 32 := 0#32
  let v38 : BitVec 1 := Scalar.cmpi .slt c512_i32_14 c0_i32_18
  let v39 : BitVec 32 := Scalar.extui v38
  let v40 : BitVec 32 := Scalar.subi v37 v39
  let v41 : BitVec 1 := Scalar.cmpi .ne v35 v40
  let v42 : BitVec 32 := Scalar.remsi v0 c512_i32_14
  let c0_i32_19 : BitVec 32 := 0#32
  let v43 : BitVec 1 := Scalar.cmpi .ne v42 c0_i32_19
  let v44 : BitVec 1 := Scalar.andi v41 v43
  let v30 : BitVec 32 := Scalar.divsi v0 c512_i32_14
  let c1_i32 : BitVec 32 := 1#32
  let v45 : BitVec 32 := Scalar.subi v30 c1_i32
  let v46 : BitVec 32 := Scalar.select v44 v45 v30
  let c0_i32_577 : BitVec 32 := 0#32
  let v1618 : BitVec 1 := Scalar.cmpi .sgt v46 c0_i32_577
  let v1619 : BitVec 32 := Scalar.extui v1618
  let c0_i32_578 : BitVec 32 := 0#32
  let v1620 : BitVec 1 := Scalar.cmpi .slt v46 c0_i32_578
  let v1621 : BitVec 32 := Scalar.extui v1620
  let v1622 : BitVec 32 := Scalar.subi v1619 v1621
  let c2_i32 : BitVec 32 := 2#32
  let c0_i32_579 : BitVec 32 := 0#32
  let v1623 : BitVec 1 := Scalar.cmpi .sgt c2_i32 c0_i32_579
  let v1624 : BitVec 32 := Scalar.extui v1623
  let c0_i32_580 : BitVec 32 := 0#32
  let v1625 : BitVec 1 := Scalar.cmpi .slt c2_i32 c0_i32_580
  let v1626 : BitVec 32 := Scalar.extui v1625
  let v1627 : BitVec 32 := Scalar.subi v1624 v1626
  let v1628 : BitVec 1 := Scalar.cmpi .ne v1622 v1627
  let v1629 : BitVec 32 := Scalar.remsi v46 c2_i32
  let c0_i32_581 : BitVec 32 := 0#32
  let v1630 : BitVec 1 := Scalar.cmpi .ne v1629 c0_i32_581
  let v1631 : BitVec 1 := Scalar.andi v1628 v1630
  let v1617 : BitVec 32 := Scalar.divsi v46 c2_i32
  let c1_i32_582 : BitVec 32 := 1#32
  let v1632 : BitVec 32 := Scalar.subi v1617 c1_i32_582
  let v1633 : BitVec 32 := Scalar.select v1631 v1632 v1617
  let c1_i32_586 : BitVec 32 := 1#32
  let v1639 : BitVec 32 := Scalar.subi v1633 c1_i32_586
  let c0_i32_587 : BitVec 32 := 0#32
  let v1640 : BitVec 32 := Scalar.maxsi v1639 c0_i32_587
  let c2_i32_599 : BitVec 32 := 2#32
  let c0_i32_600 : BitVec 32 := 0#32
  let v1665 : BitVec 1 := Scalar.cmpi .eq c2_i32_599 c0_i32_600
  let c1_i32_601 : BitVec 32 := 1#32
  let v1666 : BitVec 32 := Scalar.select v1665 c1_i32_601 c2_i32_599
  let v1667 : BitVec 32 := Scalar.remsi v1640 v1666
  let c0_i32_603 : BitVec 32 := 0#32
  let v1669 : BitVec 1 := Scalar.cmpi .slt v1667 c0_i32_603
  let c0_i32_604 : BitVec 32 := 0#32
  let v1670 : BitVec 1 := Scalar.cmpi .slt v1666 c0_i32_604
  let v1671 : BitVec 1 := Scalar.xori v1669 v1670
  let c0_i32_602 : BitVec 32 := 0#32
  let v1668 : BitVec 1 := Scalar.cmpi .ne v1667 c0_i32_602
  let v1672 : BitVec 1 := Scalar.andi v1671 v1668
  let v1673 : BitVec 32 := Scalar.addi v1667 v1666
  let v1674 : BitVec 32 := Scalar.select v1672 v1673 v1667
  let c1_i32_605 : BitVec 32 := 1#32
  let v1675 : BitVec 1 := Scalar.cmpi .eq v1674 c1_i32_605
  let v1676 : BitVec 32 := Scalar.extui v1675
  let c0_i32_606 : BitVec 32 := 0#32
  let v1677 : BitVec 1 := Scalar.cmpi .ne v1676 c0_i32_606
  v1677

def k0_mult22 (i : grid0.Coords) : BitVec 32 :=
  let arg2 : BitVec 32 := BitVec.ofNat 32 (i 2).val
  let c256_i32 : BitVec 32 := 256#32
  let v0 : BitVec 32 := Scalar.muli arg2 c256_i32
  let c0_i32_15 : BitVec 32 := 0#32
  let v31 : BitVec 1 := Scalar.cmpi .sgt v0 c0_i32_15
  let v32 : BitVec 32 := Scalar.extui v31
  let c0_i32_16 : BitVec 32 := 0#32
  let v33 : BitVec 1 := Scalar.cmpi .slt v0 c0_i32_16
  let v34 : BitVec 32 := Scalar.extui v33
  let v35 : BitVec 32 := Scalar.subi v32 v34
  let c512_i32_14 : BitVec 32 := 512#32
  let c0_i32_17 : BitVec 32 := 0#32
  let v36 : BitVec 1 := Scalar.cmpi .sgt c512_i32_14 c0_i32_17
  let v37 : BitVec 32 := Scalar.extui v36
  let c0_i32_18 : BitVec 32 := 0#32
  let v38 : BitVec 1 := Scalar.cmpi .slt c512_i32_14 c0_i32_18
  let v39 : BitVec 32 := Scalar.extui v38
  let v40 : BitVec 32 := Scalar.subi v37 v39
  let v41 : BitVec 1 := Scalar.cmpi .ne v35 v40
  let v42 : BitVec 32 := Scalar.remsi v0 c512_i32_14
  let c0_i32_19 : BitVec 32 := 0#32
  let v43 : BitVec 1 := Scalar.cmpi .ne v42 c0_i32_19
  let v44 : BitVec 1 := Scalar.andi v41 v43
  let v30 : BitVec 32 := Scalar.divsi v0 c512_i32_14
  let c1_i32 : BitVec 32 := 1#32
  let v45 : BitVec 32 := Scalar.subi v30 c1_i32
  let v46 : BitVec 32 := Scalar.select v44 v45 v30
  let c0_i32_672 : BitVec 32 := 0#32
  let c2_i32_670 : BitVec 32 := 2#32
  let c0_i32_577 : BitVec 32 := 0#32
  let v1618 : BitVec 1 := Scalar.cmpi .sgt v46 c0_i32_577
  let v1619 : BitVec 32 := Scalar.extui v1618
  let c0_i32_578 : BitVec 32 := 0#32
  let v1620 : BitVec 1 := Scalar.cmpi .slt v46 c0_i32_578
  let v1621 : BitVec 32 := Scalar.extui v1620
  let v1622 : BitVec 32 := Scalar.subi v1619 v1621
  let c2_i32 : BitVec 32 := 2#32
  let c0_i32_579 : BitVec 32 := 0#32
  let v1623 : BitVec 1 := Scalar.cmpi .sgt c2_i32 c0_i32_579
  let v1624 : BitVec 32 := Scalar.extui v1623
  let c0_i32_580 : BitVec 32 := 0#32
  let v1625 : BitVec 1 := Scalar.cmpi .slt c2_i32 c0_i32_580
  let v1626 : BitVec 32 := Scalar.extui v1625
  let v1627 : BitVec 32 := Scalar.subi v1624 v1626
  let v1628 : BitVec 1 := Scalar.cmpi .ne v1622 v1627
  let v1629 : BitVec 32 := Scalar.remsi v46 c2_i32
  let c0_i32_581 : BitVec 32 := 0#32
  let v1630 : BitVec 1 := Scalar.cmpi .ne v1629 c0_i32_581
  let v1631 : BitVec 1 := Scalar.andi v1628 v1630
  let v1617 : BitVec 32 := Scalar.divsi v46 c2_i32
  let c1_i32_582 : BitVec 32 := 1#32
  let v1632 : BitVec 32 := Scalar.subi v1617 c1_i32_582
  let v1633 : BitVec 32 := Scalar.select v1631 v1632 v1617
  let c1_i32_669 : BitVec 32 := 1#32
  let v1839 : BitVec 32 := Scalar.subi v1633 c1_i32_669
  let v1840 : BitVec 32 := Scalar.muli c2_i32_670 v1839
  let c1_i32_671 : BitVec 32 := 1#32
  let v1841 : BitVec 32 := Scalar.subi v1840 c1_i32_671
  let v1842 : BitVec 32 := Scalar.maxsi c0_i32_672 v1841
  let v1843 : BitVec 32 := Scalar.minsi v46 v1842
  let c512_i32_673 : BitVec 32 := 512#32
  let v1844 : BitVec 32 := Scalar.muli v1843 c512_i32_673
  v1844
def k0_off12 (i : grid0.Coords) : Fin 4 → Nat :=
  let c0_674 : Index := 0#32
  let c0_675 : Index := 0#32
  let c0_676 : Index := 0#32
  let arg2 : BitVec 32 := BitVec.ofNat 32 (i 2).val
  let c256_i32 : BitVec 32 := 256#32
  let v0 : BitVec 32 := Scalar.muli arg2 c256_i32
  let c0_i32_15 : BitVec 32 := 0#32
  let v31 : BitVec 1 := Scalar.cmpi .sgt v0 c0_i32_15
  let v32 : BitVec 32 := Scalar.extui v31
  let c0_i32_16 : BitVec 32 := 0#32
  let v33 : BitVec 1 := Scalar.cmpi .slt v0 c0_i32_16
  let v34 : BitVec 32 := Scalar.extui v33
  let v35 : BitVec 32 := Scalar.subi v32 v34
  let c512_i32_14 : BitVec 32 := 512#32
  let c0_i32_17 : BitVec 32 := 0#32
  let v36 : BitVec 1 := Scalar.cmpi .sgt c512_i32_14 c0_i32_17
  let v37 : BitVec 32 := Scalar.extui v36
  let c0_i32_18 : BitVec 32 := 0#32
  let v38 : BitVec 1 := Scalar.cmpi .slt c512_i32_14 c0_i32_18
  let v39 : BitVec 32 := Scalar.extui v38
  let v40 : BitVec 32 := Scalar.subi v37 v39
  let v41 : BitVec 1 := Scalar.cmpi .ne v35 v40
  let v42 : BitVec 32 := Scalar.remsi v0 c512_i32_14
  let c0_i32_19 : BitVec 32 := 0#32
  let v43 : BitVec 1 := Scalar.cmpi .ne v42 c0_i32_19
  let v44 : BitVec 1 := Scalar.andi v41 v43
  let v30 : BitVec 32 := Scalar.divsi v0 c512_i32_14
  let c1_i32 : BitVec 32 := 1#32
  let v45 : BitVec 32 := Scalar.subi v30 c1_i32
  let v46 : BitVec 32 := Scalar.select v44 v45 v30
  let c0_i32_672 : BitVec 32 := 0#32
  let c2_i32_670 : BitVec 32 := 2#32
  let c0_i32_577 : BitVec 32 := 0#32
  let v1618 : BitVec 1 := Scalar.cmpi .sgt v46 c0_i32_577
  let v1619 : BitVec 32 := Scalar.extui v1618
  let c0_i32_578 : BitVec 32 := 0#32
  let v1620 : BitVec 1 := Scalar.cmpi .slt v46 c0_i32_578
  let v1621 : BitVec 32 := Scalar.extui v1620
  let v1622 : BitVec 32 := Scalar.subi v1619 v1621
  let c2_i32 : BitVec 32 := 2#32
  let c0_i32_579 : BitVec 32 := 0#32
  let v1623 : BitVec 1 := Scalar.cmpi .sgt c2_i32 c0_i32_579
  let v1624 : BitVec 32 := Scalar.extui v1623
  let c0_i32_580 : BitVec 32 := 0#32
  let v1625 : BitVec 1 := Scalar.cmpi .slt c2_i32 c0_i32_580
  let v1626 : BitVec 32 := Scalar.extui v1625
  let v1627 : BitVec 32 := Scalar.subi v1624 v1626
  let v1628 : BitVec 1 := Scalar.cmpi .ne v1622 v1627
  let v1629 : BitVec 32 := Scalar.remsi v46 c2_i32
  let c0_i32_581 : BitVec 32 := 0#32
  let v1630 : BitVec 1 := Scalar.cmpi .ne v1629 c0_i32_581
  let v1631 : BitVec 1 := Scalar.andi v1628 v1630
  let v1617 : BitVec 32 := Scalar.divsi v46 c2_i32
  let c1_i32_582 : BitVec 32 := 1#32
  let v1632 : BitVec 32 := Scalar.subi v1617 c1_i32_582
  let v1633 : BitVec 32 := Scalar.select v1631 v1632 v1617
  let c1_i32_669 : BitVec 32 := 1#32
  let v1839 : BitVec 32 := Scalar.subi v1633 c1_i32_669
  let v1840 : BitVec 32 := Scalar.muli c2_i32_670 v1839
  let c1_i32_671 : BitVec 32 := 1#32
  let v1841 : BitVec 32 := Scalar.subi v1840 c1_i32_671
  let v1842 : BitVec 32 := Scalar.maxsi c0_i32_672 v1841
  let v1843 : BitVec 32 := Scalar.minsi v46 v1842
  let c512_i32_673 : BitVec 32 := 512#32
  let v1844 : BitVec 32 := Scalar.muli v1843 c512_i32_673
  let v1845 : BitVec 32 := v1844
  let v1846 : Index := Scalar.indexCast v1845
  ![0, 0, 0, v1846.toNat]
def k0_mult23 (i : grid0.Coords) : BitVec 32 :=
  let c2_i32_680 : BitVec 32 := 2#32
  let arg2 : BitVec 32 := BitVec.ofNat 32 (i 2).val
  let c256_i32 : BitVec 32 := 256#32
  let v0 : BitVec 32 := Scalar.muli arg2 c256_i32
  let c0_i32_15 : BitVec 32 := 0#32
  let v31 : BitVec 1 := Scalar.cmpi .sgt v0 c0_i32_15
  let v32 : BitVec 32 := Scalar.extui v31
  let c0_i32_16 : BitVec 32 := 0#32
  let v33 : BitVec 1 := Scalar.cmpi .slt v0 c0_i32_16
  let v34 : BitVec 32 := Scalar.extui v33
  let v35 : BitVec 32 := Scalar.subi v32 v34
  let c512_i32_14 : BitVec 32 := 512#32
  let c0_i32_17 : BitVec 32 := 0#32
  let v36 : BitVec 1 := Scalar.cmpi .sgt c512_i32_14 c0_i32_17
  let v37 : BitVec 32 := Scalar.extui v36
  let c0_i32_18 : BitVec 32 := 0#32
  let v38 : BitVec 1 := Scalar.cmpi .slt c512_i32_14 c0_i32_18
  let v39 : BitVec 32 := Scalar.extui v38
  let v40 : BitVec 32 := Scalar.subi v37 v39
  let v41 : BitVec 1 := Scalar.cmpi .ne v35 v40
  let v42 : BitVec 32 := Scalar.remsi v0 c512_i32_14
  let c0_i32_19 : BitVec 32 := 0#32
  let v43 : BitVec 1 := Scalar.cmpi .ne v42 c0_i32_19
  let v44 : BitVec 1 := Scalar.andi v41 v43
  let v30 : BitVec 32 := Scalar.divsi v0 c512_i32_14
  let c1_i32 : BitVec 32 := 1#32
  let v45 : BitVec 32 := Scalar.subi v30 c1_i32
  let v46 : BitVec 32 := Scalar.select v44 v45 v30
  let c0_i32_577 : BitVec 32 := 0#32
  let v1618 : BitVec 1 := Scalar.cmpi .sgt v46 c0_i32_577
  let v1619 : BitVec 32 := Scalar.extui v1618
  let c0_i32_578 : BitVec 32 := 0#32
  let v1620 : BitVec 1 := Scalar.cmpi .slt v46 c0_i32_578
  let v1621 : BitVec 32 := Scalar.extui v1620
  let v1622 : BitVec 32 := Scalar.subi v1619 v1621
  let c2_i32 : BitVec 32 := 2#32
  let c0_i32_579 : BitVec 32 := 0#32
  let v1623 : BitVec 1 := Scalar.cmpi .sgt c2_i32 c0_i32_579
  let v1624 : BitVec 32 := Scalar.extui v1623
  let c0_i32_580 : BitVec 32 := 0#32
  let v1625 : BitVec 1 := Scalar.cmpi .slt c2_i32 c0_i32_580
  let v1626 : BitVec 32 := Scalar.extui v1625
  let v1627 : BitVec 32 := Scalar.subi v1624 v1626
  let v1628 : BitVec 1 := Scalar.cmpi .ne v1622 v1627
  let v1629 : BitVec 32 := Scalar.remsi v46 c2_i32
  let c0_i32_581 : BitVec 32 := 0#32
  let v1630 : BitVec 1 := Scalar.cmpi .ne v1629 c0_i32_581
  let v1631 : BitVec 1 := Scalar.andi v1628 v1630
  let v1617 : BitVec 32 := Scalar.divsi v46 c2_i32
  let c1_i32_582 : BitVec 32 := 1#32
  let v1632 : BitVec 32 := Scalar.subi v1617 c1_i32_582
  let v1633 : BitVec 32 := Scalar.select v1631 v1632 v1617
  let c1_i32_669 : BitVec 32 := 1#32
  let v1839 : BitVec 32 := Scalar.subi v1633 c1_i32_669
  let v1851 : BitVec 32 := Scalar.muli c2_i32_680 v1839
  let c1_i32_681 : BitVec 32 := 1#32
  let v1852 : BitVec 32 := Scalar.addi v1851 c1_i32_681
  let v1853 : BitVec 32 := Scalar.minsi v1852 v46
  let c512_i32_682 : BitVec 32 := 512#32
  let v1854 : BitVec 32 := Scalar.muli v1853 c512_i32_682
  v1854
def k0_off13 (i : grid0.Coords) (c1_i32_681 : BitVec 32) : Fin 4 → Nat :=
  let c0_683 : Index := 0#32
  let c0_684 : Index := 0#32
  let c2_i32_680 : BitVec 32 := 2#32
  let arg2 : BitVec 32 := BitVec.ofNat 32 (i 2).val
  let c256_i32 : BitVec 32 := 256#32
  let v0 : BitVec 32 := Scalar.muli arg2 c256_i32
  let c0_i32_15 : BitVec 32 := 0#32
  let v31 : BitVec 1 := Scalar.cmpi .sgt v0 c0_i32_15
  let v32 : BitVec 32 := Scalar.extui v31
  let c0_i32_16 : BitVec 32 := 0#32
  let v33 : BitVec 1 := Scalar.cmpi .slt v0 c0_i32_16
  let v34 : BitVec 32 := Scalar.extui v33
  let v35 : BitVec 32 := Scalar.subi v32 v34
  let c512_i32_14 : BitVec 32 := 512#32
  let c0_i32_17 : BitVec 32 := 0#32
  let v36 : BitVec 1 := Scalar.cmpi .sgt c512_i32_14 c0_i32_17
  let v37 : BitVec 32 := Scalar.extui v36
  let c0_i32_18 : BitVec 32 := 0#32
  let v38 : BitVec 1 := Scalar.cmpi .slt c512_i32_14 c0_i32_18
  let v39 : BitVec 32 := Scalar.extui v38
  let v40 : BitVec 32 := Scalar.subi v37 v39
  let v41 : BitVec 1 := Scalar.cmpi .ne v35 v40
  let v42 : BitVec 32 := Scalar.remsi v0 c512_i32_14
  let c0_i32_19 : BitVec 32 := 0#32
  let v43 : BitVec 1 := Scalar.cmpi .ne v42 c0_i32_19
  let v44 : BitVec 1 := Scalar.andi v41 v43
  let v30 : BitVec 32 := Scalar.divsi v0 c512_i32_14
  let c1_i32 : BitVec 32 := 1#32
  let v45 : BitVec 32 := Scalar.subi v30 c1_i32
  let v46 : BitVec 32 := Scalar.select v44 v45 v30
  let c0_i32_577 : BitVec 32 := 0#32
  let v1618 : BitVec 1 := Scalar.cmpi .sgt v46 c0_i32_577
  let v1619 : BitVec 32 := Scalar.extui v1618
  let c0_i32_578 : BitVec 32 := 0#32
  let v1620 : BitVec 1 := Scalar.cmpi .slt v46 c0_i32_578
  let v1621 : BitVec 32 := Scalar.extui v1620
  let v1622 : BitVec 32 := Scalar.subi v1619 v1621
  let c2_i32 : BitVec 32 := 2#32
  let c0_i32_579 : BitVec 32 := 0#32
  let v1623 : BitVec 1 := Scalar.cmpi .sgt c2_i32 c0_i32_579
  let v1624 : BitVec 32 := Scalar.extui v1623
  let c0_i32_580 : BitVec 32 := 0#32
  let v1625 : BitVec 1 := Scalar.cmpi .slt c2_i32 c0_i32_580
  let v1626 : BitVec 32 := Scalar.extui v1625
  let v1627 : BitVec 32 := Scalar.subi v1624 v1626
  let v1628 : BitVec 1 := Scalar.cmpi .ne v1622 v1627
  let v1629 : BitVec 32 := Scalar.remsi v46 c2_i32
  let c0_i32_581 : BitVec 32 := 0#32
  let v1630 : BitVec 1 := Scalar.cmpi .ne v1629 c0_i32_581
  let v1631 : BitVec 1 := Scalar.andi v1628 v1630
  let v1617 : BitVec 32 := Scalar.divsi v46 c2_i32
  let c1_i32_582 : BitVec 32 := 1#32
  let v1632 : BitVec 32 := Scalar.subi v1617 c1_i32_582
  let v1633 : BitVec 32 := Scalar.select v1631 v1632 v1617
  let c1_i32_669 : BitVec 32 := 1#32
  let v1839 : BitVec 32 := Scalar.subi v1633 c1_i32_669
  let v1851 : BitVec 32 := Scalar.muli c2_i32_680 v1839
  let v1852 : BitVec 32 := Scalar.addi v1851 c1_i32_681
  let v1853 : BitVec 32 := Scalar.minsi v1852 v46
  let c512_i32_682 : BitVec 32 := 512#32
  let v1854 : BitVec 32 := Scalar.muli v1853 c512_i32_682
  let v1855 : BitVec 32 := v1854
  let v1856 : Index := Scalar.indexCast v1855
  let c0_685 : Index := 0#32
  ![0, 0, v1856.toNat, 0]
def k0_mult24 (i : grid0.Coords) : BitVec 32 :=
  let arg2 : BitVec 32 := BitVec.ofNat 32 (i 2).val
  let c256_i32 : BitVec 32 := 256#32
  let v0 : BitVec 32 := Scalar.muli arg2 c256_i32
  let c0_i32_15 : BitVec 32 := 0#32
  let v31 : BitVec 1 := Scalar.cmpi .sgt v0 c0_i32_15
  let v32 : BitVec 32 := Scalar.extui v31
  let c0_i32_16 : BitVec 32 := 0#32
  let v33 : BitVec 1 := Scalar.cmpi .slt v0 c0_i32_16
  let v34 : BitVec 32 := Scalar.extui v33
  let v35 : BitVec 32 := Scalar.subi v32 v34
  let c512_i32_14 : BitVec 32 := 512#32
  let c0_i32_17 : BitVec 32 := 0#32
  let v36 : BitVec 1 := Scalar.cmpi .sgt c512_i32_14 c0_i32_17
  let v37 : BitVec 32 := Scalar.extui v36
  let c0_i32_18 : BitVec 32 := 0#32
  let v38 : BitVec 1 := Scalar.cmpi .slt c512_i32_14 c0_i32_18
  let v39 : BitVec 32 := Scalar.extui v38
  let v40 : BitVec 32 := Scalar.subi v37 v39
  let v41 : BitVec 1 := Scalar.cmpi .ne v35 v40
  let v42 : BitVec 32 := Scalar.remsi v0 c512_i32_14
  let c0_i32_19 : BitVec 32 := 0#32
  let v43 : BitVec 1 := Scalar.cmpi .ne v42 c0_i32_19
  let v44 : BitVec 1 := Scalar.andi v41 v43
  let v30 : BitVec 32 := Scalar.divsi v0 c512_i32_14
  let c1_i32 : BitVec 32 := 1#32
  let v45 : BitVec 32 := Scalar.subi v30 c1_i32
  let v46 : BitVec 32 := Scalar.select v44 v45 v30
  let c0_i32_890 : BitVec 32 := 0#32
  let c2_i32_889 : BitVec 32 := 2#32
  let c0_i32_577 : BitVec 32 := 0#32
  let v1618 : BitVec 1 := Scalar.cmpi .sgt v46 c0_i32_577
  let v1619 : BitVec 32 := Scalar.extui v1618
  let c0_i32_578 : BitVec 32 := 0#32
  let v1620 : BitVec 1 := Scalar.cmpi .slt v46 c0_i32_578
  let v1621 : BitVec 32 := Scalar.extui v1620
  let v1622 : BitVec 32 := Scalar.subi v1619 v1621
  let c2_i32 : BitVec 32 := 2#32
  let c0_i32_579 : BitVec 32 := 0#32
  let v1623 : BitVec 1 := Scalar.cmpi .sgt c2_i32 c0_i32_579
  let v1624 : BitVec 32 := Scalar.extui v1623
  let c0_i32_580 : BitVec 32 := 0#32
  let v1625 : BitVec 1 := Scalar.cmpi .slt c2_i32 c0_i32_580
  let v1626 : BitVec 32 := Scalar.extui v1625
  let v1627 : BitVec 32 := Scalar.subi v1624 v1626
  let v1628 : BitVec 1 := Scalar.cmpi .ne v1622 v1627
  let v1629 : BitVec 32 := Scalar.remsi v46 c2_i32
  let c0_i32_581 : BitVec 32 := 0#32
  let v1630 : BitVec 1 := Scalar.cmpi .ne v1629 c0_i32_581
  let v1631 : BitVec 1 := Scalar.andi v1628 v1630
  let v1617 : BitVec 32 := Scalar.divsi v46 c2_i32
  let c1_i32_582 : BitVec 32 := 1#32
  let v1632 : BitVec 32 := Scalar.subi v1617 c1_i32_582
  let v1633 : BitVec 32 := Scalar.select v1631 v1632 v1617
  let c1_i32_669 : BitVec 32 := 1#32
  let v1839 : BitVec 32 := Scalar.subi v1633 c1_i32_669
  let v2294 : BitVec 32 := Scalar.muli c2_i32_889 v1839
  let v2295 : BitVec 32 := Scalar.maxsi c0_i32_890 v2294
  let v2296 : BitVec 32 := Scalar.minsi v46 v2295
  let c512_i32_891 : BitVec 32 := 512#32
  let v2297 : BitVec 32 := Scalar.muli v2296 c512_i32_891
  v2297
def k0_off14 (i : grid0.Coords) : Fin 4 → Nat :=
  let c0_892 : Index := 0#32
  let c0_893 : Index := 0#32
  let c0_894 : Index := 0#32
  let arg2 : BitVec 32 := BitVec.ofNat 32 (i 2).val
  let c256_i32 : BitVec 32 := 256#32
  let v0 : BitVec 32 := Scalar.muli arg2 c256_i32
  let c0_i32_15 : BitVec 32 := 0#32
  let v31 : BitVec 1 := Scalar.cmpi .sgt v0 c0_i32_15
  let v32 : BitVec 32 := Scalar.extui v31
  let c0_i32_16 : BitVec 32 := 0#32
  let v33 : BitVec 1 := Scalar.cmpi .slt v0 c0_i32_16
  let v34 : BitVec 32 := Scalar.extui v33
  let v35 : BitVec 32 := Scalar.subi v32 v34
  let c512_i32_14 : BitVec 32 := 512#32
  let c0_i32_17 : BitVec 32 := 0#32
  let v36 : BitVec 1 := Scalar.cmpi .sgt c512_i32_14 c0_i32_17
  let v37 : BitVec 32 := Scalar.extui v36
  let c0_i32_18 : BitVec 32 := 0#32
  let v38 : BitVec 1 := Scalar.cmpi .slt c512_i32_14 c0_i32_18
  let v39 : BitVec 32 := Scalar.extui v38
  let v40 : BitVec 32 := Scalar.subi v37 v39
  let v41 : BitVec 1 := Scalar.cmpi .ne v35 v40
  let v42 : BitVec 32 := Scalar.remsi v0 c512_i32_14
  let c0_i32_19 : BitVec 32 := 0#32
  let v43 : BitVec 1 := Scalar.cmpi .ne v42 c0_i32_19
  let v44 : BitVec 1 := Scalar.andi v41 v43
  let v30 : BitVec 32 := Scalar.divsi v0 c512_i32_14
  let c1_i32 : BitVec 32 := 1#32
  let v45 : BitVec 32 := Scalar.subi v30 c1_i32
  let v46 : BitVec 32 := Scalar.select v44 v45 v30
  let c0_i32_890 : BitVec 32 := 0#32
  let c2_i32_889 : BitVec 32 := 2#32
  let c0_i32_577 : BitVec 32 := 0#32
  let v1618 : BitVec 1 := Scalar.cmpi .sgt v46 c0_i32_577
  let v1619 : BitVec 32 := Scalar.extui v1618
  let c0_i32_578 : BitVec 32 := 0#32
  let v1620 : BitVec 1 := Scalar.cmpi .slt v46 c0_i32_578
  let v1621 : BitVec 32 := Scalar.extui v1620
  let v1622 : BitVec 32 := Scalar.subi v1619 v1621
  let c2_i32 : BitVec 32 := 2#32
  let c0_i32_579 : BitVec 32 := 0#32
  let v1623 : BitVec 1 := Scalar.cmpi .sgt c2_i32 c0_i32_579
  let v1624 : BitVec 32 := Scalar.extui v1623
  let c0_i32_580 : BitVec 32 := 0#32
  let v1625 : BitVec 1 := Scalar.cmpi .slt c2_i32 c0_i32_580
  let v1626 : BitVec 32 := Scalar.extui v1625
  let v1627 : BitVec 32 := Scalar.subi v1624 v1626
  let v1628 : BitVec 1 := Scalar.cmpi .ne v1622 v1627
  let v1629 : BitVec 32 := Scalar.remsi v46 c2_i32
  let c0_i32_581 : BitVec 32 := 0#32
  let v1630 : BitVec 1 := Scalar.cmpi .ne v1629 c0_i32_581
  let v1631 : BitVec 1 := Scalar.andi v1628 v1630
  let v1617 : BitVec 32 := Scalar.divsi v46 c2_i32
  let c1_i32_582 : BitVec 32 := 1#32
  let v1632 : BitVec 32 := Scalar.subi v1617 c1_i32_582
  let v1633 : BitVec 32 := Scalar.select v1631 v1632 v1617
  let c1_i32_669 : BitVec 32 := 1#32
  let v1839 : BitVec 32 := Scalar.subi v1633 c1_i32_669
  let v2294 : BitVec 32 := Scalar.muli c2_i32_889 v1839
  let v2295 : BitVec 32 := Scalar.maxsi c0_i32_890 v2294
  let v2296 : BitVec 32 := Scalar.minsi v46 v2295
  let c512_i32_891 : BitVec 32 := 512#32
  let v2297 : BitVec 32 := Scalar.muli v2296 c512_i32_891
  let v2298 : BitVec 32 := v2297
  let v2299 : Index := Scalar.indexCast v2298
  ![0, 0, 0, v2299.toNat]
def k0_mult25 (i : grid0.Coords) : BitVec 32 :=
  let c2_i32_898 : BitVec 32 := 2#32
  let arg2 : BitVec 32 := BitVec.ofNat 32 (i 2).val
  let c256_i32 : BitVec 32 := 256#32
  let v0 : BitVec 32 := Scalar.muli arg2 c256_i32
  let c0_i32_15 : BitVec 32 := 0#32
  let v31 : BitVec 1 := Scalar.cmpi .sgt v0 c0_i32_15
  let v32 : BitVec 32 := Scalar.extui v31
  let c0_i32_16 : BitVec 32 := 0#32
  let v33 : BitVec 1 := Scalar.cmpi .slt v0 c0_i32_16
  let v34 : BitVec 32 := Scalar.extui v33
  let v35 : BitVec 32 := Scalar.subi v32 v34
  let c512_i32_14 : BitVec 32 := 512#32
  let c0_i32_17 : BitVec 32 := 0#32
  let v36 : BitVec 1 := Scalar.cmpi .sgt c512_i32_14 c0_i32_17
  let v37 : BitVec 32 := Scalar.extui v36
  let c0_i32_18 : BitVec 32 := 0#32
  let v38 : BitVec 1 := Scalar.cmpi .slt c512_i32_14 c0_i32_18
  let v39 : BitVec 32 := Scalar.extui v38
  let v40 : BitVec 32 := Scalar.subi v37 v39
  let v41 : BitVec 1 := Scalar.cmpi .ne v35 v40
  let v42 : BitVec 32 := Scalar.remsi v0 c512_i32_14
  let c0_i32_19 : BitVec 32 := 0#32
  let v43 : BitVec 1 := Scalar.cmpi .ne v42 c0_i32_19
  let v44 : BitVec 1 := Scalar.andi v41 v43
  let v30 : BitVec 32 := Scalar.divsi v0 c512_i32_14
  let c1_i32 : BitVec 32 := 1#32
  let v45 : BitVec 32 := Scalar.subi v30 c1_i32
  let v46 : BitVec 32 := Scalar.select v44 v45 v30
  let c0_i32_577 : BitVec 32 := 0#32
  let v1618 : BitVec 1 := Scalar.cmpi .sgt v46 c0_i32_577
  let v1619 : BitVec 32 := Scalar.extui v1618
  let c0_i32_578 : BitVec 32 := 0#32
  let v1620 : BitVec 1 := Scalar.cmpi .slt v46 c0_i32_578
  let v1621 : BitVec 32 := Scalar.extui v1620
  let v1622 : BitVec 32 := Scalar.subi v1619 v1621
  let c2_i32 : BitVec 32 := 2#32
  let c0_i32_579 : BitVec 32 := 0#32
  let v1623 : BitVec 1 := Scalar.cmpi .sgt c2_i32 c0_i32_579
  let v1624 : BitVec 32 := Scalar.extui v1623
  let c0_i32_580 : BitVec 32 := 0#32
  let v1625 : BitVec 1 := Scalar.cmpi .slt c2_i32 c0_i32_580
  let v1626 : BitVec 32 := Scalar.extui v1625
  let v1627 : BitVec 32 := Scalar.subi v1624 v1626
  let v1628 : BitVec 1 := Scalar.cmpi .ne v1622 v1627
  let v1629 : BitVec 32 := Scalar.remsi v46 c2_i32
  let c0_i32_581 : BitVec 32 := 0#32
  let v1630 : BitVec 1 := Scalar.cmpi .ne v1629 c0_i32_581
  let v1631 : BitVec 1 := Scalar.andi v1628 v1630
  let v1617 : BitVec 32 := Scalar.divsi v46 c2_i32
  let c1_i32_582 : BitVec 32 := 1#32
  let v1632 : BitVec 32 := Scalar.subi v1617 c1_i32_582
  let v1633 : BitVec 32 := Scalar.select v1631 v1632 v1617
  let c1_i32_669 : BitVec 32 := 1#32
  let v1839 : BitVec 32 := Scalar.subi v1633 c1_i32_669
  let v2304 : BitVec 32 := Scalar.muli c2_i32_898 v1839
  let c2_i32_899 : BitVec 32 := 2#32
  let v2305 : BitVec 32 := Scalar.addi v2304 c2_i32_899
  let v2306 : BitVec 32 := Scalar.minsi v2305 v46
  let c512_i32_900 : BitVec 32 := 512#32
  let v2307 : BitVec 32 := Scalar.muli v2306 c512_i32_900
  v2307
def k0_cond3 (i : grid0.Coords) : BitVec 1 :=
  let arg2 : BitVec 32 := BitVec.ofNat 32 (i 2).val
  let c256_i32 : BitVec 32 := 256#32
  let v0 : BitVec 32 := Scalar.muli arg2 c256_i32
  let c0_i32_15 : BitVec 32 := 0#32
  let v31 : BitVec 1 := Scalar.cmpi .sgt v0 c0_i32_15
  let v32 : BitVec 32 := Scalar.extui v31
  let c0_i32_16 : BitVec 32 := 0#32
  let v33 : BitVec 1 := Scalar.cmpi .slt v0 c0_i32_16
  let v34 : BitVec 32 := Scalar.extui v33
  let v35 : BitVec 32 := Scalar.subi v32 v34
  let c512_i32_14 : BitVec 32 := 512#32
  let c0_i32_17 : BitVec 32 := 0#32
  let v36 : BitVec 1 := Scalar.cmpi .sgt c512_i32_14 c0_i32_17
  let v37 : BitVec 32 := Scalar.extui v36
  let c0_i32_18 : BitVec 32 := 0#32
  let v38 : BitVec 1 := Scalar.cmpi .slt c512_i32_14 c0_i32_18
  let v39 : BitVec 32 := Scalar.extui v38
  let v40 : BitVec 32 := Scalar.subi v37 v39
  let v41 : BitVec 1 := Scalar.cmpi .ne v35 v40
  let v42 : BitVec 32 := Scalar.remsi v0 c512_i32_14
  let c0_i32_19 : BitVec 32 := 0#32
  let v43 : BitVec 1 := Scalar.cmpi .ne v42 c0_i32_19
  let v44 : BitVec 1 := Scalar.andi v41 v43
  let v30 : BitVec 32 := Scalar.divsi v0 c512_i32_14
  let c1_i32 : BitVec 32 := 1#32
  let v45 : BitVec 32 := Scalar.subi v30 c1_i32
  let v46 : BitVec 32 := Scalar.select v44 v45 v30
  let c2_i32_607 : BitVec 32 := 2#32
  let c0_i32_608 : BitVec 32 := 0#32
  let v1679 : BitVec 1 := Scalar.cmpi .eq c2_i32_607 c0_i32_608
  let c1_i32_609 : BitVec 32 := 1#32
  let v1680 : BitVec 32 := Scalar.select v1679 c1_i32_609 c2_i32_607
  let v1681 : BitVec 32 := Scalar.remsi v46 v1680
  let c0_i32_611 : BitVec 32 := 0#32
  let v1683 : BitVec 1 := Scalar.cmpi .slt v1681 c0_i32_611
  let c0_i32_612 : BitVec 32 := 0#32
  let v1684 : BitVec 1 := Scalar.cmpi .slt v1680 c0_i32_612
  let v1685 : BitVec 1 := Scalar.xori v1683 v1684
  let c0_i32_610 : BitVec 32 := 0#32
  let v1682 : BitVec 1 := Scalar.cmpi .ne v1681 c0_i32_610
  let v1686 : BitVec 1 := Scalar.andi v1685 v1682
  let v1687 : BitVec 32 := Scalar.addi v1681 v1680
  let v1688 : BitVec 32 := Scalar.select v1686 v1687 v1681
  let c0_i32_613 : BitVec 32 := 0#32
  let v1689 : BitVec 1 := Scalar.cmpi .eq v1688 c0_i32_613
  let v1690 : BitVec 32 := Scalar.extui v1689
  let c0_i32_614 : BitVec 32 := 0#32
  let v1691 : BitVec 1 := Scalar.cmpi .ne v1690 c0_i32_614
  v1691

def k0_mult26 (i : grid0.Coords) : BitVec 32 :=
  let arg2 : BitVec 32 := BitVec.ofNat 32 (i 2).val
  let c256_i32 : BitVec 32 := 256#32
  let v0 : BitVec 32 := Scalar.muli arg2 c256_i32
  let c0_i32_15 : BitVec 32 := 0#32
  let v31 : BitVec 1 := Scalar.cmpi .sgt v0 c0_i32_15
  let v32 : BitVec 32 := Scalar.extui v31
  let c0_i32_16 : BitVec 32 := 0#32
  let v33 : BitVec 1 := Scalar.cmpi .slt v0 c0_i32_16
  let v34 : BitVec 32 := Scalar.extui v33
  let v35 : BitVec 32 := Scalar.subi v32 v34
  let c512_i32_14 : BitVec 32 := 512#32
  let c0_i32_17 : BitVec 32 := 0#32
  let v36 : BitVec 1 := Scalar.cmpi .sgt c512_i32_14 c0_i32_17
  let v37 : BitVec 32 := Scalar.extui v36
  let c0_i32_18 : BitVec 32 := 0#32
  let v38 : BitVec 1 := Scalar.cmpi .slt c512_i32_14 c0_i32_18
  let v39 : BitVec 32 := Scalar.extui v38
  let v40 : BitVec 32 := Scalar.subi v37 v39
  let v41 : BitVec 1 := Scalar.cmpi .ne v35 v40
  let v42 : BitVec 32 := Scalar.remsi v0 c512_i32_14
  let c0_i32_19 : BitVec 32 := 0#32
  let v43 : BitVec 1 := Scalar.cmpi .ne v42 c0_i32_19
  let v44 : BitVec 1 := Scalar.andi v41 v43
  let v30 : BitVec 32 := Scalar.divsi v0 c512_i32_14
  let c1_i32 : BitVec 32 := 1#32
  let v45 : BitVec 32 := Scalar.subi v30 c1_i32
  let v46 : BitVec 32 := Scalar.select v44 v45 v30
  let c0_i32_670 : BitVec 32 := 0#32
  let c1_i32_669 : BitVec 32 := 1#32
  let v1839 : BitVec 32 := Scalar.subi v46 c1_i32_669
  let v1840 : BitVec 32 := Scalar.maxsi c0_i32_670 v1839
  let v1841 : BitVec 32 := Scalar.minsi v46 v1840
  let c512_i32_671 : BitVec 32 := 512#32
  let v1842 : BitVec 32 := Scalar.muli v1841 c512_i32_671
  v1842
def k0_off15 (i : grid0.Coords) : Fin 4 → Nat :=
  let c0_672 : Index := 0#32
  let c0_673 : Index := 0#32
  let c0_674 : Index := 0#32
  let arg2 : BitVec 32 := BitVec.ofNat 32 (i 2).val
  let c256_i32 : BitVec 32 := 256#32
  let v0 : BitVec 32 := Scalar.muli arg2 c256_i32
  let c0_i32_15 : BitVec 32 := 0#32
  let v31 : BitVec 1 := Scalar.cmpi .sgt v0 c0_i32_15
  let v32 : BitVec 32 := Scalar.extui v31
  let c0_i32_16 : BitVec 32 := 0#32
  let v33 : BitVec 1 := Scalar.cmpi .slt v0 c0_i32_16
  let v34 : BitVec 32 := Scalar.extui v33
  let v35 : BitVec 32 := Scalar.subi v32 v34
  let c512_i32_14 : BitVec 32 := 512#32
  let c0_i32_17 : BitVec 32 := 0#32
  let v36 : BitVec 1 := Scalar.cmpi .sgt c512_i32_14 c0_i32_17
  let v37 : BitVec 32 := Scalar.extui v36
  let c0_i32_18 : BitVec 32 := 0#32
  let v38 : BitVec 1 := Scalar.cmpi .slt c512_i32_14 c0_i32_18
  let v39 : BitVec 32 := Scalar.extui v38
  let v40 : BitVec 32 := Scalar.subi v37 v39
  let v41 : BitVec 1 := Scalar.cmpi .ne v35 v40
  let v42 : BitVec 32 := Scalar.remsi v0 c512_i32_14
  let c0_i32_19 : BitVec 32 := 0#32
  let v43 : BitVec 1 := Scalar.cmpi .ne v42 c0_i32_19
  let v44 : BitVec 1 := Scalar.andi v41 v43
  let v30 : BitVec 32 := Scalar.divsi v0 c512_i32_14
  let c1_i32 : BitVec 32 := 1#32
  let v45 : BitVec 32 := Scalar.subi v30 c1_i32
  let v46 : BitVec 32 := Scalar.select v44 v45 v30
  let c0_i32_670 : BitVec 32 := 0#32
  let c1_i32_669 : BitVec 32 := 1#32
  let v1839 : BitVec 32 := Scalar.subi v46 c1_i32_669
  let v1840 : BitVec 32 := Scalar.maxsi c0_i32_670 v1839
  let v1841 : BitVec 32 := Scalar.minsi v46 v1840
  let c512_i32_671 : BitVec 32 := 512#32
  let v1842 : BitVec 32 := Scalar.muli v1841 c512_i32_671
  let v1843 : BitVec 32 := v1842
  let v1844 : Index := Scalar.indexCast v1843
  ![0, 0, 0, v1844.toNat]
def k0_mult27 (i : grid0.Coords) : BitVec 32 :=
  let arg2 : BitVec 32 := BitVec.ofNat 32 (i 2).val
  let c256_i32 : BitVec 32 := 256#32
  let v0 : BitVec 32 := Scalar.muli arg2 c256_i32
  let c0_i32_15 : BitVec 32 := 0#32
  let v31 : BitVec 1 := Scalar.cmpi .sgt v0 c0_i32_15
  let v32 : BitVec 32 := Scalar.extui v31
  let c0_i32_16 : BitVec 32 := 0#32
  let v33 : BitVec 1 := Scalar.cmpi .slt v0 c0_i32_16
  let v34 : BitVec 32 := Scalar.extui v33
  let v35 : BitVec 32 := Scalar.subi v32 v34
  let c512_i32_14 : BitVec 32 := 512#32
  let c0_i32_17 : BitVec 32 := 0#32
  let v36 : BitVec 1 := Scalar.cmpi .sgt c512_i32_14 c0_i32_17
  let v37 : BitVec 32 := Scalar.extui v36
  let c0_i32_18 : BitVec 32 := 0#32
  let v38 : BitVec 1 := Scalar.cmpi .slt c512_i32_14 c0_i32_18
  let v39 : BitVec 32 := Scalar.extui v38
  let v40 : BitVec 32 := Scalar.subi v37 v39
  let v41 : BitVec 1 := Scalar.cmpi .ne v35 v40
  let v42 : BitVec 32 := Scalar.remsi v0 c512_i32_14
  let c0_i32_19 : BitVec 32 := 0#32
  let v43 : BitVec 1 := Scalar.cmpi .ne v42 c0_i32_19
  let v44 : BitVec 1 := Scalar.andi v41 v43
  let v30 : BitVec 32 := Scalar.divsi v0 c512_i32_14
  let c1_i32 : BitVec 32 := 1#32
  let v45 : BitVec 32 := Scalar.subi v30 c1_i32
  let v46 : BitVec 32 := Scalar.select v44 v45 v30
  let c0_i32_1070 : BitVec 32 := 0#32
  let v2760 : BitVec 32 := Scalar.maxsi c0_i32_1070 v46
  let v2761 : BitVec 32 := Scalar.minsi v46 v2760
  let c512_i32_1071 : BitVec 32 := 512#32
  let v2762 : BitVec 32 := Scalar.muli v2761 c512_i32_1071
  v2762
def k0_off16 (i : grid0.Coords) : Fin 4 → Nat :=
  let c0_1072 : Index := 0#32
  let c0_1073 : Index := 0#32
  let c0_1074 : Index := 0#32
  let arg2 : BitVec 32 := BitVec.ofNat 32 (i 2).val
  let c256_i32 : BitVec 32 := 256#32
  let v0 : BitVec 32 := Scalar.muli arg2 c256_i32
  let c0_i32_15 : BitVec 32 := 0#32
  let v31 : BitVec 1 := Scalar.cmpi .sgt v0 c0_i32_15
  let v32 : BitVec 32 := Scalar.extui v31
  let c0_i32_16 : BitVec 32 := 0#32
  let v33 : BitVec 1 := Scalar.cmpi .slt v0 c0_i32_16
  let v34 : BitVec 32 := Scalar.extui v33
  let v35 : BitVec 32 := Scalar.subi v32 v34
  let c512_i32_14 : BitVec 32 := 512#32
  let c0_i32_17 : BitVec 32 := 0#32
  let v36 : BitVec 1 := Scalar.cmpi .sgt c512_i32_14 c0_i32_17
  let v37 : BitVec 32 := Scalar.extui v36
  let c0_i32_18 : BitVec 32 := 0#32
  let v38 : BitVec 1 := Scalar.cmpi .slt c512_i32_14 c0_i32_18
  let v39 : BitVec 32 := Scalar.extui v38
  let v40 : BitVec 32 := Scalar.subi v37 v39
  let v41 : BitVec 1 := Scalar.cmpi .ne v35 v40
  let v42 : BitVec 32 := Scalar.remsi v0 c512_i32_14
  let c0_i32_19 : BitVec 32 := 0#32
  let v43 : BitVec 1 := Scalar.cmpi .ne v42 c0_i32_19
  let v44 : BitVec 1 := Scalar.andi v41 v43
  let v30 : BitVec 32 := Scalar.divsi v0 c512_i32_14
  let c1_i32 : BitVec 32 := 1#32
  let v45 : BitVec 32 := Scalar.subi v30 c1_i32
  let v46 : BitVec 32 := Scalar.select v44 v45 v30
  let c0_i32_1070 : BitVec 32 := 0#32
  let v2760 : BitVec 32 := Scalar.maxsi c0_i32_1070 v46
  let v2761 : BitVec 32 := Scalar.minsi v46 v2760
  let c512_i32_1071 : BitVec 32 := 512#32
  let v2762 : BitVec 32 := Scalar.muli v2761 c512_i32_1071
  let v2763 : BitVec 32 := v2762
  let v2764 : Index := Scalar.indexCast v2763
  ![0, 0, 0, v2764.toNat]
def k0_cond4 (i : grid0.Coords) : BitVec 1 :=
  let arg2 : BitVec 32 := BitVec.ofNat 32 (i 2).val
  let c256_i32 : BitVec 32 := 256#32
  let v0 : BitVec 32 := Scalar.muli arg2 c256_i32
  let c0_i32_15 : BitVec 32 := 0#32
  let v31 : BitVec 1 := Scalar.cmpi .sgt v0 c0_i32_15
  let v32 : BitVec 32 := Scalar.extui v31
  let c0_i32_16 : BitVec 32 := 0#32
  let v33 : BitVec 1 := Scalar.cmpi .slt v0 c0_i32_16
  let v34 : BitVec 32 := Scalar.extui v33
  let v35 : BitVec 32 := Scalar.subi v32 v34
  let c512_i32_14 : BitVec 32 := 512#32
  let c0_i32_17 : BitVec 32 := 0#32
  let v36 : BitVec 1 := Scalar.cmpi .sgt c512_i32_14 c0_i32_17
  let v37 : BitVec 32 := Scalar.extui v36
  let c0_i32_18 : BitVec 32 := 0#32
  let v38 : BitVec 1 := Scalar.cmpi .slt c512_i32_14 c0_i32_18
  let v39 : BitVec 32 := Scalar.extui v38
  let v40 : BitVec 32 := Scalar.subi v37 v39
  let v41 : BitVec 1 := Scalar.cmpi .ne v35 v40
  let v42 : BitVec 32 := Scalar.remsi v0 c512_i32_14
  let c0_i32_19 : BitVec 32 := 0#32
  let v43 : BitVec 1 := Scalar.cmpi .ne v42 c0_i32_19
  let v44 : BitVec 1 := Scalar.andi v41 v43
  let v30 : BitVec 32 := Scalar.divsi v0 c512_i32_14
  let c1_i32 : BitVec 32 := 1#32
  let v45 : BitVec 32 := Scalar.subi v30 c1_i32
  let v46 : BitVec 32 := Scalar.select v44 v45 v30
  let c2_i32_615 : BitVec 32 := 2#32
  let c0_i32_616 : BitVec 32 := 0#32
  let v1692 : BitVec 1 := Scalar.cmpi .eq c2_i32_615 c0_i32_616
  let c1_i32_617 : BitVec 32 := 1#32
  let v1693 : BitVec 32 := Scalar.select v1692 c1_i32_617 c2_i32_615
  let v1694 : BitVec 32 := Scalar.remsi v46 v1693
  let c0_i32_619 : BitVec 32 := 0#32
  let v1696 : BitVec 1 := Scalar.cmpi .slt v1694 c0_i32_619
  let c0_i32_620 : BitVec 32 := 0#32
  let v1697 : BitVec 1 := Scalar.cmpi .slt v1693 c0_i32_620
  let v1698 : BitVec 1 := Scalar.xori v1696 v1697
  let c0_i32_618 : BitVec 32 := 0#32
  let v1695 : BitVec 1 := Scalar.cmpi .ne v1694 c0_i32_618
  let v1699 : BitVec 1 := Scalar.andi v1698 v1695
  let v1700 : BitVec 32 := Scalar.addi v1694 v1693
  let v1701 : BitVec 32 := Scalar.select v1699 v1700 v1694
  let c1_i32_621 : BitVec 32 := 1#32
  let v1702 : BitVec 1 := Scalar.cmpi .eq v1701 c1_i32_621
  let v1703 : BitVec 32 := Scalar.extui v1702
  let c0_i32_622 : BitVec 32 := 0#32
  let v1704 : BitVec 1 := Scalar.cmpi .ne v1703 c0_i32_622
  v1704

def k0_mult28 (i : grid0.Coords) : BitVec 32 :=
  let arg2 : BitVec 32 := BitVec.ofNat 32 (i 2).val
  let c256_i32 : BitVec 32 := 256#32
  let v0 : BitVec 32 := Scalar.muli arg2 c256_i32
  let c0_i32_15 : BitVec 32 := 0#32
  let v31 : BitVec 1 := Scalar.cmpi .sgt v0 c0_i32_15
  let v32 : BitVec 32 := Scalar.extui v31
  let c0_i32_16 : BitVec 32 := 0#32
  let v33 : BitVec 1 := Scalar.cmpi .slt v0 c0_i32_16
  let v34 : BitVec 32 := Scalar.extui v33
  let v35 : BitVec 32 := Scalar.subi v32 v34
  let c512_i32_14 : BitVec 32 := 512#32
  let c0_i32_17 : BitVec 32 := 0#32
  let v36 : BitVec 1 := Scalar.cmpi .sgt c512_i32_14 c0_i32_17
  let v37 : BitVec 32 := Scalar.extui v36
  let c0_i32_18 : BitVec 32 := 0#32
  let v38 : BitVec 1 := Scalar.cmpi .slt c512_i32_14 c0_i32_18
  let v39 : BitVec 32 := Scalar.extui v38
  let v40 : BitVec 32 := Scalar.subi v37 v39
  let v41 : BitVec 1 := Scalar.cmpi .ne v35 v40
  let v42 : BitVec 32 := Scalar.remsi v0 c512_i32_14
  let c0_i32_19 : BitVec 32 := 0#32
  let v43 : BitVec 1 := Scalar.cmpi .ne v42 c0_i32_19
  let v44 : BitVec 1 := Scalar.andi v41 v43
  let v30 : BitVec 32 := Scalar.divsi v0 c512_i32_14
  let c1_i32 : BitVec 32 := 1#32
  let v45 : BitVec 32 := Scalar.subi v30 c1_i32
  let v46 : BitVec 32 := Scalar.select v44 v45 v30
  let c0_i32_671 : BitVec 32 := 0#32
  let c2_i32_669 : BitVec 32 := 2#32
  let c0_i32_577 : BitVec 32 := 0#32
  let v1618 : BitVec 1 := Scalar.cmpi .sgt v46 c0_i32_577
  let v1619 : BitVec 32 := Scalar.extui v1618
  let c0_i32_578 : BitVec 32 := 0#32
  let v1620 : BitVec 1 := Scalar.cmpi .slt v46 c0_i32_578
  let v1621 : BitVec 32 := Scalar.extui v1620
  let v1622 : BitVec 32 := Scalar.subi v1619 v1621
  let c2_i32 : BitVec 32 := 2#32
  let c0_i32_579 : BitVec 32 := 0#32
  let v1623 : BitVec 1 := Scalar.cmpi .sgt c2_i32 c0_i32_579
  let v1624 : BitVec 32 := Scalar.extui v1623
  let c0_i32_580 : BitVec 32 := 0#32
  let v1625 : BitVec 1 := Scalar.cmpi .slt c2_i32 c0_i32_580
  let v1626 : BitVec 32 := Scalar.extui v1625
  let v1627 : BitVec 32 := Scalar.subi v1624 v1626
  let v1628 : BitVec 1 := Scalar.cmpi .ne v1622 v1627
  let v1629 : BitVec 32 := Scalar.remsi v46 c2_i32
  let c0_i32_581 : BitVec 32 := 0#32
  let v1630 : BitVec 1 := Scalar.cmpi .ne v1629 c0_i32_581
  let v1631 : BitVec 1 := Scalar.andi v1628 v1630
  let v1617 : BitVec 32 := Scalar.divsi v46 c2_i32
  let c1_i32_582 : BitVec 32 := 1#32
  let v1632 : BitVec 32 := Scalar.subi v1617 c1_i32_582
  let v1633 : BitVec 32 := Scalar.select v1631 v1632 v1617
  let v1839 : BitVec 32 := Scalar.muli c2_i32_669 v1633
  let c1_i32_670 : BitVec 32 := 1#32
  let v1840 : BitVec 32 := Scalar.subi v1839 c1_i32_670
  let v1841 : BitVec 32 := Scalar.maxsi c0_i32_671 v1840
  let v1842 : BitVec 32 := Scalar.minsi v46 v1841
  let c512_i32_672 : BitVec 32 := 512#32
  let v1843 : BitVec 32 := Scalar.muli v1842 c512_i32_672
  v1843
def k0_off17 (i : grid0.Coords) : Fin 4 → Nat :=
  let c0_673 : Index := 0#32
  let c0_674 : Index := 0#32
  let c0_675 : Index := 0#32
  let arg2 : BitVec 32 := BitVec.ofNat 32 (i 2).val
  let c256_i32 : BitVec 32 := 256#32
  let v0 : BitVec 32 := Scalar.muli arg2 c256_i32
  let c0_i32_15 : BitVec 32 := 0#32
  let v31 : BitVec 1 := Scalar.cmpi .sgt v0 c0_i32_15
  let v32 : BitVec 32 := Scalar.extui v31
  let c0_i32_16 : BitVec 32 := 0#32
  let v33 : BitVec 1 := Scalar.cmpi .slt v0 c0_i32_16
  let v34 : BitVec 32 := Scalar.extui v33
  let v35 : BitVec 32 := Scalar.subi v32 v34
  let c512_i32_14 : BitVec 32 := 512#32
  let c0_i32_17 : BitVec 32 := 0#32
  let v36 : BitVec 1 := Scalar.cmpi .sgt c512_i32_14 c0_i32_17
  let v37 : BitVec 32 := Scalar.extui v36
  let c0_i32_18 : BitVec 32 := 0#32
  let v38 : BitVec 1 := Scalar.cmpi .slt c512_i32_14 c0_i32_18
  let v39 : BitVec 32 := Scalar.extui v38
  let v40 : BitVec 32 := Scalar.subi v37 v39
  let v41 : BitVec 1 := Scalar.cmpi .ne v35 v40
  let v42 : BitVec 32 := Scalar.remsi v0 c512_i32_14
  let c0_i32_19 : BitVec 32 := 0#32
  let v43 : BitVec 1 := Scalar.cmpi .ne v42 c0_i32_19
  let v44 : BitVec 1 := Scalar.andi v41 v43
  let v30 : BitVec 32 := Scalar.divsi v0 c512_i32_14
  let c1_i32 : BitVec 32 := 1#32
  let v45 : BitVec 32 := Scalar.subi v30 c1_i32
  let v46 : BitVec 32 := Scalar.select v44 v45 v30
  let c0_i32_671 : BitVec 32 := 0#32
  let c2_i32_669 : BitVec 32 := 2#32
  let c0_i32_577 : BitVec 32 := 0#32
  let v1618 : BitVec 1 := Scalar.cmpi .sgt v46 c0_i32_577
  let v1619 : BitVec 32 := Scalar.extui v1618
  let c0_i32_578 : BitVec 32 := 0#32
  let v1620 : BitVec 1 := Scalar.cmpi .slt v46 c0_i32_578
  let v1621 : BitVec 32 := Scalar.extui v1620
  let v1622 : BitVec 32 := Scalar.subi v1619 v1621
  let c2_i32 : BitVec 32 := 2#32
  let c0_i32_579 : BitVec 32 := 0#32
  let v1623 : BitVec 1 := Scalar.cmpi .sgt c2_i32 c0_i32_579
  let v1624 : BitVec 32 := Scalar.extui v1623
  let c0_i32_580 : BitVec 32 := 0#32
  let v1625 : BitVec 1 := Scalar.cmpi .slt c2_i32 c0_i32_580
  let v1626 : BitVec 32 := Scalar.extui v1625
  let v1627 : BitVec 32 := Scalar.subi v1624 v1626
  let v1628 : BitVec 1 := Scalar.cmpi .ne v1622 v1627
  let v1629 : BitVec 32 := Scalar.remsi v46 c2_i32
  let c0_i32_581 : BitVec 32 := 0#32
  let v1630 : BitVec 1 := Scalar.cmpi .ne v1629 c0_i32_581
  let v1631 : BitVec 1 := Scalar.andi v1628 v1630
  let v1617 : BitVec 32 := Scalar.divsi v46 c2_i32
  let c1_i32_582 : BitVec 32 := 1#32
  let v1632 : BitVec 32 := Scalar.subi v1617 c1_i32_582
  let v1633 : BitVec 32 := Scalar.select v1631 v1632 v1617
  let v1839 : BitVec 32 := Scalar.muli c2_i32_669 v1633
  let c1_i32_670 : BitVec 32 := 1#32
  let v1840 : BitVec 32 := Scalar.subi v1839 c1_i32_670
  let v1841 : BitVec 32 := Scalar.maxsi c0_i32_671 v1840
  let v1842 : BitVec 32 := Scalar.minsi v46 v1841
  let c512_i32_672 : BitVec 32 := 512#32
  let v1843 : BitVec 32 := Scalar.muli v1842 c512_i32_672
  let v1844 : BitVec 32 := v1843
  let v1845 : Index := Scalar.indexCast v1844
  ![0, 0, 0, v1845.toNat]
def k0_mult29 (i : grid0.Coords) : BitVec 32 :=
  let c2_i32_679 : BitVec 32 := 2#32
  let arg2 : BitVec 32 := BitVec.ofNat 32 (i 2).val
  let c256_i32 : BitVec 32 := 256#32
  let v0 : BitVec 32 := Scalar.muli arg2 c256_i32
  let c0_i32_15 : BitVec 32 := 0#32
  let v31 : BitVec 1 := Scalar.cmpi .sgt v0 c0_i32_15
  let v32 : BitVec 32 := Scalar.extui v31
  let c0_i32_16 : BitVec 32 := 0#32
  let v33 : BitVec 1 := Scalar.cmpi .slt v0 c0_i32_16
  let v34 : BitVec 32 := Scalar.extui v33
  let v35 : BitVec 32 := Scalar.subi v32 v34
  let c512_i32_14 : BitVec 32 := 512#32
  let c0_i32_17 : BitVec 32 := 0#32
  let v36 : BitVec 1 := Scalar.cmpi .sgt c512_i32_14 c0_i32_17
  let v37 : BitVec 32 := Scalar.extui v36
  let c0_i32_18 : BitVec 32 := 0#32
  let v38 : BitVec 1 := Scalar.cmpi .slt c512_i32_14 c0_i32_18
  let v39 : BitVec 32 := Scalar.extui v38
  let v40 : BitVec 32 := Scalar.subi v37 v39
  let v41 : BitVec 1 := Scalar.cmpi .ne v35 v40
  let v42 : BitVec 32 := Scalar.remsi v0 c512_i32_14
  let c0_i32_19 : BitVec 32 := 0#32
  let v43 : BitVec 1 := Scalar.cmpi .ne v42 c0_i32_19
  let v44 : BitVec 1 := Scalar.andi v41 v43
  let v30 : BitVec 32 := Scalar.divsi v0 c512_i32_14
  let c1_i32 : BitVec 32 := 1#32
  let v45 : BitVec 32 := Scalar.subi v30 c1_i32
  let v46 : BitVec 32 := Scalar.select v44 v45 v30
  let c0_i32_577 : BitVec 32 := 0#32
  let v1618 : BitVec 1 := Scalar.cmpi .sgt v46 c0_i32_577
  let v1619 : BitVec 32 := Scalar.extui v1618
  let c0_i32_578 : BitVec 32 := 0#32
  let v1620 : BitVec 1 := Scalar.cmpi .slt v46 c0_i32_578
  let v1621 : BitVec 32 := Scalar.extui v1620
  let v1622 : BitVec 32 := Scalar.subi v1619 v1621
  let c2_i32 : BitVec 32 := 2#32
  let c0_i32_579 : BitVec 32 := 0#32
  let v1623 : BitVec 1 := Scalar.cmpi .sgt c2_i32 c0_i32_579
  let v1624 : BitVec 32 := Scalar.extui v1623
  let c0_i32_580 : BitVec 32 := 0#32
  let v1625 : BitVec 1 := Scalar.cmpi .slt c2_i32 c0_i32_580
  let v1626 : BitVec 32 := Scalar.extui v1625
  let v1627 : BitVec 32 := Scalar.subi v1624 v1626
  let v1628 : BitVec 1 := Scalar.cmpi .ne v1622 v1627
  let v1629 : BitVec 32 := Scalar.remsi v46 c2_i32
  let c0_i32_581 : BitVec 32 := 0#32
  let v1630 : BitVec 1 := Scalar.cmpi .ne v1629 c0_i32_581
  let v1631 : BitVec 1 := Scalar.andi v1628 v1630
  let v1617 : BitVec 32 := Scalar.divsi v46 c2_i32
  let c1_i32_582 : BitVec 32 := 1#32
  let v1632 : BitVec 32 := Scalar.subi v1617 c1_i32_582
  let v1633 : BitVec 32 := Scalar.select v1631 v1632 v1617
  let v1850 : BitVec 32 := Scalar.muli c2_i32_679 v1633
  let c1_i32_680 : BitVec 32 := 1#32
  let v1851 : BitVec 32 := Scalar.addi v1850 c1_i32_680
  let v1852 : BitVec 32 := Scalar.minsi v1851 v46
  let c512_i32_681 : BitVec 32 := 512#32
  let v1853 : BitVec 32 := Scalar.muli v1852 c512_i32_681
  v1853
def k0_off18 (i : grid0.Coords) : Fin 4 → Nat :=
  let c0_682 : Index := 0#32
  let c0_683 : Index := 0#32
  let c2_i32_679 : BitVec 32 := 2#32
  let arg2 : BitVec 32 := BitVec.ofNat 32 (i 2).val
  let c256_i32 : BitVec 32 := 256#32
  let v0 : BitVec 32 := Scalar.muli arg2 c256_i32
  let c0_i32_15 : BitVec 32 := 0#32
  let v31 : BitVec 1 := Scalar.cmpi .sgt v0 c0_i32_15
  let v32 : BitVec 32 := Scalar.extui v31
  let c0_i32_16 : BitVec 32 := 0#32
  let v33 : BitVec 1 := Scalar.cmpi .slt v0 c0_i32_16
  let v34 : BitVec 32 := Scalar.extui v33
  let v35 : BitVec 32 := Scalar.subi v32 v34
  let c512_i32_14 : BitVec 32 := 512#32
  let c0_i32_17 : BitVec 32 := 0#32
  let v36 : BitVec 1 := Scalar.cmpi .sgt c512_i32_14 c0_i32_17
  let v37 : BitVec 32 := Scalar.extui v36
  let c0_i32_18 : BitVec 32 := 0#32
  let v38 : BitVec 1 := Scalar.cmpi .slt c512_i32_14 c0_i32_18
  let v39 : BitVec 32 := Scalar.extui v38
  let v40 : BitVec 32 := Scalar.subi v37 v39
  let v41 : BitVec 1 := Scalar.cmpi .ne v35 v40
  let v42 : BitVec 32 := Scalar.remsi v0 c512_i32_14
  let c0_i32_19 : BitVec 32 := 0#32
  let v43 : BitVec 1 := Scalar.cmpi .ne v42 c0_i32_19
  let v44 : BitVec 1 := Scalar.andi v41 v43
  let v30 : BitVec 32 := Scalar.divsi v0 c512_i32_14
  let c1_i32 : BitVec 32 := 1#32
  let v45 : BitVec 32 := Scalar.subi v30 c1_i32
  let v46 : BitVec 32 := Scalar.select v44 v45 v30
  let c0_i32_577 : BitVec 32 := 0#32
  let v1618 : BitVec 1 := Scalar.cmpi .sgt v46 c0_i32_577
  let v1619 : BitVec 32 := Scalar.extui v1618
  let c0_i32_578 : BitVec 32 := 0#32
  let v1620 : BitVec 1 := Scalar.cmpi .slt v46 c0_i32_578
  let v1621 : BitVec 32 := Scalar.extui v1620
  let v1622 : BitVec 32 := Scalar.subi v1619 v1621
  let c2_i32 : BitVec 32 := 2#32
  let c0_i32_579 : BitVec 32 := 0#32
  let v1623 : BitVec 1 := Scalar.cmpi .sgt c2_i32 c0_i32_579
  let v1624 : BitVec 32 := Scalar.extui v1623
  let c0_i32_580 : BitVec 32 := 0#32
  let v1625 : BitVec 1 := Scalar.cmpi .slt c2_i32 c0_i32_580
  let v1626 : BitVec 32 := Scalar.extui v1625
  let v1627 : BitVec 32 := Scalar.subi v1624 v1626
  let v1628 : BitVec 1 := Scalar.cmpi .ne v1622 v1627
  let v1629 : BitVec 32 := Scalar.remsi v46 c2_i32
  let c0_i32_581 : BitVec 32 := 0#32
  let v1630 : BitVec 1 := Scalar.cmpi .ne v1629 c0_i32_581
  let v1631 : BitVec 1 := Scalar.andi v1628 v1630
  let v1617 : BitVec 32 := Scalar.divsi v46 c2_i32
  let c1_i32_582 : BitVec 32 := 1#32
  let v1632 : BitVec 32 := Scalar.subi v1617 c1_i32_582
  let v1633 : BitVec 32 := Scalar.select v1631 v1632 v1617
  let v1850 : BitVec 32 := Scalar.muli c2_i32_679 v1633
  let c1_i32_680 : BitVec 32 := 1#32
  let v1851 : BitVec 32 := Scalar.addi v1850 c1_i32_680
  let v1852 : BitVec 32 := Scalar.minsi v1851 v46
  let c512_i32_681 : BitVec 32 := 512#32
  let v1853 : BitVec 32 := Scalar.muli v1852 c512_i32_681
  let v1854 : BitVec 32 := v1853
  let v1855 : Index := Scalar.indexCast v1854
  let c0_684 : Index := 0#32
  ![0, 0, v1855.toNat, 0]
def k0_mult30 (i : grid0.Coords) : BitVec 32 :=
  let arg2 : BitVec 32 := BitVec.ofNat 32 (i 2).val
  let c256_i32 : BitVec 32 := 256#32
  let v0 : BitVec 32 := Scalar.muli arg2 c256_i32
  let c0_i32_15 : BitVec 32 := 0#32
  let v31 : BitVec 1 := Scalar.cmpi .sgt v0 c0_i32_15
  let v32 : BitVec 32 := Scalar.extui v31
  let c0_i32_16 : BitVec 32 := 0#32
  let v33 : BitVec 1 := Scalar.cmpi .slt v0 c0_i32_16
  let v34 : BitVec 32 := Scalar.extui v33
  let v35 : BitVec 32 := Scalar.subi v32 v34
  let c512_i32_14 : BitVec 32 := 512#32
  let c0_i32_17 : BitVec 32 := 0#32
  let v36 : BitVec 1 := Scalar.cmpi .sgt c512_i32_14 c0_i32_17
  let v37 : BitVec 32 := Scalar.extui v36
  let c0_i32_18 : BitVec 32 := 0#32
  let v38 : BitVec 1 := Scalar.cmpi .slt c512_i32_14 c0_i32_18
  let v39 : BitVec 32 := Scalar.extui v38
  let v40 : BitVec 32 := Scalar.subi v37 v39
  let v41 : BitVec 1 := Scalar.cmpi .ne v35 v40
  let v42 : BitVec 32 := Scalar.remsi v0 c512_i32_14
  let c0_i32_19 : BitVec 32 := 0#32
  let v43 : BitVec 1 := Scalar.cmpi .ne v42 c0_i32_19
  let v44 : BitVec 1 := Scalar.andi v41 v43
  let v30 : BitVec 32 := Scalar.divsi v0 c512_i32_14
  let c1_i32 : BitVec 32 := 1#32
  let v45 : BitVec 32 := Scalar.subi v30 c1_i32
  let v46 : BitVec 32 := Scalar.select v44 v45 v30
  let c0_i32_889 : BitVec 32 := 0#32
  let c2_i32_888 : BitVec 32 := 2#32
  let c0_i32_577 : BitVec 32 := 0#32
  let v1618 : BitVec 1 := Scalar.cmpi .sgt v46 c0_i32_577
  let v1619 : BitVec 32 := Scalar.extui v1618
  let c0_i32_578 : BitVec 32 := 0#32
  let v1620 : BitVec 1 := Scalar.cmpi .slt v46 c0_i32_578
  let v1621 : BitVec 32 := Scalar.extui v1620
  let v1622 : BitVec 32 := Scalar.subi v1619 v1621
  let c2_i32 : BitVec 32 := 2#32
  let c0_i32_579 : BitVec 32 := 0#32
  let v1623 : BitVec 1 := Scalar.cmpi .sgt c2_i32 c0_i32_579
  let v1624 : BitVec 32 := Scalar.extui v1623
  let c0_i32_580 : BitVec 32 := 0#32
  let v1625 : BitVec 1 := Scalar.cmpi .slt c2_i32 c0_i32_580
  let v1626 : BitVec 32 := Scalar.extui v1625
  let v1627 : BitVec 32 := Scalar.subi v1624 v1626
  let v1628 : BitVec 1 := Scalar.cmpi .ne v1622 v1627
  let v1629 : BitVec 32 := Scalar.remsi v46 c2_i32
  let c0_i32_581 : BitVec 32 := 0#32
  let v1630 : BitVec 1 := Scalar.cmpi .ne v1629 c0_i32_581
  let v1631 : BitVec 1 := Scalar.andi v1628 v1630
  let v1617 : BitVec 32 := Scalar.divsi v46 c2_i32
  let c1_i32_582 : BitVec 32 := 1#32
  let v1632 : BitVec 32 := Scalar.subi v1617 c1_i32_582
  let v1633 : BitVec 32 := Scalar.select v1631 v1632 v1617
  let v2293 : BitVec 32 := Scalar.muli c2_i32_888 v1633
  let v2294 : BitVec 32 := Scalar.maxsi c0_i32_889 v2293
  let v2295 : BitVec 32 := Scalar.minsi v46 v2294
  let c512_i32_890 : BitVec 32 := 512#32
  let v2296 : BitVec 32 := Scalar.muli v2295 c512_i32_890
  v2296
def k0_off19 (i : grid0.Coords) : Fin 4 → Nat :=
  let c0_891 : Index := 0#32
  let c0_892 : Index := 0#32
  let c0_893 : Index := 0#32
  let arg2 : BitVec 32 := BitVec.ofNat 32 (i 2).val
  let c256_i32 : BitVec 32 := 256#32
  let v0 : BitVec 32 := Scalar.muli arg2 c256_i32
  let c0_i32_15 : BitVec 32 := 0#32
  let v31 : BitVec 1 := Scalar.cmpi .sgt v0 c0_i32_15
  let v32 : BitVec 32 := Scalar.extui v31
  let c0_i32_16 : BitVec 32 := 0#32
  let v33 : BitVec 1 := Scalar.cmpi .slt v0 c0_i32_16
  let v34 : BitVec 32 := Scalar.extui v33
  let v35 : BitVec 32 := Scalar.subi v32 v34
  let c512_i32_14 : BitVec 32 := 512#32
  let c0_i32_17 : BitVec 32 := 0#32
  let v36 : BitVec 1 := Scalar.cmpi .sgt c512_i32_14 c0_i32_17
  let v37 : BitVec 32 := Scalar.extui v36
  let c0_i32_18 : BitVec 32 := 0#32
  let v38 : BitVec 1 := Scalar.cmpi .slt c512_i32_14 c0_i32_18
  let v39 : BitVec 32 := Scalar.extui v38
  let v40 : BitVec 32 := Scalar.subi v37 v39
  let v41 : BitVec 1 := Scalar.cmpi .ne v35 v40
  let v42 : BitVec 32 := Scalar.remsi v0 c512_i32_14
  let c0_i32_19 : BitVec 32 := 0#32
  let v43 : BitVec 1 := Scalar.cmpi .ne v42 c0_i32_19
  let v44 : BitVec 1 := Scalar.andi v41 v43
  let v30 : BitVec 32 := Scalar.divsi v0 c512_i32_14
  let c1_i32 : BitVec 32 := 1#32
  let v45 : BitVec 32 := Scalar.subi v30 c1_i32
  let v46 : BitVec 32 := Scalar.select v44 v45 v30
  let c0_i32_889 : BitVec 32 := 0#32
  let c2_i32_888 : BitVec 32 := 2#32
  let c0_i32_577 : BitVec 32 := 0#32
  let v1618 : BitVec 1 := Scalar.cmpi .sgt v46 c0_i32_577
  let v1619 : BitVec 32 := Scalar.extui v1618
  let c0_i32_578 : BitVec 32 := 0#32
  let v1620 : BitVec 1 := Scalar.cmpi .slt v46 c0_i32_578
  let v1621 : BitVec 32 := Scalar.extui v1620
  let v1622 : BitVec 32 := Scalar.subi v1619 v1621
  let c2_i32 : BitVec 32 := 2#32
  let c0_i32_579 : BitVec 32 := 0#32
  let v1623 : BitVec 1 := Scalar.cmpi .sgt c2_i32 c0_i32_579
  let v1624 : BitVec 32 := Scalar.extui v1623
  let c0_i32_580 : BitVec 32 := 0#32
  let v1625 : BitVec 1 := Scalar.cmpi .slt c2_i32 c0_i32_580
  let v1626 : BitVec 32 := Scalar.extui v1625
  let v1627 : BitVec 32 := Scalar.subi v1624 v1626
  let v1628 : BitVec 1 := Scalar.cmpi .ne v1622 v1627
  let v1629 : BitVec 32 := Scalar.remsi v46 c2_i32
  let c0_i32_581 : BitVec 32 := 0#32
  let v1630 : BitVec 1 := Scalar.cmpi .ne v1629 c0_i32_581
  let v1631 : BitVec 1 := Scalar.andi v1628 v1630
  let v1617 : BitVec 32 := Scalar.divsi v46 c2_i32
  let c1_i32_582 : BitVec 32 := 1#32
  let v1632 : BitVec 32 := Scalar.subi v1617 c1_i32_582
  let v1633 : BitVec 32 := Scalar.select v1631 v1632 v1617
  let v2293 : BitVec 32 := Scalar.muli c2_i32_888 v1633
  let v2294 : BitVec 32 := Scalar.maxsi c0_i32_889 v2293
  let v2295 : BitVec 32 := Scalar.minsi v46 v2294
  let c512_i32_890 : BitVec 32 := 512#32
  let v2296 : BitVec 32 := Scalar.muli v2295 c512_i32_890
  let v2297 : BitVec 32 := v2296
  let v2298 : Index := Scalar.indexCast v2297
  ![0, 0, 0, v2298.toNat]
def k0_mult31 (i : grid0.Coords) : BitVec 32 :=
  let arg2 : BitVec 32 := BitVec.ofNat 32 (i 2).val
  let c256_i32 : BitVec 32 := 256#32
  let v0 : BitVec 32 := Scalar.muli arg2 c256_i32
  let c0_i32_15 : BitVec 32 := 0#32
  let v31 : BitVec 1 := Scalar.cmpi .sgt v0 c0_i32_15
  let v32 : BitVec 32 := Scalar.extui v31
  let c0_i32_16 : BitVec 32 := 0#32
  let v33 : BitVec 1 := Scalar.cmpi .slt v0 c0_i32_16
  let v34 : BitVec 32 := Scalar.extui v33
  let v35 : BitVec 32 := Scalar.subi v32 v34
  let c512_i32_14 : BitVec 32 := 512#32
  let c0_i32_17 : BitVec 32 := 0#32
  let v36 : BitVec 1 := Scalar.cmpi .sgt c512_i32_14 c0_i32_17
  let v37 : BitVec 32 := Scalar.extui v36
  let c0_i32_18 : BitVec 32 := 0#32
  let v38 : BitVec 1 := Scalar.cmpi .slt c512_i32_14 c0_i32_18
  let v39 : BitVec 32 := Scalar.extui v38
  let v40 : BitVec 32 := Scalar.subi v37 v39
  let v41 : BitVec 1 := Scalar.cmpi .ne v35 v40
  let v42 : BitVec 32 := Scalar.remsi v0 c512_i32_14
  let c0_i32_19 : BitVec 32 := 0#32
  let v43 : BitVec 1 := Scalar.cmpi .ne v42 c0_i32_19
  let v44 : BitVec 1 := Scalar.andi v41 v43
  let v30 : BitVec 32 := Scalar.divsi v0 c512_i32_14
  let c1_i32 : BitVec 32 := 1#32
  let v45 : BitVec 32 := Scalar.subi v30 c1_i32
  let v46 : BitVec 32 := Scalar.select v44 v45 v30
  let c0_i32_1291 : BitVec 32 := 0#32
  let v3216 : BitVec 32 := Scalar.maxsi c0_i32_1291 v46
  let v3217 : BitVec 32 := Scalar.minsi v46 v3216
  let c512_i32_1292 : BitVec 32 := 512#32
  let v3218 : BitVec 32 := Scalar.muli v3217 c512_i32_1292
  v3218
def k0_off20 (i : grid0.Coords) : Fin 4 → Nat :=
  let c0_1293 : Index := 0#32
  let c0_1294 : Index := 0#32
  let c0_1295 : Index := 0#32
  let arg2 : BitVec 32 := BitVec.ofNat 32 (i 2).val
  let c256_i32 : BitVec 32 := 256#32
  let v0 : BitVec 32 := Scalar.muli arg2 c256_i32
  let c0_i32_15 : BitVec 32 := 0#32
  let v31 : BitVec 1 := Scalar.cmpi .sgt v0 c0_i32_15
  let v32 : BitVec 32 := Scalar.extui v31
  let c0_i32_16 : BitVec 32 := 0#32
  let v33 : BitVec 1 := Scalar.cmpi .slt v0 c0_i32_16
  let v34 : BitVec 32 := Scalar.extui v33
  let v35 : BitVec 32 := Scalar.subi v32 v34
  let c512_i32_14 : BitVec 32 := 512#32
  let c0_i32_17 : BitVec 32 := 0#32
  let v36 : BitVec 1 := Scalar.cmpi .sgt c512_i32_14 c0_i32_17
  let v37 : BitVec 32 := Scalar.extui v36
  let c0_i32_18 : BitVec 32 := 0#32
  let v38 : BitVec 1 := Scalar.cmpi .slt c512_i32_14 c0_i32_18
  let v39 : BitVec 32 := Scalar.extui v38
  let v40 : BitVec 32 := Scalar.subi v37 v39
  let v41 : BitVec 1 := Scalar.cmpi .ne v35 v40
  let v42 : BitVec 32 := Scalar.remsi v0 c512_i32_14
  let c0_i32_19 : BitVec 32 := 0#32
  let v43 : BitVec 1 := Scalar.cmpi .ne v42 c0_i32_19
  let v44 : BitVec 1 := Scalar.andi v41 v43
  let v30 : BitVec 32 := Scalar.divsi v0 c512_i32_14
  let c1_i32 : BitVec 32 := 1#32
  let v45 : BitVec 32 := Scalar.subi v30 c1_i32
  let v46 : BitVec 32 := Scalar.select v44 v45 v30
  let c0_i32_1291 : BitVec 32 := 0#32
  let v3216 : BitVec 32 := Scalar.maxsi c0_i32_1291 v46
  let v3217 : BitVec 32 := Scalar.minsi v46 v3216
  let c512_i32_1292 : BitVec 32 := 512#32
  let v3218 : BitVec 32 := Scalar.muli v3217 c512_i32_1292
  let v3219 : BitVec 32 := v3218
  let v3220 : Index := Scalar.indexCast v3219
  ![0, 0, 0, v3220.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat, arg2.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x4x64x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x8192x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x80x8192 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x1x8192x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x1x80x8192 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S256x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]

abbrev stage0_9 : Fin 2 → Memref sig .tc .vmem S1x256x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== KernelIdeal.lean ====
variable {F : FTy → Type} [FloatOps F] [Named F]
def κ : String → Option EReal := fun
  | "mask" => some ⊥
  | "scale" => some (((Real.sqrt 64)⁻¹ * (Real.log 2)⁻¹ : ℝ) : EReal)
  | _ => none
-- ==== Kernel2.lean ====
abbrev S2x8192x1024 : Shape := ⟨3, ![2, 8192, 1024]⟩
abbrev S2x9x1024 : Shape := ⟨3, ![2, 9, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S1x512x1024 : Shape := ⟨3, ![1, 512, 1024]⟩
abbrev S1x9x1024 : Shape := ⟨3, ![1, 9, 1024]⟩
abbrev S512x2816 : Shape := ⟨2, ![512, 2816]⟩
abbrev S1024x256 : Shape := ⟨2, ![1024, 256]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S512x256 : Shape := ⟨2, ![512, 256]⟩

abbrev nBuf : Space → Nat
  | .hbm => 9
  | .vmem => 13
  | .smem => 0
  | _ => 0

abbrev bufTy : (tb : Table) → Fin (tcTables nBuf tb) → BufTy
  | .hbm, ⟨0, _⟩ => ⟨S2x8192x1024, .f32⟩
  | .hbm, ⟨1, _⟩ => ⟨S2x9x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1x1024, .f32⟩
  | .hbm, ⟨7, _⟩ => ⟨S2816x1024, .bf16⟩
  | .hbm, ⟨8, _⟩ => ⟨S2x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1024x2816, .f32⟩
  | .local _ .vmem, ⟨6, _⟩ => ⟨S1024x2816, .f32⟩
  | .local _ .vmem, ⟨7, _⟩ => ⟨S2816x1024, .bf16⟩
  | .local _ .vmem, ⟨8, _⟩ => ⟨S1x512x1024, .f32⟩
  | .local _ .vmem, ⟨9, _⟩ => ⟨S1x512x1024, .f32⟩
  | .local _ .vmem, ⟨10, _⟩ => ⟨S512x2816, .bf16⟩
  | .local _ .vmem, ⟨11, _⟩ => ⟨S1024x2816, .bf16⟩
  | .local _ .vmem, ⟨12, _⟩ => ⟨S1024x2816, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference2Ideal.lean ====
abbrev S2x8192x1024 : Shape := ⟨3, ![2, 8192, 1024]⟩
abbrev S2x9x1024 : Shape := ⟨3, ![2, 9, 1024]⟩
abbrev S1024 : Shape := ⟨1, ![1024]⟩
abbrev S1024x2816 : Shape := ⟨2, ![1024, 2816]⟩
abbrev S2816x1024 : Shape := ⟨2, ![2816, 1024]⟩
abbrev S2x1x1024 : Shape := ⟨3, ![2, 1, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x2816 : Shape := ⟨3, ![2, 8192, 2816]⟩

abbrev nBuf : Space → Nat
  | .hbm => 51
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x9x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S2x1x1024, .f32⟩
  | .hbm, ⟨7, _⟩ => ⟨S2x1x1024, .f32⟩
  | .hbm, ⟨8, _⟩ => ⟨S2x1x1024, .f32⟩
  | .hbm, ⟨9, _⟩ => ⟨S2x8192x1024, .f32⟩
  | .hbm, ⟨10, _⟩ => ⟨S_, .f32⟩
  | .hbm, ⟨11, _⟩ => ⟨S2x8192, .f32⟩
  | .hbm, ⟨12, _⟩ => ⟨S2x8192x1, .f32⟩
  | .hbm, ⟨13, _⟩ => ⟨S_, .f32⟩
  | .hbm, ⟨14, _⟩ => ⟨S2x8192x1, .f32⟩
  | .hbm, ⟨15, _⟩ => ⟨S2x8192x1, .f32⟩
  | .hbm, ⟨16, _⟩ => ⟨S_, .f32⟩
  | .hbm, ⟨17, _⟩ => ⟨S2x8192x1, .f32⟩
  | .hbm, ⟨18, _⟩ => ⟨S2x8192x1, .f32⟩
  | .hbm, ⟨19, _⟩ => ⟨S2x8192x1, .f32⟩
  | .hbm, ⟨20, _⟩ => ⟨S2x8192x1024, .f32⟩
  | .hbm, ⟨21, _⟩ => ⟨S2x8192x1024, .f32⟩
  | .hbm, ⟨22, _⟩ => ⟨S1x1x1024, .f32⟩
  | .hbm, ⟨23, _⟩ => ⟨S2x8192x1024, .f32⟩
  | .hbm, ⟨24, _⟩ => ⟨S2x8192x1024, .f32⟩
  | .hbm, ⟨25, _⟩ => ⟨S_, .f32⟩
  | .hbm, ⟨26, _⟩ => ⟨S2x1x1024, .f32⟩
  | .hbm, ⟨27, _⟩ => ⟨S2x1x1024, .f32⟩
  | .hbm, ⟨28, _⟩ => ⟨S2x8192x1024, .f32⟩
  | .hbm, ⟨29, _⟩ => ⟨S2x8192x1024, .f32⟩
  | .hbm, ⟨30, _⟩ => ⟨S2x8192x1024, .f32⟩
  | .hbm, ⟨31, _⟩ => ⟨S2x8192x1024, .f32⟩
  | .hbm, ⟨32, _⟩ => ⟨S_, .f32⟩
  | .hbm, ⟨33, _⟩ => ⟨S2x1x1024, .f32⟩
  | .hbm, ⟨34, _⟩ => ⟨S2x1x1024, .f32⟩
  | .hbm, ⟨35, _⟩ => ⟨S2x8192x2816, .f32⟩
  | .hbm, ⟨36, _⟩ => ⟨S2x8192x2816, .f32⟩
  | .hbm, ⟨37, _⟩ => ⟨S2x8192x2816, .f32⟩
  | .hbm, ⟨38, _⟩ => ⟨S_, .f32⟩
  | .hbm, ⟨39, _⟩ => ⟨S2x8192x2816, .f32⟩
  | .hbm, ⟨40, _⟩ => ⟨S2x8192x2816, .f32⟩
  | .hbm, ⟨41, _⟩ => ⟨S_, .f32⟩
  | .hbm, ⟨42, _⟩ => ⟨S2x8192x2816, .f32⟩
  | .hbm, ⟨43, _⟩ => ⟨S2x8192x2816, .f32⟩
  | .hbm, ⟨44, _⟩ => ⟨S2x8192x2816, .f32⟩
  | .hbm, ⟨45, _⟩ => ⟨S2x8192x2816, .f32⟩
  | .hbm, ⟨46, _⟩ => ⟨S2x8192x2816, .f32⟩
  | .hbm, ⟨47, _⟩ => ⟨S2x8192x1024, .f32⟩
  | .hbm, ⟨48, _⟩ => ⟨S2x8192x1024, .f32⟩
  | .hbm, ⟨49, _⟩ => ⟨S2x8192x1024, .f32⟩
  | .hbm, ⟨50, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩

abbrev nD : Nat := 1
abbrev τ : Topo := Topo.v7x

variable {F : FTy → Type} [FloatOps F]
-- ==== Kernel3.lean ====
abbrev S2x8192x1024 : Shape := ⟨3, ![2, 8192, 1024]⟩
abbrev S2x8192x512 : Shape := ⟨3, ![2, 8192, 512]⟩
abbrev S2x9x1024 : Shape := ⟨3, ![2, 9, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S1x512x1024 : Shape := ⟨3, ![1, 512, 1024]⟩
abbrev S1x512x512 : Shape := ⟨3, ![1, 512, 512]⟩
abbrev S1x9x1024 : Shape := ⟨3, ![1, 9, 1024]⟩
abbrev S512x2816 : Shape := ⟨2, ![512, 2816]⟩
abbrev S1024x256 : Shape := ⟨2, ![1024, 256]⟩
abbrev S512x512 : Shape := ⟨2, ![512, 512]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S512x256 : Shape := ⟨2, ![512, 256]⟩

abbrev nBuf : Space → Nat
  | .hbm => 17
  | .vmem => 19
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .f32⟩
  | .hbm, ⟨2, _⟩ => ⟨S2x8192x512, .f32⟩
  | .hbm, ⟨3, _⟩ => ⟨S2x9x1024, .f32⟩
  | .hbm, ⟨4, _⟩ => ⟨S1024x1024, .f32⟩
  | .hbm, ⟨5, _⟩ => ⟨S1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S1024, .f32⟩
  | .hbm, ⟨10, _⟩ => ⟨S2x8192x512, .bf16⟩
  | .hbm, ⟨11, _⟩ => ⟨S2x8192x512, .bf16⟩
  | .hbm, ⟨12, _⟩ => ⟨S1024x1024, .bf16⟩
  | .hbm, ⟨13, _⟩ => ⟨S1x1024, .f32⟩
  | .hbm, ⟨14, _⟩ => ⟨S2816x1024, .bf16⟩
  | .hbm, ⟨15, _⟩ => ⟨S1x1024, .f32⟩
  | .hbm, ⟨16, _⟩ => ⟨S2x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x9x1024, .f32⟩
  | .local _ .vmem, ⟨7, _⟩ => ⟨S1x9x1024, .f32⟩
  | .local _ .vmem, ⟨8, _⟩ => ⟨S1024x1024, .bf16⟩
  | .local _ .vmem, ⟨9, _⟩ => ⟨S1x1024, .f32⟩
  | .local _ .vmem, ⟨10, _⟩ => ⟨S1024x2816, .f32⟩
  | .local _ .vmem, ⟨11, _⟩ => ⟨S1024x2816, .f32⟩
  | .local _ .vmem, ⟨12, _⟩ => ⟨S2816x1024, .bf16⟩
  | .local _ .vmem, ⟨13, _⟩ => ⟨S1x1024, .f32⟩
  | .local _ .vmem, ⟨14, _⟩ => ⟨S1x512x1024, .f32⟩
  | .local _ .vmem, ⟨15, _⟩ => ⟨S1x512x1024, .f32⟩
  | .local _ .vmem, ⟨16, _⟩ => ⟨S512x2816, .bf16⟩
  | .local _ .vmem, ⟨17, _⟩ => ⟨S1024x2816, .bf16⟩
  | .local _ .vmem, ⟨18, _⟩ => ⟨S1024x2816, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x9x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x2816 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference3Ideal.lean ====
abbrev S2x8192x1024 : Shape := ⟨3, ![2, 8192, 1024]⟩
abbrev S2x8192x512 : Shape := ⟨3, ![2, 8192, 512]⟩
abbrev S2x9x1024 : Shape := ⟨3, ![2, 9, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S2x1x1024 : Shape := ⟨3, ![2, 1, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x2816 : Shape := ⟨3, ![2, 8192, 2816]⟩

abbrev nBuf : Space → Nat
  | .hbm => 77
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .f32⟩
  | .hbm, ⟨2, _⟩ => ⟨S2x8192x512, .f32⟩
  | .hbm, ⟨3, _⟩ => ⟨S2x9x1024, .f32⟩
  | .hbm, ⟨4, _⟩ => ⟨S1024x1024, .f32⟩
  | .hbm, ⟨5, _⟩ => ⟨S1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S1024, .f32⟩
  | .hbm, ⟨10, _⟩ => ⟨S2x1x1024, .f32⟩
  | .hbm, ⟨11, _⟩ => ⟨S2x1x1024, .f32⟩
  | .hbm, ⟨12, _⟩ => ⟨S2x1x1024, .f32⟩
  | .hbm, ⟨13, _⟩ => ⟨S2x1x1024, .f32⟩
  | .hbm, ⟨14, _⟩ => ⟨S2x8192x1024, .f32⟩
  | .hbm, ⟨15, _⟩ => ⟨S2x8192x1024, .f32⟩
  | .hbm, ⟨16, _⟩ => ⟨S2x8192x1024, .f32⟩
  | .hbm, ⟨17, _⟩ => ⟨S2x8192x1024, .f32⟩
  | .hbm, ⟨18, _⟩ => ⟨S2x8192x1024, .f32⟩
  | .hbm, ⟨19, _⟩ => ⟨S2x8192x1024, .f32⟩
  | .hbm, ⟨20, _⟩ => ⟨S_, .f32⟩
  | .hbm, ⟨21, _⟩ => ⟨S2x8192, .f32⟩
  | .hbm, ⟨22, _⟩ => ⟨S2x8192x1, .f32⟩
  | .hbm, ⟨23, _⟩ => ⟨S_, .f32⟩
  | .hbm, ⟨24, _⟩ => ⟨S2x8192x1, .f32⟩
  | .hbm, ⟨25, _⟩ => ⟨S2x8192x1, .f32⟩
  | .hbm, ⟨26, _⟩ => ⟨S_, .f32⟩
  | .hbm, ⟨27, _⟩ => ⟨S2x8192x1, .f32⟩
  | .hbm, ⟨28, _⟩ => ⟨S2x8192x1, .f32⟩
  | .hbm, ⟨29, _⟩ => ⟨S2x8192x1, .f32⟩
  | .hbm, ⟨30, _⟩ => ⟨S2x8192x1024, .f32⟩
  | .hbm, ⟨31, _⟩ => ⟨S2x8192x1024, .f32⟩
  | .hbm, ⟨32, _⟩ => ⟨S1x1x1024, .f32⟩
  | .hbm, ⟨33, _⟩ => ⟨S2x8192x1024, .f32⟩
  | .hbm, ⟨34, _⟩ => ⟨S2x8192x1024, .f32⟩
  | .hbm, ⟨35, _⟩ => ⟨S_, .f32⟩
  | .hbm, ⟨36, _⟩ => ⟨S2x1x1024, .f32⟩
  | .hbm, ⟨37, _⟩ => ⟨S2x1x1024, .f32⟩
  | .hbm, ⟨38, _⟩ => ⟨S2x8192x1024, .f32⟩
  | .hbm, ⟨39, _⟩ => ⟨S2x8192x1024, .f32⟩
  | .hbm, ⟨40, _⟩ => ⟨S2x8192x1024, .f32⟩
  | .hbm, ⟨41, _⟩ => ⟨S2x8192x1024, .f32⟩
  | .hbm, ⟨42, _⟩ => ⟨S_, .f32⟩
  | .hbm, ⟨43, _⟩ => ⟨S2x1x1024, .f32⟩
  | .hbm, ⟨44, _⟩ => ⟨S2x1x1024, .f32⟩
  | .hbm, ⟨45, _⟩ => ⟨S2x8192x2816, .f32⟩
  | .hbm, ⟨46, _⟩ => ⟨S2x8192x2816, .f32⟩
  | .hbm, ⟨47, _⟩ => ⟨S2x8192x2816, .f32⟩
  | .hbm, ⟨48, _⟩ => ⟨S_, .f32⟩
  | .hbm, ⟨49, _⟩ => ⟨S2x8192x2816, .f32⟩
  | .hbm, ⟨50, _⟩ => ⟨S2x8192x2816, .f32⟩
  | .hbm, ⟨51, _⟩ => ⟨S_, .f32⟩
  | .hbm, ⟨52, _⟩ => ⟨S2x8192x2816, .f32⟩
  | .hbm, ⟨53, _⟩ => ⟨S2x8192x2816, .f32⟩
  | .hbm, ⟨54, _⟩ => ⟨S2x8192x2816, .f32⟩
  | .hbm, ⟨55, _⟩ => ⟨S2x8192x2816, .f32⟩
  | .hbm, ⟨56, _⟩ => ⟨S2x8192x2816, .f32⟩
  | .hbm, ⟨57, _⟩ => ⟨S2x8192x1024, .f32⟩
  | .hbm, ⟨58, _⟩ => ⟨S2x8192x1024, .f32⟩
  | .hbm, ⟨59, _⟩ => ⟨S2x8192x1024, .f32⟩
  | .hbm, ⟨60, _⟩ => ⟨S2x8192x1024, .f32⟩
  | .hbm, ⟨61, _⟩ => ⟨S2x8192x1024, .f32⟩
  | .hbm, ⟨62, _⟩ => ⟨S_, .f32⟩
  | .hbm, ⟨63, _⟩ => ⟨S2x8192, .f32⟩
  | .hbm, ⟨64, _⟩ => ⟨S2x8192x1, .f32⟩
  | .hbm, ⟨65, _⟩ => ⟨S_, .f32⟩
  | .hbm, ⟨66, _⟩ => ⟨S2x8192x1, .f32⟩
  | .hbm, ⟨67, _⟩ => ⟨S2x8192x1, .f32⟩
  | .hbm, ⟨68, _⟩ => ⟨S_, .f32⟩
  | .hbm, ⟨69, _⟩ => ⟨S2x8192x1, .f32⟩
  | .hbm, ⟨70, _⟩ => ⟨S2x8192x1, .f32⟩
  | .hbm, ⟨71, _⟩ => ⟨S2x8192x1, .f32⟩
  | .hbm, ⟨72, _⟩ => ⟨S2x8192x1024, .f32⟩
  | .hbm, ⟨73, _⟩ => ⟨S2x8192x1024, .f32⟩
  | .hbm, ⟨74, _⟩ => ⟨S1x1x1024, .f32⟩
  | .hbm, ⟨75, _⟩ => ⟨S2x8192x1024, .f32⟩
  | .hbm, ⟨76, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_4 : Ref sig .tc := ⟨.hbm, 62, rfl⟩
abbrev main_v39 : Ref sig .tc := ⟨.hbm, 63, rfl⟩
abbrev main_v40 : Ref sig .tc := ⟨.hbm, 64, rfl⟩
abbrev main_cst_5 : Ref sig .tc := ⟨.hbm, 65, rfl⟩
abbrev main_v41 : Ref sig .tc := ⟨.hbm, 66, rfl⟩
abbrev main_v42 : Ref sig .tc := ⟨.hbm, 67, rfl⟩
abbrev main_cst_6 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩

abbrev nD : Nat := 1
abbrev τ : Topo := Topo.v7x

variable {F : FTy → Type} [FloatOps F]
-- ==== Kernel4.lean ====
abbrev S2x8192x1024 : Shape := ⟨3, ![2, 8192, 1024]⟩
abbrev S2x8192x8 : Shape := ⟨3, ![2, 8192, 8]⟩
abbrev S2x9x1024 : Shape := ⟨3, ![2, 9, 1024]⟩
abbrev S1024 : Shape := ⟨1, ![1024]⟩
abbrev S1024x2840 : Shape := ⟨2, ![1024, 2840]⟩
abbrev S3x512 : Shape := ⟨2, ![3, 512]⟩
abbrev S512 : Shape := ⟨1, ![512]⟩
abbrev S1024x12 : Shape := ⟨2, ![1024, 12]⟩
abbrev S_ : Shape := ⟨0, ![]⟩
abbrev S1024x128 : Shape := ⟨2, ![1024, 128]⟩
abbrev S1024x256 : Shape := ⟨2, ![1024, 256]⟩
abbrev S512x512 : Shape := ⟨2, ![512, 512]⟩
abbrev S8192x128 : Shape := ⟨2, ![8192, 128]⟩
abbrev S2x512x128 : Shape := ⟨3, ![2, 512, 128]⟩
abbrev S1x1024 : Shape := ⟨2, ![1, 1024]⟩
abbrev S1x512 : Shape := ⟨2, ![1, 512]⟩
abbrev S2x8192x512 : Shape := ⟨3, ![2, 8192, 512]⟩
abbrev S2x512x8192 : Shape := ⟨3, ![2, 512, 8192]⟩
abbrev S2x8192x128 : Shape := ⟨3, ![2, 8192, 128]⟩
abbrev S2x2x8192x256 : Shape := ⟨4, ![2, 2, 8192, 256]⟩
abbrev S2x2x80x8192 : Shape := ⟨4, ![2, 2, 80, 8192]⟩
abbrev S2x2x8192x64 : Shape := ⟨4, ![2, 2, 8192, 64]⟩
abbrev S2x256x8192 : Shape := ⟨3, ![2, 256, 8192]⟩
abbrev S1x512x1024 : Shape := ⟨3, ![1, 512, 1024]⟩
abbrev S1x32x128 : Shape := ⟨3, ![1, 32, 128]⟩
abbrev S1x9x1024 : Shape := ⟨3, ![1, 9, 1024]⟩
abbrev S512x128 : Shape := ⟨2, ![512, 128]⟩
abbrev S1x512x512 : Shape := ⟨3, ![1, 512, 512]⟩
abbrev S1x512x128 : Shape := ⟨3, ![1, 512, 128]⟩
abbrev S1x2x512x256 : Shape := ⟨4, ![1, 2, 512, 256]⟩
abbrev S1x2x80x512 : Shape := ⟨4, ![1, 2, 80, 512]⟩
abbrev S1x2x512x64 : Shape := ⟨4, ![1, 2, 512, 64]⟩
abbrev S1x256x512 : Shape := ⟨3, ![1, 256, 512]⟩
abbrev S8x512 : Shape := ⟨2, ![8, 512]⟩
abbrev S512x1024 : Shape := ⟨2, ![512, 1024]⟩
abbrev S512x1 : Shape := ⟨2, ![512, 1]⟩
abbrev S1x1x1024 : Shape := ⟨3, ![1, 1, 1024]⟩
abbrev S32x128 : Shape := ⟨2, ![32, 128]⟩
abbrev S32x1x128 : Shape := ⟨3, ![32, 1, 128]⟩
abbrev S32x16x128 : Shape := ⟨3, ![32, 16, 128]⟩
abbrev S512x128x1 : Shape := ⟨3, ![512, 128, 1]⟩
abbrev S1024x512 : Shape := ⟨2, ![1024, 512]⟩
abbrev S512x256 : Shape := ⟨2, ![512, 256]⟩
abbrev S128x512 : Shape := ⟨2, ![128, 512]⟩
abbrev S512x64 : Shape := ⟨2, ![512, 64]⟩
abbrev S16x512 : Shape := ⟨2, ![16, 512]⟩
abbrev S1x1x512x256 : Shape := ⟨4, ![1, 1, 512, 256]⟩
abbrev S1x1x512x64 : Shape := ⟨4, ![1, 1, 512, 64]⟩
abbrev S64x512 : Shape := ⟨2, ![64, 512]⟩
abbrev S80x512 : Shape := ⟨2, ![80, 512]⟩
abbrev S1x1x80x512 : Shape := ⟨4, ![1, 1, 80, 512]⟩
abbrev S256x512 : Shape := ⟨2, ![256, 512]⟩

abbrev nBuf : Space → Nat
  | .hbm => 99
  | .vmem => 35
  | .smem => 0
  | _ => 0

abbrev bufTy : (tb : Table) → Fin (tcTables nBuf tb) → BufTy
  | .hbm, ⟨0, _⟩ => ⟨S2x8192x1024, .f32⟩
  | .hbm, ⟨1, _⟩ => ⟨S2x8192x8, .f32⟩
  | .hbm, ⟨2, _⟩ => ⟨S2x8192x8, .f32⟩
  | .hbm, ⟨3, _⟩ => ⟨S2x9x1024, .f32⟩
  | .hbm, ⟨4, _⟩ => ⟨S1024, .f32⟩
  | .hbm, ⟨5, _⟩ => ⟨S1024x2840, .f32⟩
  | .hbm, ⟨6, _⟩ => ⟨S3x512, .f32⟩
  | .hbm, ⟨7, _⟩ => ⟨S512, .f32⟩
  | .hbm, ⟨8, _⟩ => ⟨S1024x12, .f32⟩
  | .hbm, ⟨9, _⟩ => ⟨S_, .i32⟩
  | .hbm, ⟨10, _⟩ => ⟨S_, .f32⟩
  | .hbm, ⟨11, _⟩ => ⟨S1024x128, .f32⟩
  | .hbm, ⟨12, _⟩ => ⟨S1024x12, .f32⟩
  | .hbm, ⟨13, _⟩ => ⟨S_, .i32⟩
  | .hbm, ⟨14, _⟩ => ⟨S_, .f32⟩
  | .hbm, ⟨15, _⟩ => ⟨S1024x128, .f32⟩
  | .hbm, ⟨16, _⟩ => ⟨S1024x256, .f32⟩
  | .hbm, ⟨17, _⟩ => ⟨S1024x256, .bf16⟩
  | .hbm, ⟨18, _⟩ => ⟨S512x512, .i32⟩
  | .hbm, ⟨19, _⟩ => ⟨S_, .i32⟩
  | .hbm, ⟨20, _⟩ => ⟨S_, .i32⟩
  | .hbm, ⟨21, _⟩ => ⟨S512x512, .i32⟩
  | .hbm, ⟨22, _⟩ => ⟨S512x512, .i32⟩
  | .hbm, ⟨23, _⟩ => ⟨S512x512, .i32⟩
  | .hbm, ⟨24, _⟩ => ⟨S_, .i32⟩
  | .hbm, ⟨25, _⟩ => ⟨S512x512, .i32⟩
  | .hbm, ⟨26, _⟩ => ⟨S512x512, .i1⟩
  | .hbm, ⟨27, _⟩ => ⟨S512x512, .i32⟩
  | .hbm, ⟨28, _⟩ => ⟨S512x512, .i32⟩
  | .hbm, ⟨29, _⟩ => ⟨S_, .i32⟩
  | .hbm, ⟨30, _⟩ => ⟨S512x512, .i32⟩
  | .hbm, ⟨31, _⟩ => ⟨S512x512, .i1⟩
  | .hbm, ⟨32, _⟩ => ⟨S512x512, .i1⟩
  | .hbm, ⟨33, _⟩ => ⟨S_, .i32⟩
  | .hbm, ⟨34, _⟩ => ⟨S512x512, .i32⟩
  | .hbm, ⟨35, _⟩ => ⟨S512x512, .i32⟩
  | .hbm, ⟨36, _⟩ => ⟨S512x512, .i32⟩
  | .hbm, ⟨37, _⟩ => ⟨S512x512, .i32⟩
  | .hbm, ⟨38, _⟩ => ⟨S_, .i32⟩
  | .hbm, ⟨39, _⟩ => ⟨S_, .i32⟩
  | .hbm, ⟨40, _⟩ => ⟨S512x512, .i32⟩
  | .hbm, ⟨41, _⟩ => ⟨S512x512, .i32⟩
  | .hbm, ⟨42, _⟩ => ⟨S512x512, .i32⟩
  | .hbm, ⟨43, _⟩ => ⟨S_, .i32⟩
  | .hbm, ⟨44, _⟩ => ⟨S512x512, .i32⟩
  | .hbm, ⟨45, _⟩ => ⟨S512x512, .i1⟩
  | .hbm, ⟨46, _⟩ => ⟨S512x512, .i32⟩
  | .hbm, ⟨47, _⟩ => ⟨S512x512, .i32⟩
  | .hbm, ⟨48, _⟩ => ⟨S_, .i32⟩
  | .hbm, ⟨49, _⟩ => ⟨S512x512, .i32⟩
  | .hbm, ⟨50, _⟩ => ⟨S512x512, .i1⟩
  | .hbm, ⟨51, _⟩ => ⟨S512x512, .i1⟩
  | .hbm, ⟨52, _⟩ => ⟨S_, .i32⟩
  | .hbm, ⟨53, _⟩ => ⟨S512x512, .i32⟩
  | .hbm, ⟨54, _⟩ => ⟨S512x512, .i32⟩
  | .hbm, ⟨55, _⟩ => ⟨S512x512, .i32⟩
  | .hbm, ⟨56, _⟩ => ⟨S512x512, .i1⟩
  | .hbm, ⟨57, _⟩ => ⟨S512x512, .f32⟩
  | .hbm, ⟨58, _⟩ => ⟨S_, .f32⟩
  | .hbm, ⟨59, _⟩ => ⟨S512x512, .f32⟩
  | .hbm, ⟨60, _⟩ => ⟨S512x512, .f32⟩
  | .hbm, ⟨61, _⟩ => ⟨S512x512, .bf16⟩
  | .hbm, ⟨62, _⟩ => ⟨S8192x128, .i32⟩
  | .hbm, ⟨63, _⟩ => ⟨S_, .i32⟩
  | .hbm, ⟨64, _⟩ => ⟨S_, .i32⟩
  | .hbm, ⟨65, _⟩ => ⟨S8192x128, .i32⟩
  | .hbm, ⟨66, _⟩ => ⟨S8192x128, .i32⟩
  | .hbm, ⟨67, _⟩ => ⟨S8192x128, .i32⟩
  | .hbm, ⟨68, _⟩ => ⟨S_, .i32⟩
  | .hbm, ⟨69, _⟩ => ⟨S8192x128, .i32⟩
  | .hbm, ⟨70, _⟩ => ⟨S8192x128, .i1⟩
  | .hbm, ⟨71, _⟩ => ⟨S8192x128, .i32⟩
  | .hbm, ⟨72, _⟩ => ⟨S8192x128, .i32⟩
  | .hbm, ⟨73, _⟩ => ⟨S_, .i32⟩
  | .hbm, ⟨74, _⟩ => ⟨S8192x128, .i32⟩
  | .hbm, ⟨75, _⟩ => ⟨S8192x128, .i1⟩
  | .hbm, ⟨76, _⟩ => ⟨S8192x128, .i1⟩
  | .hbm, ⟨77, _⟩ => ⟨S_, .i32⟩
  | .hbm, ⟨78, _⟩ => ⟨S8192x128, .i32⟩
  | .hbm, ⟨79, _⟩ => ⟨S8192x128, .i32⟩
  | .hbm, ⟨80, _⟩ => ⟨S8192x128, .i32⟩
  | .hbm, ⟨81, _⟩ => ⟨S8192x128, .i32⟩
  | .hbm, ⟨82, _⟩ => ⟨S8192x128, .i1⟩
  | .hbm, ⟨83, _⟩ => ⟨S8192x128, .f32⟩
  | .hbm, ⟨84, _⟩ => ⟨S8192x128, .bf16⟩
  | .hbm, ⟨85, _⟩ => ⟨S2x512x128, .f32⟩
  | .hbm, ⟨86, _⟩ => ⟨S2x512x128, .f32⟩
  | .hbm, ⟨87, _⟩ => ⟨S1x1024, .f32⟩
  | .hbm, ⟨88, _⟩ => ⟨S1024x2840, .bf16⟩
  | .hbm, ⟨89, _⟩ => ⟨S1x512, .f32⟩
  | .hbm, ⟨90, _⟩ => ⟨S2x8192x512, .bf16⟩
  | .hbm, ⟨91, _⟩ => ⟨S2x512x8192, .bf16⟩
  | .hbm, ⟨92, _⟩ => ⟨S2x8192x128, .f32⟩
  | .hbm, ⟨93, _⟩ => ⟨S2x8192x128, .f32⟩
  | .hbm, ⟨94, _⟩ => ⟨S2x2x8192x256, .bf16⟩
  | .hbm, ⟨95, _⟩ => ⟨S2x2x80x8192, .bf16⟩
  | .hbm, ⟨96, _⟩ => ⟨S2x2x8192x64, .bf16⟩
  | .hbm, ⟨97, _⟩ => ⟨S2x2x80x8192, .bf16⟩
  | .hbm, ⟨98, _⟩ => ⟨S2x256x8192, .f32⟩
  | .local _ .vmem, ⟨0, _⟩ => ⟨S1x512x1024, .f32⟩
  | .local _ .vmem, ⟨1, _⟩ => ⟨S1x512x1024, .f32⟩
  | .local _ .vmem, ⟨2, _⟩ => ⟨S1x32x128, .f32⟩
  | .local _ .vmem, ⟨3, _⟩ => ⟨S1x32x128, .f32⟩
  | .local _ .vmem, ⟨4, _⟩ => ⟨S1x32x128, .f32⟩
  | .local _ .vmem, ⟨5, _⟩ => ⟨S1x32x128, .f32⟩
  | .local _ .vmem, ⟨6, _⟩ => ⟨S1x9x1024, .f32⟩
  | .local _ .vmem, ⟨7, _⟩ => ⟨S1x9x1024, .f32⟩
  | .local _ .vmem, ⟨8, _⟩ => ⟨S1x1024, .f32⟩
  | .local _ .vmem, ⟨9, _⟩ => ⟨S1024x2840, .bf16⟩
  | .local _ .vmem, ⟨10, _⟩ => ⟨S1024x256, .bf16⟩
  | .local _ .vmem, ⟨11, _⟩ => ⟨S3x512, .f32⟩
  | .local _ .vmem, ⟨12, _⟩ => ⟨S1x512, .f32⟩
  | .local _ .vmem, ⟨13, _⟩ => ⟨S512x512, .bf16⟩
  | .local _ .vmem, ⟨14, _⟩ => ⟨S512x128, .bf16⟩
  | .local _ .vmem, ⟨15, _⟩ => ⟨S512x128, .bf16⟩
  | .local _ .vmem, ⟨16, _⟩ => ⟨S1x512x512, .bf16⟩
  | .local _ .vmem, ⟨17, _⟩ => ⟨S1x512x512, .bf16⟩
  | .local _ .vmem, ⟨18, _⟩ => ⟨S1x512x512, .bf16⟩
  | .local _ .vmem, ⟨19, _⟩ => ⟨S1x512x512, .bf16⟩
  | .local _ .vmem, ⟨20, _⟩ => ⟨S1x512x128, .f32⟩
  | .local _ .vmem, ⟨21, _⟩ => ⟨S1x512x128, .f32⟩
  | .local _ .vmem, ⟨22, _⟩ => ⟨S1x512x128, .f32⟩
  | .local _ .vmem, ⟨23, _⟩ => ⟨S1x512x128, .f32⟩
  | .local _ .vmem, ⟨24, _⟩ => ⟨S1x2x512x256, .bf16⟩
  | .local _ .vmem, ⟨25, _⟩ => ⟨S1x2x512x256, .bf16⟩
  | .local _ .vmem, ⟨26, _⟩ => ⟨S1x2x80x512, .bf16⟩
  | .local _ .vmem, ⟨27, _⟩ => ⟨S1x2x80x512, .bf16⟩
  | .local _ .vmem, ⟨28, _⟩ => ⟨S1x2x512x64, .bf16⟩
  | .local _ .vmem, ⟨29, _⟩ => ⟨S1x2x512x64, .bf16⟩
  | .local _ .vmem, ⟨30, _⟩ => ⟨S1x2x80x512, .bf16⟩
  | .local _ .vmem, ⟨31, _⟩ => ⟨S1x2x80x512, .bf16⟩
  | .local _ .vmem, ⟨32, _⟩ => ⟨S1x256x512, .f32⟩
  | .local _ .vmem, ⟨33, _⟩ => ⟨S1x256x512, .f32⟩
  | .local _ .vmem, ⟨34, _⟩ => ⟨S8x512, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_call1_v0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_call2_v0 : Ref sig .tc := ⟨.hbm, 20, rfl⟩
abbrev main_call2_v1 : Ref sig .tc := ⟨.hbm, 21, rfl⟩
abbrev main_call2_v2 : Ref sig .tc := ⟨.hbm, 22, rfl⟩
abbrev main_call2_v3 : Ref sig .tc := ⟨.hbm, 23, rfl⟩
abbrev main_call2_v4 : Ref sig .tc := ⟨.hbm, 24, rfl⟩
abbrev main_call2_v5 : Ref sig .tc := ⟨.hbm, 25, rfl⟩
abbrev main_call2_v6 : Ref sig .tc := ⟨.hbm, 26, rfl⟩
abbrev main_call2_v7 : Ref sig .tc := ⟨.hbm, 27, rfl⟩
abbrev main_call2_v8 : Ref sig .tc := ⟨.hbm, 28, rfl⟩
abbrev main_call2_c : Ref sig .tc := ⟨.hbm, 29, rfl⟩
abbrev main_call2_v9 : Ref sig .tc := ⟨.hbm, 30, rfl⟩
abbrev main_call2_v10 : Ref sig .tc := ⟨.hbm, 31, rfl⟩
abbrev main_call2_v11 : Ref sig .tc := ⟨.hbm, 32, rfl⟩
abbrev main_call2_c_0 : Ref sig .tc := ⟨.hbm, 33, rfl⟩
abbrev main_call2_v12 : Ref sig .tc := ⟨.hbm, 34, rfl⟩
abbrev main_call2_v13 : Ref sig .tc := ⟨.hbm, 35, rfl⟩
abbrev main_v7 : Ref sig .tc := ⟨.hbm, 36, rfl⟩
abbrev main_v8 : Ref sig .tc := ⟨.hbm, 37, rfl⟩
abbrev main_c_2 : Ref sig .tc := ⟨.hbm, 38, rfl⟩
abbrev main_call3_v0 : Ref sig .tc := ⟨.hbm, 39, rfl⟩
abbrev main_call3_v1 : Ref sig .tc := ⟨.hbm, 40, rfl⟩
abbrev main_call3_v2 : Ref sig .tc := ⟨.hbm, 41, rfl⟩
abbrev main_call3_v3 : Ref sig .tc := ⟨.hbm, 42, rfl⟩
abbrev main_call3_v4 : Ref sig .tc := ⟨.hbm, 43, rfl⟩
abbrev main_call3_v5 : Ref sig .tc := ⟨.hbm, 44, rfl⟩
abbrev main_call3_v6 : Ref sig .tc := ⟨.hbm, 45, rfl⟩
abbrev main_call3_v7 : Ref sig .tc := ⟨.hbm, 46, rfl⟩
abbrev main_call3_v8 : Ref sig .tc := ⟨.hbm, 47, rfl⟩
abbrev main_call3_c : Ref sig .tc := ⟨.hbm, 48, rfl⟩
abbrev main_call3_v9 : Ref sig .tc := ⟨.hbm, 49, rfl⟩
abbrev main_call3_v10 : Ref sig .tc := ⟨.hbm, 50, rfl⟩
abbrev main_call3_v11 : Ref sig .tc := ⟨.hbm, 51, rfl⟩
abbrev main_call3_c_0 : Ref sig .tc := ⟨.hbm, 52, rfl⟩
abbrev main_call3_v12 : Ref sig .tc := ⟨.hbm, 53, rfl⟩
abbrev main_call3_v13 : Ref sig .tc := ⟨.hbm, 54, rfl⟩
abbrev main_v9 : Ref sig .tc := ⟨.hbm, 55, rfl⟩
abbrev main_v10 : Ref sig .tc := ⟨.hbm, 56, rfl⟩
abbrev main_v11 : Ref sig .tc := ⟨.hbm, 57, rfl⟩
abbrev main_cst : Ref sig .tc := ⟨.hbm, 58, rfl⟩
abbrev main_v12 : Ref sig .tc := ⟨.hbm, 59, rfl⟩
abbrev main_v13 : Ref sig .tc := ⟨.hbm, 60, rfl⟩
abbrev main_v14 : Ref sig .tc := ⟨.hbm, 61, rfl⟩
abbrev main_v15 : Ref sig .tc := ⟨.hbm, 62, rfl⟩
abbrev main_c_3 : Ref sig .tc := ⟨.hbm, 63, rfl⟩
abbrev main_call4_v0 : Ref sig .tc := ⟨.hbm, 64, rfl⟩
abbrev main_call4_v1 : Ref sig .tc := ⟨.hbm, 65, rfl⟩
abbrev main_call4_v2 : Ref sig .tc := ⟨.hbm, 66, rfl⟩
abbrev main_call4_v3 : Ref sig .tc := ⟨.hbm, 67, rfl⟩
abbrev main_call4_v4 : Ref sig .tc := ⟨.hbm, 68, rfl⟩
abbrev main_call4_v5 : Ref sig .tc := ⟨.hbm, 69, rfl⟩
abbrev main_call4_v6 : Ref sig .tc := ⟨.hbm, 70, rfl⟩
abbrev main_call4_v7 : Ref sig .tc := ⟨.hbm, 71, rfl⟩
abbrev main_call4_v8 : Ref sig .tc := ⟨.hbm, 72, rfl⟩
abbrev main_call4_c : Ref sig .tc := ⟨.hbm, 73, rfl⟩
abbrev main_call4_v9 : Ref sig .tc := ⟨.hbm, 74, rfl⟩
abbrev main_call4_v10 : Ref sig .tc := ⟨.hbm, 75, rfl⟩
abbrev main_call4_v11 : Ref sig .tc := ⟨.hbm, 76, rfl⟩
abbrev main_call4_c_0 : Ref sig .tc := ⟨.hbm, 77, rfl⟩
abbrev main_call4_v12 : Ref sig .tc := ⟨.hbm, 78, rfl⟩
abbrev main_call4_v13 : Ref sig .tc := ⟨.hbm, 79, rfl⟩
abbrev main_v16 : Ref sig .tc := ⟨.hbm, 80, rfl⟩
abbrev main_v17 : Ref sig .tc := ⟨.hbm, 81, rfl⟩
abbrev main_v18 : Ref sig .tc := ⟨.hbm, 82, rfl⟩
abbrev main_v19 : Ref sig .tc := ⟨.hbm, 83, rfl⟩
abbrev main_v20 : Ref sig .tc := ⟨.hbm, 84, rfl⟩
abbrev main_v21 : Ref sig .tc := ⟨.hbm, 85, rfl⟩
abbrev main_v22 : Ref sig .tc := ⟨.hbm, 86, rfl⟩
abbrev main_v23 : Ref sig .tc := ⟨.hbm, 87, rfl⟩
abbrev main_v24 : Ref sig .tc := ⟨.hbm, 88, rfl⟩
abbrev main_v25 : Ref sig .tc := ⟨.hbm, 89, rfl⟩
abbrev main_v26_0 : Ref sig .tc := ⟨.hbm, 90, rfl⟩
abbrev main_v26_1 : Ref sig .tc := ⟨.hbm, 91, rfl⟩
abbrev main_v26_2 : Ref sig .tc := ⟨.hbm, 92, rfl⟩
abbrev main_v26_3 : Ref sig .tc := ⟨.hbm, 93, rfl⟩
abbrev main_v26_4 : Ref sig .tc := ⟨.hbm, 94, rfl⟩
abbrev main_v26_5 : Ref sig .tc := ⟨.hbm, 95, rfl⟩
abbrev main_v26_6 : Ref sig .tc := ⟨.hbm, 96, rfl⟩
abbrev main_v26_7 : Ref sig .tc := ⟨.hbm, 97, rfl⟩
abbrev main_v26_8 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_scratch0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_18 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x9x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2840 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S3x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x2x512x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x2x80x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x2x512x64 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x2x80x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x256x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== Kernel4Ideal.lean ====
variable {F : FTy → Type} [FloatOps F] [Named F]
def κ : String → Option EReal := fun
  | "scale" => some (((Real.sqrt 64)⁻¹ * (Real.log 2)⁻¹ : ℝ) : EReal)
  | _ => none
-- ==== Reference4Ideal.lean ====
abbrev S2x8192x1024 : Shape := ⟨3, ![2, 8192, 1024]⟩
abbrev S2x8192x8 : Shape := ⟨3, ![2, 8192, 8]⟩
abbrev S2x9x1024 : Shape := ⟨3, ![2, 9, 1024]⟩
abbrev S1024 : Shape := ⟨1, ![1024]⟩
abbrev S1024x2840 : Shape := ⟨2, ![1024, 2840]⟩
abbrev S3x512 : Shape := ⟨2, ![3, 512]⟩
abbrev S512 : Shape := ⟨1, ![512]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x1x1024 : Shape := ⟨3, ![2, 1, 1024]⟩
abbrev S2x8192x2840 : Shape := ⟨3, ![2, 8192, 2840]⟩
abbrev S2x8192x512 : Shape := ⟨3, ![2, 8192, 512]⟩
abbrev S2x8192x128 : Shape := ⟨3, ![2, 8192, 128]⟩
abbrev S2x8192x24 : Shape := ⟨3, ![2, 8192, 24]⟩
abbrev S2x8194x512 : Shape := ⟨3, ![2, 8194, 512]⟩
abbrev S1x512 : Shape := ⟨2, ![1, 512]⟩
abbrev S1x1x512 : Shape := ⟨3, ![1, 1, 512]⟩
abbrev S2x8192x8x64 : Shape := ⟨4, ![2, 8192, 8, 64]⟩
abbrev S2x8192x8x1 : Shape := ⟨4, ![2, 8192, 8, 1]⟩
abbrev S2x8192x8x8 : Shape := ⟨4, ![2, 8192, 8, 8]⟩
abbrev S2x8192x8x48 : Shape := ⟨4, ![2, 8192, 8, 48]⟩
abbrev S2x8192x1x8 : Shape := ⟨4, ![2, 8192, 1, 8]⟩
abbrev S2x8x64x8192 : Shape := ⟨4, ![2, 8, 64, 8192]⟩
abbrev S2x512x8192 : Shape := ⟨3, ![2, 512, 8192]⟩
abbrev S2x2x8192x128 : Shape := ⟨4, ![2, 2, 8192, 128]⟩
abbrev S2x8192x2x64 : Shape := ⟨4, ![2, 8192, 2, 64]⟩
abbrev S2x8192x2x8 : Shape := ⟨4, ![2, 8192, 2, 8]⟩
abbrev S2x8192x2x48 : Shape := ⟨4, ![2, 8192, 2, 48]⟩
abbrev S2x2x8192x64 : Shape := ⟨4, ![2, 2, 8192, 64]⟩
abbrev S2x2x8192x256 : Shape := ⟨4, ![2, 2, 8192, 256]⟩
abbrev S2x8192x2x12 : Shape := ⟨4, ![2, 8192, 2, 12]⟩
abbrev S2x2x12x8192 : Shape := ⟨4, ![2, 2, 12, 8192]⟩
abbrev S2x2x128x8192 : Shape := ⟨4, ![2, 2, 128, 8192]⟩
abbrev S2x2x64x8192 : Shape := ⟨4, ![2, 2, 64, 8192]⟩
abbrev S2x2x16x8192 : Shape := ⟨4, ![2, 2, 16, 8192]⟩
abbrev S2x2x80x8192 : Shape := ⟨4, ![2, 2, 80, 8192]⟩
abbrev S2x256x8192 : Shape := ⟨3, ![2, 256, 8192]⟩

abbrev nBuf : Space → Nat
  | .hbm => 229
  | .vmem => 0
  | .smem => 0
  | _ => 0

abbrev hbmTy0_0 (i : Nat) : BufTy := match i % 128 with
  | 0 => ⟨S2x8192x1024, .f32⟩
  | 1 => ⟨S2x8192x8, .f32⟩
  | 2 => ⟨S2x8192x8, .f32⟩
  | 3 => ⟨S2x9x1024, .f32⟩
  | 4 => ⟨S1024, .f32⟩
  | 5 => ⟨S1024x2840, .f32⟩
  | 6 => ⟨S3x512, .f32⟩
  | 7 => ⟨S512, .f32⟩
  | 8 => ⟨S2x8192x1024, .f32⟩
  | 9 => ⟨S_, .f32⟩
  | 10 => ⟨S2x8192, .f32⟩
  | 11 => ⟨S2x8192x1, .f32⟩
  | 12 => ⟨S_, .f32⟩
  | 13 => ⟨S2x8192x1, .f32⟩
  | 14 => ⟨S2x8192x1, .f32⟩
  | 15 => ⟨S_, .f32⟩
  | 16 => ⟨S2x8192x1, .f32⟩
  | 17 => ⟨S2x8192x1, .f32⟩
  | 18 => ⟨S2x8192x1, .f32⟩
  | 19 => ⟨S2x8192x1024, .f32⟩
  | 20 => ⟨S2x8192x1024, .f32⟩
  | 21 => ⟨S1x1x1024, .f32⟩
  | 22 => ⟨S2x8192x1024, .f32⟩
  | 23 => ⟨S2x8192x1024, .f32⟩
  | 24 => ⟨S2x1x1024, .f32⟩
  | 25 => ⟨S_, .f32⟩
  | 26 => ⟨S2x1x1024, .f32⟩
  | 27 => ⟨S2x1x1024, .f32⟩
  | 28 => ⟨S2x8192x1024, .f32⟩
  | 29 => ⟨S2x8192x1024, .f32⟩
  | 30 => ⟨S2x1x1024, .f32⟩
  | 31 => ⟨S2x8192x1024, .f32⟩
  | 32 => ⟨S2x8192x1024, .f32⟩
  | 33 => ⟨S2x8192x2840, .f32⟩
  | 34 => ⟨S2x8192x512, .f32⟩
  | 35 => ⟨S2x8192x512, .f32⟩
  | 36 => ⟨S2x8192x512, .f32⟩
  | 37 => ⟨S2x8192x512, .f32⟩
  | 38 => ⟨S2x8192x128, .f32⟩
  | 39 => ⟨S2x8192x128, .f32⟩
  | 40 => ⟨S2x8192x128, .f32⟩
  | 41 => ⟨S2x8192x128, .f32⟩
  | 42 => ⟨S2x8192x128, .f32⟩
  | 43 => ⟨S2x8192x128, .f32⟩
  | 44 => ⟨S2x8192x24, .f32⟩
  | 45 => ⟨S2x8192x512, .f32⟩
  | 46 => ⟨S_, .i32⟩
  | 47 => ⟨S_, .f32⟩
  | 48 => ⟨S2x8194x512, .f32⟩
  | 49 => ⟨S1x512, .f32⟩
  | 50 => ⟨S512, .f32⟩
  | 51 => ⟨S2x8192x512, .f32⟩
  | 52 => ⟨S1x1x512, .f32⟩
  | 53 => ⟨S2x8192x512, .f32⟩
  | 54 => ⟨S2x8192x512, .f32⟩
  | 55 => ⟨S1x512, .f32⟩
  | 56 => ⟨S512, .f32⟩
  | 57 => ⟨S2x8192x512, .f32⟩
  | 58 => ⟨S1x1x512, .f32⟩
  | 59 => ⟨S2x8192x512, .f32⟩
  | 60 => ⟨S2x8192x512, .f32⟩
  | 61 => ⟨S2x8192x512, .f32⟩
  | 62 => ⟨S1x512, .f32⟩
  | 63 => ⟨S512, .f32⟩
  | 64 => ⟨S2x8192x512, .f32⟩
  | 65 => ⟨S1x1x512, .f32⟩
  | 66 => ⟨S2x8192x512, .f32⟩
  | 67 => ⟨S2x8192x512, .f32⟩
  | 68 => ⟨S2x8192x512, .f32⟩
  | 69 => ⟨S2x8192x512, .f32⟩
  | 70 => ⟨S2x8192x8x64, .f32⟩
  | 71 => ⟨S2x8192x8x64, .f32⟩
  | 72 => ⟨S_, .f32⟩
  | 73 => ⟨S2x8192x8, .f32⟩
  | 74 => ⟨S2x8192x8x1, .f32⟩
  | 75 => ⟨S_, .f32⟩
  | 76 => ⟨S2x8192x8x1, .f32⟩
  | 77 => ⟨S2x8192x8x1, .f32⟩
  | 78 => ⟨S_, .f32⟩
  | 79 => ⟨S2x8192x8x1, .f32⟩
  | 80 => ⟨S2x8192x8x1, .f32⟩
  | 81 => ⟨S2x8192x8x1, .f32⟩
  | 82 => ⟨S2x8192x8x64, .f32⟩
  | 83 => ⟨S2x8192x8x64, .f32⟩
  | 84 => ⟨S2x8192x512, .f32⟩
  | 85 => ⟨S1x1x512, .f32⟩
  | 86 => ⟨S2x8192x512, .f32⟩
  | 87 => ⟨S2x8192x512, .f32⟩
  | 88 => ⟨S2x8192x8x64, .f32⟩
  | 89 => ⟨S2x8192x8x8, .f32⟩
  | 90 => ⟨S2x8192x8x8, .f32⟩
  | 91 => ⟨S2x8192x8x48, .f32⟩
  | 92 => ⟨S2x8192x1x8, .f32⟩
  | 93 => ⟨S2x8192x1x8, .f32⟩
  | 94 => ⟨S2x8192x8x8, .f32⟩
  | 95 => ⟨S2x8192x8x8, .f32⟩
  | 96 => ⟨S2x8192x8x8, .f32⟩
  | 97 => ⟨S2x8192x8x8, .f32⟩
  | 98 => ⟨S2x8192x8x8, .f32⟩
  | 99 => ⟨S2x8192x8x8, .f32⟩
  | 100 => ⟨S2x8192x8x8, .f32⟩
  | 101 => ⟨S2x8192x8x8, .f32⟩
  | 102 => ⟨S2x8192x8x8, .f32⟩
  | 103 => ⟨S2x8192x8x8, .f32⟩
  | 104 => ⟨S2x8192x8x64, .f32⟩
  | 105 => ⟨S_, .f32⟩
  | 106 => ⟨S2x8192x8x64, .f32⟩
  | 107 => ⟨S2x8192x8x64, .f32⟩
  | 108 => ⟨S_, .f32⟩
  | 109 => ⟨S_, .f32⟩
  | 110 => ⟨S_, .f32⟩
  | 111 => ⟨S2x8192x8x64, .f32⟩
  | 112 => ⟨S2x8192x8x64, .f32⟩
  | 113 => ⟨S2x8x64x8192, .f32⟩
  | 114 => ⟨S2x512x8192, .f32⟩
  | 115 => ⟨S2x2x8192x128, .i32⟩
  | 116 => ⟨S_, .i32⟩
  | 117 => ⟨S_, .i32⟩
  | 118 => ⟨S2x2x8192x128, .i32⟩
  | 119 => ⟨S2x2x8192x128, .i32⟩
  | 120 => ⟨S2x2x8192x128, .i32⟩
  | 121 => ⟨S_, .i32⟩
  | 122 => ⟨S2x2x8192x128, .i32⟩
  | 123 => ⟨S2x2x8192x128, .i1⟩
  | 124 => ⟨S2x2x8192x128, .i32⟩
  | 125 => ⟨S2x2x8192x128, .i32⟩
  | 126 => ⟨S_, .i32⟩
  | 127 => ⟨S2x2x8192x128, .i32⟩
  | _ => ⟨S2x8192x1024, .f32⟩

abbrev hbmTy0_1 (i : Nat) : BufTy := match i % 128 with
  | 0 => ⟨S2x2x8192x128, .i1⟩
  | 1 => ⟨S2x2x8192x128, .i1⟩
  | 2 => ⟨S_, .i32⟩
  | 3 => ⟨S2x2x8192x128, .i32⟩
  | 4 => ⟨S2x2x8192x128, .i32⟩
  | 5 => ⟨S2x2x8192x128, .i32⟩
  | 6 => ⟨S2x2x8192x128, .i32⟩
  | 7 => ⟨S2x2x8192x128, .i1⟩
  | 8 => ⟨S_, .f32⟩
  | 9 => ⟨S_, .f32⟩
  | 10 => ⟨S2x2x8192x128, .f32⟩
  | 11 => ⟨S2x2x8192x128, .f32⟩
  | 12 => ⟨S2x2x8192x128, .f32⟩
  | 13 => ⟨S2x8192x2x64, .f32⟩
  | 14 => ⟨S2x8192x2x8, .f32⟩
  | 15 => ⟨S2x8192x2x8, .f32⟩
  | 16 => ⟨S2x8192x2x48, .f32⟩
  | 17 => ⟨S2x8192x1x8, .f32⟩
  | 18 => ⟨S2x8192x1x8, .f32⟩
  | 19 => ⟨S2x8192x2x8, .f32⟩
  | 20 => ⟨S2x8192x2x8, .f32⟩
  | 21 => ⟨S2x8192x2x8, .f32⟩
  | 22 => ⟨S2x8192x2x8, .f32⟩
  | 23 => ⟨S2x8192x2x8, .f32⟩
  | 24 => ⟨S2x8192x2x8, .f32⟩
  | 25 => ⟨S2x8192x2x8, .f32⟩
  | 26 => ⟨S2x8192x2x8, .f32⟩
  | 27 => ⟨S2x8192x2x8, .f32⟩
  | 28 => ⟨S2x8192x2x8, .f32⟩
  | 29 => ⟨S2x8192x2x64, .f32⟩
  | 30 => ⟨S2x2x8192x64, .f32⟩
  | 31 => ⟨S_, .f32⟩
  | 32 => ⟨S2x2x8192x64, .f32⟩
  | 33 => ⟨S2x2x8192x128, .f32⟩
  | 34 => ⟨S2x2x8192x256, .f32⟩
  | 35 => ⟨S2x8192x2x12, .f32⟩
  | 36 => ⟨S2x2x12x8192, .f32⟩
  | 37 => ⟨S_, .i32⟩
  | 38 => ⟨S_, .f32⟩
  | 39 => ⟨S2x2x128x8192, .f32⟩
  | 40 => ⟨S2x8192x512, .bf16⟩
  | 41 => ⟨S2x512x8192, .bf16⟩
  | 42 => ⟨S2x8192x2x64, .f32⟩
  | 43 => ⟨S2x8192x2x8, .f32⟩
  | 44 => ⟨S2x8192x2x8, .f32⟩
  | 45 => ⟨S2x8192x2x48, .f32⟩
  | 46 => ⟨S2x8192x1x8, .f32⟩
  | 47 => ⟨S2x8192x1x8, .f32⟩
  | 48 => ⟨S2x8192x2x8, .f32⟩
  | 49 => ⟨S2x8192x2x8, .f32⟩
  | 50 => ⟨S2x8192x2x8, .f32⟩
  | 51 => ⟨S2x8192x2x8, .f32⟩
  | 52 => ⟨S2x8192x2x8, .f32⟩
  | 53 => ⟨S2x8192x2x8, .f32⟩
  | 54 => ⟨S2x8192x2x8, .f32⟩
  | 55 => ⟨S2x8192x2x8, .f32⟩
  | 56 => ⟨S2x8192x2x8, .f32⟩
  | 57 => ⟨S2x8192x2x8, .f32⟩
  | 58 => ⟨S2x8192x2x64, .f32⟩
  | 59 => ⟨S2x8192x128, .f32⟩
  | 60 => ⟨S2x2x8192x256, .bf16⟩
  | 61 => ⟨S2x8192x2x64, .f32⟩
  | 62 => ⟨S2x2x64x8192, .f32⟩
  | 63 => ⟨S_, .f32⟩
  | 64 => ⟨S2x2x16x8192, .f32⟩
  | 65 => ⟨S2x2x80x8192, .f32⟩
  | 66 => ⟨S2x2x80x8192, .bf16⟩
  | 67 => ⟨S2x8192x2x64, .f32⟩
  | 68 => ⟨S2x8192x2x8, .f32⟩
  | 69 => ⟨S2x8192x2x8, .f32⟩
  | 70 => ⟨S2x8192x2x48, .f32⟩
  | 71 => ⟨S2x8192x1x8, .f32⟩
  | 72 => ⟨S2x8192x1x8, .f32⟩
  | 73 => ⟨S2x8192x2x8, .f32⟩
  | 74 => ⟨S2x8192x2x8, .f32⟩
  | 75 => ⟨S2x8192x2x8, .f32⟩
  | 76 => ⟨S2x8192x2x8, .f32⟩
  | 77 => ⟨S2x8192x2x8, .f32⟩
  | 78 => ⟨S2x8192x2x8, .f32⟩
  | 79 => ⟨S2x8192x2x8, .f32⟩
  | 80 => ⟨S2x8192x2x8, .f32⟩
  | 81 => ⟨S2x8192x2x8, .f32⟩
  | 82 => ⟨S2x8192x2x8, .f32⟩
  | 83 => ⟨S2x8192x2x64, .f32⟩
  | 84 => ⟨S2x2x8192x64, .f32⟩
  | 85 => ⟨S2x2x8192x64, .bf16⟩
  | 86 => ⟨S2x8192x2x64, .f32⟩
  | 87 => ⟨S2x2x64x8192, .f32⟩
  | 88 => ⟨S_, .f32⟩
  | 89 => ⟨S2x2x16x8192, .f32⟩
  | 90 => ⟨S2x2x80x8192, .f32⟩
  | 91 => ⟨S2x2x80x8192, .bf16⟩
  | 92 => ⟨S2x2x128x8192, .f32⟩
  | 93 => ⟨S2x2x128x8192, .f32⟩
  | 94 => ⟨S_, .f32⟩
  | 95 => ⟨S2x2x128x8192, .f32⟩
  | 96 => ⟨S2x2x128x8192, .f32⟩
  | 97 => ⟨S_, .f32⟩
  | 98 => ⟨S2x2x128x8192, .f32⟩
  | 99 => ⟨S2x2x128x8192, .f32⟩
  | 100 => ⟨S2x256x8192, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c : Ref sig .tc := ⟨.hbm, 46, rfl⟩
abbrev main_call0_v0 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_3 : Ref sig .tc := ⟨.hbm, 72, rfl⟩
abbrev main_v58 : Ref sig .tc := ⟨.hbm, 73, rfl⟩
abbrev main_v59 : Ref sig .tc := ⟨.hbm, 74, rfl⟩
abbrev main_cst_4 : Ref sig .tc := ⟨.hbm, 75, rfl⟩
abbrev main_v60 : Ref sig .tc := ⟨.hbm, 76, rfl⟩
abbrev main_v61 : Ref sig .tc := ⟨.hbm, 77, rfl⟩
abbrev main_cst_5 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_cst_6 : Ref sig .tc := ⟨.hbm, 105, rfl⟩
abbrev main_v88 : Ref sig .tc := ⟨.hbm, 106, rfl⟩
abbrev main_v89 : Ref sig .tc := ⟨.hbm, 107, rfl⟩
abbrev main_cst_7 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_c_8 : Ref sig .tc := ⟨.hbm, 116, rfl⟩
abbrev main_call1_v0 : Ref sig .tc := ⟨.hbm, 117, rfl⟩
abbrev main_call1_v1 : Ref sig .tc := ⟨.hbm, 118, rfl⟩
abbrev main_call1_v2 : Ref sig .tc := ⟨.hbm, 119, rfl⟩
abbrev main_call1_v3 : Ref sig .tc := ⟨.hbm, 120, rfl⟩
abbrev main_call1_v4 : Ref sig .tc := ⟨.hbm, 121, rfl⟩
abbrev main_call1_v5 : Ref sig .tc := ⟨.hbm, 122, rfl⟩
abbrev main_call1_v6 : Ref sig .tc := ⟨.hbm, 123, rfl⟩
abbrev main_call1_v7 : Ref sig .tc := ⟨.hbm, 124, rfl⟩
abbrev main_call1_v8 : Ref sig .tc := ⟨.hbm, 125, rfl⟩
abbrev main_call1_c : Ref sig .tc := ⟨.hbm, 126, rfl⟩
abbrev main_call1_v9 : Ref sig .tc := ⟨.hbm, 127, rfl⟩
abbrev main_call1_v10 : Ref sig .tc := ⟨.hbm, 128, rfl⟩
abbrev main_call1_v11 : Ref sig .tc := ⟨.hbm, 129, rfl⟩
abbrev main_call1_c_0 : Ref sig .tc := ⟨.hbm, 130, rfl⟩
abbrev main_call1_v12 : Ref sig .tc := ⟨.hbm, 131, rfl⟩
abbrev main_call1_v13 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_cst_9 : Ref sig .tc := ⟨.hbm, 136, rfl⟩
abbrev main_cst_10 : Ref sig .tc := ⟨.hbm, 137, rfl⟩
abbrev main_call2_v0 : Ref sig .tc := ⟨.hbm, 138, rfl⟩
abbrev main_call2_v1 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_cst_11 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_c_12 : Ref sig .tc := ⟨.hbm, 165, rfl⟩
abbrev main_call3_v0 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_cst_13 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_cst_14 : Ref sig .tc := ⟨.hbm, 216, rfl⟩
abbrev main_v172 : Ref sig .tc := ⟨.hbm, 217, rfl⟩
abbrev main_v173 : Ref sig .tc := ⟨.hbm, 218, rfl⟩
abbrev main_v174 : Ref sig .tc := ⟨.hbm, 219, rfl⟩
abbrev main_v175 : Ref sig .tc := ⟨.hbm, 220, rfl⟩
abbrev main_v176 : Ref sig .tc := ⟨.hbm, 221, rfl⟩
abbrev main_cst_15 : Ref sig .tc := ⟨.hbm, 222, rfl⟩
abbrev main_v177 : Ref sig .tc := ⟨.hbm, 223, rfl⟩
abbrev main_v178 : Ref sig .tc := ⟨.hbm, 224, rfl⟩
abbrev main_cst_16 : Ref sig .tc := ⟨.hbm, 225, rfl⟩
abbrev main_v179 : Ref sig .tc := ⟨.hbm, 226, rfl⟩
abbrev main_v180 : Ref sig .tc := ⟨.hbm, 227, rfl⟩
abbrev main_v181 : Ref sig .tc := ⟨.hbm, 228, rfl⟩

abbrev nD : Nat := 1
abbrev τ : Topo := Topo.v7x

variable {F : FTy → Type} [FloatOps F]
-- ==== Proof.Body.KernelIdeal.Held.lean ====
/- The buffers that the passes over the chosen keys hold: the packed keys and values and the packed queries, read; the two score buffers, the two weight buffers and the accumulator, written. -/
module

public import proofs.«01_k».proof.Proof.Gen.KernelIdeal.Skeleton
public import Idealize.ShloMosaic.Lib.Exec
public import Idealize.ShloMosaic.Lib.Tactic
public import Idealize.ShloMosaic.Lib.Pipeline.Kit
public import Idealize.ShloMosaic.Lib.LoopRemainder

@[expose] public section

set_option maxRecDepth 16384
set_option maxHeartbeats 4000000

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-- What a pass reads (packed keys, values, queries) and writes (scores, weights, accumulator). -/
abbrev Held (c : Dev nD) (arg7 : Memref sig .tc .vmem S1x1x8192x256 .bf16) (arg8 : Memref sig .tc .vmem S1x1x80x8192 .bf16) (arg19 : Memref sig .tc .vmem S256x1024 .bf16) (arg13 : Memref sig .tc .vmem S512x1024 .f32) (arg14 : Memref sig .tc .vmem S512x1024 .f32) (arg15 : Memref sig .tc .vmem S512x1024 .bf16) (arg16 : Memref sig .tc .vmem S512x1024 .bf16) (arg20 : Memref sig .tc .vmem S80x1024 .f32) (X_arg7 : BufTy.Contents (Elt F) arg7.view.ty) (X_arg8 : BufTy.Contents (Elt F) arg8.view.ty) (X_arg19 : BufTy.Contents (Elt F) arg19.view.ty) (f_arg13 : BufTy.Contents (Elt F) arg13.view.ty) (f_arg14 : BufTy.Contents (Elt F) arg14.view.ty) (f_arg15 : BufTy.Contents (Elt F) arg15.view.ty) (f_arg16 : BufTy.Contents (Elt F) arg16.view.ty) (f_arg20 : BufTy.Contents (Elt F) arg20.view.ty) : sProp 𝕄G :=
  iprop((arg7.view.loc (c : Thread nD τ) ↦[arg7.view.set]{fullShare} X_arg7) ∗ (arg8.view.loc (c : Thread nD τ) ↦[arg8.view.set]{fullShare} X_arg8) ∗ (arg19.view.loc (c : Thread nD τ) ↦[arg19.view.set]{fullShare} X_arg19) ∗ (arg13.view.loc (c : Thread nD τ) ↦[arg13.view.set]{fullShare} f_arg13) ∗ (arg14.view.loc (c : Thread nD τ) ↦[arg14.view.set]{fullShare} f_arg14) ∗ (arg15.view.loc (c : Thread nD τ) ↦[arg15.view.set]{fullShare} f_arg15) ∗ (arg16.view.loc (c : Thread nD τ) ↦[arg16.view.set]{fullShare} f_arg16) ∗ (arg20.view.loc (c : Thread nD τ) ↦[arg20.view.set]{fullShare} f_arg20))

/-- The same with the gates and the compressed result, which the last part also reads. -/
abbrev HeldT (c : Dev nD) (arg4 : Memref sig .tc .vmem S1x128x256 .f32) (arg6 : Memref sig .tc .vmem S1x1x4x64x256 .f32) (arg7 : Memref sig .tc .vmem S1x1x8192x256 .bf16) (arg8 : Memref sig .tc .vmem S1x1x80x8192 .bf16) (arg19 : Memref sig .tc .vmem S256x1024 .bf16) (arg13 : Memref sig .tc .vmem S512x1024 .f32) (arg14 : Memref sig .tc .vmem S512x1024 .f32) (arg15 : Memref sig .tc .vmem S512x1024 .bf16) (arg16 : Memref sig .tc .vmem S512x1024 .bf16) (arg20 : Memref sig .tc .vmem S80x1024 .f32) (X_arg4 : BufTy.Contents (Elt F) arg4.view.ty) (X_arg6 : BufTy.Contents (Elt F) arg6.view.ty) (X_arg7 : BufTy.Contents (Elt F) arg7.view.ty) (X_arg8 : BufTy.Contents (Elt F) arg8.view.ty) (X_arg19 : BufTy.Contents (Elt F) arg19.view.ty) (f_arg13 : BufTy.Contents (Elt F) arg13.view.ty) (f_arg14 : BufTy.Contents (Elt F) arg14.view.ty) (f_arg15 : BufTy.Contents (Elt F) arg15.view.ty) (f_arg16 : BufTy.Contents (Elt F) arg16.view.ty) (f_arg20 : BufTy.Contents (Elt F) arg20.view.ty) : sProp 𝕄G :=
  iprop((arg4.view.loc (c : Thread nD τ) ↦[arg4.view.set]{fullShare} X_arg4) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg19.view.loc (c : Thread nD τ) ↦[arg19.view.set]{fullShare} X_arg19) ∗ (arg13.view.loc (c : Thread nD τ) ↦[arg13.view.set]{fullShare} f_arg13) ∗ (arg14.view.loc (c : Thread nD τ) ↦[arg14.view.set]{fullShare} f_arg14) ∗ (arg15.view.loc (c : Thread nD τ) ↦[arg15.view.set]{fullShare} f_arg15) ∗ (arg16.view.loc (c : Thread nD τ) ↦[arg16.view.set]{fullShare} f_arg16) ∗ (arg20.view.loc (c : Thread nD τ) ↦[arg20.view.set]{fullShare} f_arg20))

end Cert.KernelIdeal.Body

end
-- ==== Proof.Body.KernelIdeal.Restate.lean ====
/- From raw contents to what the windows read. -/
module

public import proofs.«01_k».proof.Proof.Body.KernelIdeal.Held
public import proofs.«01_k».proof.Proof.Gen.KernelIdeal.Launch
public import Idealize.ShloMosaic.Lib.Pipeline.FrameBody

@[expose] public section

set_option maxRecDepth 16384
set_option maxHeartbeats 4000000

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-- A whole buffer's points-to, through its memref. -/
theorem whole_pts (c : Dev nD) (b : Ref sig .tc) (f : b.ty.Contents (Elt F)) :
    ((Memref.whole b).view.loc (c : Thread nD τ) ↦[(Memref.whole b).view.set]{fullShare} f : sProp 𝕄G) = (((c : Thread nD τ).loc b) ↦{fullShare} f) := by
  rw [show (Memref.whole b).view.set = Finset.univ from View.set_whole b]

/-- A run over raw contents, restated over what the windows read: the scratch buffers are the class's, the result's block is some contents
    of which `Q` holds. -/
theorem point_of_run (c : Dev nD) (arg3 : Memref sig .tc .vmem S1x256x256 .bf16) (arg4 : Memref sig .tc .vmem S1x128x256 .f32) (arg5 : Memref sig .tc .vmem S1x1x128x256 .bf16) (arg6 : Memref sig .tc .vmem S1x1x4x64x256 .f32) (arg7 : Memref sig .tc .vmem S1x1x8192x256 .bf16) (arg8 : Memref sig .tc .vmem S1x1x80x8192 .bf16) (arg9 : Memref sig .tc .vmem S1x1x8192x64 .bf16) (arg10 : Memref sig .tc .vmem S1x1x80x8192 .bf16) (arg11 : Memref sig .tc .vmem S256x1 .f32) (arg12 : Memref sig .tc .vmem S1x256x256 .bf16)
    (prog : Prog (TpuEff nD τ sig (Elt F) Λ₀ .tc) PUnit) (I3 : S1x256x256.Idx → Elt F .bf16) (I4 : S1x128x256.Idx → Elt F .f32) (I5 : S1x1x128x256.Idx → Elt F .bf16) (I6 : S1x1x4x64x256.Idx → Elt F .f32) (I7 : S1x1x8192x256.Idx → Elt F .bf16) (I8 : S1x1x80x8192.Idx → Elt F .bf16) (I9 : S1x1x8192x64.Idx → Elt F .bf16) (I10 : S1x1x80x8192.Idx → Elt F .bf16) (I11 : S256x1.Idx → Elt F .f32) (Q : (S1x256x256.Idx → Elt F .bf16) → Prop)
    (h : ∀ (X3 : BufTy.Contents (Elt F) (Memref.view arg3).ty) (X4 : BufTy.Contents (Elt F) (Memref.view arg4).ty) (X5 : BufTy.Contents (Elt F) (Memref.view arg5).ty) (X6 : BufTy.Contents (Elt F) (Memref.view arg6).ty) (X7 : BufTy.Contents (Elt F) (Memref.view arg7).ty) (X8 : BufTy.Contents (Elt F) (Memref.view arg8).ty) (X9 : BufTy.Contents (Elt F) (Memref.view arg9).ty) (X10 : BufTy.Contents (Elt F) (Memref.view arg10).ty) (X11 : BufTy.Contents (Elt F) (Memref.view arg11).ty) (f12 : BufTy.Contents (Elt F) (Memref.view arg12).ty) (f13 : BufTy.Contents (Elt F) (Memref.view (Memref.whole cc0_scratch0)).ty) (f14 : BufTy.Contents (Elt F) (Memref.view (Memref.whole cc0_scratch1)).ty) (f15 : BufTy.Contents (Elt F) (Memref.view (Memref.whole cc0_scratch2)).ty) (f16 : BufTy.Contents (Elt F) (Memref.view (Memref.whole cc0_scratch3)).ty) (f17 : BufTy.Contents (Elt F) (Memref.view (Memref.whole cc0_scratch4)).ty) (f18 : BufTy.Contents (Elt F) (Memref.view (Memref.whole cc0_scratch5)).ty) (f19 : BufTy.Contents (Elt F) (Memref.view (Memref.whole cc0_scratch6)).ty) (f20 : BufTy.Contents (Elt F) (Memref.view (Memref.whole cc0_scratch7)).ty), arg3.view.read (Elt F) X3 = I3 → arg4.view.read (Elt F) X4 = I4 → arg5.view.read (Elt F) X5 = I5 → arg6.view.read (Elt F) X6 = I6 → arg7.view.read (Elt F) X7 = I7 → arg8.view.read (Elt F) X8 = I8 → arg9.view.read (Elt F) X9 = I9 → arg10.view.read (Elt F) X10 = I10 → arg11.view.read (Elt F) X11 = I11 →
      ((iprop(((Memref.view arg3).loc (c : Thread nD τ) ↦[(Memref.view arg3).set]{fullShare} X3) ∗ ((Memref.view arg4).loc (c : Thread nD τ) ↦[(Memref.view arg4).set]{fullShare} X4) ∗ ((Memref.view arg5).loc (c : Thread nD τ) ↦[(Memref.view arg5).set]{fullShare} X5) ∗ ((Memref.view arg6).loc (c : Thread nD τ) ↦[(Memref.view arg6).set]{fullShare} X6) ∗ ((Memref.view arg7).loc (c : Thread nD τ) ↦[(Memref.view arg7).set]{fullShare} X7) ∗ ((Memref.view arg8).loc (c : Thread nD τ) ↦[(Memref.view arg8).set]{fullShare} X8) ∗ ((Memref.view arg9).loc (c : Thread nD τ) ↦[(Memref.view arg9).set]{fullShare} X9) ∗ ((Memref.view arg10).loc (c : Thread nD τ) ↦[(Memref.view arg10).set]{fullShare} X10) ∗ ((Memref.view arg11).loc (c : Thread nD τ) ↦[(Memref.view arg11).set]{fullShare} X11) ∗ ((Memref.view arg12).loc (c : Thread nD τ) ↦[(Memref.view arg12).set]{fullShare} f12) ∗ ((Memref.view (Memref.whole cc0_scratch0)).loc (c : Thread nD τ) ↦[(Memref.view (Memref.whole cc0_scratch0)).set]{fullShare} f13) ∗ ((Memref.view (Memref.whole cc0_scratch1)).loc (c : Thread nD τ) ↦[(Memref.view (Memref.whole cc0_scratch1)).set]{fullShare} f14) ∗ ((Memref.view (Memref.whole cc0_scratch2)).loc (c : Thread nD τ) ↦[(Memref.view (Memref.whole cc0_scratch2)).set]{fullShare} f15) ∗ ((Memref.view (Memref.whole cc0_scratch3)).loc (c : Thread nD τ) ↦[(Memref.view (Memref.whole cc0_scratch3)).set]{fullShare} f16) ∗ ((Memref.view (Memref.whole cc0_scratch4)).loc (c : Thread nD τ) ↦[(Memref.view (Memref.whole cc0_scratch4)).set]{fullShare} f17) ∗ ((Memref.view (Memref.whole cc0_scratch5)).loc (c : Thread nD τ) ↦[(Memref.view (Memref.whole cc0_scratch5)).set]{fullShare} f18) ∗ ((Memref.view (Memref.whole cc0_scratch6)).loc (c : Thread nD τ) ↦[(Memref.view (Memref.whole cc0_scratch6)).set]{fullShare} f19) ∗ ((Memref.view (Memref.whole cc0_scratch7)).loc (c : Thread nD τ) ↦[(Memref.view (Memref.whole cc0_scratch7)).set]{fullShare} f20))) : sProp 𝕄G) ⊢ wp frame (wpE (defs₀ (F := F)) Variants.none (c : Thread nD τ) none) Set.univ prog
        (fun _ => iprop(∃ g12 g13 g14 g15 g16 g17 g18 g19 g20, ⌜Q (arg12.view.read (Elt F) g12)⌝ ∗ ((Memref.view arg3).loc (c : Thread nD τ) ↦[(Memref.view arg3).set]{fullShare} X3) ∗ ((Memref.view arg4).loc (c : Thread nD τ) ↦[(Memref.view arg4).set]{fullShare} X4) ∗ ((Memref.view arg5).loc (c : Thread nD τ) ↦[(Memref.view arg5).set]{fullShare} X5) ∗ ((Memref.view arg6).loc (c : Thread nD τ) ↦[(Memref.view arg6).set]{fullShare} X6) ∗ ((Memref.view arg7).loc (c : Thread nD τ) ↦[(Memref.view arg7).set]{fullShare} X7) ∗ ((Memref.view arg8).loc (c : Thread nD τ) ↦[(Memref.view arg8).set]{fullShare} X8) ∗ ((Memref.view arg9).loc (c : Thread nD τ) ↦[(Memref.view arg9).set]{fullShare} X9) ∗ ((Memref.view arg10).loc (c : Thread nD τ) ↦[(Memref.view arg10).set]{fullShare} X10) ∗ ((Memref.view arg11).loc (c : Thread nD τ) ↦[(Memref.view arg11).set]{fullShare} X11) ∗ ((Memref.view arg12).loc (c : Thread nD τ) ↦[(Memref.view arg12).set]{fullShare} g12) ∗ ((Memref.view (Memref.whole cc0_scratch0)).loc (c : Thread nD τ) ↦[(Memref.view (Memref.whole cc0_scratch0)).set]{fullShare} g13) ∗ ((Memref.view (Memref.whole cc0_scratch1)).loc (c : Thread nD τ) ↦[(Memref.view (Memref.whole cc0_scratch1)).set]{fullShare} g14) ∗ ((Memref.view (Memref.whole cc0_scratch2)).loc (c : Thread nD τ) ↦[(Memref.view (Memref.whole cc0_scratch2)).set]{fullShare} g15) ∗ ((Memref.view (Memref.whole cc0_scratch3)).loc (c : Thread nD τ) ↦[(Memref.view (Memref.whole cc0_scratch3)).set]{fullShare} g16) ∗ ((Memref.view (Memref.whole cc0_scratch4)).loc (c : Thread nD τ) ↦[(Memref.view (Memref.whole cc0_scratch4)).set]{fullShare} g17) ∗ ((Memref.view (Memref.whole cc0_scratch5)).loc (c : Thread nD τ) ↦[(Memref.view (Memref.whole cc0_scratch5)).set]{fullShare} g18) ∗ ((Memref.view (Memref.whole cc0_scratch6)).loc (c : Thread nD τ) ↦[(Memref.view (Memref.whole cc0_scratch6)).set]{fullShare} g19) ∗ ((Memref.view (Memref.whole cc0_scratch7)).loc (c : Thread nD τ) ↦[(Memref.view (Memref.whole cc0_scratch7)).set]{fullShare} g20)))) :
    (iprop(Pipeline.ΦA spec0 c ∗ owns (c : Thread nD τ) arg3 fullShare I3 ∗ owns (c : Thread nD τ) arg4 fullShare I4 ∗ owns (c : Thread nD τ) arg5 fullShare I5 ∗ owns (c : Thread nD τ) arg6 fullShare I6 ∗ owns (c : Thread nD τ) arg7 fullShare I7 ∗ owns (c : Thread nD τ) arg8 fullShare I8 ∗ owns (c : Thread nD τ) arg9 fullShare I9 ∗ owns (c : Thread nD τ) arg10 fullShare I10 ∗ owns (c : Thread nD τ) arg11 fullShare I11 ∗ (∃ d, owns (c : Thread nD τ) arg12 fullShare d)) : sProp 𝕄G)
      ⊢ wp frame (wpE (defs₀ (F := F)) Variants.none (c : Thread nD τ) none) Set.univ prog
        (fun _ => iprop(Pipeline.ΦA spec0 c ∗ owns (c : Thread nD τ) arg3 fullShare I3 ∗ owns (c : Thread nD τ) arg4 fullShare I4 ∗ owns (c : Thread nD τ) arg5 fullShare I5 ∗ owns (c : Thread nD τ) arg6 fullShare I6 ∗ owns (c : Thread nD τ) arg7 fullShare I7 ∗ owns (c : Thread nD τ) arg8 fullShare I8 ∗ owns (c : Thread nD τ) arg9 fullShare I9 ∗ owns (c : Thread nD τ) arg10 fullShare I10 ∗ owns (c : Thread nD τ) arg11 fullShare I11 ∗ (∃ d, ⌜Q d⌝ ∗ owns (c : Thread nD τ) arg12 fullShare d))) := by
  unfold Pipeline.ΦA owns
  rw [Gen.scopedRest0_eq]
  simp only [← whole_pts]
  iintro ⟨⟨⟨⟨%f13, HS0⟩, ⟨%f14, HS1⟩, ⟨%f15, HS2⟩, ⟨%f16, HS3⟩, ⟨%f17, HS4⟩, ⟨%f18, HS5⟩, ⟨%f19, HS6⟩, ⟨%f20, HS7⟩⟩, Hr⟩, ⟨%X3, %e0, H0⟩, ⟨%X4, %e1, H1⟩, ⟨%X5, %e2, H2⟩, ⟨%X6, %e3, H3⟩, ⟨%X7, %e4, H4⟩, ⟨%X8, %e5, H5⟩, ⟨%X9, %e6, H6⟩, ⟨%X10, %e7, H7⟩, ⟨%X11, %e8, H8⟩, ⟨%d, %f12, %e9, H9⟩⟩
  iapply (wp_wand_r frame (wpE (defs₀ (F := F)) Variants.none (c : Thread nD τ) none) Set.univ)
  isplitl [H0 H1 H2 H3 H4 H5 H6 H7 H8 H9 HS0 HS1 HS2 HS3 HS4 HS5 HS6 HS7]
  · iapply (h X3 X4 X5 X6 X7 X8 X9 X10 X11 f12 f13 f14 f15 f16 f17 f18 f19 f20 e0 e1 e2 e3 e4 e5 e6 e7 e8)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iexact HS7
  · iintro %u ⟨%g12, %g13, %g14, %g15, %g16, %g17, %g18, %g19, %g20, %hq, H0, H1, H2, H3, H4, H5, H6, H7, H8, H9, HS0, HS1, HS2, HS3, HS4, HS5, HS6, HS7⟩
    isplitl [HS0 HS1 HS2 HS3 HS4 HS5 HS6 HS7 Hr]
    · isplitr [Hr]
      · isplitl [HS0]; · iexists _; iexact HS0
        isplitl [HS1]; · iexists _; iexact HS1
        isplitl [HS2]; · iexists _; iexact HS2
        isplitl [HS3]; · iexists _; iexact HS3
        isplitl [HS4]; · iexists _; iexact HS4
        isplitl [HS5]; · iexists _; iexact HS5
        isplitl [HS6]; · iexists _; iexact HS6
        iexists _; iexact HS7
      · iexact Hr
    isplitl [H0]
    · iexists X3; isplitr
      · ipureintro; exact e0
      · iexact H0
    isplitl [H1]
    · iexists X4; isplitr
      · ipureintro; exact e1
      · iexact H1
    isplitl [H2]
    · iexists X5; isplitr
      · ipureintro; exact e2
      · iexact H2
    isplitl [H3]
    · iexists X6; isplitr
      · ipureintro; exact e3
      · iexact H3
    isplitl [H4]
    · iexists X7; isplitr
      · ipureintro; exact e4
      · iexact H4
    isplitl [H5]
    · iexists X8; isplitr
      · ipureintro; exact e5
      · iexact H5
    isplitl [H6]
    · iexists X9; isplitr
      · ipureintro; exact e6
      · iexact H6
    isplitl [H7]
    · iexists X10; isplitr
      · ipureintro; exact e7
      · iexact H7
    isplitl [H8]
    · iexists X11; isplitr
      · ipureintro; exact e8
      · iexact H8
    iexists _; isplitr
    · ipureintro; exact hq
    · iexists g12; isplitr
      · ipureintro; rfl
      · iexact H9

end Cert.KernelIdeal.Body

end
-- ==== Proof.Body.KernelIdeal.First.lean ====
/- The first pair of chunks, when there is one. -/
module

public import proofs.«01_k».proof.Proof.Body.KernelIdeal.Held

@[expose] public section

set_option maxRecDepth 16384
set_option maxHeartbeats 4000000

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-- The first pair run. -/
def first (𝒱 : Variants) (c : Dev nD) (bd : Option 𝒱.V) (i : grid0.Coords) (arg3 : Memref sig .tc .vmem S1x256x256 .bf16) (harg3 : arg3.IsWhole) (arg4 : Memref sig .tc .vmem S1x128x256 .f32) (harg4 : arg4.IsWhole) (arg5 : Memref sig .tc .vmem S1x1x128x256 .bf16) (harg5 : arg5.IsWhole) (arg6 : Memref sig .tc .vmem S1x1x4x64x256 .f32) (harg6 : arg6.IsWhole) (arg7 : Memref sig .tc .vmem S1x1x8192x256 .bf16) (harg7 : arg7.IsWhole) (arg8 : Memref sig .tc .vmem S1x1x80x8192 .bf16) (harg8 : arg8.IsWhole) (arg9 : Memref sig .tc .vmem S1x1x8192x64 .bf16) (harg9 : arg9.IsWhole) (arg10 : Memref sig .tc .vmem S1x1x80x8192 .bf16) (harg10 : arg10.IsWhole) (arg11 : Memref sig .tc .vmem S256x1 .f32) (harg11 : arg11.IsWhole) (arg12 : Memref sig .tc .vmem S1x256x256 .bf16) (harg12 : arg12.IsWhole) (arg13 : Memref sig .tc .vmem S512x1024 .f32) (harg13 : arg13.IsWhole) (arg14 : Memref sig .tc .vmem S512x1024 .f32) (harg14 : arg14.IsWhole) (arg15 : Memref sig .tc .vmem S512x1024 .bf16) (harg15 : arg15.IsWhole) (arg16 : Memref sig .tc .vmem S512x1024 .bf16) (harg16 : arg16.IsWhole) (arg17 : Memref sig .tc .vmem S768x1024 .f32) (harg17 : arg17.IsWhole) (arg18 : Memref sig .tc .vmem S768x1024 .bf16) (harg18 : arg18.IsWhole) (arg19 : Memref sig .tc .vmem S256x1024 .bf16) (harg19 : arg19.IsWhole) (arg20 : Memref sig .tc .vmem S80x1024 .f32) (harg20 : arg20.IsWhole) (v46 : BitVec 32) (c2_i32 : BitVec 32) (v1617 : BitVec 32) (v1618 : BitVec 1) (X_arg7 : BufTy.Contents (Elt F) arg7.view.ty) (X_arg8 : BufTy.Contents (Elt F) arg8.view.ty) (X_arg19 : BufTy.Contents (Elt F) arg19.view.ty) (h : k0_cond1 i = 1#1) :
    Σ' (R : BufTy.Contents (Elt F) arg13.view.ty → BufTy.Contents (Elt F) arg14.view.ty → BufTy.Contents (Elt F) arg15.view.ty → BufTy.Contents (Elt F) arg16.view.ty → BufTy.Contents (Elt F) arg20.view.ty → (Σ' (v1633 : BitVec 32) (v1638 : FVec F S1x1024 .f32) (v1640 : BitVec 32) (c0_i32_595 : BitVec 32) (v1658 : BitVec 32), BitVec 32)) (G_arg13 : BufTy.Contents (Elt F) arg13.view.ty → BufTy.Contents (Elt F) arg14.view.ty → BufTy.Contents (Elt F) arg15.view.ty → BufTy.Contents (Elt F) arg16.view.ty → BufTy.Contents (Elt F) arg20.view.ty → BufTy.Contents (Elt F) arg13.view.ty) (G_arg14 : BufTy.Contents (Elt F) arg13.view.ty → BufTy.Contents (Elt F) arg14.view.ty → BufTy.Contents (Elt F) arg15.view.ty → BufTy.Contents (Elt F) arg16.view.ty → BufTy.Contents (Elt F) arg20.view.ty → BufTy.Contents (Elt F) arg14.view.ty) (G_arg15 : BufTy.Contents (Elt F) arg13.view.ty → BufTy.Contents (Elt F) arg14.view.ty → BufTy.Contents (Elt F) arg15.view.ty → BufTy.Contents (Elt F) arg16.view.ty → BufTy.Contents (Elt F) arg20.view.ty → BufTy.Contents (Elt F) arg15.view.ty) (G_arg16 : BufTy.Contents (Elt F) arg13.view.ty → BufTy.Contents (Elt F) arg14.view.ty → BufTy.Contents (Elt F) arg15.view.ty → BufTy.Contents (Elt F) arg16.view.ty → BufTy.Contents (Elt F) arg20.view.ty → BufTy.Contents (Elt F) arg16.view.ty), { G_arg20 : BufTy.Contents (Elt F) arg13.view.ty → BufTy.Contents (Elt F) arg14.view.ty → BufTy.Contents (Elt F) arg15.view.ty → BufTy.Contents (Elt F) arg16.view.ty → BufTy.Contents (Elt F) arg20.view.ty → BufTy.Contents (Elt F) arg20.view.ty // ∀ (E : Set ℕ) (f_arg13 : BufTy.Contents (Elt F) arg13.view.ty) (f_arg14 : BufTy.Contents (Elt F) arg14.view.ty) (f_arg15 : BufTy.Contents (Elt F) arg15.view.ty) (f_arg16 : BufTy.Contents (Elt F) arg16.view.ty) (f_arg20 : BufTy.Contents (Elt F) arg20.view.ty),
      Held (F := F) c arg7 arg8 arg19 arg13 arg14 arg15 arg16 arg20 X_arg7 X_arg8 X_arg19 f_arg13 f_arg14 f_arg15 f_arg16 f_arg20
      ⊢ wp frame (wpE (defs₀ (F := F)) 𝒱 (c : Thread nD τ) bd) E (k0_part241 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v46 c2_i32 v1617 v1618)
          (fun yld => iprop(⌜yld = R f_arg13 f_arg14 f_arg15 f_arg16 f_arg20⌝ ∗ Held (F := F) c arg7 arg8 arg19 arg13 arg14 arg15 arg16 arg20 X_arg7 X_arg8 X_arg19 (G_arg13 f_arg13 f_arg14 f_arg15 f_arg16 f_arg20) (G_arg14 f_arg13 f_arg14 f_arg15 f_arg16 f_arg20) (G_arg15 f_arg13 f_arg14 f_arg15 f_arg16 f_arg20) (G_arg16 f_arg13 f_arg14 f_arg15 f_arg16 f_arg20) (G_arg20 f_arg13 f_arg14 f_arg15 f_arg16 f_arg20))) } := by
  refine ⟨?_, ?_, ?_, ?_, ?_, ?_, fun E f_arg13 f_arg14 f_arg15 f_arg16 f_arg20 => ?run⟩
  case run =>
    iintro ⟨Harg7, Harg8, Harg19, Harg13, Harg14, Harg15, Harg16, Harg20⟩
    sl_exec
    sl_step
    sl_close

/-- No first pair: nothing is written. -/
def firstSkip (𝒱 : Variants) (c : Dev nD) (bd : Option 𝒱.V) (i : grid0.Coords) (arg3 : Memref sig .tc .vmem S1x256x256 .bf16) (harg3 : arg3.IsWhole) (arg4 : Memref sig .tc .vmem S1x128x256 .f32) (harg4 : arg4.IsWhole) (arg5 : Memref sig .tc .vmem S1x1x128x256 .bf16) (harg5 : arg5.IsWhole) (arg6 : Memref sig .tc .vmem S1x1x4x64x256 .f32) (harg6 : arg6.IsWhole) (arg7 : Memref sig .tc .vmem S1x1x8192x256 .bf16) (harg7 : arg7.IsWhole) (arg8 : Memref sig .tc .vmem S1x1x80x8192 .bf16) (harg8 : arg8.IsWhole) (arg9 : Memref sig .tc .vmem S1x1x8192x64 .bf16) (harg9 : arg9.IsWhole) (arg10 : Memref sig .tc .vmem S1x1x80x8192 .bf16) (harg10 : arg10.IsWhole) (arg11 : Memref sig .tc .vmem S256x1 .f32) (harg11 : arg11.IsWhole) (arg12 : Memref sig .tc .vmem S1x256x256 .bf16) (harg12 : arg12.IsWhole) (arg13 : Memref sig .tc .vmem S512x1024 .f32) (harg13 : arg13.IsWhole) (arg14 : Memref sig .tc .vmem S512x1024 .f32) (harg14 : arg14.IsWhole) (arg15 : Memref sig .tc .vmem S512x1024 .bf16) (harg15 : arg15.IsWhole) (arg16 : Memref sig .tc .vmem S512x1024 .bf16) (harg16 : arg16.IsWhole) (arg17 : Memref sig .tc .vmem S768x1024 .f32) (harg17 : arg17.IsWhole) (arg18 : Memref sig .tc .vmem S768x1024 .bf16) (harg18 : arg18.IsWhole) (arg19 : Memref sig .tc .vmem S256x1024 .bf16) (harg19 : arg19.IsWhole) (arg20 : Memref sig .tc .vmem S80x1024 .f32) (harg20 : arg20.IsWhole) (v46 : BitVec 32) (c2_i32 : BitVec 32) (v1617 : BitVec 32) (v1618 : BitVec 1) (X_arg7 : BufTy.Contents (Elt F) arg7.view.ty) (X_arg8 : BufTy.Contents (Elt F) arg8.view.ty) (X_arg19 : BufTy.Contents (Elt F) arg19.view.ty) (h : ¬ k0_cond1 i = 1#1) :
    Σ' (R : BufTy.Contents (Elt F) arg13.view.ty → BufTy.Contents (Elt F) arg14.view.ty → BufTy.Contents (Elt F) arg15.view.ty → BufTy.Contents (Elt F) arg16.view.ty → BufTy.Contents (Elt F) arg20.view.ty → (Σ' (v1633 : BitVec 32) (v1638 : FVec F S1x1024 .f32) (v1640 : BitVec 32) (c0_i32_595 : BitVec 32) (v1658 : BitVec 32), BitVec 32)) (G_arg13 : BufTy.Contents (Elt F) arg13.view.ty → BufTy.Contents (Elt F) arg14.view.ty → BufTy.Contents (Elt F) arg15.view.ty → BufTy.Contents (Elt F) arg16.view.ty → BufTy.Contents (Elt F) arg20.view.ty → BufTy.Contents (Elt F) arg13.view.ty) (G_arg14 : BufTy.Contents (Elt F) arg13.view.ty → BufTy.Contents (Elt F) arg14.view.ty → BufTy.Contents (Elt F) arg15.view.ty → BufTy.Contents (Elt F) arg16.view.ty → BufTy.Contents (Elt F) arg20.view.ty → BufTy.Contents (Elt F) arg14.view.ty) (G_arg15 : BufTy.Contents (Elt F) arg13.view.ty → BufTy.Contents (Elt F) arg14.view.ty → BufTy.Contents (Elt F) arg15.view.ty → BufTy.Contents (Elt F) arg16.view.ty → BufTy.Contents (Elt F) arg20.view.ty → BufTy.Contents (Elt F) arg15.view.ty) (G_arg16 : BufTy.Contents (Elt F) arg13.view.ty → BufTy.Contents (Elt F) arg14.view.ty → BufTy.Contents (Elt F) arg15.view.ty → BufTy.Contents (Elt F) arg16.view.ty → BufTy.Contents (Elt F) arg20.view.ty → BufTy.Contents (Elt F) arg16.view.ty), { G_arg20 : BufTy.Contents (Elt F) arg13.view.ty → BufTy.Contents (Elt F) arg14.view.ty → BufTy.Contents (Elt F) arg15.view.ty → BufTy.Contents (Elt F) arg16.view.ty → BufTy.Contents (Elt F) arg20.view.ty → BufTy.Contents (Elt F) arg20.view.ty // ∀ (E : Set ℕ) (f_arg13 : BufTy.Contents (Elt F) arg13.view.ty) (f_arg14 : BufTy.Contents (Elt F) arg14.view.ty) (f_arg15 : BufTy.Contents (Elt F) arg15.view.ty) (f_arg16 : BufTy.Contents (Elt F) arg16.view.ty) (f_arg20 : BufTy.Contents (Elt F) arg20.view.ty),
      Held (F := F) c arg7 arg8 arg19 arg13 arg14 arg15 arg16 arg20 X_arg7 X_arg8 X_arg19 f_arg13 f_arg14 f_arg15 f_arg16 f_arg20
      ⊢ wp frame (wpE (defs₀ (F := F)) 𝒱 (c : Thread nD τ) bd) E (k0_part241 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v46 c2_i32 v1617 v1618)
          (fun yld => iprop(⌜yld = R f_arg13 f_arg14 f_arg15 f_arg16 f_arg20⌝ ∗ Held (F := F) c arg7 arg8 arg19 arg13 arg14 arg15 arg16 arg20 X_arg7 X_arg8 X_arg19 (G_arg13 f_arg13 f_arg14 f_arg15 f_arg16 f_arg20) (G_arg14 f_arg13 f_arg14 f_arg15 f_arg16 f_arg20) (G_arg15 f_arg13 f_arg14 f_arg15 f_arg16 f_arg20) (G_arg16 f_arg13 f_arg14 f_arg15 f_arg16 f_arg20) (G_arg20 f_arg13 f_arg14 f_arg15 f_arg16 f_arg20))) } := by
  refine ⟨?_, ?_, ?_, ?_, ?_, ?_, fun E f_arg13 f_arg14 f_arg15 f_arg16 f_arg20 => ?run⟩
  case run =>
    iintro ⟨Harg7, Harg8, Harg19, Harg13, Harg14, Harg15, Harg16, Harg20⟩
    sl_exec
    sl_step
    sl_close

end Cert.KernelIdeal.Body

end
-- ==== Proof.Body.KernelIdeal.Trip.lean ====
/- One trip of the counted loop: two pairs of chunks. -/
module

public import proofs.«01_k».proof.Proof.Body.KernelIdeal.Held

@[expose] public section

set_option maxRecDepth 16384
set_option maxHeartbeats 4000000

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-- One trip run. -/
def trip (𝒱 : Variants) (c : Dev nD) (bd : Option 𝒱.V) (i : grid0.Coords) (arg3 : Memref sig .tc .vmem S1x256x256 .bf16) (harg3 : arg3.IsWhole) (arg4 : Memref sig .tc .vmem S1x128x256 .f32) (harg4 : arg4.IsWhole) (arg5 : Memref sig .tc .vmem S1x1x128x256 .bf16) (harg5 : arg5.IsWhole) (arg6 : Memref sig .tc .vmem S1x1x4x64x256 .f32) (harg6 : arg6.IsWhole) (arg7 : Memref sig .tc .vmem S1x1x8192x256 .bf16) (harg7 : arg7.IsWhole) (arg8 : Memref sig .tc .vmem S1x1x80x8192 .bf16) (harg8 : arg8.IsWhole) (arg9 : Memref sig .tc .vmem S1x1x8192x64 .bf16) (harg9 : arg9.IsWhole) (arg10 : Memref sig .tc .vmem S1x1x80x8192 .bf16) (harg10 : arg10.IsWhole) (arg11 : Memref sig .tc .vmem S256x1 .f32) (harg11 : arg11.IsWhole) (arg12 : Memref sig .tc .vmem S1x256x256 .bf16) (harg12 : arg12.IsWhole) (arg13 : Memref sig .tc .vmem S512x1024 .f32) (harg13 : arg13.IsWhole) (arg14 : Memref sig .tc .vmem S512x1024 .f32) (harg14 : arg14.IsWhole) (arg15 : Memref sig .tc .vmem S512x1024 .bf16) (harg15 : arg15.IsWhole) (arg16 : Memref sig .tc .vmem S512x1024 .bf16) (harg16 : arg16.IsWhole) (arg17 : Memref sig .tc .vmem S768x1024 .f32) (harg17 : arg17.IsWhole) (arg18 : Memref sig .tc .vmem S768x1024 .bf16) (harg18 : arg18.IsWhole) (arg19 : Memref sig .tc .vmem S256x1024 .bf16) (harg19 : arg19.IsWhole) (arg20 : Memref sig .tc .vmem S80x1024 .f32) (harg20 : arg20.IsWhole) (v3 : IVec S1x256 32) (v4 : IVec S16x1 32) (v46 : BitVec 32) (v1633 : BitVec 32) (v1638 : FVec F S1x1024 .f32) (v1640 : BitVec 32) (c0_i32_595 : BitVec 32) (v1658 : BitVec 32) (c1_i32_596 : BitVec 32) (X_arg7 : BufTy.Contents (Elt F) arg7.view.ty) (X_arg8 : BufTy.Contents (Elt F) arg8.view.ty) (X_arg19 : BufTy.Contents (Elt F) arg19.view.ty) (k : Fin (k0_t1_loop i).trips) :
    Σ' (R : (FVec F S1x1024 .f32) → BufTy.Contents (Elt F) arg13.view.ty → BufTy.Contents (Elt F) arg14.view.ty → BufTy.Contents (Elt F) arg15.view.ty → BufTy.Contents (Elt F) arg16.view.ty → BufTy.Contents (Elt F) arg20.view.ty → FVec F S1x1024 .f32) (G_arg13 : (FVec F S1x1024 .f32) → BufTy.Contents (Elt F) arg13.view.ty → BufTy.Contents (Elt F) arg14.view.ty → BufTy.Contents (Elt F) arg15.view.ty → BufTy.Contents (Elt F) arg16.view.ty → BufTy.Contents (Elt F) arg20.view.ty → BufTy.Contents (Elt F) arg13.view.ty) (G_arg14 : (FVec F S1x1024 .f32) → BufTy.Contents (Elt F) arg13.view.ty → BufTy.Contents (Elt F) arg14.view.ty → BufTy.Contents (Elt F) arg15.view.ty → BufTy.Contents (Elt F) arg16.view.ty → BufTy.Contents (Elt F) arg20.view.ty → BufTy.Contents (Elt F) arg14.view.ty) (G_arg15 : (FVec F S1x1024 .f32) → BufTy.Contents (Elt F) arg13.view.ty → BufTy.Contents (Elt F) arg14.view.ty → BufTy.Contents (Elt F) arg15.view.ty → BufTy.Contents (Elt F) arg16.view.ty → BufTy.Contents (Elt F) arg20.view.ty → BufTy.Contents (Elt F) arg15.view.ty) (G_arg16 : (FVec F S1x1024 .f32) → BufTy.Contents (Elt F) arg13.view.ty → BufTy.Contents (Elt F) arg14.view.ty → BufTy.Contents (Elt F) arg15.view.ty → BufTy.Contents (Elt F) arg16.view.ty → BufTy.Contents (Elt F) arg20.view.ty → BufTy.Contents (Elt F) arg16.view.ty), { G_arg20 : (FVec F S1x1024 .f32) → BufTy.Contents (Elt F) arg13.view.ty → BufTy.Contents (Elt F) arg14.view.ty → BufTy.Contents (Elt F) arg15.view.ty → BufTy.Contents (Elt F) arg16.view.ty → BufTy.Contents (Elt F) arg20.view.ty → BufTy.Contents (Elt F) arg20.view.ty // ∀ (E : Set ℕ) (acc : FVec F S1x1024 .f32) (f_arg13 : BufTy.Contents (Elt F) arg13.view.ty) (f_arg14 : BufTy.Contents (Elt F) arg14.view.ty) (f_arg15 : BufTy.Contents (Elt F) arg15.view.ty) (f_arg16 : BufTy.Contents (Elt F) arg16.view.ty) (f_arg20 : BufTy.Contents (Elt F) arg20.view.ty),
      Held (F := F) c arg7 arg8 arg19 arg13 arg14 arg15 arg16 arg20 X_arg7 X_arg8 X_arg19 f_arg13 f_arg14 f_arg15 f_arg16 f_arg20
      ⊢ wp frame (wpE (defs₀ (F := F)) 𝒱 (c : Thread nD τ) bd) E (Gen.k0_t1_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v3 v4 v46 v1633 v1638 v1640 c0_i32_595 v1658 c1_i32_596 k acc)
          (fun yld => iprop(⌜yld = R acc f_arg13 f_arg14 f_arg15 f_arg16 f_arg20⌝ ∗ Held (F := F) c arg7 arg8 arg19 arg13 arg14 arg15 arg16 arg20 X_arg7 X_arg8 X_arg19 (G_arg13 acc f_arg13 f_arg14 f_arg15 f_arg16 f_arg20) (G_arg14 acc f_arg13 f_arg14 f_arg15 f_arg16 f_arg20) (G_arg15 acc f_arg13 f_arg14 f_arg15 f_arg16 f_arg20) (G_arg16 acc f_arg13 f_arg14 f_arg15 f_arg16 f_arg20) (G_arg20 acc f_arg13 f_arg14 f_arg15 f_arg16 f_arg20))) } := by
  refine ⟨?_, ?_, ?_, ?_, ?_, ?_, fun E acc f_arg13 f_arg14 f_arg15 f_arg16 f_arg20 => ?run⟩
  case run =>
    unfold Gen.k0_t1_body
    iintro ⟨Harg7, Harg8, Harg19, Harg13, Harg14, Harg15, Harg16, Harg20⟩
    sl_exec
    sl_step
    sl_close

end Cert.KernelIdeal.Body

end
-- ==== Proof.Body.KernelIdeal.Loop.lean ====
/- The counted loop by its trips. -/
module

public import proofs.«01_k».proof.Proof.Body.KernelIdeal.Trip

@[expose] public section

set_option maxRecDepth 16384
set_option maxHeartbeats 4000000

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

attribute [local irreducible] trip

/-- What one trip makes of the carried value and the contents. -/
def tripStep (𝒱 : Variants) (c : Dev nD) (bd : Option 𝒱.V) (i : grid0.Coords) (arg3 : Memref sig .tc .vmem S1x256x256 .bf16) (harg3 : arg3.IsWhole) (arg4 : Memref sig .tc .vmem S1x128x256 .f32) (harg4 : arg4.IsWhole) (arg5 : Memref sig .tc .vmem S1x1x128x256 .bf16) (harg5 : arg5.IsWhole) (arg6 : Memref sig .tc .vmem S1x1x4x64x256 .f32) (harg6 : arg6.IsWhole) (arg7 : Memref sig .tc .vmem S1x1x8192x256 .bf16) (harg7 : arg7.IsWhole) (arg8 : Memref sig .tc .vmem S1x1x80x8192 .bf16) (harg8 : arg8.IsWhole) (arg9 : Memref sig .tc .vmem S1x1x8192x64 .bf16) (harg9 : arg9.IsWhole) (arg10 : Memref sig .tc .vmem S1x1x80x8192 .bf16) (harg10 : arg10.IsWhole) (arg11 : Memref sig .tc .vmem S256x1 .f32) (harg11 : arg11.IsWhole) (arg12 : Memref sig .tc .vmem S1x256x256 .bf16) (harg12 : arg12.IsWhole) (arg13 : Memref sig .tc .vmem S512x1024 .f32) (harg13 : arg13.IsWhole) (arg14 : Memref sig .tc .vmem S512x1024 .f32) (harg14 : arg14.IsWhole) (arg15 : Memref sig .tc .vmem S512x1024 .bf16) (harg15 : arg15.IsWhole) (arg16 : Memref sig .tc .vmem S512x1024 .bf16) (harg16 : arg16.IsWhole) (arg17 : Memref sig .tc .vmem S768x1024 .f32) (harg17 : arg17.IsWhole) (arg18 : Memref sig .tc .vmem S768x1024 .bf16) (harg18 : arg18.IsWhole) (arg19 : Memref sig .tc .vmem S256x1024 .bf16) (harg19 : arg19.IsWhole) (arg20 : Memref sig .tc .vmem S80x1024 .f32) (harg20 : arg20.IsWhole) (v3 : IVec S1x256 32) (v4 : IVec S16x1 32) (v46 : BitVec 32) (v1633 : BitVec 32) (v1638 : FVec F S1x1024 .f32) (v1640 : BitVec 32) (c0_i32_595 : BitVec 32) (v1658 : BitVec 32) (c1_i32_596 : BitVec 32) (X_arg7 : BufTy.Contents (Elt F) arg7.view.ty) (X_arg8 : BufTy.Contents (Elt F) arg8.view.ty) (X_arg19 : BufTy.Contents (Elt F) arg19.view.ty) (k : Fin (k0_t1_loop i).trips) (s : (FVec F S1x1024 .f32) × (BufTy.Contents (Elt F) arg13.view.ty) × (BufTy.Contents (Elt F) arg14.view.ty) × (BufTy.Contents (Elt F) arg15.view.ty) × (BufTy.Contents (Elt F) arg16.view.ty) × (BufTy.Contents (Elt F) arg20.view.ty)) : (FVec F S1x1024 .f32) × (BufTy.Contents (Elt F) arg13.view.ty) × (BufTy.Contents (Elt F) arg14.view.ty) × (BufTy.Contents (Elt F) arg15.view.ty) × (BufTy.Contents (Elt F) arg16.view.ty) × (BufTy.Contents (Elt F) arg20.view.ty) :=
  let t := trip (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v3 v4 v46 v1633 v1638 v1640 c0_i32_595 v1658 c1_i32_596 X_arg7 X_arg8 X_arg19 k
  (t.1 s.1 s.2.1 s.2.2.1 s.2.2.2.1 s.2.2.2.2.1 s.2.2.2.2.2, t.2.1 s.1 s.2.1 s.2.2.1 s.2.2.2.1 s.2.2.2.2.1 s.2.2.2.2.2, t.2.2.1 s.1 s.2.1 s.2.2.1 s.2.2.2.1 s.2.2.2.2.1 s.2.2.2.2.2, t.2.2.2.1 s.1 s.2.1 s.2.2.1 s.2.2.2.1 s.2.2.2.2.1 s.2.2.2.2.2, t.2.2.2.2.1 s.1 s.2.1 s.2.2.1 s.2.2.2.1 s.2.2.2.2.1 s.2.2.2.2.2, t.2.2.2.2.2.1 s.1 s.2.1 s.2.2.1 s.2.2.2.1 s.2.2.2.2.1 s.2.2.2.2.2)

/-- `k` steps of a partial sequence of steps. -/
def iter {S : Type} (n : ℕ) (step : Fin n → S → S) (s : S) : ℕ → S
  | 0 => s
  | k + 1 => if h : k < n then step ⟨k, h⟩ (iter n step s k) else iter n step s k

theorem iter_succ {S : Type} (n : ℕ) (step : Fin n → S → S) (s : S) (k : Fin n) :
    iter n step s (k.val + 1) = step k (iter n step s k.val) := dif_pos k.isLt

/-- The carried value and the contents before trip `k`. -/
def loopSt (𝒱 : Variants) (c : Dev nD) (bd : Option 𝒱.V) (i : grid0.Coords) (arg3 : Memref sig .tc .vmem S1x256x256 .bf16) (harg3 : arg3.IsWhole) (arg4 : Memref sig .tc .vmem S1x128x256 .f32) (harg4 : arg4.IsWhole) (arg5 : Memref sig .tc .vmem S1x1x128x256 .bf16) (harg5 : arg5.IsWhole) (arg6 : Memref sig .tc .vmem S1x1x4x64x256 .f32) (harg6 : arg6.IsWhole) (arg7 : Memref sig .tc .vmem S1x1x8192x256 .bf16) (harg7 : arg7.IsWhole) (arg8 : Memref sig .tc .vmem S1x1x80x8192 .bf16) (harg8 : arg8.IsWhole) (arg9 : Memref sig .tc .vmem S1x1x8192x64 .bf16) (harg9 : arg9.IsWhole) (arg10 : Memref sig .tc .vmem S1x1x80x8192 .bf16) (harg10 : arg10.IsWhole) (arg11 : Memref sig .tc .vmem S256x1 .f32) (harg11 : arg11.IsWhole) (arg12 : Memref sig .tc .vmem S1x256x256 .bf16) (harg12 : arg12.IsWhole) (arg13 : Memref sig .tc .vmem S512x1024 .f32) (harg13 : arg13.IsWhole) (arg14 : Memref sig .tc .vmem S512x1024 .f32) (harg14 : arg14.IsWhole) (arg15 : Memref sig .tc .vmem S512x1024 .bf16) (harg15 : arg15.IsWhole) (arg16 : Memref sig .tc .vmem S512x1024 .bf16) (harg16 : arg16.IsWhole) (arg17 : Memref sig .tc .vmem S768x1024 .f32) (harg17 : arg17.IsWhole) (arg18 : Memref sig .tc .vmem S768x1024 .bf16) (harg18 : arg18.IsWhole) (arg19 : Memref sig .tc .vmem S256x1024 .bf16) (harg19 : arg19.IsWhole) (arg20 : Memref sig .tc .vmem S80x1024 .f32) (harg20 : arg20.IsWhole) (v3 : IVec S1x256 32) (v4 : IVec S16x1 32) (v46 : BitVec 32) (v1633 : BitVec 32) (v1638 : FVec F S1x1024 .f32) (v1640 : BitVec 32) (c0_i32_595 : BitVec 32) (v1658 : BitVec 32) (c1_i32_596 : BitVec 32) (X_arg7 : BufTy.Contents (Elt F) arg7.view.ty) (X_arg8 : BufTy.Contents (Elt F) arg8.view.ty) (X_arg19 : BufTy.Contents (Elt F) arg19.view.ty) (s : (FVec F S1x1024 .f32) × (BufTy.Contents (Elt F) arg13.view.ty) × (BufTy.Contents (Elt F) arg14.view.ty) × (BufTy.Contents (Elt F) arg15.view.ty) × (BufTy.Contents (Elt F) arg16.view.ty) × (BufTy.Contents (Elt F) arg20.view.ty)) (k : ℕ) : (FVec F S1x1024 .f32) × (BufTy.Contents (Elt F) arg13.view.ty) × (BufTy.Contents (Elt F) arg14.view.ty) × (BufTy.Contents (Elt F) arg15.view.ty) × (BufTy.Contents (Elt F) arg16.view.ty) × (BufTy.Contents (Elt F) arg20.view.ty) :=
  iter (k0_t1_loop i).trips (tripStep (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v3 v4 v46 v1633 v1638 v1640 c0_i32_595 v1658 c1_i32_596 X_arg7 X_arg8 X_arg19) s k

theorem loopSt_zero (𝒱 : Variants) (c : Dev nD) (bd : Option 𝒱.V) (i : grid0.Coords) (arg3 : Memref sig .tc .vmem S1x256x256 .bf16) (harg3 : arg3.IsWhole) (arg4 : Memref sig .tc .vmem S1x128x256 .f32) (harg4 : arg4.IsWhole) (arg5 : Memref sig .tc .vmem S1x1x128x256 .bf16) (harg5 : arg5.IsWhole) (arg6 : Memref sig .tc .vmem S1x1x4x64x256 .f32) (harg6 : arg6.IsWhole) (arg7 : Memref sig .tc .vmem S1x1x8192x256 .bf16) (harg7 : arg7.IsWhole) (arg8 : Memref sig .tc .vmem S1x1x80x8192 .bf16) (harg8 : arg8.IsWhole) (arg9 : Memref sig .tc .vmem S1x1x8192x64 .bf16) (harg9 : arg9.IsWhole) (arg10 : Memref sig .tc .vmem S1x1x80x8192 .bf16) (harg10 : arg10.IsWhole) (arg11 : Memref sig .tc .vmem S256x1 .f32) (harg11 : arg11.IsWhole) (arg12 : Memref sig .tc .vmem S1x256x256 .bf16) (harg12 : arg12.IsWhole) (arg13 : Memref sig .tc .vmem S512x1024 .f32) (harg13 : arg13.IsWhole) (arg14 : Memref sig .tc .vmem S512x1024 .f32) (harg14 : arg14.IsWhole) (arg15 : Memref sig .tc .vmem S512x1024 .bf16) (harg15 : arg15.IsWhole) (arg16 : Memref sig .tc .vmem S512x1024 .bf16) (harg16 : arg16.IsWhole) (arg17 : Memref sig .tc .vmem S768x1024 .f32) (harg17 : arg17.IsWhole) (arg18 : Memref sig .tc .vmem S768x1024 .bf16) (harg18 : arg18.IsWhole) (arg19 : Memref sig .tc .vmem S256x1024 .bf16) (harg19 : arg19.IsWhole) (arg20 : Memref sig .tc .vmem S80x1024 .f32) (harg20 : arg20.IsWhole) (v3 : IVec S1x256 32) (v4 : IVec S16x1 32) (v46 : BitVec 32) (v1633 : BitVec 32) (v1638 : FVec F S1x1024 .f32) (v1640 : BitVec 32) (c0_i32_595 : BitVec 32) (v1658 : BitVec 32) (c1_i32_596 : BitVec 32) (X_arg7 : BufTy.Contents (Elt F) arg7.view.ty) (X_arg8 : BufTy.Contents (Elt F) arg8.view.ty) (X_arg19 : BufTy.Contents (Elt F) arg19.view.ty) (s : (FVec F S1x1024 .f32) × (BufTy.Contents (Elt F) arg13.view.ty) × (BufTy.Contents (Elt F) arg14.view.ty) × (BufTy.Contents (Elt F) arg15.view.ty) × (BufTy.Contents (Elt F) arg16.view.ty) × (BufTy.Contents (Elt F) arg20.view.ty)) : (loopSt (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v3 v4 v46 v1633 v1638 v1640 c0_i32_595 v1658 c1_i32_596 X_arg7 X_arg8 X_arg19 s 0) = s := rfl

/-- The loop's invariant before trip `k`. -/
abbrev loopI (𝒱 : Variants) (c : Dev nD) (bd : Option 𝒱.V) (i : grid0.Coords) (arg3 : Memref sig .tc .vmem S1x256x256 .bf16) (harg3 : arg3.IsWhole) (arg4 : Memref sig .tc .vmem S1x128x256 .f32) (harg4 : arg4.IsWhole) (arg5 : Memref sig .tc .vmem S1x1x128x256 .bf16) (harg5 : arg5.IsWhole) (arg6 : Memref sig .tc .vmem S1x1x4x64x256 .f32) (harg6 : arg6.IsWhole) (arg7 : Memref sig .tc .vmem S1x1x8192x256 .bf16) (harg7 : arg7.IsWhole) (arg8 : Memref sig .tc .vmem S1x1x80x8192 .bf16) (harg8 : arg8.IsWhole) (arg9 : Memref sig .tc .vmem S1x1x8192x64 .bf16) (harg9 : arg9.IsWhole) (arg10 : Memref sig .tc .vmem S1x1x80x8192 .bf16) (harg10 : arg10.IsWhole) (arg11 : Memref sig .tc .vmem S256x1 .f32) (harg11 : arg11.IsWhole) (arg12 : Memref sig .tc .vmem S1x256x256 .bf16) (harg12 : arg12.IsWhole) (arg13 : Memref sig .tc .vmem S512x1024 .f32) (harg13 : arg13.IsWhole) (arg14 : Memref sig .tc .vmem S512x1024 .f32) (harg14 : arg14.IsWhole) (arg15 : Memref sig .tc .vmem S512x1024 .bf16) (harg15 : arg15.IsWhole) (arg16 : Memref sig .tc .vmem S512x1024 .bf16) (harg16 : arg16.IsWhole) (arg17 : Memref sig .tc .vmem S768x1024 .f32) (harg17 : arg17.IsWhole) (arg18 : Memref sig .tc .vmem S768x1024 .bf16) (harg18 : arg18.IsWhole) (arg19 : Memref sig .tc .vmem S256x1024 .bf16) (harg19 : arg19.IsWhole) (arg20 : Memref sig .tc .vmem S80x1024 .f32) (harg20 : arg20.IsWhole) (v3 : IVec S1x256 32) (v4 : IVec S16x1 32) (v46 : BitVec 32) (v1633 : BitVec 32) (v1638 : FVec F S1x1024 .f32) (v1640 : BitVec 32) (c0_i32_595 : BitVec 32) (v1658 : BitVec 32) (c1_i32_596 : BitVec 32) (X_arg7 : BufTy.Contents (Elt F) arg7.view.ty) (X_arg8 : BufTy.Contents (Elt F) arg8.view.ty) (X_arg19 : BufTy.Contents (Elt F) arg19.view.ty) (G_arg13 : BufTy.Contents (Elt F) arg13.view.ty) (G_arg14 : BufTy.Contents (Elt F) arg14.view.ty) (G_arg15 : BufTy.Contents (Elt F) arg15.view.ty) (G_arg16 : BufTy.Contents (Elt F) arg16.view.ty) (G_arg20 : BufTy.Contents (Elt F) arg20.view.ty) (init : FVec F S1x1024 .f32) (k : ℕ) (acc : FVec F S1x1024 .f32) : sProp 𝕄G :=
  iprop((arg7.view.loc (c : Thread nD τ) ↦[arg7.view.set]{fullShare} X_arg7) ∗ (arg8.view.loc (c : Thread nD τ) ↦[arg8.view.set]{fullShare} X_arg8) ∗ (arg19.view.loc (c : Thread nD τ) ↦[arg19.view.set]{fullShare} X_arg19) ∗ (∃ f, (arg13.view.loc (c : Thread nD τ) ↦[arg13.view.set]{fullShare} f) ∗ ⌜f = (loopSt (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v3 v4 v46 v1633 v1638 v1640 c0_i32_595 v1658 c1_i32_596 X_arg7 X_arg8 X_arg19 (init, G_arg13, G_arg14, G_arg15, G_arg16, G_arg20) k).2.1⌝) ∗ (∃ f, (arg14.view.loc (c : Thread nD τ) ↦[arg14.view.set]{fullShare} f) ∗ ⌜f = (loopSt (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v3 v4 v46 v1633 v1638 v1640 c0_i32_595 v1658 c1_i32_596 X_arg7 X_arg8 X_arg19 (init, G_arg13, G_arg14, G_arg15, G_arg16, G_arg20) k).2.2.1⌝) ∗ (∃ f, (arg15.view.loc (c : Thread nD τ) ↦[arg15.view.set]{fullShare} f) ∗ ⌜f = (loopSt (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v3 v4 v46 v1633 v1638 v1640 c0_i32_595 v1658 c1_i32_596 X_arg7 X_arg8 X_arg19 (init, G_arg13, G_arg14, G_arg15, G_arg16, G_arg20) k).2.2.2.1⌝) ∗ (∃ f, (arg16.view.loc (c : Thread nD τ) ↦[arg16.view.set]{fullShare} f) ∗ ⌜f = (loopSt (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v3 v4 v46 v1633 v1638 v1640 c0_i32_595 v1658 c1_i32_596 X_arg7 X_arg8 X_arg19 (init, G_arg13, G_arg14, G_arg15, G_arg16, G_arg20) k).2.2.2.2.1⌝) ∗ (∃ f, (arg20.view.loc (c : Thread nD τ) ↦[arg20.view.set]{fullShare} f) ∗ ⌜f = (loopSt (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v3 v4 v46 v1633 v1638 v1640 c0_i32_595 v1658 c1_i32_596 X_arg7 X_arg8 X_arg19 (init, G_arg13, G_arg14, G_arg15, G_arg16, G_arg20) k).2.2.2.2.2⌝) ∗ ⌜acc = (loopSt (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v3 v4 v46 v1633 v1638 v1640 c0_i32_595 v1658 c1_i32_596 X_arg7 X_arg8 X_arg19 (init, G_arg13, G_arg14, G_arg15, G_arg16, G_arg20) k).1⌝)

set_option warn.classDefReducibility false in
/-- The loop by its invariant. -/
@[sl_loop] def loopInv (𝒱 : Variants) (c : Dev nD) (bd : Option 𝒱.V) (E : Set ℕ) (i : grid0.Coords) (arg3 : Memref sig .tc .vmem S1x256x256 .bf16) (harg3 : arg3.IsWhole) (arg4 : Memref sig .tc .vmem S1x128x256 .f32) (harg4 : arg4.IsWhole) (arg5 : Memref sig .tc .vmem S1x1x128x256 .bf16) (harg5 : arg5.IsWhole) (arg6 : Memref sig .tc .vmem S1x1x4x64x256 .f32) (harg6 : arg6.IsWhole) (arg7 : Memref sig .tc .vmem S1x1x8192x256 .bf16) (harg7 : arg7.IsWhole) (arg8 : Memref sig .tc .vmem S1x1x80x8192 .bf16) (harg8 : arg8.IsWhole) (arg9 : Memref sig .tc .vmem S1x1x8192x64 .bf16) (harg9 : arg9.IsWhole) (arg10 : Memref sig .tc .vmem S1x1x80x8192 .bf16) (harg10 : arg10.IsWhole) (arg11 : Memref sig .tc .vmem S256x1 .f32) (harg11 : arg11.IsWhole) (arg12 : Memref sig .tc .vmem S1x256x256 .bf16) (harg12 : arg12.IsWhole) (arg13 : Memref sig .tc .vmem S512x1024 .f32) (harg13 : arg13.IsWhole) (arg14 : Memref sig .tc .vmem S512x1024 .f32) (harg14 : arg14.IsWhole) (arg15 : Memref sig .tc .vmem S512x1024 .bf16) (harg15 : arg15.IsWhole) (arg16 : Memref sig .tc .vmem S512x1024 .bf16) (harg16 : arg16.IsWhole) (arg17 : Memref sig .tc .vmem S768x1024 .f32) (harg17 : arg17.IsWhole) (arg18 : Memref sig .tc .vmem S768x1024 .bf16) (harg18 : arg18.IsWhole) (arg19 : Memref sig .tc .vmem S256x1024 .bf16) (harg19 : arg19.IsWhole) (arg20 : Memref sig .tc .vmem S80x1024 .f32) (harg20 : arg20.IsWhole) (v3 : IVec S1x256 32) (v4 : IVec S16x1 32) (v46 : BitVec 32) (v1633 : BitVec 32) (v1638 : FVec F S1x1024 .f32) (v1640 : BitVec 32) (c0_i32_595 : BitVec 32) (v1658 : BitVec 32) (c1_i32_596 : BitVec 32) (X_arg7 : BufTy.Contents (Elt F) arg7.view.ty) (X_arg8 : BufTy.Contents (Elt F) arg8.view.ty) (X_arg19 : BufTy.Contents (Elt F) arg19.view.ty) (G_arg13 : BufTy.Contents (Elt F) arg13.view.ty) (G_arg14 : BufTy.Contents (Elt F) arg14.view.ty) (G_arg15 : BufTy.Contents (Elt F) arg15.view.ty) (G_arg16 : BufTy.Contents (Elt F) arg16.view.ty) (G_arg20 : BufTy.Contents (Elt F) arg20.view.ty) (init : FVec F S1x1024 .f32) :
    Idealize.ShloMosaic.LoopInv (M := 𝕄G) Idealize.ShloMosaic.frame (wpE (defs₀ (F := F)) 𝒱 (c : Thread nD τ) bd) E
      (k0_t1_loop i).lb (k0_t1_loop i).ub (k0_t1_loop i).st (Gen.k0_t1_ok i) init (Gen.k0_t1_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v3 v4 v46 v1633 v1638 v1640 c0_i32_595 v1658 c1_i32_596) where
  inv := loopI (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v3 v4 v46 v1633 v1638 v1640 c0_i32_595 v1658 c1_i32_596 X_arg7 X_arg8 X_arg19 G_arg13 G_arg14 G_arg15 G_arg16 G_arg20 init
  step k acc := by
    iintro ⟨HR_arg7, HR_arg8, HR_arg19, ⟨%f_arg13, HW_arg13, %h_arg13⟩, ⟨%f_arg14, HW_arg14, %h_arg14⟩, ⟨%f_arg15, HW_arg15, %h_arg15⟩, ⟨%f_arg16, HW_arg16, %h_arg16⟩, ⟨%f_arg20, HW_arg20, %h_arg20⟩, %h_acc⟩
    subst h_acc h_arg13 h_arg14 h_arg15 h_arg16 h_arg20
    iapply (wp_wand_r Idealize.ShloMosaic.frame (wpE (defs₀ (F := F)) 𝒱 (c : Thread nD τ) bd) E)
    isplitl [HR_arg7 HR_arg8 HR_arg19 HW_arg13 HW_arg14 HW_arg15 HW_arg16 HW_arg20]
    · iapply ((trip (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v3 v4 v46 v1633 v1638 v1640 c0_i32_595 v1658 c1_i32_596 X_arg7 X_arg8 X_arg19 k).2.2.2.2.2.2 E (loopSt (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v3 v4 v46 v1633 v1638 v1640 c0_i32_595 v1658 c1_i32_596 X_arg7 X_arg8 X_arg19 (init, G_arg13, G_arg14, G_arg15, G_arg16, G_arg20) k).1 _ _ _ _ _)
      isplitl [HR_arg7]; · iexact HR_arg7
      isplitl [HR_arg8]; · iexact HR_arg8
      isplitl [HR_arg19]; · iexact HR_arg19
      isplitl [HW_arg13]; · iexact HW_arg13
      isplitl [HW_arg14]; · iexact HW_arg14
      isplitl [HW_arg15]; · iexact HW_arg15
      isplitl [HW_arg16]; · iexact HW_arg16
      iexact HW_arg20
    · iintro %yld ⟨%h_res, HR_arg7, HR_arg8, HR_arg19, HW_arg13, HW_arg14, HW_arg15, HW_arg16, HW_arg20⟩
      isplitl [HR_arg7]; · iexact HR_arg7
      isplitl [HR_arg8]; · iexact HR_arg8
      isplitl [HR_arg19]; · iexact HR_arg19
      isplitl [HW_arg13]
      · iexists _; isplitl [HW_arg13]; · iexact HW_arg13
        ipureintro; unfold loopSt; rw [iter_succ]; rfl
      isplitl [HW_arg14]
      · iexists _; isplitl [HW_arg14]; · iexact HW_arg14
        ipureintro; unfold loopSt; rw [iter_succ]; rfl
      isplitl [HW_arg15]
      · iexists _; isplitl [HW_arg15]; · iexact HW_arg15
        ipureintro; unfold loopSt; rw [iter_succ]; rfl
      isplitl [HW_arg16]
      · iexists _; isplitl [HW_arg16]; · iexact HW_arg16
        ipureintro; unfold loopSt; rw [iter_succ]; rfl
      isplitl [HW_arg20]
      · iexists _; isplitl [HW_arg20]; · iexact HW_arg20
        ipureintro; unfold loopSt; rw [iter_succ]; rfl
      ipureintro; rw [h_res]; unfold loopSt; rw [iter_succ]; rfl

end Cert.KernelIdeal.Body

end
-- ==== Proof.Body.KernelIdeal.MidTT.lean ====
/- The loop, the odd pair and the even tail, by which of the last two run. -/
module

public import proofs.«01_k».proof.Proof.Body.KernelIdeal.Loop

@[expose] public section

set_option maxRecDepth 16384
set_option maxHeartbeats 4000000

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-- The run under these conditions. -/
def midTT (𝒱 : Variants) (c : Dev nD) (bd : Option 𝒱.V) (i : grid0.Coords) (arg3 : Memref sig .tc .vmem S1x256x256 .bf16) (harg3 : arg3.IsWhole) (arg4 : Memref sig .tc .vmem S1x128x256 .f32) (harg4 : arg4.IsWhole) (arg5 : Memref sig .tc .vmem S1x1x128x256 .bf16) (harg5 : arg5.IsWhole) (arg6 : Memref sig .tc .vmem S1x1x4x64x256 .f32) (harg6 : arg6.IsWhole) (arg7 : Memref sig .tc .vmem S1x1x8192x256 .bf16) (harg7 : arg7.IsWhole) (arg8 : Memref sig .tc .vmem S1x1x80x8192 .bf16) (harg8 : arg8.IsWhole) (arg9 : Memref sig .tc .vmem S1x1x8192x64 .bf16) (harg9 : arg9.IsWhole) (arg10 : Memref sig .tc .vmem S1x1x80x8192 .bf16) (harg10 : arg10.IsWhole) (arg11 : Memref sig .tc .vmem S256x1 .f32) (harg11 : arg11.IsWhole) (arg12 : Memref sig .tc .vmem S1x256x256 .bf16) (harg12 : arg12.IsWhole) (arg13 : Memref sig .tc .vmem S512x1024 .f32) (harg13 : arg13.IsWhole) (arg14 : Memref sig .tc .vmem S512x1024 .f32) (harg14 : arg14.IsWhole) (arg15 : Memref sig .tc .vmem S512x1024 .bf16) (harg15 : arg15.IsWhole) (arg16 : Memref sig .tc .vmem S512x1024 .bf16) (harg16 : arg16.IsWhole) (arg17 : Memref sig .tc .vmem S768x1024 .f32) (harg17 : arg17.IsWhole) (arg18 : Memref sig .tc .vmem S768x1024 .bf16) (harg18 : arg18.IsWhole) (arg19 : Memref sig .tc .vmem S256x1024 .bf16) (harg19 : arg19.IsWhole) (arg20 : Memref sig .tc .vmem S80x1024 .f32) (harg20 : arg20.IsWhole) (v3 : IVec S1x256 32) (v4 : IVec S16x1 32) (v46 : BitVec 32) (v1633 : BitVec 32) (v1638 : FVec F S1x1024 .f32) (v1640 : BitVec 32) (c0_i32_595 : BitVec 32) (v1658 : BitVec 32) (c1_i32_596 : BitVec 32) (X_arg7 : BufTy.Contents (Elt F) arg7.view.ty) (X_arg8 : BufTy.Contents (Elt F) arg8.view.ty) (X_arg19 : BufTy.Contents (Elt F) arg19.view.ty) (h2 : k0_cond2 i = 1#1) (h3 : k0_cond3 i = 1#1) :
    Σ' (R : BufTy.Contents (Elt F) arg13.view.ty → BufTy.Contents (Elt F) arg14.view.ty → BufTy.Contents (Elt F) arg15.view.ty → BufTy.Contents (Elt F) arg16.view.ty → BufTy.Contents (Elt F) arg20.view.ty → (Σ' (v1678 : FVec F S1x1024 .f32) (v1693 : BitVec 32) (v1694 : BitVec 32) (v1695 : BitVec 1), BitVec 32)) (G_arg13 : BufTy.Contents (Elt F) arg13.view.ty → BufTy.Contents (Elt F) arg14.view.ty → BufTy.Contents (Elt F) arg15.view.ty → BufTy.Contents (Elt F) arg16.view.ty → BufTy.Contents (Elt F) arg20.view.ty → BufTy.Contents (Elt F) arg13.view.ty) (G_arg14 : BufTy.Contents (Elt F) arg13.view.ty → BufTy.Contents (Elt F) arg14.view.ty → BufTy.Contents (Elt F) arg15.view.ty → BufTy.Contents (Elt F) arg16.view.ty → BufTy.Contents (Elt F) arg20.view.ty → BufTy.Contents (Elt F) arg14.view.ty) (G_arg15 : BufTy.Contents (Elt F) arg13.view.ty → BufTy.Contents (Elt F) arg14.view.ty → BufTy.Contents (Elt F) arg15.view.ty → BufTy.Contents (Elt F) arg16.view.ty → BufTy.Contents (Elt F) arg20.view.ty → BufTy.Contents (Elt F) arg15.view.ty) (G_arg16 : BufTy.Contents (Elt F) arg13.view.ty → BufTy.Contents (Elt F) arg14.view.ty → BufTy.Contents (Elt F) arg15.view.ty → BufTy.Contents (Elt F) arg16.view.ty → BufTy.Contents (Elt F) arg20.view.ty → BufTy.Contents (Elt F) arg16.view.ty), { G_arg20 : BufTy.Contents (Elt F) arg13.view.ty → BufTy.Contents (Elt F) arg14.view.ty → BufTy.Contents (Elt F) arg15.view.ty → BufTy.Contents (Elt F) arg16.view.ty → BufTy.Contents (Elt F) arg20.view.ty → BufTy.Contents (Elt F) arg20.view.ty // ∀ (E : Set ℕ) (f_arg13 : BufTy.Contents (Elt F) arg13.view.ty) (f_arg14 : BufTy.Contents (Elt F) arg14.view.ty) (f_arg15 : BufTy.Contents (Elt F) arg15.view.ty) (f_arg16 : BufTy.Contents (Elt F) arg16.view.ty) (f_arg20 : BufTy.Contents (Elt F) arg20.view.ty),
      Held (F := F) c arg7 arg8 arg19 arg13 arg14 arg15 arg16 arg20 X_arg7 X_arg8 X_arg19 f_arg13 f_arg14 f_arg15 f_arg16 f_arg20
      ⊢ wp frame (wpE (defs₀ (F := F)) 𝒱 (c : Thread nD τ) bd) E (k0_part242 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v3 v4 v46 v1633 v1638 v1640 c0_i32_595 v1658 c1_i32_596)
          (fun yld => iprop(⌜yld = R f_arg13 f_arg14 f_arg15 f_arg16 f_arg20⌝ ∗ Held (F := F) c arg7 arg8 arg19 arg13 arg14 arg15 arg16 arg20 X_arg7 X_arg8 X_arg19 (G_arg13 f_arg13 f_arg14 f_arg15 f_arg16 f_arg20) (G_arg14 f_arg13 f_arg14 f_arg15 f_arg16 f_arg20) (G_arg15 f_arg13 f_arg14 f_arg15 f_arg16 f_arg20) (G_arg16 f_arg13 f_arg14 f_arg15 f_arg16 f_arg20) (G_arg20 f_arg13 f_arg14 f_arg15 f_arg16 f_arg20))) } := by
  refine ⟨?_, ?_, ?_, ?_, ?_, ?_, fun E f_arg13 f_arg14 f_arg15 f_arg16 f_arg20 => ?run⟩
  case run =>
    iintro ⟨Harg7, Harg8, Harg19, Harg13, Harg14, Harg15, Harg16, Harg20⟩
    sl_exec
    sl_step
    sl_close

end Cert.KernelIdeal.Body

end
-- ==== Proof.Body.KernelIdeal.MidTF.lean ====
/- The loop, the odd pair and the even tail, by which of the last two run. -/
module

public import proofs.«01_k».proof.Proof.Body.KernelIdeal.Loop

@[expose] public section

set_option maxRecDepth 16384
set_option maxHeartbeats 4000000

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-- The run under these conditions. -/
def midTF (𝒱 : Variants) (c : Dev nD) (bd : Option 𝒱.V) (i : grid0.Coords) (arg3 : Memref sig .tc .vmem S1x256x256 .bf16) (harg3 : arg3.IsWhole) (arg4 : Memref sig .tc .vmem S1x128x256 .f32) (harg4 : arg4.IsWhole) (arg5 : Memref sig .tc .vmem S1x1x128x256 .bf16) (harg5 : arg5.IsWhole) (arg6 : Memref sig .tc .vmem S1x1x4x64x256 .f32) (harg6 : arg6.IsWhole) (arg7 : Memref sig .tc .vmem S1x1x8192x256 .bf16) (harg7 : arg7.IsWhole) (arg8 : Memref sig .tc .vmem S1x1x80x8192 .bf16) (harg8 : arg8.IsWhole) (arg9 : Memref sig .tc .vmem S1x1x8192x64 .bf16) (harg9 : arg9.IsWhole) (arg10 : Memref sig .tc .vmem S1x1x80x8192 .bf16) (harg10 : arg10.IsWhole) (arg11 : Memref sig .tc .vmem S256x1 .f32) (harg11 : arg11.IsWhole) (arg12 : Memref sig .tc .vmem S1x256x256 .bf16) (harg12 : arg12.IsWhole) (arg13 : Memref sig .tc .vmem S512x1024 .f32) (harg13 : arg13.IsWhole) (arg14 : Memref sig .tc .vmem S512x1024 .f32) (harg14 : arg14.IsWhole) (arg15 : Memref sig .tc .vmem S512x1024 .bf16) (harg15 : arg15.IsWhole) (arg16 : Memref sig .tc .vmem S512x1024 .bf16) (harg16 : arg16.IsWhole) (arg17 : Memref sig .tc .vmem S768x1024 .f32) (harg17 : arg17.IsWhole) (arg18 : Memref sig .tc .vmem S768x1024 .bf16) (harg18 : arg18.IsWhole) (arg19 : Memref sig .tc .vmem S256x1024 .bf16) (harg19 : arg19.IsWhole) (arg20 : Memref sig .tc .vmem S80x1024 .f32) (harg20 : arg20.IsWhole) (v3 : IVec S1x256 32) (v4 : IVec S16x1 32) (v46 : BitVec 32) (v1633 : BitVec 32) (v1638 : FVec F S1x1024 .f32) (v1640 : BitVec 32) (c0_i32_595 : BitVec 32) (v1658 : BitVec 32) (c1_i32_596 : BitVec 32) (X_arg7 : BufTy.Contents (Elt F) arg7.view.ty) (X_arg8 : BufTy.Contents (Elt F) arg8.view.ty) (X_arg19 : BufTy.Contents (Elt F) arg19.view.ty) (h2 : k0_cond2 i = 1#1) (h3 : ¬ k0_cond3 i = 1#1) :
    Σ' (R : BufTy.Contents (Elt F) arg13.view.ty → BufTy.Contents (Elt F) arg14.view.ty → BufTy.Contents (Elt F) arg15.view.ty → BufTy.Contents (Elt F) arg16.view.ty → BufTy.Contents (Elt F) arg20.view.ty → (Σ' (v1678 : FVec F S1x1024 .f32) (v1693 : BitVec 32) (v1694 : BitVec 32) (v1695 : BitVec 1), BitVec 32)) (G_arg13 : BufTy.Contents (Elt F) arg13.view.ty → BufTy.Contents (Elt F) arg14.view.ty → BufTy.Contents (Elt F) arg15.view.ty → BufTy.Contents (Elt F) arg16.view.ty → BufTy.Contents (Elt F) arg20.view.ty → BufTy.Contents (Elt F) arg13.view.ty) (G_arg14 : BufTy.Contents (Elt F) arg13.view.ty → BufTy.Contents (Elt F) arg14.view.ty → BufTy.Contents (Elt F) arg15.view.ty → BufTy.Contents (Elt F) arg16.view.ty → BufTy.Contents (Elt F) arg20.view.ty → BufTy.Contents (Elt F) arg14.view.ty) (G_arg15 : BufTy.Contents (Elt F) arg13.view.ty → BufTy.Contents (Elt F) arg14.view.ty → BufTy.Contents (Elt F) arg15.view.ty → BufTy.Contents (Elt F) arg16.view.ty → BufTy.Contents (Elt F) arg20.view.ty → BufTy.Contents (Elt F) arg15.view.ty) (G_arg16 : BufTy.Contents (Elt F) arg13.view.ty → BufTy.Contents (Elt F) arg14.view.ty → BufTy.Contents (Elt F) arg15.view.ty → BufTy.Contents (Elt F) arg16.view.ty → BufTy.Contents (Elt F) arg20.view.ty → BufTy.Contents (Elt F) arg16.view.ty), { G_arg20 : BufTy.Contents (Elt F) arg13.view.ty → BufTy.Contents (Elt F) arg14.view.ty → BufTy.Contents (Elt F) arg15.view.ty → BufTy.Contents (Elt F) arg16.view.ty → BufTy.Contents (Elt F) arg20.view.ty → BufTy.Contents (Elt F) arg20.view.ty // ∀ (E : Set ℕ) (f_arg13 : BufTy.Contents (Elt F) arg13.view.ty) (f_arg14 : BufTy.Contents (Elt F) arg14.view.ty) (f_arg15 : BufTy.Contents (Elt F) arg15.view.ty) (f_arg16 : BufTy.Contents (Elt F) arg16.view.ty) (f_arg20 : BufTy.Contents (Elt F) arg20.view.ty),
      Held (F := F) c arg7 arg8 arg19 arg13 arg14 arg15 arg16 arg20 X_arg7 X_arg8 X_arg19 f_arg13 f_arg14 f_arg15 f_arg16 f_arg20
      ⊢ wp frame (wpE (defs₀ (F := F)) 𝒱 (c : Thread nD τ) bd) E (k0_part242 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v3 v4 v46 v1633 v1638 v1640 c0_i32_595 v1658 c1_i32_596)
          (fun yld => iprop(⌜yld = R f_arg13 f_arg14 f_arg15 f_arg16 f_arg20⌝ ∗ Held (F := F) c arg7 arg8 arg19 arg13 arg14 arg15 arg16 arg20 X_arg7 X_arg8 X_arg19 (G_arg13 f_arg13 f_arg14 f_arg15 f_arg16 f_arg20) (G_arg14 f_arg13 f_arg14 f_arg15 f_arg16 f_arg20) (G_arg15 f_arg13 f_arg14 f_arg15 f_arg16 f_arg20) (G_arg16 f_arg13 f_arg14 f_arg15 f_arg16 f_arg20) (G_arg20 f_arg13 f_arg14 f_arg15 f_arg16 f_arg20))) } := by
  refine ⟨?_, ?_, ?_, ?_, ?_, ?_, fun E f_arg13 f_arg14 f_arg15 f_arg16 f_arg20 => ?run⟩
  case run =>
    iintro ⟨Harg7, Harg8, Harg19, Harg13, Harg14, Harg15, Harg16, Harg20⟩
    sl_exec
    sl_step
    sl_close

end Cert.KernelIdeal.Body

end
-- ==== Proof.Body.KernelIdeal.MidFT.lean ====
/- The loop, the odd pair and the even tail, by which of the last two run. -/
module

public import proofs.«01_k».proof.Proof.Body.KernelIdeal.Loop

@[expose] public section

set_option maxRecDepth 16384
set_option maxHeartbeats 4000000

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-- The run under these conditions. -/
def midFT (𝒱 : Variants) (c : Dev nD) (bd : Option 𝒱.V) (i : grid0.Coords) (arg3 : Memref sig .tc .vmem S1x256x256 .bf16) (harg3 : arg3.IsWhole) (arg4 : Memref sig .tc .vmem S1x128x256 .f32) (harg4 : arg4.IsWhole) (arg5 : Memref sig .tc .vmem S1x1x128x256 .bf16) (harg5 : arg5.IsWhole) (arg6 : Memref sig .tc .vmem S1x1x4x64x256 .f32) (harg6 : arg6.IsWhole) (arg7 : Memref sig .tc .vmem S1x1x8192x256 .bf16) (harg7 : arg7.IsWhole) (arg8 : Memref sig .tc .vmem S1x1x80x8192 .bf16) (harg8 : arg8.IsWhole) (arg9 : Memref sig .tc .vmem S1x1x8192x64 .bf16) (harg9 : arg9.IsWhole) (arg10 : Memref sig .tc .vmem S1x1x80x8192 .bf16) (harg10 : arg10.IsWhole) (arg11 : Memref sig .tc .vmem S256x1 .f32) (harg11 : arg11.IsWhole) (arg12 : Memref sig .tc .vmem S1x256x256 .bf16) (harg12 : arg12.IsWhole) (arg13 : Memref sig .tc .vmem S512x1024 .f32) (harg13 : arg13.IsWhole) (arg14 : Memref sig .tc .vmem S512x1024 .f32) (harg14 : arg14.IsWhole) (arg15 : Memref sig .tc .vmem S512x1024 .bf16) (harg15 : arg15.IsWhole) (arg16 : Memref sig .tc .vmem S512x1024 .bf16) (harg16 : arg16.IsWhole) (arg17 : Memref sig .tc .vmem S768x1024 .f32) (harg17 : arg17.IsWhole) (arg18 : Memref sig .tc .vmem S768x1024 .bf16) (harg18 : arg18.IsWhole) (arg19 : Memref sig .tc .vmem S256x1024 .bf16) (harg19 : arg19.IsWhole) (arg20 : Memref sig .tc .vmem S80x1024 .f32) (harg20 : arg20.IsWhole) (v3 : IVec S1x256 32) (v4 : IVec S16x1 32) (v46 : BitVec 32) (v1633 : BitVec 32) (v1638 : FVec F S1x1024 .f32) (v1640 : BitVec 32) (c0_i32_595 : BitVec 32) (v1658 : BitVec 32) (c1_i32_596 : BitVec 32) (X_arg7 : BufTy.Contents (Elt F) arg7.view.ty) (X_arg8 : BufTy.Contents (Elt F) arg8.view.ty) (X_arg19 : BufTy.Contents (Elt F) arg19.view.ty) (h2 : ¬ k0_cond2 i = 1#1) (h3 : k0_cond3 i = 1#1) :
    Σ' (R : BufTy.Contents (Elt F) arg13.view.ty → BufTy.Contents (Elt F) arg14.view.ty → BufTy.Contents (Elt F) arg15.view.ty → BufTy.Contents (Elt F) arg16.view.ty → BufTy.Contents (Elt F) arg20.view.ty → (Σ' (v1678 : FVec F S1x1024 .f32) (v1693 : BitVec 32) (v1694 : BitVec 32) (v1695 : BitVec 1), BitVec 32)) (G_arg13 : BufTy.Contents (Elt F) arg13.view.ty → BufTy.Contents (Elt F) arg14.view.ty → BufTy.Contents (Elt F) arg15.view.ty → BufTy.Contents (Elt F) arg16.view.ty → BufTy.Contents (Elt F) arg20.view.ty → BufTy.Contents (Elt F) arg13.view.ty) (G_arg14 : BufTy.Contents (Elt F) arg13.view.ty → BufTy.Contents (Elt F) arg14.view.ty → BufTy.Contents (Elt F) arg15.view.ty → BufTy.Contents (Elt F) arg16.view.ty → BufTy.Contents (Elt F) arg20.view.ty → BufTy.Contents (Elt F) arg14.view.ty) (G_arg15 : BufTy.Contents (Elt F) arg13.view.ty → BufTy.Contents (Elt F) arg14.view.ty → BufTy.Contents (Elt F) arg15.view.ty → BufTy.Contents (Elt F) arg16.view.ty → BufTy.Contents (Elt F) arg20.view.ty → BufTy.Contents (Elt F) arg15.view.ty) (G_arg16 : BufTy.Contents (Elt F) arg13.view.ty → BufTy.Contents (Elt F) arg14.view.ty → BufTy.Contents (Elt F) arg15.view.ty → BufTy.Contents (Elt F) arg16.view.ty → BufTy.Contents (Elt F) arg20.view.ty → BufTy.Contents (Elt F) arg16.view.ty), { G_arg20 : BufTy.Contents (Elt F) arg13.view.ty → BufTy.Contents (Elt F) arg14.view.ty → BufTy.Contents (Elt F) arg15.view.ty → BufTy.Contents (Elt F) arg16.view.ty → BufTy.Contents (Elt F) arg20.view.ty → BufTy.Contents (Elt F) arg20.view.ty // ∀ (E : Set ℕ) (f_arg13 : BufTy.Contents (Elt F) arg13.view.ty) (f_arg14 : BufTy.Contents (Elt F) arg14.view.ty) (f_arg15 : BufTy.Contents (Elt F) arg15.view.ty) (f_arg16 : BufTy.Contents (Elt F) arg16.view.ty) (f_arg20 : BufTy.Contents (Elt F) arg20.view.ty),
      Held (F := F) c arg7 arg8 arg19 arg13 arg14 arg15 arg16 arg20 X_arg7 X_arg8 X_arg19 f_arg13 f_arg14 f_arg15 f_arg16 f_arg20
      ⊢ wp frame (wpE (defs₀ (F := F)) 𝒱 (c : Thread nD τ) bd) E (k0_part242 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v3 v4 v46 v1633 v1638 v1640 c0_i32_595 v1658 c1_i32_596)
          (fun yld => iprop(⌜yld = R f_arg13 f_arg14 f_arg15 f_arg16 f_arg20⌝ ∗ Held (F := F) c arg7 arg8 arg19 arg13 arg14 arg15 arg16 arg20 X_arg7 X_arg8 X_arg19 (G_arg13 f_arg13 f_arg14 f_arg15 f_arg16 f_arg20) (G_arg14 f_arg13 f_arg14 f_arg15 f_arg16 f_arg20) (G_arg15 f_arg13 f_arg14 f_arg15 f_arg16 f_arg20) (G_arg16 f_arg13 f_arg14 f_arg15 f_arg16 f_arg20) (G_arg20 f_arg13 f_arg14 f_arg15 f_arg16 f_arg20))) } := by
  refine ⟨?_, ?_, ?_, ?_, ?_, ?_, fun E f_arg13 f_arg14 f_arg15 f_arg16 f_arg20 => ?run⟩
  case run =>
    iintro ⟨Harg7, Harg8, Harg19, Harg13, Harg14, Harg15, Harg16, Harg20⟩
    sl_exec
    sl_step
    sl_close

end Cert.KernelIdeal.Body

end
-- ==== Proof.Body.KernelIdeal.MidFF.lean ====
/- The loop, the odd pair and the even tail, by which of the last two run. -/
module

public import proofs.«01_k».proof.Proof.Body.KernelIdeal.Loop

@[expose] public section

set_option maxRecDepth 16384
set_option maxHeartbeats 4000000

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-- The run under these conditions. -/
def midFF (𝒱 : Variants) (c : Dev nD) (bd : Option 𝒱.V) (i : grid0.Coords) (arg3 : Memref sig .tc .vmem S1x256x256 .bf16) (harg3 : arg3.IsWhole) (arg4 : Memref sig .tc .vmem S1x128x256 .f32) (harg4 : arg4.IsWhole) (arg5 : Memref sig .tc .vmem S1x1x128x256 .bf16) (harg5 : arg5.IsWhole) (arg6 : Memref sig .tc .vmem S1x1x4x64x256 .f32) (harg6 : arg6.IsWhole) (arg7 : Memref sig .tc .vmem S1x1x8192x256 .bf16) (harg7 : arg7.IsWhole) (arg8 : Memref sig .tc .vmem S1x1x80x8192 .bf16) (harg8 : arg8.IsWhole) (arg9 : Memref sig .tc .vmem S1x1x8192x64 .bf16) (harg9 : arg9.IsWhole) (arg10 : Memref sig .tc .vmem S1x1x80x8192 .bf16) (harg10 : arg10.IsWhole) (arg11 : Memref sig .tc .vmem S256x1 .f32) (harg11 : arg11.IsWhole) (arg12 : Memref sig .tc .vmem S1x256x256 .bf16) (harg12 : arg12.IsWhole) (arg13 : Memref sig .tc .vmem S512x1024 .f32) (harg13 : arg13.IsWhole) (arg14 : Memref sig .tc .vmem S512x1024 .f32) (harg14 : arg14.IsWhole) (arg15 : Memref sig .tc .vmem S512x1024 .bf16) (harg15 : arg15.IsWhole) (arg16 : Memref sig .tc .vmem S512x1024 .bf16) (harg16 : arg16.IsWhole) (arg17 : Memref sig .tc .vmem S768x1024 .f32) (harg17 : arg17.IsWhole) (arg18 : Memref sig .tc .vmem S768x1024 .bf16) (harg18 : arg18.IsWhole) (arg19 : Memref sig .tc .vmem S256x1024 .bf16) (harg19 : arg19.IsWhole) (arg20 : Memref sig .tc .vmem S80x1024 .f32) (harg20 : arg20.IsWhole) (v3 : IVec S1x256 32) (v4 : IVec S16x1 32) (v46 : BitVec 32) (v1633 : BitVec 32) (v1638 : FVec F S1x1024 .f32) (v1640 : BitVec 32) (c0_i32_595 : BitVec 32) (v1658 : BitVec 32) (c1_i32_596 : BitVec 32) (X_arg7 : BufTy.Contents (Elt F) arg7.view.ty) (X_arg8 : BufTy.Contents (Elt F) arg8.view.ty) (X_arg19 : BufTy.Contents (Elt F) arg19.view.ty) (h2 : ¬ k0_cond2 i = 1#1) (h3 : ¬ k0_cond3 i = 1#1) :
    Σ' (R : BufTy.Contents (Elt F) arg13.view.ty → BufTy.Contents (Elt F) arg14.view.ty → BufTy.Contents (Elt F) arg15.view.ty → BufTy.Contents (Elt F) arg16.view.ty → BufTy.Contents (Elt F) arg20.view.ty → (Σ' (v1678 : FVec F S1x1024 .f32) (v1693 : BitVec 32) (v1694 : BitVec 32) (v1695 : BitVec 1), BitVec 32)) (G_arg13 : BufTy.Contents (Elt F) arg13.view.ty → BufTy.Contents (Elt F) arg14.view.ty → BufTy.Contents (Elt F) arg15.view.ty → BufTy.Contents (Elt F) arg16.view.ty → BufTy.Contents (Elt F) arg20.view.ty → BufTy.Contents (Elt F) arg13.view.ty) (G_arg14 : BufTy.Contents (Elt F) arg13.view.ty → BufTy.Contents (Elt F) arg14.view.ty → BufTy.Contents (Elt F) arg15.view.ty → BufTy.Contents (Elt F) arg16.view.ty → BufTy.Contents (Elt F) arg20.view.ty → BufTy.Contents (Elt F) arg14.view.ty) (G_arg15 : BufTy.Contents (Elt F) arg13.view.ty → BufTy.Contents (Elt F) arg14.view.ty → BufTy.Contents (Elt F) arg15.view.ty → BufTy.Contents (Elt F) arg16.view.ty → BufTy.Contents (Elt F) arg20.view.ty → BufTy.Contents (Elt F) arg15.view.ty) (G_arg16 : BufTy.Contents (Elt F) arg13.view.ty → BufTy.Contents (Elt F) arg14.view.ty → BufTy.Contents (Elt F) arg15.view.ty → BufTy.Contents (Elt F) arg16.view.ty → BufTy.Contents (Elt F) arg20.view.ty → BufTy.Contents (Elt F) arg16.view.ty), { G_arg20 : BufTy.Contents (Elt F) arg13.view.ty → BufTy.Contents (Elt F) arg14.view.ty → BufTy.Contents (Elt F) arg15.view.ty → BufTy.Contents (Elt F) arg16.view.ty → BufTy.Contents (Elt F) arg20.view.ty → BufTy.Contents (Elt F) arg20.view.ty // ∀ (E : Set ℕ) (f_arg13 : BufTy.Contents (Elt F) arg13.view.ty) (f_arg14 : BufTy.Contents (Elt F) arg14.view.ty) (f_arg15 : BufTy.Contents (Elt F) arg15.view.ty) (f_arg16 : BufTy.Contents (Elt F) arg16.view.ty) (f_arg20 : BufTy.Contents (Elt F) arg20.view.ty),
      Held (F := F) c arg7 arg8 arg19 arg13 arg14 arg15 arg16 arg20 X_arg7 X_arg8 X_arg19 f_arg13 f_arg14 f_arg15 f_arg16 f_arg20
      ⊢ wp frame (wpE (defs₀ (F := F)) 𝒱 (c : Thread nD τ) bd) E (k0_part242 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v3 v4 v46 v1633 v1638 v1640 c0_i32_595 v1658 c1_i32_596)
          (fun yld => iprop(⌜yld = R f_arg13 f_arg14 f_arg15 f_arg16 f_arg20⌝ ∗ Held (F := F) c arg7 arg8 arg19 arg13 arg14 arg15 arg16 arg20 X_arg7 X_arg8 X_arg19 (G_arg13 f_arg13 f_arg14 f_arg15 f_arg16 f_arg20) (G_arg14 f_arg13 f_arg14 f_arg15 f_arg16 f_arg20) (G_arg15 f_arg13 f_arg14 f_arg15 f_arg16 f_arg20) (G_arg16 f_arg13 f_arg14 f_arg15 f_arg16 f_arg20) (G_arg20 f_arg13 f_arg14 f_arg15 f_arg16 f_arg20))) } := by
  refine ⟨?_, ?_, ?_, ?_, ?_, ?_, fun E f_arg13 f_arg14 f_arg15 f_arg16 f_arg20 => ?run⟩
  case run =>
    iintro ⟨Harg7, Harg8, Harg19, Harg13, Harg14, Harg15, Harg16, Harg20⟩
    sl_exec
    sl_step
    sl_close

end Cert.KernelIdeal.Body

end
-- ==== Proof.Body.KernelIdeal.LastT.lean ====
/- The odd tail, if it runs, and the accumulator normalised. -/
module

public import proofs.«01_k».proof.Proof.Body.KernelIdeal.Held

@[expose] public section

set_option maxRecDepth 16384
set_option maxHeartbeats 4000000

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-- The run under this condition. -/
def lastT (𝒱 : Variants) (c : Dev nD) (bd : Option 𝒱.V) (i : grid0.Coords) (arg3 : Memref sig .tc .vmem S1x256x256 .bf16) (harg3 : arg3.IsWhole) (arg4 : Memref sig .tc .vmem S1x128x256 .f32) (harg4 : arg4.IsWhole) (arg5 : Memref sig .tc .vmem S1x1x128x256 .bf16) (harg5 : arg5.IsWhole) (arg6 : Memref sig .tc .vmem S1x1x4x64x256 .f32) (harg6 : arg6.IsWhole) (arg7 : Memref sig .tc .vmem S1x1x8192x256 .bf16) (harg7 : arg7.IsWhole) (arg8 : Memref sig .tc .vmem S1x1x80x8192 .bf16) (harg8 : arg8.IsWhole) (arg9 : Memref sig .tc .vmem S1x1x8192x64 .bf16) (harg9 : arg9.IsWhole) (arg10 : Memref sig .tc .vmem S1x1x80x8192 .bf16) (harg10 : arg10.IsWhole) (arg11 : Memref sig .tc .vmem S256x1 .f32) (harg11 : arg11.IsWhole) (arg12 : Memref sig .tc .vmem S1x256x256 .bf16) (harg12 : arg12.IsWhole) (arg13 : Memref sig .tc .vmem S512x1024 .f32) (harg13 : arg13.IsWhole) (arg14 : Memref sig .tc .vmem S512x1024 .f32) (harg14 : arg14.IsWhole) (arg15 : Memref sig .tc .vmem S512x1024 .bf16) (harg15 : arg15.IsWhole) (arg16 : Memref sig .tc .vmem S512x1024 .bf16) (harg16 : arg16.IsWhole) (arg17 : Memref sig .tc .vmem S768x1024 .f32) (harg17 : arg17.IsWhole) (arg18 : Memref sig .tc .vmem S768x1024 .bf16) (harg18 : arg18.IsWhole) (arg19 : Memref sig .tc .vmem S256x1024 .bf16) (harg19 : arg19.IsWhole) (arg20 : Memref sig .tc .vmem S80x1024 .f32) (harg20 : arg20.IsWhole) (v3 : IVec S1x256 32) (v4 : IVec S16x1 32) (v46 : BitVec 32) (v1616 : FVec F S64x1024 .f32) (v1633 : BitVec 32) (v1678 : FVec F S1x1024 .f32) (v1693 : BitVec 32) (v1694 : BitVec 32) (v1695 : BitVec 1) (c0_i32_619 : BitVec 32) (X_arg4 : BufTy.Contents (Elt F) arg4.view.ty) (X_arg6 : BufTy.Contents (Elt F) arg6.view.ty) (X_arg7 : BufTy.Contents (Elt F) arg7.view.ty) (X_arg8 : BufTy.Contents (Elt F) arg8.view.ty) (X_arg19 : BufTy.Contents (Elt F) arg19.view.ty) (h : k0_cond4 i = 1#1) :
    Σ' (R : BufTy.Contents (Elt F) arg13.view.ty → BufTy.Contents (Elt F) arg14.view.ty → BufTy.Contents (Elt F) arg15.view.ty → BufTy.Contents (Elt F) arg16.view.ty → BufTy.Contents (Elt F) arg20.view.ty → (Σ' (v1711 : FVec F S64x1024 .f32) (v1713 : FVec F S128x256 .f32) (v1728 : FVec F S64x256 .f32), FVec F S64x256 .f32)) (G_arg13 : BufTy.Contents (Elt F) arg13.view.ty → BufTy.Contents (Elt F) arg14.view.ty → BufTy.Contents (Elt F) arg15.view.ty → BufTy.Contents (Elt F) arg16.view.ty → BufTy.Contents (Elt F) arg20.view.ty → BufTy.Contents (Elt F) arg13.view.ty) (G_arg14 : BufTy.Contents (Elt F) arg13.view.ty → BufTy.Contents (Elt F) arg14.view.ty → BufTy.Contents (Elt F) arg15.view.ty → BufTy.Contents (Elt F) arg16.view.ty → BufTy.Contents (Elt F) arg20.view.ty → BufTy.Contents (Elt F) arg14.view.ty) (G_arg15 : BufTy.Contents (Elt F) arg13.view.ty → BufTy.Contents (Elt F) arg14.view.ty → BufTy.Contents (Elt F) arg15.view.ty → BufTy.Contents (Elt F) arg16.view.ty → BufTy.Contents (Elt F) arg20.view.ty → BufTy.Contents (Elt F) arg15.view.ty) (G_arg16 : BufTy.Contents (Elt F) arg13.view.ty → BufTy.Contents (Elt F) arg14.view.ty → BufTy.Contents (Elt F) arg15.view.ty → BufTy.Contents (Elt F) arg16.view.ty → BufTy.Contents (Elt F) arg20.view.ty → BufTy.Contents (Elt F) arg16.view.ty), { G_arg20 : BufTy.Contents (Elt F) arg13.view.ty → BufTy.Contents (Elt F) arg14.view.ty → BufTy.Contents (Elt F) arg15.view.ty → BufTy.Contents (Elt F) arg16.view.ty → BufTy.Contents (Elt F) arg20.view.ty → BufTy.Contents (Elt F) arg20.view.ty // ∀ (E : Set ℕ) (f_arg13 : BufTy.Contents (Elt F) arg13.view.ty) (f_arg14 : BufTy.Contents (Elt F) arg14.view.ty) (f_arg15 : BufTy.Contents (Elt F) arg15.view.ty) (f_arg16 : BufTy.Contents (Elt F) arg16.view.ty) (f_arg20 : BufTy.Contents (Elt F) arg20.view.ty),
      HeldT (F := F) c arg4 arg6 arg7 arg8 arg19 arg13 arg14 arg15 arg16 arg20 X_arg4 X_arg6 X_arg7 X_arg8 X_arg19 f_arg13 f_arg14 f_arg15 f_arg16 f_arg20
      ⊢ wp frame (wpE (defs₀ (F := F)) 𝒱 (c : Thread nD τ) bd) E (k0_part243 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v3 v4 v46 v1616 v1633 v1678 v1693 v1694 v1695 c0_i32_619)
          (fun yld => iprop(⌜yld = R f_arg13 f_arg14 f_arg15 f_arg16 f_arg20⌝ ∗ HeldT (F := F) c arg4 arg6 arg7 arg8 arg19 arg13 arg14 arg15 arg16 arg20 X_arg4 X_arg6 X_arg7 X_arg8 X_arg19 (G_arg13 f_arg13 f_arg14 f_arg15 f_arg16 f_arg20) (G_arg14 f_arg13 f_arg14 f_arg15 f_arg16 f_arg20) (G_arg15 f_arg13 f_arg14 f_arg15 f_arg16 f_arg20) (G_arg16 f_arg13 f_arg14 f_arg15 f_arg16 f_arg20) (G_arg20 f_arg13 f_arg14 f_arg15 f_arg16 f_arg20))) } := by
  refine ⟨?_, ?_, ?_, ?_, ?_, ?_, fun E f_arg13 f_arg14 f_arg15 f_arg16 f_arg20 => ?run⟩
  case run =>
    iintro ⟨Harg4, Harg6, Harg7, Harg8, Harg19, Harg13, Harg14, Harg15, Harg16, Harg20⟩
    sl_exec
    sl_step
    sl_close

end Cert.KernelIdeal.Body

end
-- ==== Proof.Body.KernelIdeal.LastF.lean ====
/- The odd tail, if it runs, and the accumulator normalised. -/
module

public import proofs.«01_k».proof.Proof.Body.KernelIdeal.Held

@[expose] public section

set_option maxRecDepth 16384
set_option maxHeartbeats 4000000

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-- The run under this condition. -/
def lastF (𝒱 : Variants) (c : Dev nD) (bd : Option 𝒱.V) (i : grid0.Coords) (arg3 : Memref sig .tc .vmem S1x256x256 .bf16) (harg3 : arg3.IsWhole) (arg4 : Memref sig .tc .vmem S1x128x256 .f32) (harg4 : arg4.IsWhole) (arg5 : Memref sig .tc .vmem S1x1x128x256 .bf16) (harg5 : arg5.IsWhole) (arg6 : Memref sig .tc .vmem S1x1x4x64x256 .f32) (harg6 : arg6.IsWhole) (arg7 : Memref sig .tc .vmem S1x1x8192x256 .bf16) (harg7 : arg7.IsWhole) (arg8 : Memref sig .tc .vmem S1x1x80x8192 .bf16) (harg8 : arg8.IsWhole) (arg9 : Memref sig .tc .vmem S1x1x8192x64 .bf16) (harg9 : arg9.IsWhole) (arg10 : Memref sig .tc .vmem S1x1x80x8192 .bf16) (harg10 : arg10.IsWhole) (arg11 : Memref sig .tc .vmem S256x1 .f32) (harg11 : arg11.IsWhole) (arg12 : Memref sig .tc .vmem S1x256x256 .bf16) (harg12 : arg12.IsWhole) (arg13 : Memref sig .tc .vmem S512x1024 .f32) (harg13 : arg13.IsWhole) (arg14 : Memref sig .tc .vmem S512x1024 .f32) (harg14 : arg14.IsWhole) (arg15 : Memref sig .tc .vmem S512x1024 .bf16) (harg15 : arg15.IsWhole) (arg16 : Memref sig .tc .vmem S512x1024 .bf16) (harg16 : arg16.IsWhole) (arg17 : Memref sig .tc .vmem S768x1024 .f32) (harg17 : arg17.IsWhole) (arg18 : Memref sig .tc .vmem S768x1024 .bf16) (harg18 : arg18.IsWhole) (arg19 : Memref sig .tc .vmem S256x1024 .bf16) (harg19 : arg19.IsWhole) (arg20 : Memref sig .tc .vmem S80x1024 .f32) (harg20 : arg20.IsWhole) (v3 : IVec S1x256 32) (v4 : IVec S16x1 32) (v46 : BitVec 32) (v1616 : FVec F S64x1024 .f32) (v1633 : BitVec 32) (v1678 : FVec F S1x1024 .f32) (v1693 : BitVec 32) (v1694 : BitVec 32) (v1695 : BitVec 1) (c0_i32_619 : BitVec 32) (X_arg4 : BufTy.Contents (Elt F) arg4.view.ty) (X_arg6 : BufTy.Contents (Elt F) arg6.view.ty) (X_arg7 : BufTy.Contents (Elt F) arg7.view.ty) (X_arg8 : BufTy.Contents (Elt F) arg8.view.ty) (X_arg19 : BufTy.Contents (Elt F) arg19.view.ty) (h : ¬ k0_cond4 i = 1#1) :
    Σ' (R : BufTy.Contents (Elt F) arg13.view.ty → BufTy.Contents (Elt F) arg14.view.ty → BufTy.Contents (Elt F) arg15.view.ty → BufTy.Contents (Elt F) arg16.view.ty → BufTy.Contents (Elt F) arg20.view.ty → (Σ' (v1711 : FVec F S64x1024 .f32) (v1713 : FVec F S128x256 .f32) (v1728 : FVec F S64x256 .f32), FVec F S64x256 .f32)) (G_arg13 : BufTy.Contents (Elt F) arg13.view.ty → BufTy.Contents (Elt F) arg14.view.ty → BufTy.Contents (Elt F) arg15.view.ty → BufTy.Contents (Elt F) arg16.view.ty → BufTy.Contents (Elt F) arg20.view.ty → BufTy.Contents (Elt F) arg13.view.ty) (G_arg14 : BufTy.Contents (Elt F) arg13.view.ty → BufTy.Contents (Elt F) arg14.view.ty → BufTy.Contents (Elt F) arg15.view.ty → BufTy.Contents (Elt F) arg16.view.ty → BufTy.Contents (Elt F) arg20.view.ty → BufTy.Contents (Elt F) arg14.view.ty) (G_arg15 : BufTy.Contents (Elt F) arg13.view.ty → BufTy.Contents (Elt F) arg14.view.ty → BufTy.Contents (Elt F) arg15.view.ty → BufTy.Contents (Elt F) arg16.view.ty → BufTy.Contents (Elt F) arg20.view.ty → BufTy.Contents (Elt F) arg15.view.ty) (G_arg16 : BufTy.Contents (Elt F) arg13.view.ty → BufTy.Contents (Elt F) arg14.view.ty → BufTy.Contents (Elt F) arg15.view.ty → BufTy.Contents (Elt F) arg16.view.ty → BufTy.Contents (Elt F) arg20.view.ty → BufTy.Contents (Elt F) arg16.view.ty), { G_arg20 : BufTy.Contents (Elt F) arg13.view.ty → BufTy.Contents (Elt F) arg14.view.ty → BufTy.Contents (Elt F) arg15.view.ty → BufTy.Contents (Elt F) arg16.view.ty → BufTy.Contents (Elt F) arg20.view.ty → BufTy.Contents (Elt F) arg20.view.ty // ∀ (E : Set ℕ) (f_arg13 : BufTy.Contents (Elt F) arg13.view.ty) (f_arg14 : BufTy.Contents (Elt F) arg14.view.ty) (f_arg15 : BufTy.Contents (Elt F) arg15.view.ty) (f_arg16 : BufTy.Contents (Elt F) arg16.view.ty) (f_arg20 : BufTy.Contents (Elt F) arg20.view.ty),
      HeldT (F := F) c arg4 arg6 arg7 arg8 arg19 arg13 arg14 arg15 arg16 arg20 X_arg4 X_arg6 X_arg7 X_arg8 X_arg19 f_arg13 f_arg14 f_arg15 f_arg16 f_arg20
      ⊢ wp frame (wpE (defs₀ (F := F)) 𝒱 (c : Thread nD τ) bd) E (k0_part243 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v3 v4 v46 v1616 v1633 v1678 v1693 v1694 v1695 c0_i32_619)
          (fun yld => iprop(⌜yld = R f_arg13 f_arg14 f_arg15 f_arg16 f_arg20⌝ ∗ HeldT (F := F) c arg4 arg6 arg7 arg8 arg19 arg13 arg14 arg15 arg16 arg20 X_arg4 X_arg6 X_arg7 X_arg8 X_arg19 (G_arg13 f_arg13 f_arg14 f_arg15 f_arg16 f_arg20) (G_arg14 f_arg13 f_arg14 f_arg15 f_arg16 f_arg20) (G_arg15 f_arg13 f_arg14 f_arg15 f_arg16 f_arg20) (G_arg16 f_arg13 f_arg14 f_arg15 f_arg16 f_arg20) (G_arg20 f_arg13 f_arg14 f_arg15 f_arg16 f_arg20))) } := by
  refine ⟨?_, ?_, ?_, ?_, ?_, ?_, fun E f_arg13 f_arg14 f_arg15 f_arg16 f_arg20 => ?run⟩
  case run =>
    iintro ⟨Harg4, Harg6, Harg7, Harg8, Harg19, Harg13, Harg14, Harg15, Harg16, Harg20⟩
    sl_exec
    sl_step
    sl_close

end Cert.KernelIdeal.Body

end
-- ==== Proof.Body.KernelIdeal.Cases.lean ====
/- The parts of the pass over the chosen keys, each by which of its conditionals run. -/
module

public import proofs.«01_k».proof.Proof.Body.KernelIdeal.First
public import proofs.«01_k».proof.Proof.Body.KernelIdeal.MidTT
public import proofs.«01_k».proof.Proof.Body.KernelIdeal.MidTF
public import proofs.«01_k».proof.Proof.Body.KernelIdeal.MidFT
public import proofs.«01_k».proof.Proof.Body.KernelIdeal.MidFF
public import proofs.«01_k».proof.Proof.Body.KernelIdeal.LastT
public import proofs.«01_k».proof.Proof.Body.KernelIdeal.LastF

@[expose] public section

set_option maxRecDepth 16384
set_option maxHeartbeats 4000000

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-- The first pair, or nothing. -/
def firstA (𝒱 : Variants) (c : Dev nD) (bd : Option 𝒱.V) (i : grid0.Coords) (arg3 : Memref sig .tc .vmem S1x256x256 .bf16) (harg3 : arg3.IsWhole) (arg4 : Memref sig .tc .vmem S1x128x256 .f32) (harg4 : arg4.IsWhole) (arg5 : Memref sig .tc .vmem S1x1x128x256 .bf16) (harg5 : arg5.IsWhole) (arg6 : Memref sig .tc .vmem S1x1x4x64x256 .f32) (harg6 : arg6.IsWhole) (arg7 : Memref sig .tc .vmem S1x1x8192x256 .bf16) (harg7 : arg7.IsWhole) (arg8 : Memref sig .tc .vmem S1x1x80x8192 .bf16) (harg8 : arg8.IsWhole) (arg9 : Memref sig .tc .vmem S1x1x8192x64 .bf16) (harg9 : arg9.IsWhole) (arg10 : Memref sig .tc .vmem S1x1x80x8192 .bf16) (harg10 : arg10.IsWhole) (arg11 : Memref sig .tc .vmem S256x1 .f32) (harg11 : arg11.IsWhole) (arg12 : Memref sig .tc .vmem S1x256x256 .bf16) (harg12 : arg12.IsWhole) (arg13 : Memref sig .tc .vmem S512x1024 .f32) (harg13 : arg13.IsWhole) (arg14 : Memref sig .tc .vmem S512x1024 .f32) (harg14 : arg14.IsWhole) (arg15 : Memref sig .tc .vmem S512x1024 .bf16) (harg15 : arg15.IsWhole) (arg16 : Memref sig .tc .vmem S512x1024 .bf16) (harg16 : arg16.IsWhole) (arg17 : Memref sig .tc .vmem S768x1024 .f32) (harg17 : arg17.IsWhole) (arg18 : Memref sig .tc .vmem S768x1024 .bf16) (harg18 : arg18.IsWhole) (arg19 : Memref sig .tc .vmem S256x1024 .bf16) (harg19 : arg19.IsWhole) (arg20 : Memref sig .tc .vmem S80x1024 .f32) (harg20 : arg20.IsWhole) (v46 : BitVec 32) (c2_i32 : BitVec 32) (v1617 : BitVec 32) (v1618 : BitVec 1) (X_arg7 : BufTy.Contents (Elt F) arg7.view.ty) (X_arg8 : BufTy.Contents (Elt F) arg8.view.ty) (X_arg19 : BufTy.Contents (Elt F) arg19.view.ty) :
    Σ' (R : BufTy.Contents (Elt F) arg13.view.ty → BufTy.Contents (Elt F) arg14.view.ty → BufTy.Contents (Elt F) arg15.view.ty → BufTy.Contents (Elt F) arg16.view.ty → BufTy.Contents (Elt F) arg20.view.ty → (Σ' (v1633 : BitVec 32) (v1638 : FVec F S1x1024 .f32) (v1640 : BitVec 32) (c0_i32_595 : BitVec 32) (v1658 : BitVec 32), BitVec 32)) (G_arg13 : BufTy.Contents (Elt F) arg13.view.ty → BufTy.Contents (Elt F) arg14.view.ty → BufTy.Contents (Elt F) arg15.view.ty → BufTy.Contents (Elt F) arg16.view.ty → BufTy.Contents (Elt F) arg20.view.ty → BufTy.Contents (Elt F) arg13.view.ty) (G_arg14 : BufTy.Contents (Elt F) arg13.view.ty → BufTy.Contents (Elt F) arg14.view.ty → BufTy.Contents (Elt F) arg15.view.ty → BufTy.Contents (Elt F) arg16.view.ty → BufTy.Contents (Elt F) arg20.view.ty → BufTy.Contents (Elt F) arg14.view.ty) (G_arg15 : BufTy.Contents (Elt F) arg13.view.ty → BufTy.Contents (Elt F) arg14.view.ty → BufTy.Contents (Elt F) arg15.view.ty → BufTy.Contents (Elt F) arg16.view.ty → BufTy.Contents (Elt F) arg20.view.ty → BufTy.Contents (Elt F) arg15.view.ty) (G_arg16 : BufTy.Contents (Elt F) arg13.view.ty → BufTy.Contents (Elt F) arg14.view.ty → BufTy.Contents (Elt F) arg15.view.ty → BufTy.Contents (Elt F) arg16.view.ty → BufTy.Contents (Elt F) arg20.view.ty → BufTy.Contents (Elt F) arg16.view.ty), { G_arg20 : BufTy.Contents (Elt F) arg13.view.ty → BufTy.Contents (Elt F) arg14.view.ty → BufTy.Contents (Elt F) arg15.view.ty → BufTy.Contents (Elt F) arg16.view.ty → BufTy.Contents (Elt F) arg20.view.ty → BufTy.Contents (Elt F) arg20.view.ty // ∀ (E : Set ℕ) (f_arg13 : BufTy.Contents (Elt F) arg13.view.ty) (f_arg14 : BufTy.Contents (Elt F) arg14.view.ty) (f_arg15 : BufTy.Contents (Elt F) arg15.view.ty) (f_arg16 : BufTy.Contents (Elt F) arg16.view.ty) (f_arg20 : BufTy.Contents (Elt F) arg20.view.ty),
      Held (F := F) c arg7 arg8 arg19 arg13 arg14 arg15 arg16 arg20 X_arg7 X_arg8 X_arg19 f_arg13 f_arg14 f_arg15 f_arg16 f_arg20
      ⊢ wp frame (wpE (defs₀ (F := F)) 𝒱 (c : Thread nD τ) bd) E (k0_part241 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v46 c2_i32 v1617 v1618)
          (fun yld => iprop(⌜yld = R f_arg13 f_arg14 f_arg15 f_arg16 f_arg20⌝ ∗ Held (F := F) c arg7 arg8 arg19 arg13 arg14 arg15 arg16 arg20 X_arg7 X_arg8 X_arg19 (G_arg13 f_arg13 f_arg14 f_arg15 f_arg16 f_arg20) (G_arg14 f_arg13 f_arg14 f_arg15 f_arg16 f_arg20) (G_arg15 f_arg13 f_arg14 f_arg15 f_arg16 f_arg20) (G_arg16 f_arg13 f_arg14 f_arg15 f_arg16 f_arg20) (G_arg20 f_arg13 f_arg14 f_arg15 f_arg16 f_arg20))) } :=
  if h : k0_cond1 i = 1#1 then first (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v46 c2_i32 v1617 v1618 X_arg7 X_arg8 X_arg19 h else firstSkip (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v46 c2_i32 v1617 v1618 X_arg7 X_arg8 X_arg19 h

/-- The loop, then the odd pair and the even tail where they run. -/
def midA (𝒱 : Variants) (c : Dev nD) (bd : Option 𝒱.V) (i : grid0.Coords) (arg3 : Memref sig .tc .vmem S1x256x256 .bf16) (harg3 : arg3.IsWhole) (arg4 : Memref sig .tc .vmem S1x128x256 .f32) (harg4 : arg4.IsWhole) (arg5 : Memref sig .tc .vmem S1x1x128x256 .bf16) (harg5 : arg5.IsWhole) (arg6 : Memref sig .tc .vmem S1x1x4x64x256 .f32) (harg6 : arg6.IsWhole) (arg7 : Memref sig .tc .vmem S1x1x8192x256 .bf16) (harg7 : arg7.IsWhole) (arg8 : Memref sig .tc .vmem S1x1x80x8192 .bf16) (harg8 : arg8.IsWhole) (arg9 : Memref sig .tc .vmem S1x1x8192x64 .bf16) (harg9 : arg9.IsWhole) (arg10 : Memref sig .tc .vmem S1x1x80x8192 .bf16) (harg10 : arg10.IsWhole) (arg11 : Memref sig .tc .vmem S256x1 .f32) (harg11 : arg11.IsWhole) (arg12 : Memref sig .tc .vmem S1x256x256 .bf16) (harg12 : arg12.IsWhole) (arg13 : Memref sig .tc .vmem S512x1024 .f32) (harg13 : arg13.IsWhole) (arg14 : Memref sig .tc .vmem S512x1024 .f32) (harg14 : arg14.IsWhole) (arg15 : Memref sig .tc .vmem S512x1024 .bf16) (harg15 : arg15.IsWhole) (arg16 : Memref sig .tc .vmem S512x1024 .bf16) (harg16 : arg16.IsWhole) (arg17 : Memref sig .tc .vmem S768x1024 .f32) (harg17 : arg17.IsWhole) (arg18 : Memref sig .tc .vmem S768x1024 .bf16) (harg18 : arg18.IsWhole) (arg19 : Memref sig .tc .vmem S256x1024 .bf16) (harg19 : arg19.IsWhole) (arg20 : Memref sig .tc .vmem S80x1024 .f32) (harg20 : arg20.IsWhole) (v3 : IVec S1x256 32) (v4 : IVec S16x1 32) (v46 : BitVec 32) (v1633 : BitVec 32) (v1638 : FVec F S1x1024 .f32) (v1640 : BitVec 32) (c0_i32_595 : BitVec 32) (v1658 : BitVec 32) (c1_i32_596 : BitVec 32) (X_arg7 : BufTy.Contents (Elt F) arg7.view.ty) (X_arg8 : BufTy.Contents (Elt F) arg8.view.ty) (X_arg19 : BufTy.Contents (Elt F) arg19.view.ty) :
    Σ' (R : BufTy.Contents (Elt F) arg13.view.ty → BufTy.Contents (Elt F) arg14.view.ty → BufTy.Contents (Elt F) arg15.view.ty → BufTy.Contents (Elt F) arg16.view.ty → BufTy.Contents (Elt F) arg20.view.ty → (Σ' (v1678 : FVec F S1x1024 .f32) (v1693 : BitVec 32) (v1694 : BitVec 32) (v1695 : BitVec 1), BitVec 32)) (G_arg13 : BufTy.Contents (Elt F) arg13.view.ty → BufTy.Contents (Elt F) arg14.view.ty → BufTy.Contents (Elt F) arg15.view.ty → BufTy.Contents (Elt F) arg16.view.ty → BufTy.Contents (Elt F) arg20.view.ty → BufTy.Contents (Elt F) arg13.view.ty) (G_arg14 : BufTy.Contents (Elt F) arg13.view.ty → BufTy.Contents (Elt F) arg14.view.ty → BufTy.Contents (Elt F) arg15.view.ty → BufTy.Contents (Elt F) arg16.view.ty → BufTy.Contents (Elt F) arg20.view.ty → BufTy.Contents (Elt F) arg14.view.ty) (G_arg15 : BufTy.Contents (Elt F) arg13.view.ty → BufTy.Contents (Elt F) arg14.view.ty → BufTy.Contents (Elt F) arg15.view.ty → BufTy.Contents (Elt F) arg16.view.ty → BufTy.Contents (Elt F) arg20.view.ty → BufTy.Contents (Elt F) arg15.view.ty) (G_arg16 : BufTy.Contents (Elt F) arg13.view.ty → BufTy.Contents (Elt F) arg14.view.ty → BufTy.Contents (Elt F) arg15.view.ty → BufTy.Contents (Elt F) arg16.view.ty → BufTy.Contents (Elt F) arg20.view.ty → BufTy.Contents (Elt F) arg16.view.ty), { G_arg20 : BufTy.Contents (Elt F) arg13.view.ty → BufTy.Contents (Elt F) arg14.view.ty → BufTy.Contents (Elt F) arg15.view.ty → BufTy.Contents (Elt F) arg16.view.ty → BufTy.Contents (Elt F) arg20.view.ty → BufTy.Contents (Elt F) arg20.view.ty // ∀ (E : Set ℕ) (f_arg13 : BufTy.Contents (Elt F) arg13.view.ty) (f_arg14 : BufTy.Contents (Elt F) arg14.view.ty) (f_arg15 : BufTy.Contents (Elt F) arg15.view.ty) (f_arg16 : BufTy.Contents (Elt F) arg16.view.ty) (f_arg20 : BufTy.Contents (Elt F) arg20.view.ty),
      Held (F := F) c arg7 arg8 arg19 arg13 arg14 arg15 arg16 arg20 X_arg7 X_arg8 X_arg19 f_arg13 f_arg14 f_arg15 f_arg16 f_arg20
      ⊢ wp frame (wpE (defs₀ (F := F)) 𝒱 (c : Thread nD τ) bd) E (k0_part242 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v3 v4 v46 v1633 v1638 v1640 c0_i32_595 v1658 c1_i32_596)
          (fun yld => iprop(⌜yld = R f_arg13 f_arg14 f_arg15 f_arg16 f_arg20⌝ ∗ Held (F := F) c arg7 arg8 arg19 arg13 arg14 arg15 arg16 arg20 X_arg7 X_arg8 X_arg19 (G_arg13 f_arg13 f_arg14 f_arg15 f_arg16 f_arg20) (G_arg14 f_arg13 f_arg14 f_arg15 f_arg16 f_arg20) (G_arg15 f_arg13 f_arg14 f_arg15 f_arg16 f_arg20) (G_arg16 f_arg13 f_arg14 f_arg15 f_arg16 f_arg20) (G_arg20 f_arg13 f_arg14 f_arg15 f_arg16 f_arg20))) } :=
  if h2 : k0_cond2 i = 1#1 then if h3 : k0_cond3 i = 1#1 then midTT (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v3 v4 v46 v1633 v1638 v1640 c0_i32_595 v1658 c1_i32_596 X_arg7 X_arg8 X_arg19 h2 h3 else midTF (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v3 v4 v46 v1633 v1638 v1640 c0_i32_595 v1658 c1_i32_596 X_arg7 X_arg8 X_arg19 h2 h3
  else if h3 : k0_cond3 i = 1#1 then midFT (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v3 v4 v46 v1633 v1638 v1640 c0_i32_595 v1658 c1_i32_596 X_arg7 X_arg8 X_arg19 h2 h3 else midFF (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v3 v4 v46 v1633 v1638 v1640 c0_i32_595 v1658 c1_i32_596 X_arg7 X_arg8 X_arg19 h2 h3

/-- The odd tail where it runs, and the normalised accumulator. -/
def lastA (𝒱 : Variants) (c : Dev nD) (bd : Option 𝒱.V) (i : grid0.Coords) (arg3 : Memref sig .tc .vmem S1x256x256 .bf16) (harg3 : arg3.IsWhole) (arg4 : Memref sig .tc .vmem S1x128x256 .f32) (harg4 : arg4.IsWhole) (arg5 : Memref sig .tc .vmem S1x1x128x256 .bf16) (harg5 : arg5.IsWhole) (arg6 : Memref sig .tc .vmem S1x1x4x64x256 .f32) (harg6 : arg6.IsWhole) (arg7 : Memref sig .tc .vmem S1x1x8192x256 .bf16) (harg7 : arg7.IsWhole) (arg8 : Memref sig .tc .vmem S1x1x80x8192 .bf16) (harg8 : arg8.IsWhole) (arg9 : Memref sig .tc .vmem S1x1x8192x64 .bf16) (harg9 : arg9.IsWhole) (arg10 : Memref sig .tc .vmem S1x1x80x8192 .bf16) (harg10 : arg10.IsWhole) (arg11 : Memref sig .tc .vmem S256x1 .f32) (harg11 : arg11.IsWhole) (arg12 : Memref sig .tc .vmem S1x256x256 .bf16) (harg12 : arg12.IsWhole) (arg13 : Memref sig .tc .vmem S512x1024 .f32) (harg13 : arg13.IsWhole) (arg14 : Memref sig .tc .vmem S512x1024 .f32) (harg14 : arg14.IsWhole) (arg15 : Memref sig .tc .vmem S512x1024 .bf16) (harg15 : arg15.IsWhole) (arg16 : Memref sig .tc .vmem S512x1024 .bf16) (harg16 : arg16.IsWhole) (arg17 : Memref sig .tc .vmem S768x1024 .f32) (harg17 : arg17.IsWhole) (arg18 : Memref sig .tc .vmem S768x1024 .bf16) (harg18 : arg18.IsWhole) (arg19 : Memref sig .tc .vmem S256x1024 .bf16) (harg19 : arg19.IsWhole) (arg20 : Memref sig .tc .vmem S80x1024 .f32) (harg20 : arg20.IsWhole) (v3 : IVec S1x256 32) (v4 : IVec S16x1 32) (v46 : BitVec 32) (v1616 : FVec F S64x1024 .f32) (v1633 : BitVec 32) (v1678 : FVec F S1x1024 .f32) (v1693 : BitVec 32) (v1694 : BitVec 32) (v1695 : BitVec 1) (c0_i32_619 : BitVec 32) (X_arg4 : BufTy.Contents (Elt F) arg4.view.ty) (X_arg6 : BufTy.Contents (Elt F) arg6.view.ty) (X_arg7 : BufTy.Contents (Elt F) arg7.view.ty) (X_arg8 : BufTy.Contents (Elt F) arg8.view.ty) (X_arg19 : BufTy.Contents (Elt F) arg19.view.ty) :
    Σ' (R : BufTy.Contents (Elt F) arg13.view.ty → BufTy.Contents (Elt F) arg14.view.ty → BufTy.Contents (Elt F) arg15.view.ty → BufTy.Contents (Elt F) arg16.view.ty → BufTy.Contents (Elt F) arg20.view.ty → (Σ' (v1711 : FVec F S64x1024 .f32) (v1713 : FVec F S128x256 .f32) (v1728 : FVec F S64x256 .f32), FVec F S64x256 .f32)) (G_arg13 : BufTy.Contents (Elt F) arg13.view.ty → BufTy.Contents (Elt F) arg14.view.ty → BufTy.Contents (Elt F) arg15.view.ty → BufTy.Contents (Elt F) arg16.view.ty → BufTy.Contents (Elt F) arg20.view.ty → BufTy.Contents (Elt F) arg13.view.ty) (G_arg14 : BufTy.Contents (Elt F) arg13.view.ty → BufTy.Contents (Elt F) arg14.view.ty → BufTy.Contents (Elt F) arg15.view.ty → BufTy.Contents (Elt F) arg16.view.ty → BufTy.Contents (Elt F) arg20.view.ty → BufTy.Contents (Elt F) arg14.view.ty) (G_arg15 : BufTy.Contents (Elt F) arg13.view.ty → BufTy.Contents (Elt F) arg14.view.ty → BufTy.Contents (Elt F) arg15.view.ty → BufTy.Contents (Elt F) arg16.view.ty → BufTy.Contents (Elt F) arg20.view.ty → BufTy.Contents (Elt F) arg15.view.ty) (G_arg16 : BufTy.Contents (Elt F) arg13.view.ty → BufTy.Contents (Elt F) arg14.view.ty → BufTy.Contents (Elt F) arg15.view.ty → BufTy.Contents (Elt F) arg16.view.ty → BufTy.Contents (Elt F) arg20.view.ty → BufTy.Contents (Elt F) arg16.view.ty), { G_arg20 : BufTy.Contents (Elt F) arg13.view.ty → BufTy.Contents (Elt F) arg14.view.ty → BufTy.Contents (Elt F) arg15.view.ty → BufTy.Contents (Elt F) arg16.view.ty → BufTy.Contents (Elt F) arg20.view.ty → BufTy.Contents (Elt F) arg20.view.ty // ∀ (E : Set ℕ) (f_arg13 : BufTy.Contents (Elt F) arg13.view.ty) (f_arg14 : BufTy.Contents (Elt F) arg14.view.ty) (f_arg15 : BufTy.Contents (Elt F) arg15.view.ty) (f_arg16 : BufTy.Contents (Elt F) arg16.view.ty) (f_arg20 : BufTy.Contents (Elt F) arg20.view.ty),
      HeldT (F := F) c arg4 arg6 arg7 arg8 arg19 arg13 arg14 arg15 arg16 arg20 X_arg4 X_arg6 X_arg7 X_arg8 X_arg19 f_arg13 f_arg14 f_arg15 f_arg16 f_arg20
      ⊢ wp frame (wpE (defs₀ (F := F)) 𝒱 (c : Thread nD τ) bd) E (k0_part243 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v3 v4 v46 v1616 v1633 v1678 v1693 v1694 v1695 c0_i32_619)
          (fun yld => iprop(⌜yld = R f_arg13 f_arg14 f_arg15 f_arg16 f_arg20⌝ ∗ HeldT (F := F) c arg4 arg6 arg7 arg8 arg19 arg13 arg14 arg15 arg16 arg20 X_arg4 X_arg6 X_arg7 X_arg8 X_arg19 (G_arg13 f_arg13 f_arg14 f_arg15 f_arg16 f_arg20) (G_arg14 f_arg13 f_arg14 f_arg15 f_arg16 f_arg20) (G_arg15 f_arg13 f_arg14 f_arg15 f_arg16 f_arg20) (G_arg16 f_arg13 f_arg14 f_arg15 f_arg16 f_arg20) (G_arg20 f_arg13 f_arg14 f_arg15 f_arg16 f_arg20))) } :=
  if h : k0_cond4 i = 1#1 then lastT (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v3 v4 v46 v1616 v1633 v1678 v1693 v1694 v1695 c0_i32_619 X_arg4 X_arg6 X_arg7 X_arg8 X_arg19 h else lastF (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v3 v4 v46 v1616 v1633 v1678 v1693 v1694 v1695 c0_i32_619 X_arg4 X_arg6 X_arg7 X_arg8 X_arg19 h

/-- What `firstA` states, by the result's components. -/
theorem firstA_spec (𝒱 : Variants) (c : Dev nD) (bd : Option 𝒱.V) (i : grid0.Coords) (arg3 : Memref sig .tc .vmem S1x256x256 .bf16) (harg3 : arg3.IsWhole) (arg4 : Memref sig .tc .vmem S1x128x256 .f32) (harg4 : arg4.IsWhole) (arg5 : Memref sig .tc .vmem S1x1x128x256 .bf16) (harg5 : arg5.IsWhole) (arg6 : Memref sig .tc .vmem S1x1x4x64x256 .f32) (harg6 : arg6.IsWhole) (arg7 : Memref sig .tc .vmem S1x1x8192x256 .bf16) (harg7 : arg7.IsWhole) (arg8 : Memref sig .tc .vmem S1x1x80x8192 .bf16) (harg8 : arg8.IsWhole) (arg9 : Memref sig .tc .vmem S1x1x8192x64 .bf16) (harg9 : arg9.IsWhole) (arg10 : Memref sig .tc .vmem S1x1x80x8192 .bf16) (harg10 : arg10.IsWhole) (arg11 : Memref sig .tc .vmem S256x1 .f32) (harg11 : arg11.IsWhole) (arg12 : Memref sig .tc .vmem S1x256x256 .bf16) (harg12 : arg12.IsWhole) (arg13 : Memref sig .tc .vmem S512x1024 .f32) (harg13 : arg13.IsWhole) (arg14 : Memref sig .tc .vmem S512x1024 .f32) (harg14 : arg14.IsWhole) (arg15 : Memref sig .tc .vmem S512x1024 .bf16) (harg15 : arg15.IsWhole) (arg16 : Memref sig .tc .vmem S512x1024 .bf16) (harg16 : arg16.IsWhole) (arg17 : Memref sig .tc .vmem S768x1024 .f32) (harg17 : arg17.IsWhole) (arg18 : Memref sig .tc .vmem S768x1024 .bf16) (harg18 : arg18.IsWhole) (arg19 : Memref sig .tc .vmem S256x1024 .bf16) (harg19 : arg19.IsWhole) (arg20 : Memref sig .tc .vmem S80x1024 .f32) (harg20 : arg20.IsWhole) (v46 : BitVec 32) (c2_i32 : BitVec 32) (v1617 : BitVec 32) (v1618 : BitVec 1) (X_arg7 : BufTy.Contents (Elt F) arg7.view.ty) (X_arg8 : BufTy.Contents (Elt F) arg8.view.ty) (X_arg19 : BufTy.Contents (Elt F) arg19.view.ty) (E : Set ℕ) (f_arg13 : BufTy.Contents (Elt F) arg13.view.ty) (f_arg14 : BufTy.Contents (Elt F) arg14.view.ty) (f_arg15 : BufTy.Contents (Elt F) arg15.view.ty) (f_arg16 : BufTy.Contents (Elt F) arg16.view.ty) (f_arg20 : BufTy.Contents (Elt F) arg20.view.ty) :
    Held (F := F) c arg7 arg8 arg19 arg13 arg14 arg15 arg16 arg20 X_arg7 X_arg8 X_arg19 f_arg13 f_arg14 f_arg15 f_arg16 f_arg20
      ⊢ wp frame (wpE (defs₀ (F := F)) 𝒱 (c : Thread nD τ) bd) E (k0_part241 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v46 c2_i32 v1617 v1618)
          (fun yld => iprop(⌜yld.1 = ((firstA (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v46 c2_i32 v1617 v1618 X_arg7 X_arg8 X_arg19).1 f_arg13 f_arg14 f_arg15 f_arg16 f_arg20).1⌝ ∗ ⌜yld.2.1 = ((firstA (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v46 c2_i32 v1617 v1618 X_arg7 X_arg8 X_arg19).1 f_arg13 f_arg14 f_arg15 f_arg16 f_arg20).2.1⌝ ∗ ⌜yld.2.2.1 = ((firstA (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v46 c2_i32 v1617 v1618 X_arg7 X_arg8 X_arg19).1 f_arg13 f_arg14 f_arg15 f_arg16 f_arg20).2.2.1⌝ ∗ ⌜yld.2.2.2.1 = ((firstA (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v46 c2_i32 v1617 v1618 X_arg7 X_arg8 X_arg19).1 f_arg13 f_arg14 f_arg15 f_arg16 f_arg20).2.2.2.1⌝ ∗ ⌜yld.2.2.2.2.1 = ((firstA (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v46 c2_i32 v1617 v1618 X_arg7 X_arg8 X_arg19).1 f_arg13 f_arg14 f_arg15 f_arg16 f_arg20).2.2.2.2.1⌝ ∗ ⌜yld.2.2.2.2.2 = ((firstA (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v46 c2_i32 v1617 v1618 X_arg7 X_arg8 X_arg19).1 f_arg13 f_arg14 f_arg15 f_arg16 f_arg20).2.2.2.2.2⌝ ∗ Held (F := F) c arg7 arg8 arg19 arg13 arg14 arg15 arg16 arg20 X_arg7 X_arg8 X_arg19 ((firstA (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v46 c2_i32 v1617 v1618 X_arg7 X_arg8 X_arg19).2.1 f_arg13 f_arg14 f_arg15 f_arg16 f_arg20) ((firstA (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v46 c2_i32 v1617 v1618 X_arg7 X_arg8 X_arg19).2.2.1 f_arg13 f_arg14 f_arg15 f_arg16 f_arg20) ((firstA (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v46 c2_i32 v1617 v1618 X_arg7 X_arg8 X_arg19).2.2.2.1 f_arg13 f_arg14 f_arg15 f_arg16 f_arg20) ((firstA (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v46 c2_i32 v1617 v1618 X_arg7 X_arg8 X_arg19).2.2.2.2.1 f_arg13 f_arg14 f_arg15 f_arg16 f_arg20) ((firstA (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v46 c2_i32 v1617 v1618 X_arg7 X_arg8 X_arg19).2.2.2.2.2.1 f_arg13 f_arg14 f_arg15 f_arg16 f_arg20))) := by
  refine ((firstA (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v46 c2_i32 v1617 v1618 X_arg7 X_arg8 X_arg19).2.2.2.2.2.2 E f_arg13 f_arg14 f_arg15 f_arg16 f_arg20).trans (wp_mono _ _ _ fun yld => ?_)
  iintro ⟨%h_res, Harg7, Harg8, Harg19, Harg13, Harg14, Harg15, Harg16, Harg20⟩
  subst h_res
  isplitr; · ipureintro; rfl
  isplitr; · ipureintro; rfl
  isplitr; · ipureintro; rfl
  isplitr; · ipureintro; rfl
  isplitr; · ipureintro; rfl
  isplitr; · ipureintro; rfl
  isplitl [Harg7]; · iexact Harg7
  isplitl [Harg8]; · iexact Harg8
  isplitl [Harg19]; · iexact Harg19
  isplitl [Harg13]; · iexact Harg13
  isplitl [Harg14]; · iexact Harg14
  isplitl [Harg15]; · iexact Harg15
  isplitl [Harg16]; · iexact Harg16
  iexact Harg20

/-- What `midA` states, by the result's components. -/
theorem midA_spec (𝒱 : Variants) (c : Dev nD) (bd : Option 𝒱.V) (i : grid0.Coords) (arg3 : Memref sig .tc .vmem S1x256x256 .bf16) (harg3 : arg3.IsWhole) (arg4 : Memref sig .tc .vmem S1x128x256 .f32) (harg4 : arg4.IsWhole) (arg5 : Memref sig .tc .vmem S1x1x128x256 .bf16) (harg5 : arg5.IsWhole) (arg6 : Memref sig .tc .vmem S1x1x4x64x256 .f32) (harg6 : arg6.IsWhole) (arg7 : Memref sig .tc .vmem S1x1x8192x256 .bf16) (harg7 : arg7.IsWhole) (arg8 : Memref sig .tc .vmem S1x1x80x8192 .bf16) (harg8 : arg8.IsWhole) (arg9 : Memref sig .tc .vmem S1x1x8192x64 .bf16) (harg9 : arg9.IsWhole) (arg10 : Memref sig .tc .vmem S1x1x80x8192 .bf16) (harg10 : arg10.IsWhole) (arg11 : Memref sig .tc .vmem S256x1 .f32) (harg11 : arg11.IsWhole) (arg12 : Memref sig .tc .vmem S1x256x256 .bf16) (harg12 : arg12.IsWhole) (arg13 : Memref sig .tc .vmem S512x1024 .f32) (harg13 : arg13.IsWhole) (arg14 : Memref sig .tc .vmem S512x1024 .f32) (harg14 : arg14.IsWhole) (arg15 : Memref sig .tc .vmem S512x1024 .bf16) (harg15 : arg15.IsWhole) (arg16 : Memref sig .tc .vmem S512x1024 .bf16) (harg16 : arg16.IsWhole) (arg17 : Memref sig .tc .vmem S768x1024 .f32) (harg17 : arg17.IsWhole) (arg18 : Memref sig .tc .vmem S768x1024 .bf16) (harg18 : arg18.IsWhole) (arg19 : Memref sig .tc .vmem S256x1024 .bf16) (harg19 : arg19.IsWhole) (arg20 : Memref sig .tc .vmem S80x1024 .f32) (harg20 : arg20.IsWhole) (v3 : IVec S1x256 32) (v4 : IVec S16x1 32) (v46 : BitVec 32) (v1633 : BitVec 32) (v1638 : FVec F S1x1024 .f32) (v1640 : BitVec 32) (c0_i32_595 : BitVec 32) (v1658 : BitVec 32) (c1_i32_596 : BitVec 32) (X_arg7 : BufTy.Contents (Elt F) arg7.view.ty) (X_arg8 : BufTy.Contents (Elt F) arg8.view.ty) (X_arg19 : BufTy.Contents (Elt F) arg19.view.ty) (E : Set ℕ) (f_arg13 : BufTy.Contents (Elt F) arg13.view.ty) (f_arg14 : BufTy.Contents (Elt F) arg14.view.ty) (f_arg15 : BufTy.Contents (Elt F) arg15.view.ty) (f_arg16 : BufTy.Contents (Elt F) arg16.view.ty) (f_arg20 : BufTy.Contents (Elt F) arg20.view.ty) :
    Held (F := F) c arg7 arg8 arg19 arg13 arg14 arg15 arg16 arg20 X_arg7 X_arg8 X_arg19 f_arg13 f_arg14 f_arg15 f_arg16 f_arg20
      ⊢ wp frame (wpE (defs₀ (F := F)) 𝒱 (c : Thread nD τ) bd) E (k0_part242 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v3 v4 v46 v1633 v1638 v1640 c0_i32_595 v1658 c1_i32_596)
          (fun yld => iprop(⌜yld.1 = ((midA (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v3 v4 v46 v1633 v1638 v1640 c0_i32_595 v1658 c1_i32_596 X_arg7 X_arg8 X_arg19).1 f_arg13 f_arg14 f_arg15 f_arg16 f_arg20).1⌝ ∗ ⌜yld.2.1 = ((midA (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v3 v4 v46 v1633 v1638 v1640 c0_i32_595 v1658 c1_i32_596 X_arg7 X_arg8 X_arg19).1 f_arg13 f_arg14 f_arg15 f_arg16 f_arg20).2.1⌝ ∗ ⌜yld.2.2.1 = ((midA (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v3 v4 v46 v1633 v1638 v1640 c0_i32_595 v1658 c1_i32_596 X_arg7 X_arg8 X_arg19).1 f_arg13 f_arg14 f_arg15 f_arg16 f_arg20).2.2.1⌝ ∗ ⌜yld.2.2.2.1 = ((midA (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v3 v4 v46 v1633 v1638 v1640 c0_i32_595 v1658 c1_i32_596 X_arg7 X_arg8 X_arg19).1 f_arg13 f_arg14 f_arg15 f_arg16 f_arg20).2.2.2.1⌝ ∗ ⌜yld.2.2.2.2 = ((midA (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v3 v4 v46 v1633 v1638 v1640 c0_i32_595 v1658 c1_i32_596 X_arg7 X_arg8 X_arg19).1 f_arg13 f_arg14 f_arg15 f_arg16 f_arg20).2.2.2.2⌝ ∗ Held (F := F) c arg7 arg8 arg19 arg13 arg14 arg15 arg16 arg20 X_arg7 X_arg8 X_arg19 ((midA (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v3 v4 v46 v1633 v1638 v1640 c0_i32_595 v1658 c1_i32_596 X_arg7 X_arg8 X_arg19).2.1 f_arg13 f_arg14 f_arg15 f_arg16 f_arg20) ((midA (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v3 v4 v46 v1633 v1638 v1640 c0_i32_595 v1658 c1_i32_596 X_arg7 X_arg8 X_arg19).2.2.1 f_arg13 f_arg14 f_arg15 f_arg16 f_arg20) ((midA (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v3 v4 v46 v1633 v1638 v1640 c0_i32_595 v1658 c1_i32_596 X_arg7 X_arg8 X_arg19).2.2.2.1 f_arg13 f_arg14 f_arg15 f_arg16 f_arg20) ((midA (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v3 v4 v46 v1633 v1638 v1640 c0_i32_595 v1658 c1_i32_596 X_arg7 X_arg8 X_arg19).2.2.2.2.1 f_arg13 f_arg14 f_arg15 f_arg16 f_arg20) ((midA (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v3 v4 v46 v1633 v1638 v1640 c0_i32_595 v1658 c1_i32_596 X_arg7 X_arg8 X_arg19).2.2.2.2.2.1 f_arg13 f_arg14 f_arg15 f_arg16 f_arg20))) := by
  refine ((midA (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v3 v4 v46 v1633 v1638 v1640 c0_i32_595 v1658 c1_i32_596 X_arg7 X_arg8 X_arg19).2.2.2.2.2.2 E f_arg13 f_arg14 f_arg15 f_arg16 f_arg20).trans (wp_mono _ _ _ fun yld => ?_)
  iintro ⟨%h_res, Harg7, Harg8, Harg19, Harg13, Harg14, Harg15, Harg16, Harg20⟩
  subst h_res
  isplitr; · ipureintro; rfl
  isplitr; · ipureintro; rfl
  isplitr; · ipureintro; rfl
  isplitr; · ipureintro; rfl
  isplitr; · ipureintro; rfl
  isplitl [Harg7]; · iexact Harg7
  isplitl [Harg8]; · iexact Harg8
  isplitl [Harg19]; · iexact Harg19
  isplitl [Harg13]; · iexact Harg13
  isplitl [Harg14]; · iexact Harg14
  isplitl [Harg15]; · iexact Harg15
  isplitl [Harg16]; · iexact Harg16
  iexact Harg20

/-- What `lastA` states, by the result's components. -/
theorem lastA_spec (𝒱 : Variants) (c : Dev nD) (bd : Option 𝒱.V) (i : grid0.Coords) (arg3 : Memref sig .tc .vmem S1x256x256 .bf16) (harg3 : arg3.IsWhole) (arg4 : Memref sig .tc .vmem S1x128x256 .f32) (harg4 : arg4.IsWhole) (arg5 : Memref sig .tc .vmem S1x1x128x256 .bf16) (harg5 : arg5.IsWhole) (arg6 : Memref sig .tc .vmem S1x1x4x64x256 .f32) (harg6 : arg6.IsWhole) (arg7 : Memref sig .tc .vmem S1x1x8192x256 .bf16) (harg7 : arg7.IsWhole) (arg8 : Memref sig .tc .vmem S1x1x80x8192 .bf16) (harg8 : arg8.IsWhole) (arg9 : Memref sig .tc .vmem S1x1x8192x64 .bf16) (harg9 : arg9.IsWhole) (arg10 : Memref sig .tc .vmem S1x1x80x8192 .bf16) (harg10 : arg10.IsWhole) (arg11 : Memref sig .tc .vmem S256x1 .f32) (harg11 : arg11.IsWhole) (arg12 : Memref sig .tc .vmem S1x256x256 .bf16) (harg12 : arg12.IsWhole) (arg13 : Memref sig .tc .vmem S512x1024 .f32) (harg13 : arg13.IsWhole) (arg14 : Memref sig .tc .vmem S512x1024 .f32) (harg14 : arg14.IsWhole) (arg15 : Memref sig .tc .vmem S512x1024 .bf16) (harg15 : arg15.IsWhole) (arg16 : Memref sig .tc .vmem S512x1024 .bf16) (harg16 : arg16.IsWhole) (arg17 : Memref sig .tc .vmem S768x1024 .f32) (harg17 : arg17.IsWhole) (arg18 : Memref sig .tc .vmem S768x1024 .bf16) (harg18 : arg18.IsWhole) (arg19 : Memref sig .tc .vmem S256x1024 .bf16) (harg19 : arg19.IsWhole) (arg20 : Memref sig .tc .vmem S80x1024 .f32) (harg20 : arg20.IsWhole) (v3 : IVec S1x256 32) (v4 : IVec S16x1 32) (v46 : BitVec 32) (v1616 : FVec F S64x1024 .f32) (v1633 : BitVec 32) (v1678 : FVec F S1x1024 .f32) (v1693 : BitVec 32) (v1694 : BitVec 32) (v1695 : BitVec 1) (c0_i32_619 : BitVec 32) (X_arg4 : BufTy.Contents (Elt F) arg4.view.ty) (X_arg6 : BufTy.Contents (Elt F) arg6.view.ty) (X_arg7 : BufTy.Contents (Elt F) arg7.view.ty) (X_arg8 : BufTy.Contents (Elt F) arg8.view.ty) (X_arg19 : BufTy.Contents (Elt F) arg19.view.ty) (E : Set ℕ) (f_arg13 : BufTy.Contents (Elt F) arg13.view.ty) (f_arg14 : BufTy.Contents (Elt F) arg14.view.ty) (f_arg15 : BufTy.Contents (Elt F) arg15.view.ty) (f_arg16 : BufTy.Contents (Elt F) arg16.view.ty) (f_arg20 : BufTy.Contents (Elt F) arg20.view.ty) :
    HeldT (F := F) c arg4 arg6 arg7 arg8 arg19 arg13 arg14 arg15 arg16 arg20 X_arg4 X_arg6 X_arg7 X_arg8 X_arg19 f_arg13 f_arg14 f_arg15 f_arg16 f_arg20
      ⊢ wp frame (wpE (defs₀ (F := F)) 𝒱 (c : Thread nD τ) bd) E (k0_part243 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v3 v4 v46 v1616 v1633 v1678 v1693 v1694 v1695 c0_i32_619)
          (fun yld => iprop(⌜yld.1 = ((lastA (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v3 v4 v46 v1616 v1633 v1678 v1693 v1694 v1695 c0_i32_619 X_arg4 X_arg6 X_arg7 X_arg8 X_arg19).1 f_arg13 f_arg14 f_arg15 f_arg16 f_arg20).1⌝ ∗ ⌜yld.2.1 = ((lastA (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v3 v4 v46 v1616 v1633 v1678 v1693 v1694 v1695 c0_i32_619 X_arg4 X_arg6 X_arg7 X_arg8 X_arg19).1 f_arg13 f_arg14 f_arg15 f_arg16 f_arg20).2.1⌝ ∗ ⌜yld.2.2.1 = ((lastA (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v3 v4 v46 v1616 v1633 v1678 v1693 v1694 v1695 c0_i32_619 X_arg4 X_arg6 X_arg7 X_arg8 X_arg19).1 f_arg13 f_arg14 f_arg15 f_arg16 f_arg20).2.2.1⌝ ∗ ⌜yld.2.2.2 = ((lastA (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v3 v4 v46 v1616 v1633 v1678 v1693 v1694 v1695 c0_i32_619 X_arg4 X_arg6 X_arg7 X_arg8 X_arg19).1 f_arg13 f_arg14 f_arg15 f_arg16 f_arg20).2.2.2⌝ ∗ HeldT (F := F) c arg4 arg6 arg7 arg8 arg19 arg13 arg14 arg15 arg16 arg20 X_arg4 X_arg6 X_arg7 X_arg8 X_arg19 ((lastA (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v3 v4 v46 v1616 v1633 v1678 v1693 v1694 v1695 c0_i32_619 X_arg4 X_arg6 X_arg7 X_arg8 X_arg19).2.1 f_arg13 f_arg14 f_arg15 f_arg16 f_arg20) ((lastA (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v3 v4 v46 v1616 v1633 v1678 v1693 v1694 v1695 c0_i32_619 X_arg4 X_arg6 X_arg7 X_arg8 X_arg19).2.2.1 f_arg13 f_arg14 f_arg15 f_arg16 f_arg20) ((lastA (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v3 v4 v46 v1616 v1633 v1678 v1693 v1694 v1695 c0_i32_619 X_arg4 X_arg6 X_arg7 X_arg8 X_arg19).2.2.2.1 f_arg13 f_arg14 f_arg15 f_arg16 f_arg20) ((lastA (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v3 v4 v46 v1616 v1633 v1678 v1693 v1694 v1695 c0_i32_619 X_arg4 X_arg6 X_arg7 X_arg8 X_arg19).2.2.2.2.1 f_arg13 f_arg14 f_arg15 f_arg16 f_arg20) ((lastA (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v3 v4 v46 v1616 v1633 v1678 v1693 v1694 v1695 c0_i32_619 X_arg4 X_arg6 X_arg7 X_arg8 X_arg19).2.2.2.2.2.1 f_arg13 f_arg14 f_arg15 f_arg16 f_arg20))) := by
  refine ((lastA (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v3 v4 v46 v1616 v1633 v1678 v1693 v1694 v1695 c0_i32_619 X_arg4 X_arg6 X_arg7 X_arg8 X_arg19).2.2.2.2.2.2 E f_arg13 f_arg14 f_arg15 f_arg16 f_arg20).trans (wp_mono _ _ _ fun yld => ?_)
  iintro ⟨%h_res, Harg4, Harg6, Harg7, Harg8, Harg19, Harg13, Harg14, Harg15, Harg16, Harg20⟩
  subst h_res
  isplitr; · ipureintro; rfl
  isplitr; · ipureintro; rfl
  isplitr; · ipureintro; rfl
  isplitr; · ipureintro; rfl
  isplitl [Harg4]; · iexact Harg4
  isplitl [Harg6]; · iexact Harg6
  isplitl [Harg7]; · iexact Harg7
  isplitl [Harg8]; · iexact Harg8
  isplitl [Harg19]; · iexact Harg19
  isplitl [Harg13]; · iexact Harg13
  isplitl [Harg14]; · iexact Harg14
  isplitl [Harg15]; · iexact Harg15
  isplitl [Harg16]; · iexact Harg16
  iexact Harg20

end Cert.KernelIdeal.Body

end
-- ==== Proof.Body.KernelIdeal.Run.lean ====
/- The whole body at one grid point. -/
module

public import proofs.«01_k».proof.Proof.Body.KernelIdeal.Cases

@[expose] public section

set_option maxRecDepth 16384
set_option maxHeartbeats 4000000

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-- The body run: the contents of the result and of the scratch buffers, as functions of what they held. -/
def body (𝒱 : Variants) (c : Dev nD) (bd : Option 𝒱.V) (i : grid0.Coords) (arg3 : Memref sig .tc .vmem S1x256x256 .bf16) (harg3 : arg3.IsWhole) (arg4 : Memref sig .tc .vmem S1x128x256 .f32) (harg4 : arg4.IsWhole) (arg5 : Memref sig .tc .vmem S1x1x128x256 .bf16) (harg5 : arg5.IsWhole) (arg6 : Memref sig .tc .vmem S1x1x4x64x256 .f32) (harg6 : arg6.IsWhole) (arg7 : Memref sig .tc .vmem S1x1x8192x256 .bf16) (harg7 : arg7.IsWhole) (arg8 : Memref sig .tc .vmem S1x1x80x8192 .bf16) (harg8 : arg8.IsWhole) (arg9 : Memref sig .tc .vmem S1x1x8192x64 .bf16) (harg9 : arg9.IsWhole) (arg10 : Memref sig .tc .vmem S1x1x80x8192 .bf16) (harg10 : arg10.IsWhole) (arg11 : Memref sig .tc .vmem S256x1 .f32) (harg11 : arg11.IsWhole) (arg12 : Memref sig .tc .vmem S1x256x256 .bf16) (harg12 : arg12.IsWhole) (arg13 : Memref sig .tc .vmem S512x1024 .f32) (harg13 : arg13.IsWhole) (arg14 : Memref sig .tc .vmem S512x1024 .f32) (harg14 : arg14.IsWhole) (arg15 : Memref sig .tc .vmem S512x1024 .bf16) (harg15 : arg15.IsWhole) (arg16 : Memref sig .tc .vmem S512x1024 .bf16) (harg16 : arg16.IsWhole) (arg17 : Memref sig .tc .vmem S768x1024 .f32) (harg17 : arg17.IsWhole) (arg18 : Memref sig .tc .vmem S768x1024 .bf16) (harg18 : arg18.IsWhole) (arg19 : Memref sig .tc .vmem S256x1024 .bf16) (harg19 : arg19.IsWhole) (arg20 : Memref sig .tc .vmem S80x1024 .f32) (harg20 : arg20.IsWhole) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) :
    Σ' (G_arg12 : BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg20.view.ty → BufTy.Contents (Elt F) arg12.view.ty) (G_arg13 : BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg20.view.ty → BufTy.Contents (Elt F) arg13.view.ty) (G_arg14 : BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg20.view.ty → BufTy.Contents (Elt F) arg14.view.ty) (G_arg15 : BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg20.view.ty → BufTy.Contents (Elt F) arg15.view.ty) (G_arg16 : BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg20.view.ty → BufTy.Contents (Elt F) arg16.view.ty) (G_arg17 : BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg20.view.ty → BufTy.Contents (Elt F) arg17.view.ty) (G_arg18 : BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg20.view.ty → BufTy.Contents (Elt F) arg18.view.ty) (G_arg19 : BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg20.view.ty → BufTy.Contents (Elt F) arg19.view.ty), { G_arg20 : BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg20.view.ty → BufTy.Contents (Elt F) arg20.view.ty // ∀ (E : Set ℕ) (f_arg12 : BufTy.Contents (Elt F) arg12.view.ty) (f_arg13 : BufTy.Contents (Elt F) arg13.view.ty) (f_arg14 : BufTy.Contents (Elt F) arg14.view.ty) (f_arg15 : BufTy.Contents (Elt F) arg15.view.ty) (f_arg16 : BufTy.Contents (Elt F) arg16.view.ty) (f_arg17 : BufTy.Contents (Elt F) arg17.view.ty) (f_arg18 : BufTy.Contents (Elt F) arg18.view.ty) (f_arg19 : BufTy.Contents (Elt F) arg19.view.ty) (f_arg20 : BufTy.Contents (Elt F) arg20.view.ty),
      (iprop((arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} X_arg11) ∗ (arg12.view.loc (c : Thread nD τ) ↦[arg12.view.set]{fullShare} f_arg12) ∗ (arg13.view.loc (c : Thread nD τ) ↦[arg13.view.set]{fullShare} f_arg13) ∗ (arg14.view.loc (c : Thread nD τ) ↦[arg14.view.set]{fullShare} f_arg14) ∗ (arg15.view.loc (c : Thread nD τ) ↦[arg15.view.set]{fullShare} f_arg15) ∗ (arg16.view.loc (c : Thread nD τ) ↦[arg16.view.set]{fullShare} f_arg16) ∗ (arg17.view.loc (c : Thread nD τ) ↦[arg17.view.set]{fullShare} f_arg17) ∗ (arg18.view.loc (c : Thread nD τ) ↦[arg18.view.set]{fullShare} f_arg18) ∗ (arg19.view.loc (c : Thread nD τ) ↦[arg19.view.set]{fullShare} f_arg19) ∗ (arg20.view.loc (c : Thread nD τ) ↦[arg20.view.set]{fullShare} f_arg20)) : sProp 𝕄G)
      ⊢ wp frame (wpE (defs₀ (F := F)) 𝒱 (c : Thread nD τ) bd) E (cc0_nsa_attention (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20)
          (fun _ => iprop((arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} X_arg11) ∗ (arg12.view.loc (c : Thread nD τ) ↦[arg12.view.set]{fullShare} (G_arg12 f_arg12 f_arg13 f_arg14 f_arg15 f_arg16 f_arg17 f_arg18 f_arg19 f_arg20)) ∗ (arg13.view.loc (c : Thread nD τ) ↦[arg13.view.set]{fullShare} (G_arg13 f_arg12 f_arg13 f_arg14 f_arg15 f_arg16 f_arg17 f_arg18 f_arg19 f_arg20)) ∗ (arg14.view.loc (c : Thread nD τ) ↦[arg14.view.set]{fullShare} (G_arg14 f_arg12 f_arg13 f_arg14 f_arg15 f_arg16 f_arg17 f_arg18 f_arg19 f_arg20)) ∗ (arg15.view.loc (c : Thread nD τ) ↦[arg15.view.set]{fullShare} (G_arg15 f_arg12 f_arg13 f_arg14 f_arg15 f_arg16 f_arg17 f_arg18 f_arg19 f_arg20)) ∗ (arg16.view.loc (c : Thread nD τ) ↦[arg16.view.set]{fullShare} (G_arg16 f_arg12 f_arg13 f_arg14 f_arg15 f_arg16 f_arg17 f_arg18 f_arg19 f_arg20)) ∗ (arg17.view.loc (c : Thread nD τ) ↦[arg17.view.set]{fullShare} (G_arg17 f_arg12 f_arg13 f_arg14 f_arg15 f_arg16 f_arg17 f_arg18 f_arg19 f_arg20)) ∗ (arg18.view.loc (c : Thread nD τ) ↦[arg18.view.set]{fullShare} (G_arg18 f_arg12 f_arg13 f_arg14 f_arg15 f_arg16 f_arg17 f_arg18 f_arg19 f_arg20)) ∗ (arg19.view.loc (c : Thread nD τ) ↦[arg19.view.set]{fullShare} (G_arg19 f_arg12 f_arg13 f_arg14 f_arg15 f_arg16 f_arg17 f_arg18 f_arg19 f_arg20)) ∗ (arg20.view.loc (c : Thread nD τ) ↦[arg20.view.set]{fullShare} (G_arg20 f_arg12 f_arg13 f_arg14 f_arg15 f_arg16 f_arg17 f_arg18 f_arg19 f_arg20)))) } := by
  refine ⟨?_, ?_, ?_, ?_, ?_, ?_, ?_, ?_, ?_, fun E f_arg12 f_arg13 f_arg14 f_arg15 f_arg16 f_arg17 f_arg18 f_arg19 f_arg20 => ?run⟩
  case run =>
    iintro ⟨Harg3, Harg4, Harg5, Harg6, Harg7, Harg8, Harg9, Harg10, Harg11, Harg12, Harg13, Harg14, Harg15, Harg16, Harg17, Harg18, Harg19, Harg20⟩
    have hcut1 := fun v46 c2_i32 v1617 v1618 X_arg7 X_arg8 X_arg19 f_arg13 f_arg14 f_arg15 f_arg16 f_arg20 => firstA_spec (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v46 c2_i32 v1617 v1618 X_arg7 X_arg8 X_arg19 E f_arg13 f_arg14 f_arg15 f_arg16 f_arg20
    have hcut2 := fun v3 v4 v46 v1633 v1638 v1640 c0_i32_595 v1658 c1_i32_596 X_arg7 X_arg8 X_arg19 f_arg13 f_arg14 f_arg15 f_arg16 f_arg20 => midA_spec (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v3 v4 v46 v1633 v1638 v1640 c0_i32_595 v1658 c1_i32_596 X_arg7 X_arg8 X_arg19 E f_arg13 f_arg14 f_arg15 f_arg16 f_arg20
    have hcut3 := fun v3 v4 v46 v1616 v1633 v1678 v1693 v1694 v1695 c0_i32_619 X_arg7 X_arg8 X_arg19 f_arg13 f_arg14 f_arg15 f_arg16 f_arg20 => lastA_spec (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v3 v4 v46 v1616 v1633 v1678 v1693 v1694 v1695 c0_i32_619 X_arg4 X_arg6 X_arg7 X_arg8 X_arg19 E f_arg13 f_arg14 f_arg15 f_arg16 f_arg20
    sl_exec
    clear hcut1 hcut2 hcut3
    subst_eqs
    sl_step
    sl_close

end Cert.KernelIdeal.Body

end
-- ==== Proof.Body.KernelIdeal.Point.lean ====
/- The body at a grid point, over the windows' blocks. -/
module

public import proofs.«01_k».proof.Proof.Body.KernelIdeal.Restate
public import proofs.«01_k».proof.Proof.Body.KernelIdeal.Run
public import proofs.«01_k».proof.Proof.Gen.KernelIdeal.Frame
public import Idealize.ShloMosaic.Lib.Pipeline.Quiescent

@[expose] public section

set_option maxRecDepth 16384
set_option maxHeartbeats 4000000

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

variable (m : (ℓ : Loc nD τ sig) → Buf (Elt F) ℓ) (ρ : Dev nD → PrngReg)

/-- The result block `X` is what the body, run at point `t` on the windows' blocks, leaves, whatever the result's buffer and the scratch
    buffers held. -/
def OutIs (c : Dev nD) (t : Fin cfg0.N) (X : S1x256x256.Idx → Elt F .bf16) : Prop :=
  ∃ (X3 : BufTy.Contents (Elt F) (Memref.view (win0_0.stage (cfg0.slots t 0))).ty) (X4 : BufTy.Contents (Elt F) (Memref.view (win0_1.stage (cfg0.slots t 1))).ty) (X5 : BufTy.Contents (Elt F) (Memref.view (win0_2.stage (cfg0.slots t 2))).ty) (X6 : BufTy.Contents (Elt F) (Memref.view (win0_3.stage (cfg0.slots t 3))).ty) (X7 : BufTy.Contents (Elt F) (Memref.view (win0_4.stage (cfg0.slots t 4))).ty) (X8 : BufTy.Contents (Elt F) (Memref.view (win0_5.stage (cfg0.slots t 5))).ty) (X9 : BufTy.Contents (Elt F) (Memref.view (win0_6.stage (cfg0.slots t 6))).ty) (X10 : BufTy.Contents (Elt F) (Memref.view (win0_7.stage (cfg0.slots t 7))).ty) (X11 : BufTy.Contents (Elt F) (Memref.view (win0_8.stage (cfg0.slots t 8))).ty) (f12 : BufTy.Contents (Elt F) (Memref.view (win0_9.stage (cfg0.slots t 9))).ty) (f13 : BufTy.Contents (Elt F) (Memref.view (Memref.whole cc0_scratch0)).ty) (f14 : BufTy.Contents (Elt F) (Memref.view (Memref.whole cc0_scratch1)).ty) (f15 : BufTy.Contents (Elt F) (Memref.view (Memref.whole cc0_scratch2)).ty) (f16 : BufTy.Contents (Elt F) (Memref.view (Memref.whole cc0_scratch3)).ty) (f17 : BufTy.Contents (Elt F) (Memref.view (Memref.whole cc0_scratch4)).ty) (f18 : BufTy.Contents (Elt F) (Memref.view (Memref.whole cc0_scratch5)).ty) (f19 : BufTy.Contents (Elt F) (Memref.view (Memref.whole cc0_scratch6)).ty) (f20 : BufTy.Contents (Elt F) (Memref.view (Memref.whole cc0_scratch7)).ty),
    (Memref.view (win0_0.stage (cfg0.slots t 0))).read (Elt F) X3 = Gen.iblk m c 0 t ∧ (Memref.view (win0_1.stage (cfg0.slots t 1))).read (Elt F) X4 = Gen.iblk m c 1 t ∧ (Memref.view (win0_2.stage (cfg0.slots t 2))).read (Elt F) X5 = Gen.iblk m c 2 t ∧ (Memref.view (win0_3.stage (cfg0.slots t 3))).read (Elt F) X6 = Gen.iblk m c 3 t ∧ (Memref.view (win0_4.stage (cfg0.slots t 4))).read (Elt F) X7 = Gen.iblk m c 4 t ∧ (Memref.view (win0_5.stage (cfg0.slots t 5))).read (Elt F) X8 = Gen.iblk m c 5 t ∧ (Memref.view (win0_6.stage (cfg0.slots t 6))).read (Elt F) X9 = Gen.iblk m c 6 t ∧ (Memref.view (win0_7.stage (cfg0.slots t 7))).read (Elt F) X10 = Gen.iblk m c 7 t ∧ (Memref.view (win0_8.stage (cfg0.slots t 8))).read (Elt F) X11 = Gen.iblk m c 8 t
    ∧ X = (Memref.view (win0_9.stage (cfg0.slots t 9))).read (Elt F) ((body (F := F) Variants.none c none (grid0.coords t) (win0_0.stage (cfg0.slots t 0)) (Gen.hstage0_0 ((cfg0.slots t 0).cast Gen.nbuf0_0)) (win0_1.stage (cfg0.slots t 1)) (Gen.hstage0_1 ((cfg0.slots t 1).cast Gen.nbuf0_1)) (win0_2.stage (cfg0.slots t 2)) (Gen.hstage0_2 ((cfg0.slots t 2).cast Gen.nbuf0_2)) (win0_3.stage (cfg0.slots t 3)) (Gen.hstage0_3 ((cfg0.slots t 3).cast Gen.nbuf0_3)) (win0_4.stage (cfg0.slots t 4)) (Gen.hstage0_4 ((cfg0.slots t 4).cast Gen.nbuf0_4)) (win0_5.stage (cfg0.slots t 5)) (Gen.hstage0_5 ((cfg0.slots t 5).cast Gen.nbuf0_5)) (win0_6.stage (cfg0.slots t 6)) (Gen.hstage0_6 ((cfg0.slots t 6).cast Gen.nbuf0_6)) (win0_7.stage (cfg0.slots t 7)) (Gen.hstage0_7 ((cfg0.slots t 7).cast Gen.nbuf0_7)) (win0_8.stage (cfg0.slots t 8)) (Gen.hstage0_8 ((cfg0.slots t 8).cast Gen.nbuf0_8)) (win0_9.stage (cfg0.slots t 9)) (Gen.hstage0_9 ((cfg0.slots t 9).cast Gen.nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) X3 X4 X5 X6 X7 X8 X9 X10 X11).1 f12 f13 f14 f15 f16 f17 f18 f19 f20)

/-- The body at point `t` on the windows' blocks. -/
theorem sound_point (c : Dev nD) (t : Fin cfg0.N) :
    (iprop(Pipeline.ΦA spec0 c ∗ owns (c : Thread nD τ) (Gen.st0_0 t) fullShare (Gen.iblk m c 0 t) ∗ owns (c : Thread nD τ) (Gen.st0_1 t) fullShare (Gen.iblk m c 1 t) ∗ owns (c : Thread nD τ) (Gen.st0_2 t) fullShare (Gen.iblk m c 2 t) ∗ owns (c : Thread nD τ) (Gen.st0_3 t) fullShare (Gen.iblk m c 3 t) ∗ owns (c : Thread nD τ) (Gen.st0_4 t) fullShare (Gen.iblk m c 4 t) ∗ owns (c : Thread nD τ) (Gen.st0_5 t) fullShare (Gen.iblk m c 5 t) ∗ owns (c : Thread nD τ) (Gen.st0_6 t) fullShare (Gen.iblk m c 6 t) ∗ owns (c : Thread nD τ) (Gen.st0_7 t) fullShare (Gen.iblk m c 7 t) ∗ owns (c : Thread nD τ) (Gen.st0_8 t) fullShare (Gen.iblk m c 8 t) ∗ (∃ d, owns (c : Thread nD τ) (Gen.st0_9 t) fullShare d)) : sProp 𝕄G)
      ⊢ wp frame (wpE (defs₀ (F := F)) Variants.none (c : Thread nD τ) none) Set.univ (Gen.bodyAt0 t)
        (fun _ => iprop(Pipeline.ΦA spec0 c ∗ owns (c : Thread nD τ) (Gen.st0_0 t) fullShare (Gen.iblk m c 0 t) ∗ owns (c : Thread nD τ) (Gen.st0_1 t) fullShare (Gen.iblk m c 1 t) ∗ owns (c : Thread nD τ) (Gen.st0_2 t) fullShare (Gen.iblk m c 2 t) ∗ owns (c : Thread nD τ) (Gen.st0_3 t) fullShare (Gen.iblk m c 3 t) ∗ owns (c : Thread nD τ) (Gen.st0_4 t) fullShare (Gen.iblk m c 4 t) ∗ owns (c : Thread nD τ) (Gen.st0_5 t) fullShare (Gen.iblk m c 5 t) ∗ owns (c : Thread nD τ) (Gen.st0_6 t) fullShare (Gen.iblk m c 6 t) ∗ owns (c : Thread nD τ) (Gen.st0_7 t) fullShare (Gen.iblk m c 7 t) ∗ owns (c : Thread nD τ) (Gen.st0_8 t) fullShare (Gen.iblk m c 8 t) ∗ (∃ d, ⌜OutIs m c t d⌝ ∗ owns (c : Thread nD τ) (Gen.st0_9 t) fullShare d))) := by
  unfold Gen.bodyAt0
  refine point_of_run (F := F) c (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) (win0_6.stage (cfg0.slots t 6)) (win0_7.stage (cfg0.slots t 7)) (win0_8.stage (cfg0.slots t 8)) (win0_9.stage (cfg0.slots t 9)) _ _ _ _ _ _ _ _ _ _ (OutIs m c t) fun X3 X4 X5 X6 X7 X8 X9 X10 X11 f12 f13 f14 f15 f16 f17 f18 f19 f20 e0 e1 e2 e3 e4 e5 e6 e7 e8 => ?_
  refine ((body (F := F) Variants.none c none (grid0.coords t) (win0_0.stage (cfg0.slots t 0)) (Gen.hstage0_0 ((cfg0.slots t 0).cast Gen.nbuf0_0)) (win0_1.stage (cfg0.slots t 1)) (Gen.hstage0_1 ((cfg0.slots t 1).cast Gen.nbuf0_1)) (win0_2.stage (cfg0.slots t 2)) (Gen.hstage0_2 ((cfg0.slots t 2).cast Gen.nbuf0_2)) (win0_3.stage (cfg0.slots t 3)) (Gen.hstage0_3 ((cfg0.slots t 3).cast Gen.nbuf0_3)) (win0_4.stage (cfg0.slots t 4)) (Gen.hstage0_4 ((cfg0.slots t 4).cast Gen.nbuf0_4)) (win0_5.stage (cfg0.slots t 5)) (Gen.hstage0_5 ((cfg0.slots t 5).cast Gen.nbuf0_5)) (win0_6.stage (cfg0.slots t 6)) (Gen.hstage0_6 ((cfg0.slots t 6).cast Gen.nbuf0_6)) (win0_7.stage (cfg0.slots t 7)) (Gen.hstage0_7 ((cfg0.slots t 7).cast Gen.nbuf0_7)) (win0_8.stage (cfg0.slots t 8)) (Gen.hstage0_8 ((cfg0.slots t 8).cast Gen.nbuf0_8)) (win0_9.stage (cfg0.slots t 9)) (Gen.hstage0_9 ((cfg0.slots t 9).cast Gen.nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) X3 X4 X5 X6 X7 X8 X9 X10 X11).2.2.2.2.2.2.2.2.2 Set.univ f12 f13 f14 f15 f16 f17 f18 f19 f20).trans (wp_mono _ _ _ fun _ => ?_)
  iintro H
  iexists _, _, _, _, _, _, _, _, _
  isplitr
  · ipureintro; exact ⟨X3, X4, X5, X6, X7, X8, X9, X10, X11, f12, f13, f14, f15, f16, f17, f18, f19, f20, e0, e1, e2, e3, e4, e5, e6, e7, e8, rfl⟩
  · iexact H

end Cert.KernelIdeal.Body

end
-- ==== Proof.Body.KernelIdeal.Frame.lean ====
/- The frame of `KernelIdeal`: the region with its result array forgotten, then the host operation that casts the result. -/
module

public import proofs.«01_k».proof.Proof.Body.KernelIdeal.Point
public import Idealize.ShloMosaic.Lib.Pipeline.FrameSuffix

@[expose] public section

set_option maxRecDepth 16384
set_option maxHeartbeats 4000000

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F] [Named F]

local notation "𝕄G" => MT nD τ sig Unit (Elt F) ℕ (UR sig nD τ) ℕ

variable (m : (ℓ : Loc nD τ sig) → Buf (Elt F) ℓ) (ρ : Dev nD → PrngReg)

/-- Of the ten windows the result's is forgotten. -/
def resultOnly : Fin 10 → Bool := fun w => w.val == 9

/-- Every operand's window holds its block at every point. -/
def held (_ : Fin 1) (c : Dev nD) : Dat τ (Elt F) Unit ℕ (UR sig nD τ) ℕ cfg0 c where
  A w := Gen.V m c (Pipeline.arrRef spec0 w)
  after w t := match w with
    | ⟨0, _⟩ => Gen.iblk m c 0 t
    | ⟨1, _⟩ => Gen.iblk m c 1 t
    | ⟨2, _⟩ => Gen.iblk m c 2 t
    | ⟨3, _⟩ => Gen.iblk m c 3 t
    | ⟨4, _⟩ => Gen.iblk m c 4 t
    | ⟨5, _⟩ => Gen.iblk m c 5 t
    | ⟨6, _⟩ => Gen.iblk m c 6 t
    | ⟨7, _⟩ => Gen.iblk m c 7 t
    | ⟨8, _⟩ => Gen.iblk m c 8 t
    | ⟨9, h⟩ => Pipeline.Dat.unnamed (cfg := cfg0) ⟨9, h⟩ t
  Φ _ := Pipeline.ΦA spec0 c
  q _ := fullShare
  owed _ := 0

theorem held_A (c : Dev nD) (w : Fin cfg0.W) : (held m 0 c).A w = Gen.V m c (Pipeline.arrRef spec0 w) := by
  dsimp only [held]

theorem held_after_0 (c : Dev nD) (t : Fin cfg0.N) : (held m 0 c).after 0 t = Gen.iblk m c 0 t := by dsimp only [held]
theorem held_after_1 (c : Dev nD) (t : Fin cfg0.N) : (held m 0 c).after 1 t = Gen.iblk m c 1 t := by dsimp only [held]
theorem held_after_2 (c : Dev nD) (t : Fin cfg0.N) : (held m 0 c).after 2 t = Gen.iblk m c 2 t := by dsimp only [held]
theorem held_after_3 (c : Dev nD) (t : Fin cfg0.N) : (held m 0 c).after 3 t = Gen.iblk m c 3 t := by dsimp only [held]
theorem held_after_4 (c : Dev nD) (t : Fin cfg0.N) : (held m 0 c).after 4 t = Gen.iblk m c 4 t := by dsimp only [held]
theorem held_after_5 (c : Dev nD) (t : Fin cfg0.N) : (held m 0 c).after 5 t = Gen.iblk m c 5 t := by dsimp only [held]
theorem held_after_6 (c : Dev nD) (t : Fin cfg0.N) : (held m 0 c).after 6 t = Gen.iblk m c 6 t := by dsimp only [held]
theorem held_after_7 (c : Dev nD) (t : Fin cfg0.N) : (held m 0 c).after 7 t = Gen.iblk m c 7 t := by dsimp only [held]
theorem held_after_8 (c : Dev nD) (t : Fin cfg0.N) : (held m 0 c).after 8 t = Gen.iblk m c 8 t := by dsimp only [held]
theorem held_before_0 (c : Dev nD) (t : Fin cfg0.N) (d) : (held m 0 c).before 0 t d = Gen.iblk m c 0 t :=
  Gen.before0_0_of m (held m 0 c) (held_A m c 0) (held_after_0 m c) t d
theorem held_before_1 (c : Dev nD) (t : Fin cfg0.N) (d) : (held m 0 c).before 1 t d = Gen.iblk m c 1 t :=
  Gen.before0_1_of m (held m 0 c) (held_A m c 1) (held_after_1 m c) t d
theorem held_before_2 (c : Dev nD) (t : Fin cfg0.N) (d) : (held m 0 c).before 2 t d = Gen.iblk m c 2 t :=
  Gen.before0_2_of m (held m 0 c) (held_A m c 2) (held_after_2 m c) t d
theorem held_before_3 (c : Dev nD) (t : Fin cfg0.N) (d) : (held m 0 c).before 3 t d = Gen.iblk m c 3 t :=
  Gen.before0_3_of m (held m 0 c) (held_A m c 3) (held_after_3 m c) t d
theorem held_before_4 (c : Dev nD) (t : Fin cfg0.N) (d) : (held m 0 c).before 4 t d = Gen.iblk m c 4 t :=
  Gen.before0_4_of m (held m 0 c) (held_A m c 4) (held_after_4 m c) t d
theorem held_before_5 (c : Dev nD) (t : Fin cfg0.N) (d) : (held m 0 c).before 5 t d = Gen.iblk m c 5 t :=
  Gen.before0_5_of m (held m 0 c) (held_A m c 5) (held_after_5 m c) t d
theorem held_before_6 (c : Dev nD) (t : Fin cfg0.N) (d) : (held m 0 c).before 6 t d = Gen.iblk m c 6 t :=
  Gen.before0_6_of m (held m 0 c) (held_A m c 6) (held_after_6 m c) t d
theorem held_before_7 (c : Dev nD) (t : Fin cfg0.N) (d) : (held m 0 c).before 7 t d = Gen.iblk m c 7 t :=
  Gen.before0_7_of m (held m 0 c) (held_A m c 7) (held_after_7 m c) t d
theorem held_before_8 (c : Dev nD) (t : Fin cfg0.N) (d) : (held m 0 c).before 8 t d = Gen.iblk m c 8 t :=
  Gen.before0_8_of m (held m 0 c) (held_A m c 8) (held_after_8 m c) t d

/-- What the body is given at a point. -/
def given (c : Dev nD) (t : Fin cfg0.N) : sProp 𝕄G :=
  iprop((held m 0 c).Φ t.castSucc ∗ (held m 0 c).owesAt () t.castSucc ∗ (∃ d, owns (c : Thread nD τ) (Gen.st0_0 t) fullShare ((held m 0 c).before 0 t d)) ∗ (∃ d, owns (c : Thread nD τ) (Gen.st0_1 t) fullShare ((held m 0 c).before 1 t d)) ∗ (∃ d, owns (c : Thread nD τ) (Gen.st0_2 t) fullShare ((held m 0 c).before 2 t d)) ∗ (∃ d, owns (c : Thread nD τ) (Gen.st0_3 t) fullShare ((held m 0 c).before 3 t d)) ∗ (∃ d, owns (c : Thread nD τ) (Gen.st0_4 t) fullShare ((held m 0 c).before 4 t d)) ∗ (∃ d, owns (c : Thread nD τ) (Gen.st0_5 t) fullShare ((held m 0 c).before 5 t d)) ∗ (∃ d, owns (c : Thread nD τ) (Gen.st0_6 t) fullShare ((held m 0 c).before 6 t d)) ∗ (∃ d, owns (c : Thread nD τ) (Gen.st0_7 t) fullShare ((held m 0 c).before 7 t d)) ∗ (∃ d, owns (c : Thread nD τ) (Gen.st0_8 t) fullShare ((held m 0 c).before 8 t d)) ∗ (∃ d, owns (c : Thread nD τ) (Gen.st0_9 t) fullShare d))

/-- What it gives back. -/
def returned (c : Dev nD) (t : Fin cfg0.N) : sProp 𝕄G :=
  iprop((held m 0 c).Φ t.succ ∗ (held m 0 c).owesAt () t.succ ∗ owns (c : Thread nD τ) (Gen.st0_0 t) fullShare ((held m 0 c).after 0 t) ∗ owns (c : Thread nD τ) (Gen.st0_1 t) fullShare ((held m 0 c).after 1 t) ∗ owns (c : Thread nD τ) (Gen.st0_2 t) fullShare ((held m 0 c).after 2 t) ∗ owns (c : Thread nD τ) (Gen.st0_3 t) fullShare ((held m 0 c).after 3 t) ∗ owns (c : Thread nD τ) (Gen.st0_4 t) fullShare ((held m 0 c).after 4 t) ∗ owns (c : Thread nD τ) (Gen.st0_5 t) fullShare ((held m 0 c).after 5 t) ∗ owns (c : Thread nD τ) (Gen.st0_6 t) fullShare ((held m 0 c).after 6 t) ∗ owns (c : Thread nD τ) (Gen.st0_7 t) fullShare ((held m 0 c).after 7 t) ∗ owns (c : Thread nD τ) (Gen.st0_8 t) fullShare ((held m 0 c).after 8 t) ∗ (∃ d, owns (c : Thread nD τ) (Gen.st0_9 t) fullShare d))

theorem point (c : Dev nD) (t : Fin cfg0.N) :
    given m c t ⊢ wp frame (wpE (defs₀ (F := F)) Variants.none (c : Thread nD τ) none) Set.univ (Gen.bodyAt0 t) (fun _ => returned m c t) := by
  have h := sound_point m c t
  unfold given returned
  simp only [held_before_0, held_before_1, held_before_2, held_before_3, held_before_4, held_before_5, held_before_6, held_before_7, held_before_8]
  rw [show (held m 0 c).Φ t.succ = Pipeline.ΦA spec0 c from rfl, show (held m 0 c).Φ t.castSucc = Pipeline.ΦA spec0 c from rfl,
    show (held m 0 c).owesAt () t.succ = (held m 0 c).owesAt () t.castSucc from rfl,
    held_after_0, held_after_1, held_after_2, held_after_3, held_after_4, held_after_5, held_after_6, held_after_7, held_after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9⟩
  iapply (wp_wand frame (wpE (defs₀ (F := F)) Variants.none (c : Thread nD τ) none) Set.univ) $$ [HΦ H0 H1 H2 H3 H4 H5 H6 H7 H8 H9]
  · iapply h
    isplitl [HΦ]; · iexact HΦ
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · iintro %_ ⟨HΦ, H0, H1, H2, H3, H4, H5, H6, H7, H8, ⟨%d9, -, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists _; iexact H9

theorem row (t : Fin cfg0.N) : (defs₀ (F := F)) .tc cfg0.body (cfg0.bodyArgs t (cfg0.slots t)) = Gen.bodyAt0 t := by
  unfold defs₀; rw [Defs.onTc_tc]

theorem obligation (c : Dev nD) : BodyObligation (held (F := F) m 0 c) (defs₀ (F := F)) Variants.none () Set.univ resultOnly := fun t => by
  rw [Gen.bigSep_W0, Gen.bigSep_W0, row]
  exact triple_restated (point m c t) rfl .rfl fun _ => .rfl

/-- The one buffer the host writes after the region. -/
theorem tail_writes : ∀ ops ∈ ([Gen.hostOps1] : List (List (HloOp τ sig (Elt F)))), ∀ op ∈ ops, ∀ b : Ref sig .tc,
    Proc.devRef .tc b ∈ op.writes → b ∈ ({main_v40} : Finset (Ref sig .tc)) := by
  intro ops hops op hop b hb
  simp only [List.mem_singleton] at hops
  subst hops
  simp only [Gen.hostOps1, List.mem_cons, List.not_mem_nil, or_false] at hop
  subst hop
  exact Finset.mem_singleton.mpr (Proc.devRef_injective .tc (Finset.mem_singleton.mp hb))

/-- Every execution ends, with the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) := by
  refine (θ_run defs _ _).mono ?_ (Pipeline.θ_run_frame_around_T_forget cfgs (held m) (0 : Fin 1) Gen.launch0 (defs₀ (F := F)) Variants.none
    resultOnly {main_v40} m ρ (main (F := F)) (hbody := fun c => (obligation m c).loose) (hshare := fun c => (held m 0 c).share_full fun _ => rfl)
    (howed := fun _ _ => rfl) (V₀ := Gen.V0 m) (opss := [Gen.hostOps1]) (hsub := Gen.sfx_sub) (hfresh := Gen.sfx_fresh) (hkeep := Gen.sfx_keeps)
    (hT := tail_writes) (hmain := Gen.hmain m Variants.none) (hA := held_A m) (hΦ := fun _ _ => rfl)
    (Q' := fun r => Pipeline.RDat.FramePostR cfg0 (fun c => (held m 0 c).toRForget resultOnly) {main_v40} (fun c b => Gen.V0 m c (Proc.devRef .tc b)) r
      ∧ r.2.sem = fun _ => 0) (hQ' := fun _ h => h))
  rintro r ⟨h, hz⟩
  exact ⟨fun c => ⟨((h c).2 main_arg0 (Finset.mem_sdiff.mpr ⟨Pipeline.mem_restRefs_of main_arg0 (by decide) (by decide), by decide⟩)).trans (Gen.V_main_arg0 m c),
    ((h c).2 main_arg1 (Finset.mem_sdiff.mpr ⟨Pipeline.mem_restRefs_of main_arg1 (by decide) (by decide), by decide⟩)).trans (Gen.V_main_arg1 m c),
    ((h c).2 main_arg2 (Finset.mem_sdiff.mpr ⟨Pipeline.mem_restRefs_of main_arg2 (by decide) (by decide), by decide⟩)).trans (Gen.V_main_arg2 m c),
    ((h c).2 main_arg3 (Finset.mem_sdiff.mpr ⟨Pipeline.mem_restRefs_of main_arg3 (by decide) (by decide), by decide⟩)).trans (Gen.V_main_arg3 m c),
    ((h c).2 main_arg4 (Finset.mem_sdiff.mpr ⟨Pipeline.mem_restRefs_of main_arg4 (by decide) (by decide), by decide⟩)).trans (Gen.V_main_arg4 m c),
    ((h c).2 main_arg5 (Finset.mem_sdiff.mpr ⟨Pipeline.mem_restRefs_of main_arg5 (by decide) (by decide), by decide⟩)).trans (Gen.V_main_arg5 m c),
    ((h c).2 main_arg6 (Finset.mem_sdiff.mpr ⟨Pipeline.mem_restRefs_of main_arg6 (by decide) (by decide), by decide⟩)).trans (Gen.V_main_arg6 m c),
    ((h c).2 main_arg7 (Finset.mem_sdiff.mpr ⟨Pipeline.mem_restRefs_of main_arg7 (by decide) (by decide), by decide⟩)).trans (Gen.V_main_arg7 m c),
    ((h c).2 main_arg8 (Finset.mem_sdiff.mpr ⟨Pipeline.mem_restRefs_of main_arg8 (by decide) (by decide), by decide⟩)).trans (Gen.V_main_arg8 m c)⟩, hz⟩

end Cert.KernelIdeal.Body

end
-- ==== Proof.Ffn.Plain.lean ====
/-
  One token's feed-forward half-step, over the extended reals: what both programs of each pair compute at an index.
-/
module

public import Idealize.ShloMosaic.Lib.Pointwise

@[expose] public section

noncomputable section

open Idealize.ShloMosaic

namespace Cert.Plain

/-- The reciprocal root mean square of a token's 1024 features. -/
def scaleOf (x : Fin 1024 → EReal) : EReal :=
  Ideal.rsqrt (Ideal.div (∑ k, x k * x k) (Ideal.ofBits FTy.f32 0x44800000#32) + Ideal.ofBits FTy.f32 0x358637BD#32)

/-- The normalized token with its gain. -/
def normed (x g : Fin 1024 → EReal) (k : Fin 1024) : EReal := x k * scaleOf x * g k

/-- The normalized token, modulated. -/
def hidden (x g shift scale : Fin 1024 → EReal) (k : Fin 1024) : EReal := normed x g k * (1 + scale k) + shift k

/-- One of the 2816 gated activations of a hidden token. -/
def act (h : Fin 1024 → EReal) (wg wu : Fin 1024 → Fin 2816 → EReal) (j : Fin 2816) : EReal :=
  (∑ k, h k * wg k j) * Ideal.logistic (∑ k, h k * wg k j) * ∑ k, h k * wu k j

/-- The token after the half-step. -/
def halfStep (x g shift scale gate : Fin 1024 → EReal) (wg wu : Fin 1024 → Fin 2816 → EReal)
    (wd : Fin 2816 → Fin 1024 → EReal) (n : Fin 1024) : EReal :=
  x n + Ideal.ofBits FTy.f32 0x3F000000#32 * gate n * ∑ j, act (hidden x g shift scale) wg wu j * wd j n

/-- The token after the mixers' two outputs came back through the output projection, gated. -/
def mixStep (x : Fin 1024 → EReal) (yc ya : Fin 512 → EReal) (gate : Fin 1024 → EReal)
    (wo : Fin 1024 → Fin 1024 → EReal) (n : Fin 1024) : EReal :=
  x n + gate n * ((∑ k : Fin 512, yc k * wo (Fin.castAdd 512 k) n) + ∑ k : Fin 512, ya k * wo (Fin.natAdd 512 k) n)

end Cert.Plain

end
-- ==== Proof.Ffn.Tiles2.lean ====
/- The three scratch buffers of the feed-forward kernel, each filled tile by tile, read back whole. -/
module

public import proofs.«01_k».proof.Proof.Gen.Kernel2Ideal.Value
public import proofs.«01_k».proof.Proof.Ffn.Plain
public import Idealize.ShloMosaic.Lib.Pipeline.ValueKit
public import Idealize.ShloMosaic.Lib.Pointwise

@[expose] public section

set_option maxRecDepth 65536

noncomputable section

open Idealize.ShloMosaic Idealize.ShloMosaic.TcCoe Idealize.SL.Sem
open Idealize.ShloMosaic.Pipeline (Dat)

namespace Cert.Kernel2Ideal.Ffn

open Cert.Kernel2Ideal Cert.Kernel2Ideal.Gen Cert.Kernel2Ideal.Value

/-! ## The tiles -/

/-- The activations of a block's tokens. -/
def ACT (h : FVec Ideal S512x1024 .bf16) (wg wu : Vec Ideal S1024x2816 .bf16) : Vec Ideal S512x2816 .bf16 :=
  fun y => Plain.act (fun k => h (ix2 (y 0) k)) (fun k j => wg (ix2 k j)) (fun k j => wu (ix2 k j)) (y 1)

/-- A weight after its cast, which changes nothing over the reals. -/
def narrowed (w : Vec Ideal S1024x2816 .f32) : Vec Ideal S1024x2816 .bf16 := fun y => (w y : EReal)

theorem cast_tile (v : FVec Ideal S1024x256 .f32) (x : S1024x256.Idx) : k0_pay1 (F := Ideal) v x = (v x : EReal) := by
  obtain ⟨a, b, rfl⟩ : ∃ (a : Fin 1024) (b : Fin 256), x = ix2 a b := ⟨x 0, x 1, by idx_ext⟩
  pointwise [k0_pay1]

theorem act_at (h : FVec Ideal S512x1024 .bf16) (a b : FVec Ideal S1024x256 .bf16) (r : Fin 512) (k : Fin 256) :
    k0_pay26 (F := Ideal) h a b (ix2 r k) = (∑ x, h (ix2 r x) * a (ix2 x k))
      * Ideal.logistic (∑ x, h (ix2 r x) * a (ix2 x k)) * ∑ x, h (ix2 r x) * b (ix2 x k) := by
  pointwise [k0_pay26]

theorem act_tile (h : FVec Ideal S512x1024 .bf16) (wg wu : Vec Ideal S1024x2816 .bf16) (o : ℕ)
    (inb : ∀ a, (![0, o] : Fin 2 → ℕ) a + S1024x256.size a ≤ S1024x2816.size a) (x : S512x256.Idx) (y : S512x2816.Idx)
    (h0 : (y 0 : ℕ) = x 0) (h1 : (y 1 : ℕ) = o + x 1) :
    k0_pay26 h (View.ld wg (Rect.unit (s := S1024x2816) ![0, o] S1024x256.size inb))
      (View.ld wu (Rect.unit (s := S1024x2816) ![0, o] S1024x256.size inb)) x = ACT h wg wu y := by
  obtain ⟨a, b, rfl⟩ : ∃ (a : Fin 512) (b : Fin 256), x = ix2 a b := ⟨x 0, x 1, by idx_ext⟩
  obtain ⟨p, q, rfl⟩ : ∃ (p : Fin 512) (q : Fin 2816), y = ix2 p q := ⟨y 0, y 1, by idx_ext⟩
  have hp : p = a := Fin.ext h0
  have hl : ∀ (w : Vec Ideal S1024x2816 .bf16) (k : Fin 1024),
      View.ld w (Rect.unit (s := S1024x2816) ![0, o] S1024x256.size inb) (ix2 k b) = w (ix2 k q) := fun w k =>
    View.ld_unit_apply_of _ _ _ _ _ _ (fun e => by
      match e with
      | ⟨0, _⟩ => exact (Nat.zero_add _).symm
      | ⟨1, _⟩ => exact h1)
  subst hp
  have hs : ∀ w : Vec Ideal S1024x2816 .bf16, (∑ k : Fin 1024, (h (ix2 p k) : EReal)
      * View.ld w (Rect.unit (s := S1024x2816) ![0, o] S1024x256.size inb) (ix2 k b))
      = ∑ k : Fin 1024, (h (ix2 p k) : EReal) * w (ix2 k q) := fun w =>
    Finset.sum_congr rfl fun k _ => congrArg (fun s : EReal => (h (ix2 p k) : EReal) * s) (hl w k)
  exact (act_at h _ _ p b).trans
    (congrArg₂ (fun s u : EReal => s * Ideal.logistic s * u) (hs wg) (hs wu))

theorem canon_w1 (w : Vec Ideal S1024x2816 .f32) : View.canon (Val := Elt Ideal) (s := S1024x2816) (e := .bf16)
    [⟨Rect.unit ![0, 2560] ![1024, 256] inb_S1024x2816_S1024x256_0_2560, k0_pay11 (View.ld w (Rect.unit ![0, 2560] ![1024, 256] inb_S1024x2816_S1024x256_0_2560))⟩,
      ⟨Rect.unit ![0, 2304] ![1024, 256] inb_S1024x2816_S1024x256_0_2304, k0_pay10 (View.ld w (Rect.unit ![0, 2304] ![1024, 256] inb_S1024x2816_S1024x256_0_2304))⟩,
      ⟨Rect.unit ![0, 2048] ![1024, 256] inb_S1024x2816_S1024x256_0_2048, k0_pay9 (View.ld w (Rect.unit ![0, 2048] ![1024, 256] inb_S1024x2816_S1024x256_0_2048))⟩,
      ⟨Rect.unit ![0, 1792] ![1024, 256] inb_S1024x2816_S1024x256_0_1792, k0_pay8 (View.ld w (Rect.unit ![0, 1792] ![1024, 256] inb_S1024x2816_S1024x256_0_1792))⟩,
      ⟨Rect.unit ![0, 1536] ![1024, 256] inb_S1024x2816_S1024x256_0_1536, k0_pay7 (View.ld w (Rect.unit ![0, 1536] ![1024, 256] inb_S1024x2816_S1024x256_0_1536))⟩,
      ⟨Rect.unit ![0, 1280] ![1024, 256] inb_S1024x2816_S1024x256_0_1280, k0_pay6 (View.ld w (Rect.unit ![0, 1280] ![1024, 256] inb_S1024x2816_S1024x256_0_1280))⟩,
      ⟨Rect.unit ![0, 1024] ![1024, 256] inb_S1024x2816_S1024x256_0_1024, k0_pay5 (View.ld w (Rect.unit ![0, 1024] ![1024, 256] inb_S1024x2816_S1024x256_0_1024))⟩,
      ⟨Rect.unit ![0, 768] ![1024, 256] inb_S1024x2816_S1024x256_0_768, k0_pay4 (View.ld w (Rect.unit ![0, 768] ![1024, 256] inb_S1024x2816_S1024x256_0_768))⟩,
      ⟨Rect.unit ![0, 512] ![1024, 256] inb_S1024x2816_S1024x256_0_512, k0_pay3 (View.ld w (Rect.unit ![0, 512] ![1024, 256] inb_S1024x2816_S1024x256_0_512))⟩,
      ⟨Rect.unit ![0, 256] ![1024, 256] inb_S1024x2816_S1024x256_0_256, k0_pay2 (View.ld w (Rect.unit ![0, 256] ![1024, 256] inb_S1024x2816_S1024x256_0_256))⟩,
      ⟨Rect.unit ![0, 0] ![1024, 256] inb_S1024x2816_S1024x256_0_0, k0_pay1 (View.ld w (Rect.unit ![0, 0] ![1024, 256] inb_S1024x2816_S1024x256_0_0))⟩] = narrowed w := by
  funext y
  canon_tiles x h
  all_goals refine (cast_tile _ _).trans (View.ld_unit_apply_of _ _ _ _ _ _ (fun e => ?_))
  all_goals
    match e with
    | ⟨0, _⟩ => exact h0.trans (Nat.zero_add _).symm
    | ⟨1, _⟩ => first | exact h1 | exact h1.trans (Nat.zero_add _).symm

theorem read_w1 (v : View sig .tc .vmem S1024x2816 .bf16) (w : Vec Ideal S1024x2816 .f32) (r : Rect S1024x2816) :
    v.readCov (Val := Elt Ideal)
    [⟨Rect.unit ![0, 2560] ![1024, 256] inb_S1024x2816_S1024x256_0_2560, k0_pay11 (View.ld w (Rect.unit ![0, 2560] ![1024, 256] inb_S1024x2816_S1024x256_0_2560))⟩,
      ⟨Rect.unit ![0, 2304] ![1024, 256] inb_S1024x2816_S1024x256_0_2304, k0_pay10 (View.ld w (Rect.unit ![0, 2304] ![1024, 256] inb_S1024x2816_S1024x256_0_2304))⟩,
      ⟨Rect.unit ![0, 2048] ![1024, 256] inb_S1024x2816_S1024x256_0_2048, k0_pay9 (View.ld w (Rect.unit ![0, 2048] ![1024, 256] inb_S1024x2816_S1024x256_0_2048))⟩,
      ⟨Rect.unit ![0, 1792] ![1024, 256] inb_S1024x2816_S1024x256_0_1792, k0_pay8 (View.ld w (Rect.unit ![0, 1792] ![1024, 256] inb_S1024x2816_S1024x256_0_1792))⟩,
      ⟨Rect.unit ![0, 1536] ![1024, 256] inb_S1024x2816_S1024x256_0_1536, k0_pay7 (View.ld w (Rect.unit ![0, 1536] ![1024, 256] inb_S1024x2816_S1024x256_0_1536))⟩,
      ⟨Rect.unit ![0, 1280] ![1024, 256] inb_S1024x2816_S1024x256_0_1280, k0_pay6 (View.ld w (Rect.unit ![0, 1280] ![1024, 256] inb_S1024x2816_S1024x256_0_1280))⟩,
      ⟨Rect.unit ![0, 1024] ![1024, 256] inb_S1024x2816_S1024x256_0_1024, k0_pay5 (View.ld w (Rect.unit ![0, 1024] ![1024, 256] inb_S1024x2816_S1024x256_0_1024))⟩,
      ⟨Rect.unit ![0, 768] ![1024, 256] inb_S1024x2816_S1024x256_0_768, k0_pay4 (View.ld w (Rect.unit ![0, 768] ![1024, 256] inb_S1024x2816_S1024x256_0_768))⟩,
      ⟨Rect.unit ![0, 512] ![1024, 256] inb_S1024x2816_S1024x256_0_512, k0_pay3 (View.ld w (Rect.unit ![0, 512] ![1024, 256] inb_S1024x2816_S1024x256_0_512))⟩,
      ⟨Rect.unit ![0, 256] ![1024, 256] inb_S1024x2816_S1024x256_0_256, k0_pay2 (View.ld w (Rect.unit ![0, 256] ![1024, 256] inb_S1024x2816_S1024x256_0_256))⟩,
      ⟨Rect.unit ![0, 0] ![1024, 256] inb_S1024x2816_S1024x256_0_0, k0_pay1 (View.ld w (Rect.unit ![0, 0] ![1024, 256] inb_S1024x2816_S1024x256_0_0))⟩] r.toLoadRect = View.ld (narrowed w) r := by
  rw [View.readCov_eq_canon_ld _ _ _ (View.cover_of_tiled_head _ _ _ (by rfl)), canon_w1]

theorem canon_w2 (w : Vec Ideal S1024x2816 .f32) : View.canon (Val := Elt Ideal) (s := S1024x2816) (e := .bf16)
    [⟨Rect.unit ![0, 2560] ![1024, 256] inb_S1024x2816_S1024x256_0_2560, k0_pay22 (View.ld w (Rect.unit ![0, 2560] ![1024, 256] inb_S1024x2816_S1024x256_0_2560))⟩,
      ⟨Rect.unit ![0, 2304] ![1024, 256] inb_S1024x2816_S1024x256_0_2304, k0_pay21 (View.ld w (Rect.unit ![0, 2304] ![1024, 256] inb_S1024x2816_S1024x256_0_2304))⟩,
      ⟨Rect.unit ![0, 2048] ![1024, 256] inb_S1024x2816_S1024x256_0_2048, k0_pay20 (View.ld w (Rect.unit ![0, 2048] ![1024, 256] inb_S1024x2816_S1024x256_0_2048))⟩,
      ⟨Rect.unit ![0, 1792] ![1024, 256] inb_S1024x2816_S1024x256_0_1792, k0_pay19 (View.ld w (Rect.unit ![0, 1792] ![1024, 256] inb_S1024x2816_S1024x256_0_1792))⟩,
      ⟨Rect.unit ![0, 1536] ![1024, 256] inb_S1024x2816_S1024x256_0_1536, k0_pay18 (View.ld w (Rect.unit ![0, 1536] ![1024, 256] inb_S1024x2816_S1024x256_0_1536))⟩,
      ⟨Rect.unit ![0, 1280] ![1024, 256] inb_S1024x2816_S1024x256_0_1280, k0_pay17 (View.ld w (Rect.unit ![0, 1280] ![1024, 256] inb_S1024x2816_S1024x256_0_1280))⟩,
      ⟨Rect.unit ![0, 1024] ![1024, 256] inb_S1024x2816_S1024x256_0_1024, k0_pay16 (View.ld w (Rect.unit ![0, 1024] ![1024, 256] inb_S1024x2816_S1024x256_0_1024))⟩,
      ⟨Rect.unit ![0, 768] ![1024, 256] inb_S1024x2816_S1024x256_0_768, k0_pay15 (View.ld w (Rect.unit ![0, 768] ![1024, 256] inb_S1024x2816_S1024x256_0_768))⟩,
      ⟨Rect.unit ![0, 512] ![1024, 256] inb_S1024x2816_S1024x256_0_512, k0_pay14 (View.ld w (Rect.unit ![0, 512] ![1024, 256] inb_S1024x2816_S1024x256_0_512))⟩,
      ⟨Rect.unit ![0, 256] ![1024, 256] inb_S1024x2816_S1024x256_0_256, k0_pay13 (View.ld w (Rect.unit ![0, 256] ![1024, 256] inb_S1024x2816_S1024x256_0_256))⟩,
      ⟨Rect.unit ![0, 0] ![1024, 256] inb_S1024x2816_S1024x256_0_0, k0_pay12 (View.ld w (Rect.unit ![0, 0] ![1024, 256] inb_S1024x2816_S1024x256_0_0))⟩] = narrowed w := by
  funext y
  canon_tiles x h
  all_goals refine (cast_tile _ _).trans (View.ld_unit_apply_of _ _ _ _ _ _ (fun e => ?_))
  all_goals
    match e with
    | ⟨0, _⟩ => exact h0.trans (Nat.zero_add _).symm
    | ⟨1, _⟩ => first | exact h1 | exact h1.trans (Nat.zero_add _).symm

theorem read_w2 (v : View sig .tc .vmem S1024x2816 .bf16) (w : Vec Ideal S1024x2816 .f32) (r : Rect S1024x2816) :
    v.readCov (Val := Elt Ideal)
    [⟨Rect.unit ![0, 2560] ![1024, 256] inb_S1024x2816_S1024x256_0_2560, k0_pay22 (View.ld w (Rect.unit ![0, 2560] ![1024, 256] inb_S1024x2816_S1024x256_0_2560))⟩,
      ⟨Rect.unit ![0, 2304] ![1024, 256] inb_S1024x2816_S1024x256_0_2304, k0_pay21 (View.ld w (Rect.unit ![0, 2304] ![1024, 256] inb_S1024x2816_S1024x256_0_2304))⟩,
      ⟨Rect.unit ![0, 2048] ![1024, 256] inb_S1024x2816_S1024x256_0_2048, k0_pay20 (View.ld w (Rect.unit ![0, 2048] ![1024, 256] inb_S1024x2816_S1024x256_0_2048))⟩,
      ⟨Rect.unit ![0, 1792] ![1024, 256] inb_S1024x2816_S1024x256_0_1792, k0_pay19 (View.ld w (Rect.unit ![0, 1792] ![1024, 256] inb_S1024x2816_S1024x256_0_1792))⟩,
      ⟨Rect.unit ![0, 1536] ![1024, 256] inb_S1024x2816_S1024x256_0_1536, k0_pay18 (View.ld w (Rect.unit ![0, 1536] ![1024, 256] inb_S1024x2816_S1024x256_0_1536))⟩,
      ⟨Rect.unit ![0, 1280] ![1024, 256] inb_S1024x2816_S1024x256_0_1280, k0_pay17 (View.ld w (Rect.unit ![0, 1280] ![1024, 256] inb_S1024x2816_S1024x256_0_1280))⟩,
      ⟨Rect.unit ![0, 1024] ![1024, 256] inb_S1024x2816_S1024x256_0_1024, k0_pay16 (View.ld w (Rect.unit ![0, 1024] ![1024, 256] inb_S1024x2816_S1024x256_0_1024))⟩,
      ⟨Rect.unit ![0, 768] ![1024, 256] inb_S1024x2816_S1024x256_0_768, k0_pay15 (View.ld w (Rect.unit ![0, 768] ![1024, 256] inb_S1024x2816_S1024x256_0_768))⟩,
      ⟨Rect.unit ![0, 512] ![1024, 256] inb_S1024x2816_S1024x256_0_512, k0_pay14 (View.ld w (Rect.unit ![0, 512] ![1024, 256] inb_S1024x2816_S1024x256_0_512))⟩,
      ⟨Rect.unit ![0, 256] ![1024, 256] inb_S1024x2816_S1024x256_0_256, k0_pay13 (View.ld w (Rect.unit ![0, 256] ![1024, 256] inb_S1024x2816_S1024x256_0_256))⟩,
      ⟨Rect.unit ![0, 0] ![1024, 256] inb_S1024x2816_S1024x256_0_0, k0_pay12 (View.ld w (Rect.unit ![0, 0] ![1024, 256] inb_S1024x2816_S1024x256_0_0))⟩] r.toLoadRect = View.ld (narrowed w) r := by
  rw [View.readCov_eq_canon_ld _ _ _ (View.cover_of_tiled_head _ _ _ (by rfl)), canon_w2]

theorem read_act (v : View sig .tc .vmem S512x2816 .bf16) (h : FVec Ideal S512x1024 .bf16) (wg wu : Vec Ideal S1024x2816 .bf16)
    (inb : ∀ a, (![0, 0] : Fin 2 → ℕ) a + S512x2816.size a ≤ S512x2816.size a) : v.readCov (Val := Elt Ideal)
    [⟨Rect.unit ![0, 2560] ![512, 256] inb_S512x2816_S512x256_0_2560, k0_pay36 h (View.ld wg (Rect.unit ![0, 2560] ![1024, 256] inb_S1024x2816_S1024x256_0_2560)) (View.ld wu (Rect.unit ![0, 2560] ![1024, 256] inb_S1024x2816_S1024x256_0_2560))⟩,
      ⟨Rect.unit ![0, 2304] ![512, 256] inb_S512x2816_S512x256_0_2304, k0_pay35 h (View.ld wg (Rect.unit ![0, 2304] ![1024, 256] inb_S1024x2816_S1024x256_0_2304)) (View.ld wu (Rect.unit ![0, 2304] ![1024, 256] inb_S1024x2816_S1024x256_0_2304))⟩,
      ⟨Rect.unit ![0, 2048] ![512, 256] inb_S512x2816_S512x256_0_2048, k0_pay34 h (View.ld wg (Rect.unit ![0, 2048] ![1024, 256] inb_S1024x2816_S1024x256_0_2048)) (View.ld wu (Rect.unit ![0, 2048] ![1024, 256] inb_S1024x2816_S1024x256_0_2048))⟩,
      ⟨Rect.unit ![0, 1792] ![512, 256] inb_S512x2816_S512x256_0_1792, k0_pay33 h (View.ld wg (Rect.unit ![0, 1792] ![1024, 256] inb_S1024x2816_S1024x256_0_1792)) (View.ld wu (Rect.unit ![0, 1792] ![1024, 256] inb_S1024x2816_S1024x256_0_1792))⟩,
      ⟨Rect.unit ![0, 1536] ![512, 256] inb_S512x2816_S512x256_0_1536, k0_pay32 h (View.ld wg (Rect.unit ![0, 1536] ![1024, 256] inb_S1024x2816_S1024x256_0_1536)) (View.ld wu (Rect.unit ![0, 1536] ![1024, 256] inb_S1024x2816_S1024x256_0_1536))⟩,
      ⟨Rect.unit ![0, 1280] ![512, 256] inb_S512x2816_S512x256_0_1280, k0_pay31 h (View.ld wg (Rect.unit ![0, 1280] ![1024, 256] inb_S1024x2816_S1024x256_0_1280)) (View.ld wu (Rect.unit ![0, 1280] ![1024, 256] inb_S1024x2816_S1024x256_0_1280))⟩,
      ⟨Rect.unit ![0, 1024] ![512, 256] inb_S512x2816_S512x256_0_1024, k0_pay30 h (View.ld wg (Rect.unit ![0, 1024] ![1024, 256] inb_S1024x2816_S1024x256_0_1024)) (View.ld wu (Rect.unit ![0, 1024] ![1024, 256] inb_S1024x2816_S1024x256_0_1024))⟩,
      ⟨Rect.unit ![0, 768] ![512, 256] inb_S512x2816_S512x256_0_768, k0_pay29 h (View.ld wg (Rect.unit ![0, 768] ![1024, 256] inb_S1024x2816_S1024x256_0_768)) (View.ld wu (Rect.unit ![0, 768] ![1024, 256] inb_S1024x2816_S1024x256_0_768))⟩,
      ⟨Rect.unit ![0, 512] ![512, 256] inb_S512x2816_S512x256_0_512, k0_pay28 h (View.ld wg (Rect.unit ![0, 512] ![1024, 256] inb_S1024x2816_S1024x256_0_512)) (View.ld wu (Rect.unit ![0, 512] ![1024, 256] inb_S1024x2816_S1024x256_0_512))⟩,
      ⟨Rect.unit ![0, 256] ![512, 256] inb_S512x2816_S512x256_0_256, k0_pay27 h (View.ld wg (Rect.unit ![0, 256] ![1024, 256] inb_S1024x2816_S1024x256_0_256)) (View.ld wu (Rect.unit ![0, 256] ![1024, 256] inb_S1024x2816_S1024x256_0_256))⟩,
      ⟨Rect.unit ![0, 0] ![512, 256] inb_S512x2816_S512x256_0_0, k0_pay26 h (View.ld wg (Rect.unit ![0, 0] ![1024, 256] inb_S1024x2816_S1024x256_0_0)) (View.ld wu (Rect.unit ![0, 0] ![1024, 256] inb_S1024x2816_S1024x256_0_0))⟩] (Rect.unit (s := S512x2816) ![0, 0] ![512, 2816] inb).toLoadRect = ACT h wg wu := by
  rw [View.readCov_eq_canon_ld _ _ _ (View.cover_of_tiled_head _ _ _ (by rfl)), View.ld_unit_lit _ _ (by decide)]
  funext y
  canon_tiles x h
  all_goals refine act_tile _ _ _ _ _ _ _ ?_ ?_
  all_goals first | exact h0 | exact h1 | exact h1.trans (Nat.zero_add _).symm

end Cert.Kernel2Ideal.Ffn

end
-- ==== Proof.Ffn.Value2.lean ====
/-
  What the feed-forward kernel leaves in its result: each token after the half-step, of the arguments.
-/
module

public import proofs.«01_k».proof.Proof.Ffn.Tiles2
public import Idealize.ShloMosaic.Lib.Claim
public import Idealize.ShloMosaic.Lib.Pipeline.ReadBack

@[expose] public section

set_option maxRecDepth 65536

noncomputable section

open Idealize.ShloMosaic Idealize.ShloMosaic.TcCoe Idealize.SL.Sem
open Idealize.ShloMosaic.Pipeline (Dat)

namespace Cert.Kernel2Ideal.Ffn

open Cert.Kernel2Ideal Cert.Kernel2Ideal.Gen Cert.Kernel2Ideal.Value

/-! ## One block -/

/-- A block of 512 tokens after the half-step. -/
def block (x : Vec Ideal S1x512x1024 .f32) (md : Vec Ideal S1x9x1024 .f32) (g : Vec Ideal S1x1024 .f32)
    (wg wu : Vec Ideal S1024x2816 .f32) (wd : Vec Ideal S2816x1024 .bf16) (y : S1x512x1024.Idx) : EReal :=
  Plain.halfStep (fun k => x (ix3 0 (y 1) k)) (fun k => g (ix2 0 k)) (fun k => md (ix3 0 0 k)) (fun k => md (ix3 0 1 k))
    (fun k => md (ix3 0 2 k)) (fun k j => wg (ix2 k j)) (fun k j => wu (ix2 k j)) (fun j n => wd (ix2 j n)) (y 2)

theorem hidden_at (x : Vec Ideal S1x512x1024 .f32) (a b : Vec Ideal S1x1x1024 .f32) (g : Vec Ideal S1x1024 .f32)
    (r : Fin 512) (k : Fin 1024) :
    k0_pay25 (F := Ideal) x a b g (ix2 r k) = Plain.hidden (fun k => x (ix3 0 r k)) (fun k => g (ix2 0 k))
      (fun k => a (ix3 0 0 k)) (fun k => b (ix3 0 0 k)) k := by
  pointwise [k0_pay25, k0_pay23]
  rfl

theorem step_at (x : FVec Ideal S512x1024 .f32) (a : FVec Ideal S1x1024 .f32) (s : FVec Ideal S512x2816 .bf16)
    (wd : FVec Ideal S2816x1024 .bf16) (z : Fin 1) (r : Fin 512) (n : Fin 1024) :
    k0_pay37 (F := Ideal) x a s wd (ix3 z r n) = x (ix2 r n)
      + Ideal.ofBits FTy.f32 0x3F000000#32 * a (ix2 0 n) * ∑ j, s (ix2 r j) * wd (ix2 j n) := by
  pointwise [k0_pay37]

theorem token_at (x : Vec Ideal S1x512x1024 .f32) (r : Fin 512) (n : Fin 1024) :
    k0_pay23 (F := Ideal) x (ix2 r n) = (x (ix3 0 r n) : EReal) := by
  pointwise [k0_pay23]

theorem gate_at (a : Vec Ideal S1x1x1024 .f32) (n : Fin 1024) :
    k0_pay24 (F := Ideal) a (ix2 0 n) = (a (ix3 0 0 n) : EReal) := by
  pointwise [k0_pay24]

theorem row_at (md : Vec Ideal S1x9x1024 .f32) (o : ℕ) (i : Fin 9) (hi : (i : ℕ) = o)
    (inb : ∀ a, (![0, o, 0] : Fin 3 → ℕ) a + S1x1x1024.size a ≤ S1x9x1024.size a) (k : Fin 1024) :
    (View.ld md (Rect.unit (s := S1x9x1024) ![0, o, 0] S1x1x1024.size inb) (ix3 0 0 k) : EReal) = md (ix3 0 i k) :=
  View.ld_unit_apply_of _ _ _ _ _ _ fun e => by
    match e with
    | ⟨0, _⟩ => rfl
    | ⟨1, _⟩ => exact hi
    | ⟨2, _⟩ => exact (Nat.zero_add _).symm

theorem block_of (x : Vec Ideal S1x512x1024 .f32) (md : Vec Ideal S1x9x1024 .f32) (g : Vec Ideal S1x1024 .f32)
    (wg wu : Vec Ideal S1024x2816 .f32) (wd : Vec Ideal S2816x1024 .bf16)
    (i0 : ∀ a, (![0, 0, 0] : Fin 3 → ℕ) a + S1x1x1024.size a ≤ S1x9x1024.size a)
    (i1 : ∀ a, (![0, 1, 0] : Fin 3 → ℕ) a + S1x1x1024.size a ≤ S1x9x1024.size a)
    (i2 : ∀ a, (![0, 2, 0] : Fin 3 → ℕ) a + S1x1x1024.size a ≤ S1x9x1024.size a) :
    k0_pay37 (F := Ideal) (k0_pay23 x) (k0_pay24 (View.ld md (Rect.unit (s := S1x9x1024) ![0, 2, 0] S1x1x1024.size i2)))
      (ACT (k0_pay25 x (View.ld md (Rect.unit (s := S1x9x1024) ![0, 0, 0] S1x1x1024.size i0))
        (View.ld md (Rect.unit (s := S1x9x1024) ![0, 1, 0] S1x1x1024.size i1)) g) (narrowed wg) (narrowed wu)) wd
      = block x md g wg wu wd := by
  funext y
  obtain ⟨z, r, n, rfl⟩ : ∃ (z : Fin 1) (r : Fin 512) (n : Fin 1024), y = ix3 z r n := ⟨y 0, y 1, y 2, by idx_ext⟩
  rw [step_at, token_at, gate_at, row_at md 2 2 rfl]
  refine congrArg (fun s : EReal => (x (ix3 0 r n) : EReal)
    + Ideal.ofBits FTy.f32 0x3F000000#32 * (md (ix3 0 2 n) : EReal) * s) (Finset.sum_congr rfl fun j _ => ?_)
  refine congrArg (fun h : Fin 1024 → EReal => Plain.act h (fun k j => wg (ix2 k j)) (fun k j => wu (ix2 k j)) j
    * (wd (ix2 j n) : EReal)) (funext fun k => ?_)
  exact (hidden_at _ _ _ _ _ _).trans (congrArg₂ (fun a b : Fin 1024 → EReal =>
    Plain.hidden (fun k => x (ix3 0 r k)) (fun k => g (ix2 0 k)) a b k)
    (funext (row_at md 0 0 rfl i0)) (funext (row_at md 1 1 rfl i1)))

variable (m : (ℓ : Loc nD τ sig) → Buf (Elt Ideal) ℓ)

/-! ## The blocks of the windows -/

theorem index_x : ∀ t : Fin cfg0.N, win0_0.index t = ![t.val / 16, t.val % 16, 0] ∧ win0_1.index t = ![t.val / 16, 0, 0]
    ∧ win0_6.index t = ![t.val / 16, t.val % 16, 0] :=
  (by decide +kernel : ∀ t : Fin grid0.N, _)

theorem point_lt (t : Fin cfg0.N) : t.val < 32 := lt_of_lt_of_eq t.isLt (by decide +kernel)

/-- The sequence of point `t`'s tokens, and its token `r`. -/
def seqOf (t : Fin cfg0.N) : Fin 2 := ⟨t.val / 16, by have := point_lt t; omega⟩
def tokOf (t : Fin cfg0.N) (r : Fin 512) : Fin 8192 := ⟨t.val % 16 * 512 + r, by omega⟩

theorem index_w : ∀ t : Fin cfg0.N, win0_2.index t = ![0, 0] ∧ win0_3.index t = ![0, 0] ∧ win0_4.index t = ![0, 0]
    ∧ win0_5.index t = ![0, 0] :=
  (by decide +kernel : ∀ t : Fin grid0.N, _)

theorem tokens_w (c : Dev nD) (t : Fin cfg0.N) (r : Fin 512) (k : Fin 1024) :
    (iblk m c 0 t (ix3 0 r k) : EReal) = m ((c : Thread nD τ).loc main_arg0) (ix3 (seqOf t) (tokOf t r) k) := by
  blk_ext! [iblk, V, index_x t, seqOf, tokOf]

theorem mod_w (c : Dev nD) (t : Fin cfg0.N) (i : Fin 9) (k : Fin 1024) :
    (iblk m c 1 t (ix3 0 i k) : EReal) = m ((c : Thread nD τ).loc main_arg1) (ix3 (seqOf t) i k) := by
  blk_ext! [iblk, V, index_x t, seqOf]

theorem out_w (t : Fin cfg0.N) (z : Fin 1) (r : Fin 512) (n : Fin 1024) :
    (win0_6.blk t).view.emb (ix3 z r n) = ix3 (seqOf t) (tokOf t r) n := by
  blk_ext [index_x t, seqOf, tokOf]

theorem gate_w (c : Dev nD) (t : Fin cfg0.N) : iblk m c 3 t = m ((c : Thread nD τ).loc main_arg3) := by
  blk_ext! [iblk, V, index_w t]

theorem up_w (c : Dev nD) (t : Fin cfg0.N) : iblk m c 4 t = m ((c : Thread nD τ).loc main_arg4) := by
  blk_ext! [iblk, V, index_w t]

theorem down_w (c : Dev nD) (t : Fin cfg0.N) (j : Fin 2816) (n : Fin 1024) :
    iblk m c 5 t (ix2 j n) = (m ((c : Thread nD τ).loc main_arg5) (ix2 j n) : EReal) := by
  blk_ext! [iblk, index_w t]

theorem gain_w (c : Dev nD) (t : Fin cfg0.N) (k : Fin 1024) :
    iblk m c 2 t (ix2 0 k) = (m ((c : Thread nD τ).loc main_arg2) (ix1 k) : EReal) := by
  blk_ext! [iblk, index_w t]

/-! ## The carried weights -/

theorem carried (c : Dev nD) : ∀ (n : ℕ) (hn : n < cfg0.N),
    (outsAt0 m c n hn).2.1 = narrowed (m ((c : Thread nD τ).loc main_arg3))
      ∧ (outsAt0 m c n hn).2.2 = narrowed (m ((c : Thread nD τ).loc main_arg4)) := by
  intro n
  induction n with
  | zero =>
    intro hn
    have h : ((⟨0, hn⟩ : Fin cfg0.N)).val % 32 = 0 := rfl
    constructor
    · rw [outsAt0_A m c ⟨0, hn⟩ h]; frame_out; rw [gate_w]; exact canon_w1 _
    · rw [outsAt0_A m c ⟨0, hn⟩ h]; frame_out; rw [up_w]; exact canon_w2 _
  | succ n ih =>
    intro hn
    by_cases h : (n + 1) % 32 = 0
    · constructor
      · rw [outsAt0_A m c ⟨n + 1, hn⟩ h]; frame_out; rw [gate_w]; exact canon_w1 _
      · rw [outsAt0_A m c ⟨n + 1, hn⟩ h]; frame_out; rw [up_w]; exact canon_w2 _
    · constructor
      · rw [outsAt0_B m c ⟨n + 1, hn⟩ h]; dsimp only; unfold sout0_B_1; exact (ih _).1
      · rw [outsAt0_B m c ⟨n + 1, hn⟩ h]; dsimp only; unfold sout0_B_2; exact (ih _).2

/-! ## A point's block -/

theorem at_point (c : Dev nD) (t : Fin cfg0.N) :
    (outsAt0 m c t.val t.isLt).1 = block (iblk m c 0 t) (iblk m c 1 t) (iblk m c 2 t)
      (m ((c : Thread nD τ).loc main_arg3)) (m ((c : Thread nD τ).loc main_arg4)) (iblk m c 5 t) := by
  by_cases h : t.val % 32 = 0
  · rw [outsAt0_A m c t h]
    frame_out
    rw [gate_w, up_w]
    simp only [read_w1, read_w2]
    rw [read_act]
    exact block_of _ _ _ _ _ _ _ _ _
  · rw [outsAt0_B m c t h]
    frame_out
    rw [(carried m c (t.val - 1) _).1, (carried m c (t.val - 1) _).2]
    simp only [read_unread_whole]
    rw [read_act]
    exact block_of _ _ _ _ _ _ _ _ _

/-! ## The result -/

/-- Each token after the half-step. -/
def result (x : Vec Ideal S2x8192x1024 .f32) (md : Vec Ideal S2x9x1024 .f32) (g : Vec Ideal S1024 .f32)
    (wg wu : Vec Ideal S1024x2816 .f32) (wd : Vec Ideal S2816x1024 .f32) : Vec Ideal S2x8192x1024 .f32 := fun y =>
  Plain.halfStep (fun k => x (ix3 (y 0) (y 1) k)) (fun k => g (ix1 k)) (fun k => md (ix3 (y 0) 0 k))
    (fun k => md (ix3 (y 0) 1 k)) (fun k => md (ix3 (y 0) 2 k)) (fun k j => wg (ix2 k j)) (fun k j => wu (ix2 k j))
    (fun j n => wd (ix2 j n)) (y 2)

theorem final (c : Dev nD) : (dats m 0 c).arrAt 6 cfg0.N = result (m ((c : Thread nD τ).loc main_arg0))
    (m ((c : Thread nD τ).loc main_arg1)) (m ((c : Thread nD τ).loc main_arg2)) (m ((c : Thread nD τ).loc main_arg3))
    (m ((c : Thread nD τ).loc main_arg4)) (m ((c : Thread nD τ).loc main_arg5)) := by
  refine (dats m 0 c).arrAt_eq_of_covers 6 _ (by decide +kernel) fun t _ y => ?_
  obtain ⟨z, r, n, rfl⟩ : ∃ (z : Fin 1) (r : Fin 512) (n : Fin 1024), y = ix3 z r n := ⟨y 0, y 1, y 2, by idx_ext⟩
  blk_simp
  rw [after0_6, at_point]
  rw [out_w]
  unfold block result
  refine (congr (congr (congr (congr (congrArg₂ (fun x g => Plain.halfStep x g) (funext fun k => tokens_w m c t r k)
    (funext fun k => gain_w m c t k)) (funext fun k => mod_w m c t 0 k)) (funext fun k => mod_w m c t 1 k))
    (funext fun k => mod_w m c t 2 k)) (rfl : _ = fun k j => m ((c : Thread nD τ).loc main_arg3) (ix2 k j))) |> fun h => ?_
  exact congrArg₂ (fun f wd => f (fun k j => m ((c : Thread nD τ).loc main_arg4) (ix2 k j)) wd n) h
    (funext fun j => funext fun n => down_w m c t j n)

end Cert.Kernel2Ideal.Ffn

end
-- ==== Proof.Ffn.Claim2.lean ====
/-
  The feed-forward kernel and its reference leave the same result.
-/
module

public import proofs.«01_k».proof.Defs
public import proofs.«01_k».proof.Proof.Ffn.Value2
public import proofs.«01_k».proof.Proof.Gen.Reference2Ideal.Run

@[expose] public section

set_option maxRecDepth 65536

noncomputable section

open Idealize.ShloMosaic Idealize.ShloMosaic.TcCoe Idealize.SL.Sem

namespace Cert.Reference2Ideal.Ffn

open Cert.Reference2Ideal Cert.Reference2Ideal.Value

theorem result_eq (m : (ℓ : Loc nD τ sig) → Buf (Elt Ideal) ℓ) (c : Dev nD) :
    res_out0 m c = Cert.Kernel2Ideal.Ffn.result (m ((c.tc : Thread nD τ).loc main_arg0))
      (m ((c.tc : Thread nD τ).loc main_arg1)) (m ((c.tc : Thread nD τ).loc main_arg2))
      (m ((c.tc : Thread nD τ).loc main_arg3)) (m ((c.tc : Thread nD τ).loc main_arg4))
      (m ((c.tc : Thread nD τ).loc main_arg5)) := by
  funext y
  obtain ⟨b, r, n, rfl⟩ : ∃ (b : Fin 2) (r : Fin 8192) (n : Fin 1024), y = ix3 b r n := ⟨y 0, y 1, y 2, by idx_ext⟩
  pointwise [res_out0, res_main_v31]
  rfl

end Cert.Reference2Ideal.Ffn

namespace Cert.Kernel2Ideal.Ffn

theorem algebraic : Cert.algebraic_Kernel2Ideal_Reference2Ideal := by
  pair_intro
  · run_from Cert.Kernel2Ideal.Value.run_blocks m g
  · run_from Cert.Reference2Ideal.Value.run m' g'
    rw [Cert.Kernel2Ideal.Ffn.final m c]
    obtain ⟨h0, h1, h2, h3, h4, h5⟩ := hagree c
    refine (Cert.Reference2Ideal.Ffn.result_eq m' c).trans ?_
    rw [h0, h1, h2, h3, h4, h5]

end Cert.Kernel2Ideal.Ffn

end
-- ==== Proof.Ffn.Tiles3.lean ====
/- The three scratch buffers of the output kernel, each filled tile by tile, read back whole. -/
module

public import proofs.«01_k».proof.Proof.Gen.Kernel3Ideal.Value
public import proofs.«01_k».proof.Proof.Ffn.Plain
public import Idealize.ShloMosaic.Lib.Pipeline.ValueKit
public import Idealize.ShloMosaic.Lib.Pointwise

@[expose] public section

set_option maxRecDepth 65536

noncomputable section

open Idealize.ShloMosaic Idealize.ShloMosaic.TcCoe Idealize.SL.Sem
open Idealize.ShloMosaic.Pipeline (Dat)

namespace Cert.Kernel3Ideal.Ffn

open Cert.Kernel3Ideal Cert.Kernel3Ideal.Gen Cert.Kernel3Ideal.Value

/-! ## The tiles -/

/-- The activations of a block's tokens. -/
def ACT (h : FVec Ideal S512x1024 .bf16) (wg wu : Vec Ideal S1024x2816 .bf16) : Vec Ideal S512x2816 .bf16 :=
  fun y => Plain.act (fun k => h (ix2 (y 0) k)) (fun k j => wg (ix2 k j)) (fun k j => wu (ix2 k j)) (y 1)

/-- A weight after its cast, which changes nothing over the reals. -/
def narrowed (w : Vec Ideal S1024x2816 .f32) : Vec Ideal S1024x2816 .bf16 := fun y => (w y : EReal)

theorem cast_tile (v : FVec Ideal S1024x256 .f32) (x : S1024x256.Idx) : k0_pay3 (F := Ideal) v x = (v x : EReal) := by
  obtain ⟨a, b, rfl⟩ : ∃ (a : Fin 1024) (b : Fin 256), x = ix2 a b := ⟨x 0, x 1, by idx_ext⟩
  pointwise [k0_pay3]

theorem act_at (h : FVec Ideal S512x1024 .bf16) (a b : FVec Ideal S1024x256 .bf16) (r : Fin 512) (k : Fin 256) :
    k0_pay35 (F := Ideal) h a b (ix2 r k) = (∑ x, h (ix2 r x) * a (ix2 x k))
      * Ideal.logistic (∑ x, h (ix2 r x) * a (ix2 x k)) * ∑ x, h (ix2 r x) * b (ix2 x k) := by
  pointwise [k0_pay35]

theorem act_tile (h : FVec Ideal S512x1024 .bf16) (wg wu : Vec Ideal S1024x2816 .bf16) (o : ℕ)
    (inb : ∀ a, (![0, o] : Fin 2 → ℕ) a + S1024x256.size a ≤ S1024x2816.size a) (x : S512x256.Idx) (y : S512x2816.Idx)
    (h0 : (y 0 : ℕ) = x 0) (h1 : (y 1 : ℕ) = o + x 1) :
    k0_pay35 h (View.ld wg (Rect.unit (s := S1024x2816) ![0, o] S1024x256.size inb))
      (View.ld wu (Rect.unit (s := S1024x2816) ![0, o] S1024x256.size inb)) x = ACT h wg wu y := by
  obtain ⟨a, b, rfl⟩ : ∃ (a : Fin 512) (b : Fin 256), x = ix2 a b := ⟨x 0, x 1, by idx_ext⟩
  obtain ⟨p, q, rfl⟩ : ∃ (p : Fin 512) (q : Fin 2816), y = ix2 p q := ⟨y 0, y 1, by idx_ext⟩
  have hp : p = a := Fin.ext h0
  have hl : ∀ (w : Vec Ideal S1024x2816 .bf16) (k : Fin 1024),
      View.ld w (Rect.unit (s := S1024x2816) ![0, o] S1024x256.size inb) (ix2 k b) = w (ix2 k q) := fun w k =>
    View.ld_unit_apply_of _ _ _ _ _ _ (fun e => by
      match e with
      | ⟨0, _⟩ => exact (Nat.zero_add _).symm
      | ⟨1, _⟩ => exact h1)
  subst hp
  have hs : ∀ w : Vec Ideal S1024x2816 .bf16, (∑ k : Fin 1024, (h (ix2 p k) : EReal)
      * View.ld w (Rect.unit (s := S1024x2816) ![0, o] S1024x256.size inb) (ix2 k b))
      = ∑ k : Fin 1024, (h (ix2 p k) : EReal) * w (ix2 k q) := fun w =>
    Finset.sum_congr rfl fun k _ => congrArg (fun s : EReal => (h (ix2 p k) : EReal) * s) (hl w k)
  exact (act_at h _ _ p b).trans
    (congrArg₂ (fun s u : EReal => s * Ideal.logistic s * u) (hs wg) (hs wu))

theorem canon_w1 (w : Vec Ideal S1024x2816 .f32) : View.canon (Val := Elt Ideal) (s := S1024x2816) (e := .bf16)
    [⟨Rect.unit ![0, 2560] ![1024, 256] inb_S1024x2816_S1024x256_0_2560, k0_pay13 (View.ld w (Rect.unit ![0, 2560] ![1024, 256] inb_S1024x2816_S1024x256_0_2560))⟩,
      ⟨Rect.unit ![0, 2304] ![1024, 256] inb_S1024x2816_S1024x256_0_2304, k0_pay12 (View.ld w (Rect.unit ![0, 2304] ![1024, 256] inb_S1024x2816_S1024x256_0_2304))⟩,
      ⟨Rect.unit ![0, 2048] ![1024, 256] inb_S1024x2816_S1024x256_0_2048, k0_pay11 (View.ld w (Rect.unit ![0, 2048] ![1024, 256] inb_S1024x2816_S1024x256_0_2048))⟩,
      ⟨Rect.unit ![0, 1792] ![1024, 256] inb_S1024x2816_S1024x256_0_1792, k0_pay10 (View.ld w (Rect.unit ![0, 1792] ![1024, 256] inb_S1024x2816_S1024x256_0_1792))⟩,
      ⟨Rect.unit ![0, 1536] ![1024, 256] inb_S1024x2816_S1024x256_0_1536, k0_pay9 (View.ld w (Rect.unit ![0, 1536] ![1024, 256] inb_S1024x2816_S1024x256_0_1536))⟩,
      ⟨Rect.unit ![0, 1280] ![1024, 256] inb_S1024x2816_S1024x256_0_1280, k0_pay8 (View.ld w (Rect.unit ![0, 1280] ![1024, 256] inb_S1024x2816_S1024x256_0_1280))⟩,
      ⟨Rect.unit ![0, 1024] ![1024, 256] inb_S1024x2816_S1024x256_0_1024, k0_pay7 (View.ld w (Rect.unit ![0, 1024] ![1024, 256] inb_S1024x2816_S1024x256_0_1024))⟩,
      ⟨Rect.unit ![0, 768] ![1024, 256] inb_S1024x2816_S1024x256_0_768, k0_pay6 (View.ld w (Rect.unit ![0, 768] ![1024, 256] inb_S1024x2816_S1024x256_0_768))⟩,
      ⟨Rect.unit ![0, 512] ![1024, 256] inb_S1024x2816_S1024x256_0_512, k0_pay5 (View.ld w (Rect.unit ![0, 512] ![1024, 256] inb_S1024x2816_S1024x256_0_512))⟩,
      ⟨Rect.unit ![0, 256] ![1024, 256] inb_S1024x2816_S1024x256_0_256, k0_pay4 (View.ld w (Rect.unit ![0, 256] ![1024, 256] inb_S1024x2816_S1024x256_0_256))⟩,
      ⟨Rect.unit ![0, 0] ![1024, 256] inb_S1024x2816_S1024x256_0_0, k0_pay3 (View.ld w (Rect.unit ![0, 0] ![1024, 256] inb_S1024x2816_S1024x256_0_0))⟩] = narrowed w := by
  funext y
  canon_tiles x h
  all_goals refine (cast_tile _ _).trans (View.ld_unit_apply_of _ _ _ _ _ _ (fun e => ?_))
  all_goals
    match e with
    | ⟨0, _⟩ => exact h0.trans (Nat.zero_add _).symm
    | ⟨1, _⟩ => first | exact h1 | exact h1.trans (Nat.zero_add _).symm

theorem read_w1 (v : View sig .tc .vmem S1024x2816 .bf16) (w : Vec Ideal S1024x2816 .f32) (r : Rect S1024x2816) :
    v.readCov (Val := Elt Ideal)
    [⟨Rect.unit ![0, 2560] ![1024, 256] inb_S1024x2816_S1024x256_0_2560, k0_pay13 (View.ld w (Rect.unit ![0, 2560] ![1024, 256] inb_S1024x2816_S1024x256_0_2560))⟩,
      ⟨Rect.unit ![0, 2304] ![1024, 256] inb_S1024x2816_S1024x256_0_2304, k0_pay12 (View.ld w (Rect.unit ![0, 2304] ![1024, 256] inb_S1024x2816_S1024x256_0_2304))⟩,
      ⟨Rect.unit ![0, 2048] ![1024, 256] inb_S1024x2816_S1024x256_0_2048, k0_pay11 (View.ld w (Rect.unit ![0, 2048] ![1024, 256] inb_S1024x2816_S1024x256_0_2048))⟩,
      ⟨Rect.unit ![0, 1792] ![1024, 256] inb_S1024x2816_S1024x256_0_1792, k0_pay10 (View.ld w (Rect.unit ![0, 1792] ![1024, 256] inb_S1024x2816_S1024x256_0_1792))⟩,
      ⟨Rect.unit ![0, 1536] ![1024, 256] inb_S1024x2816_S1024x256_0_1536, k0_pay9 (View.ld w (Rect.unit ![0, 1536] ![1024, 256] inb_S1024x2816_S1024x256_0_1536))⟩,
      ⟨Rect.unit ![0, 1280] ![1024, 256] inb_S1024x2816_S1024x256_0_1280, k0_pay8 (View.ld w (Rect.unit ![0, 1280] ![1024, 256] inb_S1024x2816_S1024x256_0_1280))⟩,
      ⟨Rect.unit ![0, 1024] ![1024, 256] inb_S1024x2816_S1024x256_0_1024, k0_pay7 (View.ld w (Rect.unit ![0, 1024] ![1024, 256] inb_S1024x2816_S1024x256_0_1024))⟩,
      ⟨Rect.unit ![0, 768] ![1024, 256] inb_S1024x2816_S1024x256_0_768, k0_pay6 (View.ld w (Rect.unit ![0, 768] ![1024, 256] inb_S1024x2816_S1024x256_0_768))⟩,
      ⟨Rect.unit ![0, 512] ![1024, 256] inb_S1024x2816_S1024x256_0_512, k0_pay5 (View.ld w (Rect.unit ![0, 512] ![1024, 256] inb_S1024x2816_S1024x256_0_512))⟩,
      ⟨Rect.unit ![0, 256] ![1024, 256] inb_S1024x2816_S1024x256_0_256, k0_pay4 (View.ld w (Rect.unit ![0, 256] ![1024, 256] inb_S1024x2816_S1024x256_0_256))⟩,
      ⟨Rect.unit ![0, 0] ![1024, 256] inb_S1024x2816_S1024x256_0_0, k0_pay3 (View.ld w (Rect.unit ![0, 0] ![1024, 256] inb_S1024x2816_S1024x256_0_0))⟩] r.toLoadRect = View.ld (narrowed w) r := by
  rw [View.readCov_eq_canon_ld _ _ _ (View.cover_of_tiled_head _ _ _ (by rfl)), canon_w1]

theorem canon_w2 (w : Vec Ideal S1024x2816 .f32) : View.canon (Val := Elt Ideal) (s := S1024x2816) (e := .bf16)
    [⟨Rect.unit ![0, 2560] ![1024, 256] inb_S1024x2816_S1024x256_0_2560, k0_pay24 (View.ld w (Rect.unit ![0, 2560] ![1024, 256] inb_S1024x2816_S1024x256_0_2560))⟩,
      ⟨Rect.unit ![0, 2304] ![1024, 256] inb_S1024x2816_S1024x256_0_2304, k0_pay23 (View.ld w (Rect.unit ![0, 2304] ![1024, 256] inb_S1024x2816_S1024x256_0_2304))⟩,
      ⟨Rect.unit ![0, 2048] ![1024, 256] inb_S1024x2816_S1024x256_0_2048, k0_pay22 (View.ld w (Rect.unit ![0, 2048] ![1024, 256] inb_S1024x2816_S1024x256_0_2048))⟩,
      ⟨Rect.unit ![0, 1792] ![1024, 256] inb_S1024x2816_S1024x256_0_1792, k0_pay21 (View.ld w (Rect.unit ![0, 1792] ![1024, 256] inb_S1024x2816_S1024x256_0_1792))⟩,
      ⟨Rect.unit ![0, 1536] ![1024, 256] inb_S1024x2816_S1024x256_0_1536, k0_pay20 (View.ld w (Rect.unit ![0, 1536] ![1024, 256] inb_S1024x2816_S1024x256_0_1536))⟩,
      ⟨Rect.unit ![0, 1280] ![1024, 256] inb_S1024x2816_S1024x256_0_1280, k0_pay19 (View.ld w (Rect.unit ![0, 1280] ![1024, 256] inb_S1024x2816_S1024x256_0_1280))⟩,
      ⟨Rect.unit ![0, 1024] ![1024, 256] inb_S1024x2816_S1024x256_0_1024, k0_pay18 (View.ld w (Rect.unit ![0, 1024] ![1024, 256] inb_S1024x2816_S1024x256_0_1024))⟩,
      ⟨Rect.unit ![0, 768] ![1024, 256] inb_S1024x2816_S1024x256_0_768, k0_pay17 (View.ld w (Rect.unit ![0, 768] ![1024, 256] inb_S1024x2816_S1024x256_0_768))⟩,
      ⟨Rect.unit ![0, 512] ![1024, 256] inb_S1024x2816_S1024x256_0_512, k0_pay16 (View.ld w (Rect.unit ![0, 512] ![1024, 256] inb_S1024x2816_S1024x256_0_512))⟩,
      ⟨Rect.unit ![0, 256] ![1024, 256] inb_S1024x2816_S1024x256_0_256, k0_pay15 (View.ld w (Rect.unit ![0, 256] ![1024, 256] inb_S1024x2816_S1024x256_0_256))⟩,
      ⟨Rect.unit ![0, 0] ![1024, 256] inb_S1024x2816_S1024x256_0_0, k0_pay14 (View.ld w (Rect.unit ![0, 0] ![1024, 256] inb_S1024x2816_S1024x256_0_0))⟩] = narrowed w := by
  funext y
  canon_tiles x h
  all_goals refine (cast_tile _ _).trans (View.ld_unit_apply_of _ _ _ _ _ _ (fun e => ?_))
  all_goals
    match e with
    | ⟨0, _⟩ => exact h0.trans (Nat.zero_add _).symm
    | ⟨1, _⟩ => first | exact h1 | exact h1.trans (Nat.zero_add _).symm

theorem read_w2 (v : View sig .tc .vmem S1024x2816 .bf16) (w : Vec Ideal S1024x2816 .f32) (r : Rect S1024x2816) :
    v.readCov (Val := Elt Ideal)
    [⟨Rect.unit ![0, 2560] ![1024, 256] inb_S1024x2816_S1024x256_0_2560, k0_pay24 (View.ld w (Rect.unit ![0, 2560] ![1024, 256] inb_S1024x2816_S1024x256_0_2560))⟩,
      ⟨Rect.unit ![0, 2304] ![1024, 256] inb_S1024x2816_S1024x256_0_2304, k0_pay23 (View.ld w (Rect.unit ![0, 2304] ![1024, 256] inb_S1024x2816_S1024x256_0_2304))⟩,
      ⟨Rect.unit ![0, 2048] ![1024, 256] inb_S1024x2816_S1024x256_0_2048, k0_pay22 (View.ld w (Rect.unit ![0, 2048] ![1024, 256] inb_S1024x2816_S1024x256_0_2048))⟩,
      ⟨Rect.unit ![0, 1792] ![1024, 256] inb_S1024x2816_S1024x256_0_1792, k0_pay21 (View.ld w (Rect.unit ![0, 1792] ![1024, 256] inb_S1024x2816_S1024x256_0_1792))⟩,
      ⟨Rect.unit ![0, 1536] ![1024, 256] inb_S1024x2816_S1024x256_0_1536, k0_pay20 (View.ld w (Rect.unit ![0, 1536] ![1024, 256] inb_S1024x2816_S1024x256_0_1536))⟩,
      ⟨Rect.unit ![0, 1280] ![1024, 256] inb_S1024x2816_S1024x256_0_1280, k0_pay19 (View.ld w (Rect.unit ![0, 1280] ![1024, 256] inb_S1024x2816_S1024x256_0_1280))⟩,
      ⟨Rect.unit ![0, 1024] ![1024, 256] inb_S1024x2816_S1024x256_0_1024, k0_pay18 (View.ld w (Rect.unit ![0, 1024] ![1024, 256] inb_S1024x2816_S1024x256_0_1024))⟩,
      ⟨Rect.unit ![0, 768] ![1024, 256] inb_S1024x2816_S1024x256_0_768, k0_pay17 (View.ld w (Rect.unit ![0, 768] ![1024, 256] inb_S1024x2816_S1024x256_0_768))⟩,
      ⟨Rect.unit ![0, 512] ![1024, 256] inb_S1024x2816_S1024x256_0_512, k0_pay16 (View.ld w (Rect.unit ![0, 512] ![1024, 256] inb_S1024x2816_S1024x256_0_512))⟩,
      ⟨Rect.unit ![0, 256] ![1024, 256] inb_S1024x2816_S1024x256_0_256, k0_pay15 (View.ld w (Rect.unit ![0, 256] ![1024, 256] inb_S1024x2816_S1024x256_0_256))⟩,
      ⟨Rect.unit ![0, 0] ![1024, 256] inb_S1024x2816_S1024x256_0_0, k0_pay14 (View.ld w (Rect.unit ![0, 0] ![1024, 256] inb_S1024x2816_S1024x256_0_0))⟩] r.toLoadRect = View.ld (narrowed w) r := by
  rw [View.readCov_eq_canon_ld _ _ _ (View.cover_of_tiled_head _ _ _ (by rfl)), canon_w2]

theorem read_act (v : View sig .tc .vmem S512x2816 .bf16) (x : FVec Ideal S512x1024 .f32) (a b : FVec Ideal S1x1024 .f32)
    (g : Vec Ideal S1x1024 .f32) (wg wu : Vec Ideal S1024x2816 .bf16)
    (inb : ∀ a, (![0, 0] : Fin 2 → ℕ) a + S512x2816.size a ≤ S512x2816.size a) : v.readCov (Val := Elt Ideal)
    [⟨Rect.unit ![0, 2560] ![512, 256] inb_S512x2816_S512x256_0_2560, k0_pay1 (k0_pay49 (k0_pay29 x a b g) (View.ld wg (Rect.unit ![0, 2560] ![1024, 256] inb_S1024x2816_S1024x256_0_2560))) (k0_pay50 (k0_pay29 x a b g) (View.ld wu (Rect.unit ![0, 2560] ![1024, 256] inb_S1024x2816_S1024x256_0_2560))) (k0_pay51 (k0_pay29 x a b g) (View.ld wg (Rect.unit ![0, 2560] ![1024, 256] inb_S1024x2816_S1024x256_0_2560)))⟩,
      ⟨Rect.unit ![0, 2304] ![512, 256] inb_S512x2816_S512x256_0_2304, k0_pay48 (k0_pay29 x a b g) (View.ld wg (Rect.unit ![0, 2304] ![1024, 256] inb_S1024x2816_S1024x256_0_2304)) (View.ld wu (Rect.unit ![0, 2304] ![1024, 256] inb_S1024x2816_S1024x256_0_2304))⟩,
      ⟨Rect.unit ![0, 2048] ![512, 256] inb_S512x2816_S512x256_0_2048, k0_pay47 (k0_pay29 x a b g) (View.ld wg (Rect.unit ![0, 2048] ![1024, 256] inb_S1024x2816_S1024x256_0_2048)) (View.ld wu (Rect.unit ![0, 2048] ![1024, 256] inb_S1024x2816_S1024x256_0_2048))⟩,
      ⟨Rect.unit ![0, 1792] ![512, 256] inb_S512x2816_S512x256_0_1792, k0_pay46 (k0_pay43 (k0_pay29 x a b g) (View.ld wg (Rect.unit ![0, 1792] ![1024, 256] inb_S1024x2816_S1024x256_0_1792))) (k0_pay44 (k0_pay29 x a b g) (View.ld wu (Rect.unit ![0, 1792] ![1024, 256] inb_S1024x2816_S1024x256_0_1792))) (k0_pay45 (k0_pay29 x a b g) (View.ld wg (Rect.unit ![0, 1792] ![1024, 256] inb_S1024x2816_S1024x256_0_1792)))⟩,
      ⟨Rect.unit ![0, 1536] ![512, 256] inb_S512x2816_S512x256_0_1536, k0_pay42 (k0_pay29 x a b g) (View.ld wg (Rect.unit ![0, 1536] ![1024, 256] inb_S1024x2816_S1024x256_0_1536)) (View.ld wu (Rect.unit ![0, 1536] ![1024, 256] inb_S1024x2816_S1024x256_0_1536))⟩,
      ⟨Rect.unit ![0, 1280] ![512, 256] inb_S512x2816_S512x256_0_1280, k0_pay41 (k0_pay29 x a b g) (View.ld wg (Rect.unit ![0, 1280] ![1024, 256] inb_S1024x2816_S1024x256_0_1280)) (View.ld wu (Rect.unit ![0, 1280] ![1024, 256] inb_S1024x2816_S1024x256_0_1280))⟩,
      ⟨Rect.unit ![0, 1024] ![512, 256] inb_S512x2816_S512x256_0_1024, k0_pay40 (k0_pay37 (k0_pay29 x a b g) (View.ld wg (Rect.unit ![0, 1024] ![1024, 256] inb_S1024x2816_S1024x256_0_1024))) (k0_pay38 (k0_pay29 x a b g) (View.ld wu (Rect.unit ![0, 1024] ![1024, 256] inb_S1024x2816_S1024x256_0_1024))) (k0_pay39 (k0_pay29 x a b g) (View.ld wg (Rect.unit ![0, 1024] ![1024, 256] inb_S1024x2816_S1024x256_0_1024)))⟩,
      ⟨Rect.unit ![0, 768] ![512, 256] inb_S512x2816_S512x256_0_768, k0_pay36 (k0_pay29 x a b g) (View.ld wg (Rect.unit ![0, 768] ![1024, 256] inb_S1024x2816_S1024x256_0_768)) (View.ld wu (Rect.unit ![0, 768] ![1024, 256] inb_S1024x2816_S1024x256_0_768))⟩,
      ⟨Rect.unit ![0, 512] ![512, 256] inb_S512x2816_S512x256_0_512, k0_pay35 (k0_pay29 x a b g) (View.ld wg (Rect.unit ![0, 512] ![1024, 256] inb_S1024x2816_S1024x256_0_512)) (View.ld wu (Rect.unit ![0, 512] ![1024, 256] inb_S1024x2816_S1024x256_0_512))⟩,
      ⟨Rect.unit ![0, 256] ![512, 256] inb_S512x2816_S512x256_0_256, k0_pay34 (k0_pay31 x a b g (View.ld wg (Rect.unit ![0, 256] ![1024, 256] inb_S1024x2816_S1024x256_0_256))) (k0_pay32 x a b g (View.ld wu (Rect.unit ![0, 256] ![1024, 256] inb_S1024x2816_S1024x256_0_256))) (k0_pay33 x a b g (View.ld wg (Rect.unit ![0, 256] ![1024, 256] inb_S1024x2816_S1024x256_0_256)))⟩,
      ⟨Rect.unit ![0, 0] ![512, 256] inb_S512x2816_S512x256_0_0, k0_pay30 x a b g (View.ld wg (Rect.unit ![0, 0] ![1024, 256] inb_S1024x2816_S1024x256_0_0)) (View.ld wu (Rect.unit ![0, 0] ![1024, 256] inb_S1024x2816_S1024x256_0_0))⟩] (Rect.unit (s := S512x2816) ![0, 0] ![512, 2816] inb).toLoadRect = ACT (k0_pay29 x a b g) wg wu := by
  rw [View.readCov_eq_canon_ld _ _ _ (View.cover_of_tiled_head _ _ _ (by rfl)), View.ld_unit_lit _ _ (by decide)]
  funext y
  canon_tiles z h
  all_goals refine act_tile (k0_pay29 x a b g) _ _ _ _ _ _ ?_ ?_
  all_goals first | exact h0 | exact h1 | exact h1.trans (Nat.zero_add _).symm

end Cert.Kernel3Ideal.Ffn

end
-- ==== Proof.Ffn.Value3.lean ====
/-
  What the output kernel leaves in its result: each token, after the mixers' outputs were added and the second
  feed-forward half-step was taken, normalised, of the arguments.
-/
module

public import proofs.«01_k».proof.Proof.Ffn.Tiles3
public import Idealize.ShloMosaic.Lib.Claim
public import Idealize.ShloMosaic.Lib.Pipeline.ReadBack

@[expose] public section

set_option maxRecDepth 65536

noncomputable section

open Idealize.ShloMosaic Idealize.ShloMosaic.TcCoe Idealize.SL.Sem
open Idealize.ShloMosaic.Pipeline (Dat)

namespace Cert.Kernel3Ideal.Ffn

open Cert.Kernel3Ideal Cert.Kernel3Ideal.Gen Cert.Kernel3Ideal.Value

/-! ## One token -/

/-- One token of the result: its residual `x`, the mixers' outputs at it, its sequence's nine modulation rows, and the
weights. -/
def token (x : Fin 1024 → EReal) (yc ya : Fin 512 → EReal) (md : Fin 9 → Fin 1024 → EReal)
    (wo : Fin 1024 → Fin 1024 → EReal) (g : Fin 1024 → EReal) (wg wu : Fin 1024 → Fin 2816 → EReal)
    (wd : Fin 2816 → Fin 1024 → EReal) (gf : Fin 1024 → EReal) (n : Fin 1024) : EReal :=
  Plain.normed (Plain.halfStep (Plain.mixStep x yc ya (md 5) wo) g (md 6) (md 7) (md 8) wg wu wd) gf n

theorem mixed_at (yc ya : Vec Ideal S1x512x512 .bf16) (w0 w1 : Vec Ideal S512x1024 .bf16)
    (x : Vec Ideal S1x512x1024 .f32) (a : Vec Ideal S1x1x1024 .f32) (r : Fin 512) (n : Fin 1024) :
    k0_pay25 (F := Ideal) yc w0 ya w1 x a (ix2 r n) = (x (ix3 0 r n) : EReal) + a (ix3 0 0 n)
      * ((∑ k : Fin 512, yc (ix3 0 r k) * w0 (ix2 k n)) + ∑ k : Fin 512, ya (ix3 0 r k) * w1 (ix2 k n)) := by
  pointwise [k0_pay25]

theorem hidden_at (x : FVec Ideal S512x1024 .f32) (a b : FVec Ideal S1x1024 .f32) (g : Vec Ideal S1x1024 .f32)
    (r : Fin 512) (k : Fin 1024) :
    k0_pay29 (F := Ideal) x a b g (ix2 r k) = Plain.hidden (fun k => x (ix2 r k)) (fun k => g (ix2 0 k))
      (fun k => a (ix2 0 k)) (fun k => b (ix2 0 k)) k := by
  pointwise [k0_pay29]
  rfl

theorem step_at (x : FVec Ideal S512x1024 .f32) (a : FVec Ideal S1x1024 .f32) (s : Vec Ideal S512x2816 .bf16)
    (wd : Vec Ideal S2816x1024 .bf16) (gf : Vec Ideal S1x1024 .f32) (z : Fin 1) (r : Fin 512) (n : Fin 1024) :
    k0_pay2 (F := Ideal) x a s wd gf (ix3 z r n) = Plain.normed (fun n => x (ix2 r n)
      + Ideal.ofBits FTy.f32 0x3F000000#32 * a (ix2 0 n) * ∑ j, s (ix2 r j) * wd (ix2 j n)) (fun n => gf (ix2 0 n)) n := by
  pointwise [k0_pay2]
  rfl

theorem row5_at (a : Vec Ideal S1x1x1024 .f32) (n : Fin 1024) : k0_pay26 (F := Ideal) a (ix2 0 n) = (a (ix3 0 0 n) : EReal) := by
  pointwise [k0_pay26]

theorem row6_at (a : Vec Ideal S1x1x1024 .f32) (n : Fin 1024) : k0_pay27 (F := Ideal) a (ix2 0 n) = (a (ix3 0 0 n) : EReal) := by
  pointwise [k0_pay27]

theorem row7_at (a : Vec Ideal S1x1x1024 .f32) (n : Fin 1024) : k0_pay28 (F := Ideal) a (ix2 0 n) = (a (ix3 0 0 n) : EReal) := by
  pointwise [k0_pay28]

theorem row_at (md : Vec Ideal S1x9x1024 .f32) (o : ℕ) (i : Fin 9) (hi : (i : ℕ) = o)
    (inb : ∀ a, (![0, o, 0] : Fin 3 → ℕ) a + S1x1x1024.size a ≤ S1x9x1024.size a) (k : Fin 1024) :
    (View.ld md (Rect.unit (s := S1x9x1024) ![0, o, 0] S1x1x1024.size inb) (ix3 0 0 k) : EReal) = md (ix3 0 i k) :=
  View.ld_unit_apply_of _ _ _ _ _ _ fun e => by
    match e with
    | ⟨0, _⟩ => rfl
    | ⟨1, _⟩ => exact hi
    | ⟨2, _⟩ => exact (Nat.zero_add _).symm

theorem top_at (w : Vec Ideal S1024x1024 .bf16)
    (inb : ∀ a, (![0, 0] : Fin 2 → ℕ) a + S512x1024.size a ≤ S1024x1024.size a) (k : Fin 512) (n : Fin 1024) :
    (View.ld w (Rect.unit (s := S1024x1024) ![0, 0] S512x1024.size inb) (ix2 k n) : EReal) = w (ix2 (Fin.castAdd 512 k) n) :=
  View.ld_unit_apply_of _ _ _ _ _ _ fun e => by
    match e with
    | ⟨0, _⟩ => exact (Nat.zero_add _).symm
    | ⟨1, _⟩ => exact (Nat.zero_add _).symm

theorem bottom_at (w : Vec Ideal S1024x1024 .bf16)
    (inb : ∀ a, (![512, 0] : Fin 2 → ℕ) a + S512x1024.size a ≤ S1024x1024.size a) (k : Fin 512) (n : Fin 1024) :
    (View.ld w (Rect.unit (s := S1024x1024) ![512, 0] S512x1024.size inb) (ix2 k n) : EReal)
      = w (ix2 (Fin.natAdd 512 k) n) :=
  View.ld_unit_apply_of _ _ _ _ _ _ fun e => by
    match e with
    | ⟨0, _⟩ => rfl
    | ⟨1, _⟩ => exact (Nat.zero_add _).symm

/-! ## One block -/

/-- A block of 512 tokens of the result. -/
def block (x : Vec Ideal S1x512x1024 .f32) (yc ya : Vec Ideal S1x512x512 .bf16) (md : Vec Ideal S1x9x1024 .f32)
    (wo : Vec Ideal S1024x1024 .bf16) (g : Vec Ideal S1x1024 .f32) (wg wu : Vec Ideal S1024x2816 .f32)
    (wd : Vec Ideal S2816x1024 .bf16) (gf : Vec Ideal S1x1024 .f32) (y : S1x512x1024.Idx) : EReal :=
  token (fun k => x (ix3 0 (y 1) k)) (fun k => yc (ix3 0 (y 1) k)) (fun k => ya (ix3 0 (y 1) k))
    (fun i k => md (ix3 0 i k)) (fun k n => wo (ix2 k n)) (fun k => g (ix2 0 k)) (fun k j => wg (ix2 k j))
    (fun k j => wu (ix2 k j)) (fun j n => wd (ix2 j n)) (fun k => gf (ix2 0 k)) (y 2)

theorem block_of (x : Vec Ideal S1x512x1024 .f32) (yc ya : Vec Ideal S1x512x512 .bf16) (md : Vec Ideal S1x9x1024 .f32)
    (wo : Vec Ideal S1024x1024 .bf16) (g : Vec Ideal S1x1024 .f32) (wg wu : Vec Ideal S1024x2816 .f32)
    (wd : Vec Ideal S2816x1024 .bf16) (gf : Vec Ideal S1x1024 .f32)
    (it : ∀ a, (![0, 0] : Fin 2 → ℕ) a + S512x1024.size a ≤ S1024x1024.size a)
    (ib : ∀ a, (![512, 0] : Fin 2 → ℕ) a + S512x1024.size a ≤ S1024x1024.size a)
    (i5 : ∀ a, (![0, 5, 0] : Fin 3 → ℕ) a + S1x1x1024.size a ≤ S1x9x1024.size a)
    (i6 : ∀ a, (![0, 6, 0] : Fin 3 → ℕ) a + S1x1x1024.size a ≤ S1x9x1024.size a)
    (i7 : ∀ a, (![0, 7, 0] : Fin 3 → ℕ) a + S1x1x1024.size a ≤ S1x9x1024.size a)
    (i8 : ∀ a, (![0, 8, 0] : Fin 3 → ℕ) a + S1x1x1024.size a ≤ S1x9x1024.size a) :
    k0_pay2 (F := Ideal)
      (k0_pay25 yc (View.ld wo (Rect.unit (s := S1024x1024) ![0, 0] S512x1024.size it)) ya
        (View.ld wo (Rect.unit (s := S1024x1024) ![512, 0] S512x1024.size ib)) x
        (View.ld md (Rect.unit (s := S1x9x1024) ![0, 5, 0] S1x1x1024.size i5)))
      (k0_pay28 (View.ld md (Rect.unit (s := S1x9x1024) ![0, 8, 0] S1x1x1024.size i8)))
      (ACT (k0_pay29
        (k0_pay25 yc (View.ld wo (Rect.unit (s := S1024x1024) ![0, 0] S512x1024.size it)) ya
          (View.ld wo (Rect.unit (s := S1024x1024) ![512, 0] S512x1024.size ib)) x
          (View.ld md (Rect.unit (s := S1x9x1024) ![0, 5, 0] S1x1x1024.size i5)))
        (k0_pay26 (View.ld md (Rect.unit (s := S1x9x1024) ![0, 6, 0] S1x1x1024.size i6)))
        (k0_pay27 (View.ld md (Rect.unit (s := S1x9x1024) ![0, 7, 0] S1x1x1024.size i7))) g)
        (narrowed wg) (narrowed wu)) wd gf
      = block x yc ya md wo g wg wu wd gf := by
  funext y
  obtain ⟨z, r, n, rfl⟩ : ∃ (z : Fin 1) (r : Fin 512) (n : Fin 1024), y = ix3 z r n := ⟨y 0, y 1, y 2, by idx_ext⟩
  have hX : (fun n => (k0_pay25 (F := Ideal) yc (View.ld wo (Rect.unit (s := S1024x1024) ![0, 0] S512x1024.size it)) ya
      (View.ld wo (Rect.unit (s := S1024x1024) ![512, 0] S512x1024.size ib)) x
      (View.ld md (Rect.unit (s := S1x9x1024) ![0, 5, 0] S1x1x1024.size i5)) (ix2 r n) : EReal))
      = Plain.mixStep (fun k => x (ix3 0 r k)) (fun k => yc (ix3 0 r k)) (fun k => ya (ix3 0 r k))
        (fun k => md (ix3 0 5 k)) (fun k n => wo (ix2 k n)) := by
    funext n
    rw [mixed_at, row_at md 5 5 rfl]
    refine congrArg (fun s : EReal => (x (ix3 0 r n) : EReal) + (md (ix3 0 5 n) : EReal) * s) (congrArg₂ (· + ·) ?_ ?_)
    · exact Finset.sum_congr rfl fun k _ => congrArg (fun w : EReal => (yc (ix3 0 r k) : EReal) * w) (top_at wo it k n)
    · exact Finset.sum_congr rfl fun k _ => congrArg (fun w : EReal => (ya (ix3 0 r k) : EReal) * w) (bottom_at wo ib k n)
  rw [step_at]
  refine congrArg (fun f : Fin 1024 → EReal => Plain.normed f (fun n => gf (ix2 0 n)) n) (funext fun n => ?_)
  rw [row7_at, row_at md 8 8 rfl]
  refine congrArg₂ (fun (u s : EReal) => u + Ideal.ofBits FTy.f32 0x3F000000#32 * (md (ix3 0 8 n) : EReal) * s)
    (congrFun hX n) (Finset.sum_congr rfl fun j _ => ?_)
  refine congrArg (fun h : Fin 1024 → EReal => Plain.act h (fun k j => wg (ix2 k j)) (fun k j => wu (ix2 k j)) j
    * (wd (ix2 j n) : EReal)) (funext fun k => ?_)
  refine ((hidden_at _ _ _ _ r k).trans (congrArg (fun u : Fin 1024 → EReal => Plain.hidden u (fun k => g (ix2 0 k))
    (fun k => k0_pay26 (View.ld md (Rect.unit (s := S1x9x1024) ![0, 6, 0] S1x1x1024.size i6)) (ix2 0 k))
    (fun k => k0_pay27 (View.ld md (Rect.unit (s := S1x9x1024) ![0, 7, 0] S1x1x1024.size i7)) (ix2 0 k)) k) hX)).trans ?_
  exact congrArg₂ (fun a b : Fin 1024 → EReal => Plain.hidden (Plain.mixStep (fun k => x (ix3 0 r k))
      (fun k => yc (ix3 0 r k)) (fun k => ya (ix3 0 r k)) (fun k => md (ix3 0 5 k)) (fun k n => wo (ix2 k n)))
      (fun k => g (ix2 0 k)) a b k)
    (funext fun k => (row5_at _ k).trans (row_at md 6 6 rfl i6 k))
    (funext fun k => (row6_at _ k).trans (row_at md 7 7 rfl i7 k))

variable (m : (ℓ : Loc nD τ sig) → Buf (Elt Ideal) ℓ)

/-! ## The blocks of the windows -/

theorem index_x : ∀ t : Fin cfg0.N, win0_0.index t = ![t.val / 16, t.val % 16, 0]
    ∧ win0_1.index t = ![t.val / 16, t.val % 16, 0] ∧ win0_2.index t = ![t.val / 16, t.val % 16, 0]
    ∧ win0_3.index t = ![t.val / 16, 0, 0] ∧ win0_10.index t = ![t.val / 16, t.val % 16, 0] :=
  (by decide +kernel : ∀ t : Fin grid0.N, _)

theorem point_lt (t : Fin cfg0.N) : t.val < 32 := lt_of_lt_of_eq t.isLt (by decide +kernel)

/-- The sequence of point `t`'s tokens, and its token `r`. -/
def seqOf (t : Fin cfg0.N) : Fin 2 := ⟨t.val / 16, by have := point_lt t; omega⟩
def tokOf (t : Fin cfg0.N) (r : Fin 512) : Fin 8192 := ⟨t.val % 16 * 512 + r, by omega⟩

theorem index_w : ∀ t : Fin cfg0.N, win0_4.index t = ![0, 0] ∧ win0_5.index t = ![0, 0] ∧ win0_6.index t = ![0, 0]
    ∧ win0_7.index t = ![0, 0] ∧ win0_8.index t = ![0, 0] ∧ win0_9.index t = ![0, 0] :=
  (by decide +kernel : ∀ t : Fin grid0.N, _)

theorem tokens_w (c : Dev nD) (t : Fin cfg0.N) (r : Fin 512) (k : Fin 1024) :
    (iblk m c 0 t (ix3 0 r k) : EReal) = m ((c : Thread nD τ).loc main_arg0) (ix3 (seqOf t) (tokOf t r) k) := by
  blk_ext! [iblk, V, index_x t, seqOf, tokOf]

theorem conv_w (c : Dev nD) (t : Fin cfg0.N) (r : Fin 512) (k : Fin 512) :
    iblk m c 1 t (ix3 0 r k) = (m ((c : Thread nD τ).loc main_arg1) (ix3 (seqOf t) (tokOf t r) k) : EReal) := by
  blk_ext! [iblk, index_x t, seqOf, tokOf]

theorem attn_w (c : Dev nD) (t : Fin cfg0.N) (r : Fin 512) (k : Fin 512) :
    iblk m c 2 t (ix3 0 r k) = (m ((c : Thread nD τ).loc main_arg2) (ix3 (seqOf t) (tokOf t r) k) : EReal) := by
  blk_ext! [iblk, index_x t, seqOf, tokOf]

theorem mod_w (c : Dev nD) (t : Fin cfg0.N) (i : Fin 9) (k : Fin 1024) :
    (iblk m c 3 t (ix3 0 i k) : EReal) = m ((c : Thread nD τ).loc main_arg3) (ix3 (seqOf t) i k) := by
  blk_ext! [iblk, V, index_x t, seqOf]

theorem out_w (t : Fin cfg0.N) (z : Fin 1) (r : Fin 512) (n : Fin 1024) :
    (win0_10.blk t).view.emb (ix3 z r n) = ix3 (seqOf t) (tokOf t r) n := by
  blk_ext [index_x t, seqOf, tokOf]

theorem proj_w (c : Dev nD) (t : Fin cfg0.N) (k n : Fin 1024) :
    iblk m c 4 t (ix2 k n) = (m ((c : Thread nD τ).loc main_arg4) (ix2 k n) : EReal) := by
  blk_ext! [iblk, index_w t]

theorem gain_w (c : Dev nD) (t : Fin cfg0.N) (k : Fin 1024) :
    iblk m c 5 t (ix2 0 k) = (m ((c : Thread nD τ).loc main_arg5) (ix1 k) : EReal) := by
  blk_ext! [iblk, index_w t]

theorem gate_w (c : Dev nD) (t : Fin cfg0.N) : iblk m c 6 t = m ((c : Thread nD τ).loc main_arg6) := by
  blk_ext! [iblk, V, index_w t]

theorem up_w (c : Dev nD) (t : Fin cfg0.N) : iblk m c 7 t = m ((c : Thread nD τ).loc main_arg7) := by
  blk_ext! [iblk, V, index_w t]

theorem down_w (c : Dev nD) (t : Fin cfg0.N) (j : Fin 2816) (n : Fin 1024) :
    iblk m c 8 t (ix2 j n) = (m ((c : Thread nD τ).loc main_arg8) (ix2 j n) : EReal) := by
  blk_ext! [iblk, index_w t]

theorem last_w (c : Dev nD) (t : Fin cfg0.N) (k : Fin 1024) :
    iblk m c 9 t (ix2 0 k) = (m ((c : Thread nD τ).loc main_arg9) (ix1 k) : EReal) := by
  blk_ext! [iblk, index_w t]

/-! ## The carried weights -/

theorem carried (c : Dev nD) : ∀ (n : ℕ) (hn : n < cfg0.N),
    (outsAt0 m c n hn).2.1 = narrowed (m ((c : Thread nD τ).loc main_arg6))
      ∧ (outsAt0 m c n hn).2.2 = narrowed (m ((c : Thread nD τ).loc main_arg7)) := by
  intro n
  induction n with
  | zero =>
    intro hn
    have h : ((⟨0, hn⟩ : Fin cfg0.N)).val % 32 = 0 := rfl
    constructor
    · rw [outsAt0_A m c ⟨0, hn⟩ h]; frame_out; rw [gate_w]; exact canon_w1 _
    · rw [outsAt0_A m c ⟨0, hn⟩ h]; frame_out; rw [up_w]; exact canon_w2 _
  | succ n ih =>
    intro hn
    by_cases h : (n + 1) % 32 = 0
    · constructor
      · rw [outsAt0_A m c ⟨n + 1, hn⟩ h]; frame_out; rw [gate_w]; exact canon_w1 _
      · rw [outsAt0_A m c ⟨n + 1, hn⟩ h]; frame_out; rw [up_w]; exact canon_w2 _
    · constructor
      · rw [outsAt0_B m c ⟨n + 1, hn⟩ h]; dsimp only; unfold sout0_B_1; exact (ih _).1
      · rw [outsAt0_B m c ⟨n + 1, hn⟩ h]; dsimp only; unfold sout0_B_2; exact (ih _).2

/-! ## A point's block -/

theorem at_point (c : Dev nD) (t : Fin cfg0.N) :
    (outsAt0 m c t.val t.isLt).1 = block (iblk m c 0 t) (iblk m c 1 t) (iblk m c 2 t) (iblk m c 3 t) (iblk m c 4 t)
      (iblk m c 5 t) (m ((c : Thread nD τ).loc main_arg6)) (m ((c : Thread nD τ).loc main_arg7)) (iblk m c 8 t)
      (iblk m c 9 t) := by
  by_cases h : t.val % 32 = 0
  · rw [outsAt0_A m c t h]
    frame_out
    rw [gate_w, up_w]
    simp only [read_w1, read_w2]
    rw [read_act]
    exact block_of _ _ _ _ _ _ _ _ _ _ _ _ _ _ _ _
  · rw [outsAt0_B m c t h]
    frame_out
    rw [(carried m c (t.val - 1) _).1, (carried m c (t.val - 1) _).2]
    simp only [read_unread_whole]
    rw [read_act]
    exact block_of _ _ _ _ _ _ _ _ _ _ _ _ _ _ _ _

/-! ## The result -/

/-- Each token of the result. -/
def result (x : Vec Ideal S2x8192x1024 .f32) (yc ya : Vec Ideal S2x8192x512 .f32) (md : Vec Ideal S2x9x1024 .f32)
    (wo : Vec Ideal S1024x1024 .f32) (g : Vec Ideal S1024 .f32) (wg wu : Vec Ideal S1024x2816 .f32)
    (wd : Vec Ideal S2816x1024 .f32) (gf : Vec Ideal S1024 .f32) : Vec Ideal S2x8192x1024 .f32 := fun y =>
  token (fun k => x (ix3 (y 0) (y 1) k)) (fun k => yc (ix3 (y 0) (y 1) k)) (fun k => ya (ix3 (y 0) (y 1) k))
    (fun i k => md (ix3 (y 0) i k)) (fun k n => wo (ix2 k n)) (fun k => g (ix1 k)) (fun k j => wg (ix2 k j))
    (fun k j => wu (ix2 k j)) (fun j n => wd (ix2 j n)) (fun k => gf (ix1 k)) (y 2)

theorem token_congr {x x' : Fin 1024 → EReal} {yc yc' ya ya' : Fin 512 → EReal} {md md' : Fin 9 → Fin 1024 → EReal}
    {wo wo' : Fin 1024 → Fin 1024 → EReal} {g g' : Fin 1024 → EReal} {wg wu : Fin 1024 → Fin 2816 → EReal}
    {wd wd' : Fin 2816 → Fin 1024 → EReal} {gf gf' : Fin 1024 → EReal} (n : Fin 1024)
    (hx : ∀ k, x k = x' k) (hc : ∀ k, yc k = yc' k) (ha : ∀ k, ya k = ya' k) (hm : ∀ i k, md i k = md' i k)
    (ho : ∀ k n, wo k n = wo' k n) (hg : ∀ k, g k = g' k) (hd : ∀ j n, wd j n = wd' j n) (hf : ∀ k, gf k = gf' k) :
    token x yc ya md wo g wg wu wd gf n = token x' yc' ya' md' wo' g' wg wu wd' gf' n := by
  rw [funext hx, funext hc, funext ha, funext fun i => funext (hm i), funext fun k => funext (ho k), funext hg,
    funext fun j => funext (hd j), funext hf]

theorem final (c : Dev nD) : (dats m 0 c).arrAt 10 cfg0.N = result (m ((c : Thread nD τ).loc main_arg0))
    (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9)) := by
  refine (dats m 0 c).arrAt_eq_of_covers 10 _ (by decide +kernel) fun t _ y => ?_
  obtain ⟨z, r, n, rfl⟩ : ∃ (z : Fin 1) (r : Fin 512) (n : Fin 1024), y = ix3 z r n := ⟨y 0, y 1, y 2, by idx_ext⟩
  blk_simp
  rw [after0_10, at_point]
  rw [out_w]
  unfold block result
  exact token_congr n (tokens_w m c t r) (conv_w m c t r) (attn_w m c t r) (mod_w m c t) (proj_w m c t) (gain_w m c t)
    (down_w m c t) (last_w m c t)

end Cert.Kernel3Ideal.Ffn

end
-- ==== Proof.Ffn.Claim3.lean ====
/-
  The output kernel and its reference leave the same result.
-/
module

public import proofs.«01_k».proof.Defs
public import proofs.«01_k».proof.Proof.Ffn.Value3
public import proofs.«01_k».proof.Proof.Gen.Reference3Ideal.Run

@[expose] public section

set_option maxRecDepth 65536

noncomputable section

open Idealize.ShloMosaic Idealize.ShloMosaic.TcCoe Idealize.SL.Sem

namespace Cert.Reference3Ideal.Ffn

open Cert.Reference3Ideal Cert.Reference3Ideal.Value

theorem result_eq (m : (ℓ : Loc nD τ sig) → Buf (Elt Ideal) ℓ) (c : Dev nD) :
    res_out0 m c = Cert.Kernel3Ideal.Ffn.result (m ((c.tc : Thread nD τ).loc main_arg0))
      (m ((c.tc : Thread nD τ).loc main_arg1)) (m ((c.tc : Thread nD τ).loc main_arg2))
      (m ((c.tc : Thread nD τ).loc main_arg3)) (m ((c.tc : Thread nD τ).loc main_arg4))
      (m ((c.tc : Thread nD τ).loc main_arg5)) (m ((c.tc : Thread nD τ).loc main_arg6))
      (m ((c.tc : Thread nD τ).loc main_arg7)) (m ((c.tc : Thread nD τ).loc main_arg8))
      (m ((c.tc : Thread nD τ).loc main_arg9)) := by
  funext y
  obtain ⟨b, r, n, rfl⟩ : ∃ (b : Fin 2) (r : Fin 8192) (n : Fin 1024), y = ix3 b r n := ⟨y 0, y 1, y 2, by idx_ext⟩
  pointwise [res_out0, res_main_v50]
  rfl

end Cert.Reference3Ideal.Ffn

namespace Cert.Kernel3Ideal.Ffn

theorem algebraic : Cert.algebraic_Kernel3Ideal_Reference3Ideal := by
  pair_intro
  · run_from Cert.Kernel3Ideal.Value.run_blocks m g
  · run_from Cert.Reference3Ideal.Value.run m' g'
    rw [Cert.Kernel3Ideal.Ffn.final m c]
    obtain ⟨h0, h1, h2, h3, h4, h5, h6, h7, h8, h9⟩ := hagree c
    refine (Cert.Reference3Ideal.Ffn.result_eq m' c).trans ?_
    rw [h0, h1, h2, h3, h4, h5, h6, h7, h8, h9]

end Cert.Kernel3Ideal.Ffn

end
-- ==== Proof.Inproj.Plain.lean ====
/-
  What the input projection computes of one token, over the extended reals, with its columns counted by natural numbers.
-/
module

public import proofs.«01_k».proof.Proof.Ffn.Plain

@[expose] public section

noncomputable section

open Idealize.ShloMosaic

namespace Cert.Plain

/-- A finite row, read at any natural number. -/
def ext {n : ℕ} (f : Fin n → EReal) (i : ℕ) : EReal := if h : i < n then f ⟨i, h⟩ else 0

theorem ext_mk {n : ℕ} (f : Fin n → EReal) (i : ℕ) (h : i < n) : f ⟨i, h⟩ = ext f i := by
  unfold ext; rw [dif_pos h]

theorem ext_fin {n : ℕ} (f : Fin n → EReal) (i : Fin n) : f i = ext f i := ext_mk f i.1 i.2

/-- The projected columns of a hidden token. -/
def cols (h : Fin 1024 → EReal) (w : Fin 1024 → Fin 2840 → EReal) : ℕ → EReal := ext fun n => ∑ k, h k * w k n

/-- The partial rotary embedding of column `n` of heads of 64 columns each: the first sixteen of a head rotate in pairs
eight apart. -/
def roped (p cos sin : ℕ → EReal) (n : ℕ) : EReal :=
  if n % 64 < 8 then p n * cos (n % 64) - p (n + 8) * sin (n % 64)
  else if n % 64 < 16 then p n * cos (n % 64 - 8) + p (n - 8) * sin (n % 64 - 8)
  else p n

/-- A tile of two heads rotated by lanes: every lane times its cosine, and its partner's lane times its signed sine. -/
theorem roped_tile (p cos sin : ℕ → EReal) (B l : ℕ) (hB : B % 64 = 0) (hl : l < 128) :
    p (B + l) * (if l % 64 < 16 then cos (l % 8) else 1)
      + (if l % 64 < 8 then p (B + (l + 128 - 120) % 128) else p (B + (l + 128 - 8) % 128))
        * (if l % 64 < 8 then 0 - sin (l % 8) else if l % 64 < 16 then sin (l % 8) else 0)
      = roped p cos sin (B + l) := by
  have e : (B + l) % 64 = l % 64 := by omega
  unfold roped
  rw [e]
  by_cases h8 : l % 64 < 8
  · have h16 : l % 64 < 16 := by omega
    have e1 : l % 8 = l % 64 := by omega
    have e2 : B + (l + 128 - 120) % 128 = B + l + 8 := by omega
    rw [if_pos h16, if_pos h8, if_pos h8, if_pos h8, e1, e2, zero_sub, mul_neg, ← sub_eq_add_neg]
  · by_cases h16 : l % 64 < 16
    · have e1 : l % 8 = l % 64 - 8 := by omega
      have e2 : B + (l + 128 - 8) % 128 = B + l - 8 := by omega
      rw [if_pos h16, if_neg h8, if_neg h8, if_neg h8, if_pos h16, if_pos h16, e1, e2]
    · rw [if_neg h16, if_neg h8, if_neg h8, if_neg h8, if_neg h16, if_neg h16, mul_one, mul_zero, add_zero]

/-- The gated channel `n` of a token. -/
def gated (p : ℕ → EReal) (n : ℕ) : EReal := p (512 + n) * p (1024 + n)

/-- The causal convolution of width three at channel `n`, gated: the token's columns and the gated channel of the two
tokens before it. -/
def conv (p : ℕ → EReal) (b2 b1 : ℕ → EReal) (c : Fin 3 → ℕ → EReal) (n : ℕ) : EReal :=
  p n * (c 0 n * b2 n + c 1 n * b1 n + c 2 n * gated p n)

/-- The convolved channel over its group's root mean square. -/
def grouped (y : ℕ → EReal) (g : ℕ → EReal) (n : ℕ) : EReal :=
  y n * Ideal.rsqrt (Ideal.div (∑ k : Fin 64, y (n / 64 * 64 + k) * y (n / 64 * 64 + k)) (Ideal.ofBits FTy.f32 0x42800000#32)
    + Ideal.ofBits FTy.f32 0x358637BD#32) * g n

/-! ## The rotary embedding by its three cases -/

theorem roped_lo (p : ℕ → EReal) (c s : Fin 8 → EReal) (n i0 i1 d : ℕ) (h : d < 8) (ed : n % 64 = d) (e0 : i0 = n)
    (e1 : i1 = n + 8) : p i0 * c ⟨d, h⟩ - p i1 * s ⟨d, h⟩ = roped p (ext c) (ext s) n := by
  subst e0 e1 ed; unfold roped; rw [if_pos h, ext_mk c, ext_mk s]

theorem roped_hi (p : ℕ → EReal) (c s : Fin 8 → EReal) (n i0 i1 d : ℕ) (h : d < 8) (ed : n % 64 = d + 8) (e0 : i0 = n)
    (e1 : i1 = n - 8) : p i0 * c ⟨d, h⟩ + p i1 * s ⟨d, h⟩ = roped p (ext c) (ext s) n := by
  subst e0 e1; unfold roped
  rw [if_neg (by omega), if_pos (by omega), show i0 % 64 - 8 = d from by omega, ext_mk c, ext_mk s]

theorem roped_no (p c s : ℕ → EReal) (n i0 : ℕ) (h : 16 ≤ n % 64) (e0 : i0 = n) : p i0 = roped p c s n := by
  subst e0; unfold roped
  rw [if_neg (by omega), if_neg (by omega)]

/-! ## The whole call -/

/-- What the call is of: the tokens, the two tables, the modulation rows, and the weights. -/
structure Args where
  x : Fin 2 → Fin 8192 → Fin 1024 → EReal
  co : Fin 2 → Fin 8192 → Fin 8 → EReal
  si : Fin 2 → Fin 8192 → Fin 8 → EReal
  md : Fin 2 → Fin 9 → Fin 1024 → EReal
  g : Fin 1024 → EReal
  w : Fin 1024 → Fin 2840 → EReal
  cw : Fin 3 → Fin 512 → EReal
  gc : Fin 512 → EReal

namespace Args

variable (A : Args)

/-- The normalized, modulated token. -/
def hid (b : Fin 2) (s : Fin 8192) : Fin 1024 → EReal := hidden (A.x b s) A.g (A.md b 3) (A.md b 4)

/-- Its projected columns. -/
def P (b : Fin 2) (s : Fin 8192) : ℕ → EReal := cols (A.hid b s) A.w

/-- Its projected columns rotated. -/
def R (b : Fin 2) (s : Fin 8192) : ℕ → EReal := roped (A.P b s) (ext (A.co b s)) (ext (A.si b s))

/-- The gated channel of the token `d` before, zero before the first. -/
def back (d : ℕ) (b : Fin 2) (s : Fin 8192) (n : ℕ) : EReal :=
  if h : d ≤ s.val then gated (A.P b ⟨s.val - d, by omega⟩) n else 0

/-- The gated convolution. -/
def y (b : Fin 2) (s : Fin 8192) (n : ℕ) : EReal :=
  conv (A.P b s) (A.back 2 b s) (A.back 1 b s) (fun i => ext (A.cw i)) n

/-- The results, entry by entry. -/
def out0 (b : Fin 2) (s : Fin 8192) (n : Fin 512) : EReal := grouped (A.y b s) (ext A.gc) n
def out1 (b : Fin 2) (n : Fin 512) (s : Fin 8192) : EReal :=
  Ideal.div (A.R b s (1536 + n) * Ideal.ofBits FTy.f32 0x3E000000#32) (Ideal.log (Ideal.ofBits FTy.f32 0x40000000#32))
def out2 (b : Fin 2) (s : Fin 8192) (n : Fin 128) : EReal := A.R b s (2048 + n)
def out3 (b : Fin 2) (s : Fin 8192) (n : Fin 128) : EReal := A.P b s (2176 + n)
def out4 (b g : Fin 2) (s : Fin 8192) (n : Fin 256) : EReal :=
  if n.val < 128 then (if s.val / 64 = n.val then 1 else 0)
  else if n.val - 128 < 64 then A.R b s (2304 + (g.val * 64 + (n.val - 128))) else 0
def out5 (b g : Fin 2) (n : Fin 80) (s : Fin 8192) : EReal :=
  if n.val < 64 then A.P b s (2432 + (g.val * 64 + n.val)) else 1
def out6 (b g : Fin 2) (s : Fin 8192) (n : Fin 64) : EReal := A.R b s (2560 + (g.val * 64 + n.val))
def out7 (b g : Fin 2) (n : Fin 80) (s : Fin 8192) : EReal :=
  if n.val < 64 then A.P b s (2688 + (g.val * 64 + n.val)) else 1
def out8 (b : Fin 2) (n : Fin 256) (s : Fin 8192) : EReal :=
  Ideal.logistic (if n.val % 128 < 12 then A.P b s (2816 + (n.val / 128 * 12 + n.val % 128)) else 0)

end Args

end Cert.Plain

end
-- ==== Proof.Inproj.Lanes.lean ====
/-
  The input projection's stored values, entry by entry: the rotation by lanes is the rotary embedding, and the columns of
  each store are the projected columns.
-/
module

public import proofs.«01_k».proof.Proof.Gen.Kernel4Ideal.Skeleton
public import Idealize.ShloMosaic.Lib.Pointwise
public import Idealize.ShloMosaic.Lib.Claim
public import proofs.«01_k».proof.Proof.Inproj.Plain

@[expose] public section

set_option maxRecDepth 65536

noncomputable section

open Idealize.ShloMosaic Idealize.ShloMosaic.TcCoe Idealize.SL.Sem

namespace Cert.Kernel4Ideal.Inproj

open Cert.Kernel4Ideal Cert.Kernel4Ideal.Gen Cert.Plain

/-! ## Lanes -/

theorem lane16 : ∀ l : Fin 128,
    (IntOp.cmpi CmpIPredicate.slt (IntOp.andi (BitVec.ofNat 32 l.val) 63#32) 16#32 = 1#1) ↔ l.val % 64 < 16 := by
  decide +kernel

theorem lane8 : ∀ l : Fin 128,
    (IntOp.cmpi CmpIPredicate.slt (IntOp.andi (BitVec.ofNat 32 l.val) 63#32) 8#32 = 1#1) ↔ l.val % 64 < 8 := by
  decide +kernel

theorem lane_low : ∀ l : Fin 128,
    IntOp.andi (IntOp.andi (BitVec.ofNat 32 l.val) 63#32) 7#32 = BitVec.ofNat 32 (l.val % 8) := by
  decide +kernel

theorem tok_low : ∀ r : Fin 512, IntOp.andi (BitVec.ofNat 32 r.val) 15#32 = BitVec.ofNat 32 (r.val % 16) := by
  decide +kernel

theorem src_lane : ∀ (t : Fin 16) (e : Fin 8),
    (Scalar.select
      (IntOp.cmpi CmpIPredicate.slt
        (IntOp.addi (IntOp.muli (BitVec.ofNat 32 t.val) 8#32) (BitVec.ofNat 32 e.val)) 0#32)
      (IntOp.addi (IntOp.addi (IntOp.muli (BitVec.ofNat 32 t.val) 8#32) (BitVec.ofNat 32 e.val)) 128#32)
      (IntOp.addi (IntOp.muli (BitVec.ofNat 32 t.val) 8#32) (BitVec.ofNat 32 e.val))).toNat % 128
      = t.val * 8 + e.val := by
  decide +kernel

/-- The eight packed entries of token `r` of a block's table. -/
def packed (v : Vec Ideal S1x32x128 .f32) (r : Fin 512) (e : Fin 8) : EReal :=
  v (ix3 0 ⟨r.val / 16, by omega⟩ ⟨r.val % 16 * 8 + e.val, by omega⟩)

theorem packed_at (v : Vec Ideal S1x32x128 .f32) (r : Fin 512) (l : Fin 128) (n : ℕ) (hn : n < 128)
    (h : n = r.val % 16 * 8 + l.val % 8) :
    (v (ix3 0 ⟨r.val / 16, by omega⟩ ⟨n, hn⟩) : EReal) = ext (packed v r) (l.val % 8) := by
  subst h
  rw [← ext_mk (packed v r) (l.val % 8) (Nat.mod_lt _ (by decide))]
  rfl

theorem cos_at (v : Vec Ideal S1x32x128 .f32) (r : Fin 512) (l : Fin 128) :
    k0_pay8 (F := Ideal) k0_pay4 k0_pay5 k0_pay6 v (ix2 r l)
      = if l.val % 64 < 16 then ext (packed v r) (l.val % 8) else (1 : EReal) := by
  pointwise [k0_pay8, k0_pay7, k0_pay4, k0_pay5, k0_pay6]
  rw [packed_at v r l _ _ (by
    rw [lane_low, tok_low]
    exact src_lane ⟨r.val % 16, Nat.mod_lt _ (by decide)⟩ ⟨l.val % 8, Nat.mod_lt _ (by decide)⟩)]
  exact if_congr (lane16 l) rfl rfl

theorem sin_at (v : Vec Ideal S1x32x128 .f32) (r : Fin 512) (l : Fin 128) :
    k0_pay14 (F := Ideal) (k0_pay9 k0_pay4 k0_pay5 k0_pay6 v) (k0_pay10 k0_pay4) (k0_pay11 k0_pay4 k0_pay5 k0_pay6 v)
        (k0_pay12 k0_pay4) k0_pay13 (ix2 r l)
      = if l.val % 64 < 8 then 0 - ext (packed v r) (l.val % 8)
        else if l.val % 64 < 16 then ext (packed v r) (l.val % 8) else (0 : EReal) := by
  pointwise [k0_pay14, k0_pay9, k0_pay10, k0_pay11, k0_pay12, k0_pay13, k0_pay7, k0_pay4, k0_pay5, k0_pay6]
  rw [packed_at v r l _ _ (by
    rw [lane_low, tok_low]
    exact src_lane ⟨r.val % 16, Nat.mod_lt _ (by decide)⟩ ⟨l.val % 8, Nat.mod_lt _ (by decide)⟩)]
  exact if_congr (lane8 l) rfl (if_congr (lane16 l) rfl rfl)

theorem first_at (r : Fin 512) (l : Fin 128) : (k0_pay15 k0_pay4 (ix2 r l) = 1#1) ↔ l.val % 64 < 8 := by
  pointwise [k0_pay15, k0_pay4]
  exact lane8 l

/-! ## The hidden tokens -/

theorem hidden_at (x : Vec Ideal S1x512x1024 .f32) (g : Vec Ideal S1x1024 .f32) (a b : Vec Ideal S1x1x1024 .f32)
    (r : Fin 512) (k : Fin 1024) :
    k0_pay3 (F := Ideal) x g a b (ix2 r k) = Plain.hidden (fun k => x (ix3 0 r k)) (fun k => g (ix2 0 k))
      (fun k => b (ix3 0 0 k)) (fun k => a (ix3 0 0 k)) k := by
  pointwise [k0_pay3]
  rfl

/-! ## The columns -/

/-- Window columns `w` of the projection of token `r` are columns `o` on of its projected columns. -/
def Cols {n : ℕ} (h : FVec Ideal S512x1024 .bf16) (w : Fin 1024 → Fin n → EReal) (r : Fin 512) (p : ℕ → EReal) (o : ℕ) : Prop :=
  ∀ j : Fin n, (∑ k, (h (ix2 r k) : EReal) * w k j) = p (o + j.val)

theorem Cols.at {n : ℕ} {h : FVec Ideal S512x1024 .bf16} {w : Fin 1024 → Fin n → EReal} {r : Fin 512} {p : ℕ → EReal}
    {o : ℕ} (H : Cols h w r p o) (i m : ℕ) (hi : i < n) (e : m = o + i) :
    (∑ k, (h (ix2 r k) : EReal) * w k ⟨i, hi⟩) = p m := by
  rw [H ⟨i, hi⟩, e]

/-- A tile of two heads. -/
theorem tile_of (p cos sin : ℕ → EReal) (B : ℕ) (hB : B % 64 = 0) (l : Fin 128) (b : BitVec 1) (hb : (b = 1#1) ↔ l.val % 64 < 8)
    (s0 s1 s2 c s : EReal) (h0 : s0 = p (B + l.val)) (h1 : s1 = p (B + (l.val + 128 - 120) % 128))
    (h2 : s2 = p (B + (l.val + 128 - 8) % 128)) (hc : c = if l.val % 64 < 16 then cos (l.val % 8) else 1)
    (hs : s = if l.val % 64 < 8 then 0 - sin (l.val % 8) else if l.val % 64 < 16 then sin (l.val % 8) else 0) :
    s0 * c + Scalar.select b s1 s2 * s = roped p cos sin (B + l.val) := by
  rw [h0, h1, h2, hc, hs, ← roped_tile p cos sin B l.val hB l.isLt]
  exact congrArg (fun u => _ + u * _) (if_congr hb rfl rfl)

section

variable (h : FVec Ideal S512x1024 .bf16) (vc vs : Vec Ideal S1x32x128 .f32)

/-- The block's cosines and signed sines by lanes. -/
abbrev COS : FVec Ideal S512x128 .f32 := k0_pay8 k0_pay4 k0_pay5 k0_pay6 vc
abbrev SIN : FVec Ideal S512x128 .f32 := k0_pay14 (k0_pay9 k0_pay4 k0_pay5 k0_pay6 vs) (k0_pay10 k0_pay4)
  (k0_pay11 k0_pay4 k0_pay5 k0_pay6 vs) (k0_pay12 k0_pay4) k0_pay13

variable (r : Fin 512) (p : ℕ → EReal)

theorem kc_at (w : Vec Ideal S1024x256 .bf16) (o : ℕ) (ho : o % 64 = 0) (H : Cols h (fun k j => w (ix2 k j)) r p o)
    (z : Fin 1) (l : Fin 128) :
    k0_pay18 (F := Ideal) h (COS vc) (SIN vs) (k0_pay15 k0_pay4) w (ix3 z r l)
      = roped p (ext (packed vc r)) (ext (packed vs r)) (o + l.val) := by
  pointwise [k0_pay18, k0_pay17]
  exact tile_of p _ _ o ho l _ (first_at r l) _ _ _ _ _ (H.at _ _ _ rfl) (H.at _ _ _ rfl) (H.at _ _ _ rfl)
    (cos_at vc r l) (sin_at vs r l)

theorem vc_at (w : Vec Ideal S1024x256 .bf16) (o : ℕ) (H : Cols h (fun k j => w (ix2 k j)) r p o)
    (z : Fin 1) (l : Fin 128) :
    k0_pay19 (F := Ideal) h w (ix3 z r l) = p (o + 128 + l.val) := by
  pointwise [k0_pay19, k0_pay17]
  exact H.at _ _ _ (by omega)

theorem ks_at (w : Vec Ideal S1024x256 .bf16) (o : ℕ) (ho : o % 64 = 0) (H : Cols h (fun k j => w (ix2 k j)) r p o)
    (l : Fin 128) :
    k0_pay21 (F := Ideal) h (COS vc) (SIN vs) (k0_pay15 k0_pay4) w (ix2 r l)
      = roped p (ext (packed vc r)) (ext (packed vs r)) (o + l.val) := by
  pointwise [k0_pay21, k0_pay20]
  exact tile_of p _ _ o ho l _ (first_at r l) _ _ _ _ _ (H.at _ _ _ rfl) (H.at _ _ _ rfl) (H.at _ _ _ rfl)
    (cos_at vc r l) (sin_at vs r l)

theorem kw_at (w : Vec Ideal S1024x256 .bf16) (o : ℕ) (ho : o % 64 = 0) (H : Cols h (fun k j => w (ix2 k j)) r p o)
    (l : Fin 128) :
    k0_pay27 (F := Ideal) (COS vc) (SIN vs) (k0_pay15 k0_pay4) (k0_pay24 h w) (k0_pay25 h w) (k0_pay26 h w) (ix2 r l)
      = roped p (ext (packed vc r)) (ext (packed vs r)) (o + l.val) := by
  pointwise [k0_pay27, k0_pay24, k0_pay25, k0_pay26, k0_pay23]
  exact tile_of p _ _ o ho l _ (first_at r l) _ _ _ _ _ (H.at _ _ _ rfl) (H.at _ _ _ rfl) (H.at _ _ _ rfl)
    (cos_at vc r l) (sin_at vs r l)

theorem vs_at (w : Vec Ideal S1024x256 .bf16) (o : ℕ) (H : Cols h (fun k j => w (ix2 k j)) r p o) (l : Fin 128) :
    k0_pay22 (F := Ideal) h w (ix2 l r) = p (o + 128 + l.val) := by
  pointwise [k0_pay22, k0_pay20]
  exact H.at _ _ _ (by omega)

theorem vw_at (w : Vec Ideal S1024x256 .bf16) (o : ℕ) (H : Cols h (fun k j => w (ix2 k j)) r p o) (l : Fin 128) :
    k0_pay28 (F := Ideal) (k0_pay23 h w) (ix2 l r) = p (o + 128 + l.val) := by
  pointwise [k0_pay28, k0_pay23]
  exact H.at _ _ _ (by omega)

theorem gate_at (w : Vec Ideal S1024x256 .bf16) (q : Fin 256 → EReal)
    (H : ∀ j : Fin 256, (∑ k, (h (ix2 r k) : EReal) * w (ix2 k j)) = q j) (z : Fin 1) (l : Fin 256) :
    k0_pay41 (F := Ideal) h w (ix3 z l r) = Ideal.logistic (q l) := by
  pointwise [k0_pay41]
  rw [H]

theorem q_at (w : Vec Ideal S1024x512 .bf16) (o : ℕ) (ho : o % 64 = 0) (H : Cols h (fun k j => w (ix2 k j)) r p o)
    (z : Fin 1) (l : Fin 512) :
    k0_pay16 (F := Ideal) h k0_pay4 (COS vc) (k0_pay9 k0_pay4 k0_pay5 k0_pay6 vs) (k0_pay10 k0_pay4)
        (k0_pay11 k0_pay4 k0_pay5 k0_pay6 vs) (k0_pay12 k0_pay4) k0_pay13 w (ix3 z l r)
      = roped p (ext (packed vc r)) (ext (packed vs r)) (o + l.val) * Named.named (F := Ideal) (φ := .f32) κ "scale" 0x3E38AA3B#32 := by
  pointwise [k0_pay16]
  refine congrArg (fun u : EReal => u * Named.named (F := Ideal) (φ := .f32) κ "scale" 0x3E38AA3B#32) ?_
  have T : ∀ (B i : ℕ) (hi : i < 128) (s0 s1 s2 : EReal) (c s : EReal), B % 64 = 0 → B + i = o + l.val → s0 = p (B + i) →
      s1 = p (B + (i + 128 - 120) % 128) → s2 = p (B + (i + 128 - 8) % 128) → c = COS vc (ix2 r ⟨i, hi⟩) →
      s = SIN vs (ix2 r ⟨i, hi⟩) →
      s0 * c + Scalar.select (k0_pay15 k0_pay4 (ix2 r ⟨i, hi⟩)) s1 s2 * s
        = roped p (ext (packed vc r)) (ext (packed vs r)) (o + l.val) := by
    intro B i hi s0 s1 s2 c s hB e h0 h1 h2 hc hs
    rw [← e]
    exact tile_of p _ _ B hB ⟨i, hi⟩ _ (first_at r ⟨i, hi⟩) _ _ _ _ _ h0 h1 h2 (hc.trans (cos_at vc r _))
      (hs.trans (sin_at vs r _))
  split
  · rename_i h1
    exact T o l.val h1 _ _ _ _ _ ho rfl (H l) (H.at _ _ _ rfl) (H.at _ _ _ rfl) rfl rfl
  · split
    · rename_i h1 h2
      exact T (o + 128) (l.val - 128) h2 _ _ _ _ _ (by omega) (by omega) (H.at _ _ _ (by omega)) (H.at _ _ _ (by omega))
        (H.at _ _ _ (by omega)) rfl rfl
    · split
      · rename_i h1 h2 h3
        exact T (o + 256) (l.val - 128 - 128) h3 _ _ _ _ _ (by omega) (by omega) (H.at _ _ _ (by omega)) (H.at _ _ _ (by omega))
          (H.at _ _ _ (by omega)) rfl rfl
      · rename_i h1 h2 h3
        exact T (o + 384) (l.val - 128 - 128 - 128) (by omega) _ _ _ _ _ (by omega) (by omega) (H.at _ _ _ (by omega))
          (H.at _ _ _ (by omega)) (H.at _ _ _ (by omega)) rfl rfl

end

end Cert.Kernel4Ideal.Inproj

end
-- ==== Proof.Inproj.Iota.lean ====
/-
  Integer lanes: the floor division of a lane's number by 64, and the comparison of two numbers as a float.
-/
module

public import Idealize.ShloMosaic.PureOps.Ideal

@[expose] public section

noncomputable section

open Idealize.ShloMosaic

namespace Cert.Plain

/-- The floor division of `n` by 64 as the host writes it. -/
abbrev floor64 (n : ℕ) : BitVec 32 :=
  Scalar.select
    (IntOp.andi
      (IntOp.cmpi CmpIPredicate.ne
        (if BitVec.ofNat 32 n = 0 then 0 else if (BitVec.ofNat 32 n).msb = true then -1 else 1)
        (if 64#32 = 0 then 0 else if (64#32).msb = true then (-1 : BitVec 32) else 1))
      (IntOp.cmpi CmpIPredicate.ne (IntOp.remsi ArithUnit.host (BitVec.ofNat 32 n) 64#32) 0#32))
    (IntOp.subi (IntOp.divsi ArithUnit.host (BitVec.ofNat 32 n) 64#32) 1#32)
    (IntOp.divsi ArithUnit.host (BitVec.ofNat 32 n) 64#32)

theorem div64_eq (n : ℕ) (h : n < 8192) : IntOp.divsi ArithUnit.host (BitVec.ofNat 32 n) 64#32 = BitVec.ofNat 32 (n / 64) := by
  have hc : ¬ IntOp.SDivCorner (BitVec.ofNat 32 n) 64#32 := by
    rintro (h | ⟨_, h⟩) <;> exact absurd h (by decide)
  have hm : (BitVec.ofNat 32 n).msb = false := by
    rw [BitVec.msb_eq_decide, decide_eq_false_iff_not, BitVec.toNat_ofNat]; omega
  unfold IntOp.divsi
  rw [if_neg hc, BitVec.sdiv_eq, hm, show (64#32 : BitVec 32).msb = false from by decide]
  apply BitVec.eq_of_toNat_eq
  simp only [BitVec.udiv_eq, BitVec.toNat_udiv, BitVec.toNat_ofNat]
  rw [show (64 : ℕ) % 2 ^ 32 = 64 from rfl, Nat.mod_eq_of_lt (show n < 2 ^ 32 by omega), Nat.mod_eq_of_lt (show n / 64 < 2 ^ 32 by omega)]

theorem floor64_eq (n : ℕ) (h : n < 8192) : floor64 n = BitVec.ofNat 32 (n / 64) := by
  have hm : (BitVec.ofNat 32 n).msb = false := by
    rw [BitVec.msb_eq_decide, decide_eq_false_iff_not, BitVec.toNat_ofNat]; omega
  unfold floor64
  rw [div64_eq n h, hm]
  by_cases h0 : n = 0
  · subst h0; decide
  · have hz : BitVec.ofNat 32 n ≠ 0 := fun e => h0 (by
      have := congrArg BitVec.toNat e
      simp only [BitVec.toNat_ofNat, BitVec.ofNat_eq_ofNat] at this; omega)
    rw [if_neg hz]
    have e : IntOp.cmpi CmpIPredicate.ne (if false = true then (-1 : BitVec 32) else 1)
        (if 64#32 = 0 then 0 else if (64#32).msb = true then (-1 : BitVec 32) else 1) = 0#1 := by decide
    rw [e]
    unfold IntOp.andi Scalar.select
    rw [BitVec.zero_and, if_neg (by decide)]

theorem eq_lane (a b : ℕ) (ha : a < 8192) (hb : b < 8192) :
    IntOp.cmpi CmpIPredicate.eq (BitVec.ofNat 32 a) (BitVec.ofNat 32 b) = if a = b then 1#1 else 0#1 := by
  unfold IntOp.cmpi
  by_cases h : a = b
  · subst h; simp
  · have : BitVec.ofNat 32 a ≠ BitVec.ofNat 32 b := fun e => h (by
      have := congrArg BitVec.toNat e
      simp only [BitVec.toNat_ofNat] at this; omega)
    rw [if_neg h]
    show BitVec.ofBool (BitVec.ofNat 32 a == BitVec.ofNat 32 b) = 0#1
    rw [beq_eq_false_iff_ne.mpr this]; rfl

theorem eq_float (a b : ℕ) (ha : a < 8192) (hb : b < 8192) :
    (FloatOps.uitofp (F := Ideal) FTy.f32 (IntOp.cmpi CmpIPredicate.eq (BitVec.ofNat 32 a) (BitVec.ofNat 32 b)) : EReal)
      = if a = b then 1 else 0 := by
  rw [eq_lane a b ha hb]
  by_cases h : a = b
  · rw [if_pos h, if_pos h]
    show ((((1#1 : BitVec 1).toNat : ℝ)) : EReal) = 1
    simp
  · rw [if_neg h, if_neg h]
    show ((((0#1 : BitVec 1).toNat : ℝ)) : EReal) = 0
    simp

theorem eq_select (a b : ℕ) (ha : a < 8192) (hb : b < 8192) (x y : EReal) :
    Scalar.select (IntOp.cmpi CmpIPredicate.eq (BitVec.ofNat 32 a) (BitVec.ofNat 32 b)) x y = if a = b then x else y := by
  rw [eq_lane a b ha hb]
  unfold Scalar.select
  by_cases h : a = b
  · rw [if_pos h, if_pos h]; simp
  · rw [if_neg h, if_neg h]; simp

end Cert.Plain

end
-- ==== Proof.Inproj.Host.lean ====
/-
  The input projection's host values, entry by entry, of the arguments.
-/
module

public import proofs.«01_k».proof.Proof.Gen.Kernel4Ideal.Frame
public import proofs.«01_k».proof.Proof.Inproj.Plain
public import proofs.«01_k».proof.Proof.Inproj.Iota
public import Idealize.ShloMosaic.Lib.Pointwise
public import Idealize.ShloMosaic.Lib.Claim

@[expose] public section

set_option maxRecDepth 65536

noncomputable section

open Idealize.ShloMosaic Idealize.ShloMosaic.TcCoe Idealize.SL.Sem

namespace Cert.Kernel4Ideal.Inproj

open Cert.Kernel4Ideal Cert.Kernel4Ideal.Gen Cert.Plain

variable (m : (ℓ : Loc nD τ sig) → Buf (Elt Ideal) ℓ)

theorem zero_int : (FloatOps.sitofp (F := Ideal) FTy.f32 0#32 : EReal) = 0 := by
  show ((((0#32 : BitVec 32).toInt : ℝ)) : EReal) = 0
  simp

set_option maxHeartbeats 6000000 in
theorem cos_h (c : Dev nD) (b : Fin 2) (k : Fin 512) (l : Fin 128) : (V m c main_v21 (ix3 b k l) : EReal)
    = m ((c : Thread nD τ).loc main_arg1) (ix3 b ⟨k.val * 16 + l.val / 8, by omega⟩ ⟨l.val % 8, by omega⟩) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results_simp
  try simp -implicitDefEqProofs only [StableHlo.TRef.toBuf, StableHlo.TRef.ofBuf, cast_cast, cast_eq]
  pointwise []

set_option maxHeartbeats 6000000 in
theorem sin_h (c : Dev nD) (b : Fin 2) (k : Fin 512) (l : Fin 128) : (V m c main_v22 (ix3 b k l) : EReal)
    = m ((c : Thread nD τ).loc main_arg2) (ix3 b ⟨k.val * 16 + l.val / 8, by omega⟩ ⟨l.val % 8, by omega⟩) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results_simp
  try simp -implicitDefEqProofs only [StableHlo.TRef.toBuf, StableHlo.TRef.ofBuf, cast_cast, cast_eq]
  pointwise []

set_option maxHeartbeats 6000000 in
theorem gain_h (c : Dev nD) (k : Fin 1024) : (V m c main_v23 (ix2 0 k) : EReal) = m ((c : Thread nD τ).loc main_arg4) (ix1 k) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results_simp
  try simp -implicitDefEqProofs only [StableHlo.TRef.toBuf, StableHlo.TRef.ofBuf, cast_cast, cast_eq]
  pointwise []

set_option maxHeartbeats 6000000 in
theorem proj_h (c : Dev nD) (k : Fin 1024) (n : Fin 2840) :
    (V m c main_v24 (ix2 k n) : EReal) = m ((c : Thread nD τ).loc main_arg5) (ix2 k n) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results_simp
  try simp -implicitDefEqProofs only [StableHlo.TRef.toBuf, StableHlo.TRef.ofBuf, cast_cast, cast_eq]
  pointwise []

set_option maxHeartbeats 6000000 in
theorem last_h (c : Dev nD) (n : Fin 512) : (V m c main_v25 (ix2 0 n) : EReal) = m ((c : Thread nD τ).loc main_arg7) (ix1 n) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results_simp
  try simp -implicitDefEqProofs only [StableHlo.TRef.toBuf, StableHlo.TRef.ofBuf, cast_cast, cast_eq]
  pointwise []

set_option maxHeartbeats 6000000 in
theorem gates_h (c : Dev nD) (k : Fin 1024) (n : Fin 256) :
    (V m c main_v5 (ix2 k n) : EReal) = if h : n.val % 128 < 12 then
      (m ((c : Thread nD τ).loc main_arg5) (ix2 k ⟨2816 + (n.val / 128 * 12 + n.val % 128), by omega⟩) : EReal) else (0 : EReal) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results_simp
  try simp -implicitDefEqProofs only [StableHlo.TRef.toBuf, StableHlo.TRef.ofBuf, cast_cast, cast_eq]
  pointwise []
  after_results_simp
  try simp -implicitDefEqProofs only [StableHlo.TRef.toBuf, StableHlo.TRef.ofBuf, cast_cast, cast_eq]
  pointwise []
  split
  · rename_i h
    split
    · rename_i h1
      rw [dif_pos (by omega)]
      exact congrArg (fun q => (m ((c : Thread nD τ).loc main_arg5) (ix2 k q) : EReal)) (Fin.ext (show 2816 + n.val = 2816 + (n.val / 128 * 12 + n.val % 128) by omega))
    · rename_i h1
      rw [dif_neg (by omega)]
      exact zero_int
  · rename_i h
    split
    · rename_i h1
      rw [dif_pos (by omega)]
      exact congrArg (fun q => (m ((c : Thread nD τ).loc main_arg5) (ix2 k q) : EReal)) (Fin.ext (show 2828 + (n.val - 128) = 2816 + (n.val / 128 * 12 + n.val % 128) by omega))
    · rename_i h1
      rw [dif_neg (by omega)]
      exact zero_int

set_option maxHeartbeats 6000000 in
theorem mean_h (c : Dev nD) (k n : Fin 512) : (V m c main_v14 (ix2 k n) : EReal)
    = Ideal.div (if k.val / 64 = n.val / 64 then (1 : EReal) else 0) (Ideal.ofBits FTy.f32 0x42800000#32) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results_simp
  try simp -implicitDefEqProofs only [StableHlo.TRef.toBuf, StableHlo.TRef.ofBuf, cast_cast, cast_eq]
  pointwise [id_eq]
  refine congrArg (Ideal.div · (Ideal.ofBits FTy.f32 0x42800000#32)) ?_
  refine Eq.trans (congrArg (FloatOps.uitofp (F := Ideal) FTy.f32) (congrArg₂ (IntOp.cmpi CmpIPredicate.eq) (floor64_eq k.val (by omega)) (floor64_eq n.val (by omega)))) ?_
  exact eq_float _ _ (by omega) (by omega)

set_option maxHeartbeats 6000000 in
theorem block_h (c : Dev nD) (s : Fin 8192) (n : Fin 128) :
    (V m c main_v20 (ix2 s n) : EReal) = if s.val / 64 = n.val then (1 : EReal) else (0 : EReal) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results_simp
  try simp -implicitDefEqProofs only [StableHlo.TRef.toBuf, StableHlo.TRef.ofBuf, cast_cast, cast_eq]
  pointwise [id_eq]
  refine Eq.trans (congrArg (fun x => FloatOps.uitofp (F := Ideal) FTy.f32 (IntOp.cmpi CmpIPredicate.eq x _)) (floor64_eq s.val (by omega))) ?_
  exact eq_float _ _ (by omega) (by omega)

end Cert.Kernel4Ideal.Inproj

end
-- ==== Proof.Inproj.Windows.lean ====
/-
  The blocks that a point of the input projection reads, of the arguments.
-/
module

public import proofs.«01_k».proof.Proof.Gen.Kernel4Ideal.Frame
public import proofs.«01_k».proof.Proof.Inproj.Lanes
public import proofs.«01_k».proof.Proof.Inproj.Host
public import Idealize.ShloMosaic.Lib.Pipeline.ValueKit
public import Idealize.ShloMosaic.Lib.Pipeline.ReadBack

@[expose] public section

set_option maxRecDepth 65536

noncomputable section

open Idealize.ShloMosaic Idealize.ShloMosaic.TcCoe Idealize.SL.Sem
open Idealize.ShloMosaic.Pipeline (Dat)

namespace Cert.Kernel4Ideal.Inproj

open Cert.Kernel4Ideal Cert.Kernel4Ideal.Gen Cert.Plain

variable (m : (ℓ : Loc nD τ sig) → Buf (Elt Ideal) ℓ)

/-- The arguments. -/
def args (c : Dev nD) : Args where
  x b s k := m ((c : Thread nD τ).loc main_arg0) (ix3 b s k)
  co b s e := m ((c : Thread nD τ).loc main_arg1) (ix3 b s e)
  si b s e := m ((c : Thread nD τ).loc main_arg2) (ix3 b s e)
  md b i k := m ((c : Thread nD τ).loc main_arg3) (ix3 b i k)
  g k := m ((c : Thread nD τ).loc main_arg4) (ix1 k)
  w k n := m ((c : Thread nD τ).loc main_arg5) (ix2 k n)
  cw i n := m ((c : Thread nD τ).loc main_arg6) (ix2 i n)
  gc n := m ((c : Thread nD τ).loc main_arg7) (ix1 n)

theorem index_t : ∀ t : Fin cfg0.N, win0_0.index t = ![t.val / 16, t.val % 16, 0]
    ∧ win0_1.index t = ![t.val / 16, t.val % 16, 0] ∧ win0_2.index t = ![t.val / 16, t.val % 16, 0]
    ∧ win0_3.index t = ![t.val / 16, 0, 0] ∧ win0_10.index t = ![t.val % 16, 0] :=
  (by decide +kernel : ∀ t : Fin grid0.N, _)

theorem index_c : ∀ t : Fin cfg0.N, win0_4.index t = ![0, 0] ∧ win0_5.index t = ![0, 0] ∧ win0_6.index t = ![0, 0]
    ∧ win0_7.index t = ![0, 0] ∧ win0_8.index t = ![0, 0] ∧ win0_9.index t = ![0, 0] :=
  (by decide +kernel : ∀ t : Fin grid0.N, _)

theorem index_o : ∀ t : Fin cfg0.N, win0_11.index t = ![t.val / 16, t.val % 16, 0]
    ∧ win0_12.index t = ![t.val / 16, 0, t.val % 16] ∧ win0_13.index t = ![t.val / 16, t.val % 16, 0]
    ∧ win0_14.index t = ![t.val / 16, t.val % 16, 0] ∧ win0_15.index t = ![t.val / 16, 0, t.val % 16, 0]
    ∧ win0_16.index t = ![t.val / 16, 0, 0, t.val % 16] ∧ win0_17.index t = ![t.val / 16, 0, t.val % 16, 0]
    ∧ win0_18.index t = ![t.val / 16, 0, 0, t.val % 16] ∧ win0_19.index t = ![t.val / 16, 0, t.val % 16] :=
  (by decide +kernel : ∀ t : Fin grid0.N, _)

theorem point_lt (t : Fin cfg0.N) : t.val < 32 := lt_of_lt_of_eq t.isLt (by decide +kernel)

/-- The sequence of point `t`'s tokens, and its token `r`. -/
def seqOf (t : Fin cfg0.N) : Fin 2 := ⟨t.val / 16, by have := point_lt t; omega⟩
def tokOf (t : Fin cfg0.N) (r : Fin 512) : Fin 8192 := ⟨t.val % 16 * 512 + r, by omega⟩

theorem tokens_w (c : Dev nD) (t : Fin cfg0.N) (r : Fin 512) (k : Fin 1024) :
    (iblk m c 0 t (ix3 0 r k) : EReal) = (args m c).x (seqOf t) (tokOf t r) k := by
  unfold args
  blk_ext! [iblk, V, index_t t, seqOf, tokOf]

theorem cos_v (c : Dev nD) (t : Fin cfg0.N) (k : Fin 32) (l : Fin 128) :
    (iblk m c 1 t (ix3 0 k l) : EReal) = V m c main_v21 (ix3 (seqOf t) ⟨t.val % 16 * 32 + k.val, by omega⟩ l) := by
  blk_ext [iblk, index_t t, seqOf]

theorem sin_v (c : Dev nD) (t : Fin cfg0.N) (k : Fin 32) (l : Fin 128) :
    (iblk m c 2 t (ix3 0 k l) : EReal) = V m c main_v22 (ix3 (seqOf t) ⟨t.val % 16 * 32 + k.val, by omega⟩ l) := by
  blk_ext [iblk, index_t t, seqOf]

theorem cos_w (c : Dev nD) (t : Fin cfg0.N) (r : Fin 512) :
    packed (iblk m c 1 t) r = (args m c).co (seqOf t) (tokOf t r) := by
  funext e
  refine (cos_v m c t _ _).trans ((cos_h m c _ _ _).trans ?_)
  exact congrArg₂ (fun q q' => (m ((c : Thread nD τ).loc main_arg1) (ix3 (seqOf t) q q') : EReal))
    (Fin.ext (show (t.val % 16 * 32 + r.val / 16) * 16 + (r.val % 16 * 8 + e.val) / 8 = t.val % 16 * 512 + r.val by omega))
    (Fin.ext (show (r.val % 16 * 8 + e.val) % 8 = e.val by omega))

theorem sin_w (c : Dev nD) (t : Fin cfg0.N) (r : Fin 512) :
    packed (iblk m c 2 t) r = (args m c).si (seqOf t) (tokOf t r) := by
  funext e
  refine (sin_v m c t _ _).trans ((sin_h m c _ _ _).trans ?_)
  exact congrArg₂ (fun q q' => (m ((c : Thread nD τ).loc main_arg2) (ix3 (seqOf t) q q') : EReal))
    (Fin.ext (show (t.val % 16 * 32 + r.val / 16) * 16 + (r.val % 16 * 8 + e.val) / 8 = t.val % 16 * 512 + r.val by omega))
    (Fin.ext (show (r.val % 16 * 8 + e.val) % 8 = e.val by omega))

theorem mod_w (c : Dev nD) (t : Fin cfg0.N) (i : Fin 9) (k : Fin 1024) :
    (iblk m c 3 t (ix3 0 i k) : EReal) = (args m c).md (seqOf t) i k := by
  unfold args
  blk_ext! [iblk, V, index_t t, seqOf]

theorem gain_w (c : Dev nD) (t : Fin cfg0.N) (k : Fin 1024) : (iblk m c 4 t (ix2 0 k) : EReal) = (args m c).g k := by
  have e : (iblk m c 4 t (ix2 0 k) : EReal) = V m c main_v23 (ix2 0 k) := by blk_ext [iblk, index_c t]
  exact e.trans (gain_h m c k)

theorem proj_w (c : Dev nD) (t : Fin cfg0.N) (k : Fin 1024) (n : Fin 2840) :
    (iblk m c 5 t (ix2 k n) : EReal) = (args m c).w k n := by
  have e : (iblk m c 5 t (ix2 k n) : EReal) = V m c main_v24 (ix2 k n) := by blk_ext [iblk, index_c t]
  exact e.trans (proj_h m c k n)

theorem gates_w (c : Dev nD) (t : Fin cfg0.N) (k : Fin 1024) (n : Fin 256) :
    (iblk m c 6 t (ix2 k n) : EReal) = if h : n.val % 128 < 12 then
      (args m c).w k ⟨2816 + (n.val / 128 * 12 + n.val % 128), by omega⟩ else 0 := by
  have e : (iblk m c 6 t (ix2 k n) : EReal) = V m c main_v5 (ix2 k n) := by blk_ext [iblk, index_c t]
  exact e.trans (gates_h m c k n)

theorem taps_w (c : Dev nD) (t : Fin cfg0.N) (i : Fin 3) (n : Fin 512) :
    (iblk m c 7 t (ix2 i n) : EReal) = (args m c).cw i n := by
  unfold args
  blk_ext! [iblk, V, index_c t]

theorem last_w (c : Dev nD) (t : Fin cfg0.N) (n : Fin 512) : (iblk m c 8 t (ix2 0 n) : EReal) = (args m c).gc n := by
  have e : (iblk m c 8 t (ix2 0 n) : EReal) = V m c main_v25 (ix2 0 n) := by blk_ext [iblk, index_c t]
  exact e.trans (last_h m c n)

theorem mean_w (c : Dev nD) (t : Fin cfg0.N) (k n : Fin 512) : (iblk m c 9 t (ix2 k n) : EReal)
    = Ideal.div (if k.val / 64 = n.val / 64 then (1 : EReal) else 0) (Ideal.ofBits FTy.f32 0x42800000#32) := by
  have e : (iblk m c 9 t (ix2 k n) : EReal) = V m c main_v14 (ix2 k n) := by blk_ext [iblk, index_c t]
  exact e.trans (mean_h m c k n)

theorem block_w (c : Dev nD) (t : Fin cfg0.N) (r : Fin 512) (n : Fin 128) :
    (iblk m c 10 t (ix2 r n) : EReal) = if (tokOf t r).val / 64 = n.val then (1 : EReal) else (0 : EReal) := by
  have e : (iblk m c 10 t (ix2 r n) : EReal) = V m c main_v20 (ix2 (tokOf t r) n) := by blk_ext [iblk, index_t t, tokOf]
  exact e.trans (block_h m c (tokOf t r) n)

end Cert.Kernel4Ideal.Inproj

end
-- ==== Proof.Inproj.Tail.lean ====
/-
  The last steps of the input projection, lane by lane: the padded keys and values, the scaled queries, the convolution
  and its normalisation.
-/
module

public import proofs.«01_k».proof.Proof.Inproj.Lanes
public import Idealize.ShloMosaic.Lib.Pipeline.ValueKit

@[expose] public section

set_option maxRecDepth 65536

noncomputable section

open Idealize.ShloMosaic Idealize.ShloMosaic.TcCoe Idealize.SL.Sem

namespace Cert.Kernel4Ideal.Inproj

open Cert.Kernel4Ideal Cert.Kernel4Ideal.Gen Cert.Plain

/-! ## The padded keys and values -/

theorem ksa0_at (ks : FVec Ideal S512x128 .bf16) (oh : Vec Ideal S512x128 .bf16) (z g : Fin 1) (r : Fin 512) (n : Fin 256) :
    (k0_pay31 (F := Ideal) ks oh (ix4 z g r n) : EReal) = if h : n.val < 128 then oh (ix2 r ⟨n, h⟩)
      else if h : n.val - 128 < 64 then ks (ix2 r ⟨n - 128, by omega⟩) else 0 := by
  pointwise [k0_pay31, k0_pay29]

theorem ksa1_at (ks : FVec Ideal S512x128 .bf16) (oh : Vec Ideal S512x128 .bf16) (z g : Fin 1) (r : Fin 512) (n : Fin 256) :
    (k0_pay37 (F := Ideal) k0_pay29 (k0_pay35 ks) (k0_pay36 oh) (ix4 z g r n) : EReal) = if h : n.val < 128 then oh (ix2 r ⟨n, h⟩)
      else if h : n.val - 128 < 64 then ks (ix2 r ⟨64 + (n - 128), by omega⟩) else 0 := by
  pointwise [k0_pay37, k0_pay35, k0_pay36, k0_pay29]

theorem vsa0_at (v : FVec Ideal S128x512 .bf16) (z g : Fin 1) (n : Fin 80) (r : Fin 512) :
    (k0_pay33 (F := Ideal) v (ix4 z g n r) : EReal) = if h : n.val < 64 then v (ix2 ⟨n, by omega⟩ r) else 1 := by
  pointwise [k0_pay33, k0_pay30]

theorem vsa1_at (v : FVec Ideal S128x512 .bf16) (z g : Fin 1) (n : Fin 80) (r : Fin 512) :
    (k0_pay39 (F := Ideal) v k0_pay30 (ix4 z g n r) : EReal) = if h : n.val < 64 then v (ix2 ⟨64 + n, by omega⟩ r) else 1 := by
  pointwise [k0_pay39, k0_pay30]

theorem vwa0_at (v : FVec Ideal S512x256 .f32) (z g : Fin 1) (n : Fin 80) (r : Fin 512) :
    (k0_pay34 (F := Ideal) v (ix4 z g n r) : EReal) = if h : n.val < 64 then k0_pay28 v (ix2 ⟨n, by omega⟩ r) else 1 := by
  pointwise [k0_pay34, k0_pay28, k0_pay30]

theorem vwa1_at (v : FVec Ideal S128x512 .bf16) (z g : Fin 1) (n : Fin 80) (r : Fin 512) :
    (k0_pay40 (F := Ideal) v k0_pay30 (ix4 z g n r) : EReal) = if h : n.val < 64 then v (ix2 ⟨64 + n, by omega⟩ r) else 1 := by
  pointwise [k0_pay40, k0_pay30]

theorem kw0_at (a b : FVec Ideal S512x128 .f32) (q : IVec S512x128 1) (d e f : FVec Ideal S512x128 .f32) (z g : Fin 1)
    (r : Fin 512) (n : Fin 64) : (k0_pay32 (F := Ideal) a b q d e f (ix4 z g r n) : EReal)
      = k0_pay27 a b q d e f (ix2 r ⟨n, by omega⟩) := by
  pointwise [k0_pay32, k0_pay27]

theorem kw1_at (v : FVec Ideal S512x128 .bf16) (z g : Fin 1) (r : Fin 512) (n : Fin 64) :
    (k0_pay38 (F := Ideal) v (ix4 z g r n) : EReal) = v (ix2 r ⟨64 + n, by omega⟩) := by
  pointwise [k0_pay38]

/-! ## The convolution -/

theorem proj_at (h : FVec Ideal S512x1024 .bf16) (w : Vec Ideal S1024x512 .bf16) (r n : Fin 512) :
    (k0_pay42 (F := Ideal) h w (ix2 r n) : EReal) = ∑ k, (h (ix2 r k) : EReal) * w (ix2 k n) := by
  pointwise [k0_pay42]

theorem gated_at (h : FVec Ideal S512x1024 .bf16) (w w' : Vec Ideal S1024x512 .bf16) (r n : Fin 512) :
    (k0_pay43 (F := Ideal) h w w' (ix2 r n) : EReal) = k0_pay42 h w (ix2 r n) * k0_pay42 h w' (ix2 r n) := by
  pointwise [k0_pay43, k0_pay42]

theorem last_at (h : FVec Ideal S512x1024 .bf16) (w w' : Vec Ideal S1024x512 .bf16) (i : Fin 8) (n : Fin 512) :
    (k0_pay45 (F := Ideal) h w w' (ix2 i n) : EReal) = k0_pay43 h w w' (ix2 ⟨504 + i, by omega⟩ n) := by
  pointwise [k0_pay45, k0_pay43]

theorem from1 : ∀ r : Fin 512, (IntOp.cmpi CmpIPredicate.sge (BitVec.ofNat 32 r.val) 1#32 = 1) ↔ 1 ≤ r.val := by
  decide +kernel

theorem from2 : ∀ r : Fin 512, (IntOp.cmpi CmpIPredicate.sge (BitVec.ofNat 32 r.val) 2#32 = 1) ↔ 2 ≤ r.val := by
  decide +kernel

theorem at1 : ∀ r : Fin 512, (IntOp.cmpi CmpIPredicate.eq (BitVec.ofNat 32 r.val) 1#32 = 1) ↔ r.val = 1 := by
  decide +kernel

theorem back1_at (h : FVec Ideal S512x1024 .bf16) (w w' : Vec Ideal S1024x512 .bf16) (p1 : Vec Ideal S1x512 .f32) (r n : Fin 512) :
    (k0_pay44 (F := Ideal) h w w' p1 (ix2 r n) : EReal) = if 1 ≤ r.val
      then (k0_pay43 h w w' (ix2 ⟨(r.val + 511) % 512, by omega⟩ n) : EReal) else p1 (ix2 0 n) := by
  pointwise [k0_pay44, k0_pay43]
  unfold Scalar.select
  simp only [from1]
  rfl

theorem back2_at (h : FVec Ideal S512x1024 .bf16) (w w' : Vec Ideal S1024x512 .bf16) (p1 p2 c0 : Vec Ideal S1x512 .f32) (r n : Fin 512) :
    (k0_pay46 (F := Ideal) h w w' p1 p2 c0 (ix2 r n) : EReal) = (c0 (ix2 0 n) : EReal) * (if 2 ≤ r.val
      then (k0_pay43 h w w' (ix2 ⟨(r.val + 510) % 512, by omega⟩ n) : EReal) else if r.val = 1 then p1 (ix2 0 n) else p2 (ix2 0 n)) := by
  pointwise [k0_pay46, k0_pay43]
  unfold Scalar.select
  simp only [from2, at1]
  rfl

theorem normed_at (a b c d : FVec Ideal S512x512 .f32) (e f g : Vec Ideal S1x512 .f32) (q : Vec Ideal S512x512 .bf16) (z : Fin 1) (r n : Fin 512)
    (y : Fin 512 → EReal) (hy : ∀ n, (a (ix2 r n) : EReal) * (d (ix2 r n) + e (ix2 0 n) * c (ix2 r n) + f (ix2 0 n) * b (ix2 r n)) = y n) :
    (k0_pay1 (F := Ideal) a b c d e f q g (ix3 z r n) : EReal)
      = y n * Ideal.rsqrt ((∑ k : Fin 512, y k * y k * q (ix2 k n)) + Ideal.ofBits FTy.f32 0x358637BD#32) * g (ix2 0 n) := by
  pointwise [k0_pay1]
  simp only [hy]

/-! ## Two tiles -/

theorem pair_idx {a b : ℕ} (x : (⟨4, ![1, 1, a, b]⟩ : Shape).Idx) (r : Fin a) (n : Fin b) (hr : (x 2).val = r.val)
    (hn : (x 3).val = n.val) : x = ix4 0 0 r n := by
  funext e
  match e with
  | ⟨0, _⟩ => exact Fin.ext (Nat.lt_one_iff.mp (x 0).isLt)
  | ⟨1, _⟩ => exact Fin.ext (Nat.lt_one_iff.mp (x 1).isLt)
  | ⟨2, _⟩ => exact Fin.ext hr
  | ⟨3, _⟩ => exact Fin.ext hn

theorem tiles_ks (P1 P0 : FVec Ideal S1x1x512x256 .bf16) (z : Fin 1) (g : Fin 2) (r : Fin 512) (n : Fin 256) :
    (View.canon (Val := Elt Ideal) (s := S1x2x512x256) (e := .bf16) [⟨Rect.unit ![0, 1, 0, 0] ![1, 1, 512, 256] inb_S1x2x512x256_S1x1x512x256_0_1_0_0, P1⟩,
      ⟨Rect.unit ![0, 0, 0, 0] ![1, 1, 512, 256] inb_S1x2x512x256_S1x1x512x256_0_0_0_0, P0⟩] (ix4 z g r n) : EReal)
      = if g.val = 0 then P0 (ix4 0 0 r n) else P1 (ix4 0 0 r n) := by
  canon_tiles x h
  · rw [if_neg (by intro e; have : g.val = 1 + (x 1).val := h1; omega)]
    exact congrArg P1 (pair_idx x _ _ h2.symm h3.symm)
  · have hx : (x 1).val < 1 := (x 1).isLt
    rw [if_pos (by have : g.val = (x 1).val := h1; omega)]
    exact congrArg P0 (pair_idx x _ _ h2.symm h3.symm)

theorem tiles_v (P1 P0 : FVec Ideal S1x1x80x512 .bf16) (z : Fin 1) (g : Fin 2) (r : Fin 80) (n : Fin 512) :
    (View.canon (Val := Elt Ideal) (s := S1x2x80x512) (e := .bf16) [⟨Rect.unit ![0, 1, 0, 0] ![1, 1, 80, 512] inb_S1x2x80x512_S1x1x80x512_0_1_0_0, P1⟩,
      ⟨Rect.unit ![0, 0, 0, 0] ![1, 1, 80, 512] inb_S1x2x80x512_S1x1x80x512_0_0_0_0, P0⟩] (ix4 z g r n) : EReal)
      = if g.val = 0 then P0 (ix4 0 0 r n) else P1 (ix4 0 0 r n) := by
  canon_tiles x h
  · rw [if_neg (by intro e; have : g.val = 1 + (x 1).val := h1; omega)]
    exact congrArg P1 (pair_idx x _ _ h2.symm h3.symm)
  · have hx : (x 1).val < 1 := (x 1).isLt
    rw [if_pos (by have : g.val = (x 1).val := h1; omega)]
    exact congrArg P0 (pair_idx x _ _ h2.symm h3.symm)

theorem tiles_kw (P1 P0 : FVec Ideal S1x1x512x64 .bf16) (z : Fin 1) (g : Fin 2) (r : Fin 512) (n : Fin 64) :
    (View.canon (Val := Elt Ideal) (s := S1x2x512x64) (e := .bf16) [⟨Rect.unit ![0, 1, 0, 0] ![1, 1, 512, 64] inb_S1x2x512x64_S1x1x512x64_0_1_0_0, P1⟩,
      ⟨Rect.unit ![0, 0, 0, 0] ![1, 1, 512, 64] inb_S1x2x512x64_S1x1x512x64_0_0_0_0, P0⟩] (ix4 z g r n) : EReal)
      = if g.val = 0 then P0 (ix4 0 0 r n) else P1 (ix4 0 0 r n) := by
  canon_tiles x h
  · rw [if_neg (by intro e; have : g.val = 1 + (x 1).val := h1; omega)]
    exact congrArg P1 (pair_idx x _ _ h2.symm h3.symm)
  · have hx : (x 1).val < 1 := (x 1).isLt
    rw [if_pos (by have : g.val = (x 1).val := h1; omega)]
    exact congrArg P0 (pair_idx x _ _ h2.symm h3.symm)

/-! ## The mean over a group -/

theorem sum_mul_real {ι : Type} (s : Finset ι) (f : ι → EReal) (hf : ∀ i, 0 ≤ f i) (q : EReal) :
    ∑ i ∈ s, f i * q = (∑ i ∈ s, f i) * q := by
  classical
  induction s using Finset.induction_on with
  | empty => simp
  | insert a s ha ih =>
    rw [Finset.sum_insert ha, Finset.sum_insert ha, ih,
      EReal.right_distrib_of_nonneg (hf a) (Finset.sum_nonneg fun i _ => hf i)]

theorem mul_self_nonneg' (x : EReal) : 0 ≤ x * x := by
  rcases le_total 0 x with h | h
  · exact EReal.mul_nonneg h h
  · have := EReal.mul_nonneg (EReal.neg_nonneg.mpr h) (EReal.neg_nonneg.mpr h)
    rwa [neg_mul_neg] at this

theorem group_sum (f : ℕ → EReal) (n : Fin 512) :
    (∑ k : Fin 512, if k.val / 64 = n.val / 64 then f k.val else 0) = ∑ k : Fin 64, f (n.val / 64 * 64 + k.val) := by
  rw [← Finset.sum_filter]
  symm
  refine Finset.sum_bij (fun (k : Fin 64) _ => (⟨n.val / 64 * 64 + k.val, by omega⟩ : Fin 512)) ?_ ?_ ?_ ?_
  · intro k _
    refine Finset.mem_filter.mpr ⟨Finset.mem_univ _, ?_⟩
    show (n.val / 64 * 64 + k.val) / 64 = n.val / 64
    omega
  · intro k _ k' _ e
    have := congrArg Fin.val e
    exact Fin.ext (Nat.add_left_cancel this)
  · intro b hb
    have e := (Finset.mem_filter.mp hb).2
    exact ⟨⟨b.val % 64, by omega⟩, Finset.mem_univ _, Fin.ext (show n.val / 64 * 64 + b.val % 64 = b.val by omega)⟩
  · intro k _
    rfl

theorem mean_sum (f : ℕ → EReal) (q : Fin 512 → EReal) (n : Fin 512) (hq : ∀ k : Fin 512, q k
      = Ideal.div (if k.val / 64 = n.val / 64 then (1 : EReal) else 0) (Ideal.ofBits FTy.f32 0x42800000#32)) :
    (∑ k : Fin 512, f k.val * f k.val * q k)
      = Ideal.div (∑ k : Fin 64, f (n.val / 64 * 64 + k.val) * f (n.val / 64 * 64 + k.val))
        (Ideal.ofBits FTy.f32 0x42800000#32) := by
  have e : Ideal.ofBits FTy.f32 0x42800000#32 = ((64 : ℝ) : EReal) := by
    simp [Ideal.ofBits, Ideal.ieee, -EReal.coe_mul]; norm_num
  simp only [hq, e, Ideal.div_coe (show (64 : ℝ) ≠ 0 by norm_num)]
  rw [← group_sum (fun k => f k * f k) n, ← sum_mul_real]
  · refine Finset.sum_congr rfl fun k _ => ?_
    split
    · rw [one_mul]
    · rw [zero_mul, mul_zero]
  · intro k
    split
    · exact mul_self_nonneg' _
    · exact le_refl _

/-! ## The constants -/

theorem scale_eq (x : EReal) : x * Named.named (F := Ideal) (φ := .f32) κ "scale" 0x3E38AA3B#32
    = Ideal.div (x * Ideal.ofBits FTy.f32 0x3E000000#32) (Ideal.log (Ideal.ofBits FTy.f32 0x40000000#32)) := by
  have e8 : Ideal.ofBits FTy.f32 0x3E000000#32 = ((1 / 8 : ℝ) : EReal) := by
    simp [Ideal.ofBits, Ideal.ieee, -EReal.coe_mul]; norm_num
  have e2 : Ideal.ofBits FTy.f32 0x40000000#32 = ((2 : ℝ) : EReal) := by
    simp [Ideal.ofBits, Ideal.ieee, -EReal.coe_mul]; norm_num
  have hl : Real.log 2 ≠ 0 := (Real.log_pos (by norm_num)).ne'
  have hs : Real.sqrt 64 = 8 := by
    rw [show (64 : ℝ) = 8 ^ 2 by norm_num]; exact Real.sqrt_sq (by norm_num)
  have hn : Named.named (F := Ideal) (φ := .f32) κ "scale" 0x3E38AA3B#32
      = (((Real.sqrt 64)⁻¹ * (Real.log 2)⁻¹ : ℝ) : EReal) := rfl
  rw [hn, e8, e2, Ideal.log_coe, if_neg (by norm_num), Ideal.div_coe hl, mul_assoc, ← EReal.coe_mul, hs]
  congr 2
  ring

end Cert.Kernel4Ideal.Inproj

end
-- ==== Proof.Inproj.Value.lean ====
/-
  What the input projection leaves in its eight results of the attention: the queries, the keys and values of the three
  branches, and the branches' gates, of the arguments.
-/
module

public import proofs.«01_k».proof.Proof.Inproj.Windows
public import proofs.«01_k».proof.Proof.Inproj.Tail
public import proofs.«01_k».proof.Proof.Gen.Kernel4Ideal.Value
public import Idealize.ShloMosaic.Lib.Claim

@[expose] public section

set_option maxRecDepth 65536

noncomputable section

open Idealize.ShloMosaic Idealize.ShloMosaic.TcCoe Idealize.SL.Sem
open Idealize.ShloMosaic.Pipeline (Dat)

namespace Cert.Kernel4Ideal.Inproj

open Cert.Kernel4Ideal Cert.Kernel4Ideal.Gen Cert.Plain

variable (m : (ℓ : Loc nD τ sig) → Buf (Elt Ideal) ℓ)

/-! ## One block's tokens and columns -/

theorem row_at (md : Vec Ideal S1x9x1024 .f32) (o : ℕ) (i : Fin 9) (hi : (i : ℕ) = o)
    (inb : ∀ a, (![0, o, 0] : Fin 3 → ℕ) a + S1x1x1024.size a ≤ S1x9x1024.size a) (k : Fin 1024) :
    (View.ld md (Rect.unit (s := S1x9x1024) ![0, o, 0] S1x1x1024.size inb) (ix3 0 0 k) : EReal) = md (ix3 0 i k) :=
  View.ld_unit_apply_of _ _ _ _ _ _ fun e => by
    match e with
    | ⟨0, _⟩ => rfl
    | ⟨1, _⟩ => exact hi
    | ⟨2, _⟩ => exact (Nat.zero_add _).symm

theorem tap_at (w : Vec Ideal S3x512 .f32) (o : ℕ) (i : Fin 3) (hi : (i : ℕ) = o)
    (inb : ∀ a, (![o, 0] : Fin 2 → ℕ) a + S1x512.size a ≤ S3x512.size a) (n : Fin 512) :
    (View.ld w (Rect.unit (s := S3x512) ![o, 0] S1x512.size inb) (ix2 0 n) : EReal) = w (ix2 i n) :=
  View.ld_unit_apply_of _ _ _ _ _ _ fun e => by
    match e with
    | ⟨0, _⟩ => exact hi
    | ⟨1, _⟩ => exact (Nat.zero_add _).symm

theorem ld512 (w : Vec Ideal S1024x2840 .bf16) (o : ℕ)
    (inb : ∀ a, (![0, o] : Fin 2 → ℕ) a + S1024x512.size a ≤ S1024x2840.size a) (k : Fin 1024) (j : Fin 512)
    (hj : o + j.val < 2840) :
    (View.ld w (Rect.unit (s := S1024x2840) ![0, o] S1024x512.size inb) (ix2 k j) : EReal) = w (ix2 k ⟨o + j.val, hj⟩) :=
  View.ld_unit_apply_of _ _ _ _ _ _ fun e => by
    match e with
    | ⟨0, _⟩ => exact (Nat.zero_add _).symm
    | ⟨1, _⟩ => rfl

theorem ld256 (w : Vec Ideal S1024x2840 .bf16) (o : ℕ)
    (inb : ∀ a, (![0, o] : Fin 2 → ℕ) a + S1024x256.size a ≤ S1024x2840.size a) (k : Fin 1024) (j : Fin 256)
    (hj : o + j.val < 2840) :
    (View.ld w (Rect.unit (s := S1024x2840) ![0, o] S1024x256.size inb) (ix2 k j) : EReal) = w (ix2 k ⟨o + j.val, hj⟩) :=
  View.ld_unit_apply_of _ _ _ _ _ _ fun e => by
    match e with
    | ⟨0, _⟩ => exact (Nat.zero_add _).symm
    | ⟨1, _⟩ => rfl

/-- The block's hidden tokens. -/
abbrev HID (c : Dev nD) (t : Fin cfg0.N) : FVec Ideal S512x1024 .bf16 :=
  k0_pay3 (F := Ideal) (iblk m c 0 t) (iblk m c 4 t)
    (View.ld (iblk m c 3 t) (Rect.unit ![0, 4, 0] ![1, 1, 1024] inb_S1x9x1024_S1x1x1024_0_4_0))
    (View.ld (iblk m c 3 t) (Rect.unit ![0, 3, 0] ![1, 1, 1024] inb_S1x9x1024_S1x1x1024_0_3_0))

theorem hid_at (c : Dev nD) (t : Fin cfg0.N) (r : Fin 512) (k : Fin 1024) :
    (HID m c t (ix2 r k) : EReal) = (args m c).hid (seqOf t) (tokOf t r) k := by
  refine (hidden_at _ _ _ _ r k).trans ?_
  unfold Args.hid
  have e0 : (fun k => (iblk m c 0 t (ix3 0 r k) : EReal)) = (args m c).x (seqOf t) (tokOf t r) :=
    funext fun k => tokens_w m c t r k
  have e1 : (fun k => (iblk m c 4 t (ix2 0 k) : EReal)) = (args m c).g := funext fun k => gain_w m c t k
  have e2 : (fun k => (View.ld (iblk m c 3 t) (Rect.unit ![0, 3, 0] ![1, 1, 1024] inb_S1x9x1024_S1x1x1024_0_3_0) (ix3 0 0 k) : EReal))
      = (args m c).md (seqOf t) 3 := funext fun k => (row_at _ 3 3 rfl _ k).trans (mod_w m c t 3 k)
  have e3 : (fun k => (View.ld (iblk m c 3 t) (Rect.unit ![0, 4, 0] ![1, 1, 1024] inb_S1x9x1024_S1x1x1024_0_4_0) (ix3 0 0 k) : EReal))
      = (args m c).md (seqOf t) 4 := funext fun k => (row_at _ 4 4 rfl _ k).trans (mod_w m c t 4 k)
  exact congrFun (congr (congr (congr (congrArg Plain.hidden e0) e1) e2) e3) k

theorem sum_at (c : Dev nD) (t : Fin cfg0.N) (r : Fin 512) (q : ℕ) (hq : q < 2840) :
    (∑ k : Fin 1024, (HID m c t (ix2 r k) : EReal) * (args m c).w k ⟨q, hq⟩)
      = (args m c).P (seqOf t) (tokOf t r) q := by
  unfold Args.P cols
  rw [← ext_mk (fun n : Fin 2840 => ∑ k, (args m c).hid (seqOf t) (tokOf t r) k * (args m c).w k n) q hq]
  exact Finset.sum_congr rfl fun k _ => congrArg (fun u : EReal => u * (args m c).w k ⟨q, hq⟩) (hid_at m c t r k)

theorem cols512 (c : Dev nD) (t : Fin cfg0.N) (r : Fin 512) (o : ℕ)
    (inb : ∀ a, (![0, o] : Fin 2 → ℕ) a + S1024x512.size a ≤ S1024x2840.size a) (ho : o + 512 ≤ 2840) :
    Cols (HID m c t) (fun k j => (View.ld (iblk m c 5 t) (Rect.unit (s := S1024x2840) ![0, o] S1024x512.size inb)
      (ix2 k j) : EReal)) r ((args m c).P (seqOf t) (tokOf t r)) o := by
  intro j
  have hj : o + j.val < 2840 := by omega
  refine Eq.trans (Finset.sum_congr rfl fun k _ => ?_) (sum_at m c t r _ hj)
  exact congrArg (fun u : EReal => (HID m c t (ix2 r k) : EReal) * u) ((ld512 _ o inb k j hj).trans (proj_w m c t k _))

theorem cols256 (c : Dev nD) (t : Fin cfg0.N) (r : Fin 512) (o : ℕ)
    (inb : ∀ a, (![0, o] : Fin 2 → ℕ) a + S1024x256.size a ≤ S1024x2840.size a) (ho : o + 256 ≤ 2840) :
    Cols (HID m c t) (fun k j => (View.ld (iblk m c 5 t) (Rect.unit (s := S1024x2840) ![0, o] S1024x256.size inb)
      (ix2 k j) : EReal)) r ((args m c).P (seqOf t) (tokOf t r)) o := by
  intro j
  have hj : o + j.val < 2840 := by omega
  refine Eq.trans (Finset.sum_congr rfl fun k _ => ?_) (sum_at m c t r _ hj)
  exact congrArg (fun u : EReal => (HID m c t (ix2 r k) : EReal) * u) ((ld256 _ o inb k j hj).trans (proj_w m c t k _))

theorem roped_w (c : Dev nD) (t : Fin cfg0.N) (r : Fin 512) (n : ℕ) :
    roped ((args m c).P (seqOf t) (tokOf t r)) (ext (packed (iblk m c 1 t) r)) (ext (packed (iblk m c 2 t) r)) n
      = (args m c).R (seqOf t) (tokOf t r) n := by
  rw [cos_w, sin_w]
  rfl

/-! ## The queries -/

theorem out12_w (t : Fin cfg0.N) (z : Fin 1) (l r : Fin 512) :
    (win0_12.blk t).view.emb (ix3 z l r) = ix3 (seqOf t) l (tokOf t r) := by
  blk_ext [index_o t, seqOf, tokOf]

theorem q_core (c : Dev nD) (t : Fin cfg0.N) (z : Fin 1) (l r : Fin 512) :
    (k0_pay16 (F := Ideal) (HID m c t) k0_pay4 (COS (iblk m c 1 t)) (k0_pay9 k0_pay4 k0_pay5 k0_pay6 (iblk m c 2 t))
        (k0_pay10 k0_pay4) (k0_pay11 k0_pay4 k0_pay5 k0_pay6 (iblk m c 2 t)) (k0_pay12 k0_pay4) k0_pay13
        (View.ld (iblk m c 5 t) (Rect.unit ![0, 1536] ![1024, 512] inb_S1024x2840_S1024x512_0_1536)) (ix3 z l r) : EReal)
      = (args m c).out1 (seqOf t) l (tokOf t r) := by
  refine (q_at _ _ _ r _ _ 1536 rfl (cols512 m c t r 1536 _ (by omega)) z l).trans ?_
  rw [roped_w, scale_eq]
  rfl

theorem q_block (c : Dev nD) (t : Fin cfg0.N) (z : Fin 1) (l r : Fin 512) :
    ((outsAt0 m c t.val t.isLt).2.1 (ix3 z l r) : EReal) = (args m c).out1 (seqOf t) l (tokOf t r) := by
  by_cases h : t.val % 16 = 0
  · rw [outsAt0_A m c t h]; frame_out; exact q_core m c t z l r
  · rw [outsAt0_B m c t h]; frame_out; exact q_core m c t z l r

theorem final12 (c : Dev nD) : (dats m 0 c).arrAt 12 cfg0.N
    = fun y : S2x512x8192.Idx => (args m c).out1 (y 0) (y 1) (y 2) := by
  refine (dats m 0 c).arrAt_eq_of_covers 12 _ (by decide +kernel) fun t _ y => ?_
  obtain ⟨z, l, r, rfl⟩ : ∃ (z : Fin 1) (l : Fin 512) (r : Fin 512), y = ix3 z l r := ⟨y 0, y 1, y 2, by idx_ext⟩
  blk_simp
  rw [after0_12]
  refine (q_block m c t z l r).trans ?_
  rw [out12_w]
  rfl

/-! ## The compressed branch's keys and values, and the gates -/

theorem out13_w (t : Fin cfg0.N) (z : Fin 1) (i : Fin 512) (j : Fin 128) :
    (win0_13.blk t).view.emb (ix3 z i j) = ix3 (seqOf t) (tokOf t i) j := by
  blk_ext [index_o t, seqOf, tokOf]

theorem kc_core (c : Dev nD) (t : Fin cfg0.N) (z : Fin 1) (i : Fin 512) (j : Fin 128) :
    (k0_pay18 (F := Ideal) (HID m c t) (COS (iblk m c 1 t)) (SIN (iblk m c 2 t)) (k0_pay15 k0_pay4)
      (View.ld (iblk m c 5 t) (Rect.unit ![0, 2048] ![1024, 256] inb_S1024x2840_S1024x256_0_2048)) (ix3 z i j) : EReal)
      = (args m c).out2 (seqOf t) (tokOf t i) j := by
  refine (kc_at _ _ _ i _ _ 2048 rfl (cols256 m c t i 2048 _ (by omega)) z j).trans ?_
  exact roped_w m c t i _

theorem kc_block (c : Dev nD) (t : Fin cfg0.N) (z : Fin 1) (i : Fin 512) (j : Fin 128) :
    ((outsAt0 m c t.val t.isLt).2.2.1 (ix3 z i j) : EReal) = (args m c).out2 (seqOf t) (tokOf t i) j := by
  by_cases h : t.val % 16 = 0
  · rw [outsAt0_A m c t h]; frame_out; exact kc_core m c t z i j
  · rw [outsAt0_B m c t h]; frame_out; exact kc_core m c t z i j

theorem final13 (c : Dev nD) : (dats m 0 c).arrAt 13 cfg0.N
    = fun y : S2x8192x128.Idx => (args m c).out2 (y 0) (y 1) (y 2) := by
  refine (dats m 0 c).arrAt_eq_of_covers 13 _ (by decide +kernel) fun t _ y => ?_
  obtain ⟨z, i, j, rfl⟩ : ∃ (z : Fin 1) (i : Fin 512) (j : Fin 128), y = ix3 z i j := ⟨y 0, y 1, y 2, by idx_ext⟩
  blk_simp
  rw [after0_13]
  refine (kc_block m c t z i j).trans ?_
  rw [out13_w]
  rfl

theorem out14_w (t : Fin cfg0.N) (z : Fin 1) (i : Fin 512) (j : Fin 128) :
    (win0_14.blk t).view.emb (ix3 z i j) = ix3 (seqOf t) (tokOf t i) j := by
  blk_ext [index_o t, seqOf, tokOf]

theorem vc_core (c : Dev nD) (t : Fin cfg0.N) (z : Fin 1) (i : Fin 512) (j : Fin 128) :
    (k0_pay19 (F := Ideal) (HID m c t)
      (View.ld (iblk m c 5 t) (Rect.unit ![0, 2048] ![1024, 256] inb_S1024x2840_S1024x256_0_2048)) (ix3 z i j) : EReal)
      = (args m c).out3 (seqOf t) (tokOf t i) j := by
  exact (vc_at _ i _ _ 2048 (cols256 m c t i 2048 _ (by omega)) z j).trans (congrArg _ (by omega))

theorem vc_block (c : Dev nD) (t : Fin cfg0.N) (z : Fin 1) (i : Fin 512) (j : Fin 128) :
    ((outsAt0 m c t.val t.isLt).2.2.2.1 (ix3 z i j) : EReal) = (args m c).out3 (seqOf t) (tokOf t i) j := by
  by_cases h : t.val % 16 = 0
  · rw [outsAt0_A m c t h]; frame_out; exact vc_core m c t z i j
  · rw [outsAt0_B m c t h]; frame_out; exact vc_core m c t z i j

theorem final14 (c : Dev nD) : (dats m 0 c).arrAt 14 cfg0.N
    = fun y : S2x8192x128.Idx => (args m c).out3 (y 0) (y 1) (y 2) := by
  refine (dats m 0 c).arrAt_eq_of_covers 14 _ (by decide +kernel) fun t _ y => ?_
  obtain ⟨z, i, j, rfl⟩ : ∃ (z : Fin 1) (i : Fin 512) (j : Fin 128), y = ix3 z i j := ⟨y 0, y 1, y 2, by idx_ext⟩
  blk_simp
  rw [after0_14]
  refine (vc_block m c t z i j).trans ?_
  rw [out14_w]
  rfl

theorem out19_w (t : Fin cfg0.N) (z : Fin 1) (i : Fin 256) (j : Fin 512) :
    (win0_19.blk t).view.emb (ix3 z i j) = ix3 (seqOf t) i (tokOf t j) := by
  blk_ext [index_o t, seqOf, tokOf]

theorem gate_core (c : Dev nD) (t : Fin cfg0.N) (z : Fin 1) (i : Fin 256) (j : Fin 512) :
    (k0_pay41 (F := Ideal) (HID m c t) (iblk m c 6 t) (ix3 z i j) : EReal)
      = (args m c).out8 (seqOf t) i (tokOf t j) := by
  refine gate_at _ j _ (fun i : Fin 256 => if i.val % 128 < 12 then
    (args m c).P (seqOf t) (tokOf t j) (2816 + (i.val / 128 * 12 + i.val % 128)) else 0) (fun l => ?_) z i
  simp only [gates_w]
  by_cases h : l.val % 128 < 12
  · simp only [dif_pos h, if_pos h]
    exact sum_at m c t j _ _
  · simp only [dif_neg h, if_neg h, mul_zero]
    exact Finset.sum_const_zero

theorem gate_block (c : Dev nD) (t : Fin cfg0.N) (z : Fin 1) (i : Fin 256) (j : Fin 512) :
    ((outsAt0 m c t.val t.isLt).2.2.2.2.2.2.2.2.1 (ix3 z i j) : EReal) = (args m c).out8 (seqOf t) i (tokOf t j) := by
  by_cases h : t.val % 16 = 0
  · rw [outsAt0_A m c t h]; frame_out; exact gate_core m c t z i j
  · rw [outsAt0_B m c t h]; frame_out; exact gate_core m c t z i j

theorem final19 (c : Dev nD) : (dats m 0 c).arrAt 19 cfg0.N
    = fun y : S2x256x8192.Idx => (args m c).out8 (y 0) (y 1) (y 2) := by
  refine (dats m 0 c).arrAt_eq_of_covers 19 _ (by decide +kernel) fun t _ y => ?_
  obtain ⟨z, i, j, rfl⟩ : ∃ (z : Fin 1) (i : Fin 256) (j : Fin 512), y = ix3 z i j := ⟨y 0, y 1, y 2, by idx_ext⟩
  blk_simp
  rw [after0_19]
  refine (gate_block m c t z i j).trans ?_
  rw [out19_w]
  rfl

/-! ## The selected and the windowed branch's keys and values -/

theorem out15_w (t : Fin cfg0.N) (z : Fin 1) (g : Fin 2) (i : Fin 512) (j : Fin 256) :
    (win0_15.blk t).view.emb (ix4 z g i j) = ix4 (seqOf t) g (tokOf t i) j := by
  blk_ext [index_o t, seqOf, tokOf]

theorem ks_core (c : Dev nD) (t : Fin cfg0.N) (z : Fin 1) (g : Fin 2) (i : Fin 512) (j : Fin 256) :
    (View.canon (Val := Elt Ideal) (s := S1x2x512x256) (e := .bf16)
      [⟨Rect.unit ![0, 1, 0, 0] ![1, 1, 512, 256] inb_S1x2x512x256_S1x1x512x256_0_1_0_0, k0_pay37 k0_pay29 (k0_pay35 (k0_pay21 (HID m c t) (COS (iblk m c 1 t)) (SIN (iblk m c 2 t)) (k0_pay15 k0_pay4)
        (View.ld (iblk m c 5 t) (Rect.unit ![0, 2304] ![1024, 256] inb_S1024x2840_S1024x256_0_2304)))) (k0_pay36 (iblk m c 10 t))⟩,
      ⟨Rect.unit ![0, 0, 0, 0] ![1, 1, 512, 256] inb_S1x2x512x256_S1x1x512x256_0_0_0_0, k0_pay31 (k0_pay21 (HID m c t) (COS (iblk m c 1 t)) (SIN (iblk m c 2 t)) (k0_pay15 k0_pay4)
        (View.ld (iblk m c 5 t) (Rect.unit ![0, 2304] ![1024, 256] inb_S1024x2840_S1024x256_0_2304))) (iblk m c 10 t)⟩] (ix4 z g i j) : EReal)
      = (args m c).out4 (seqOf t) g (tokOf t i) j := by
  rw [tiles_ks]
  split
  · rename_i hg
    rw [ksa0_at]
    unfold Args.out4
    split
    · exact block_w m c t i _
    · split
      · exact (ks_at _ _ _ i _ _ 2304 rfl (cols256 m c t i 2304 _ (by omega)) _).trans
          ((roped_w m c t i _).trans (congrArg _ (by show 2304 + (j.val - 128) = _; omega)))
      · rfl
  · rename_i hg
    have hg1 : g.val = 1 := by omega
    rw [ksa1_at]
    unfold Args.out4
    split
    · exact block_w m c t i _
    · split
      · exact (ks_at _ _ _ i _ _ 2304 rfl (cols256 m c t i 2304 _ (by omega)) _).trans
          ((roped_w m c t i _).trans (congrArg _ (by show 2304 + (64 + (j.val - 128)) = _; omega)))
      · rfl

theorem ks_block (c : Dev nD) (t : Fin cfg0.N) (z : Fin 1) (g : Fin 2) (i : Fin 512) (j : Fin 256) :
    ((outsAt0 m c t.val t.isLt).2.2.2.2.1 (ix4 z g i j) : EReal) = (args m c).out4 (seqOf t) g (tokOf t i) j := by
  by_cases h : t.val % 16 = 0
  · rw [outsAt0_A m c t h]; frame_out; exact ks_core m c t z g i j
  · rw [outsAt0_B m c t h]; frame_out; exact ks_core m c t z g i j

theorem final15 (c : Dev nD) : (dats m 0 c).arrAt 15 cfg0.N
    = fun y : S2x2x8192x256.Idx => (args m c).out4 (y 0) (y 1) (y 2) (y 3) := by
  refine (dats m 0 c).arrAt_eq_of_covers 15 _ (by decide +kernel) fun t _ y => ?_
  obtain ⟨z, g, i, j, rfl⟩ : ∃ (z : Fin 1) (g : Fin 2) (i : Fin 512) (j : Fin 256), y = ix4 z g i j :=
    ⟨y 0, y 1, y 2, y 3, by idx_ext⟩
  blk_simp
  rw [after0_15]
  refine (ks_block m c t z g i j).trans ?_
  rw [out15_w]
  rfl

theorem out16_w (t : Fin cfg0.N) (z : Fin 1) (g : Fin 2) (i : Fin 80) (j : Fin 512) :
    (win0_16.blk t).view.emb (ix4 z g i j) = ix4 (seqOf t) g i (tokOf t j) := by
  blk_ext [index_o t, seqOf, tokOf]

theorem vs_core (c : Dev nD) (t : Fin cfg0.N) (z : Fin 1) (g : Fin 2) (i : Fin 80) (j : Fin 512) :
    (View.canon (Val := Elt Ideal) (s := S1x2x80x512) (e := .bf16)
      [⟨Rect.unit ![0, 1, 0, 0] ![1, 1, 80, 512] inb_S1x2x80x512_S1x1x80x512_0_1_0_0, k0_pay39 (k0_pay22 (HID m c t) (View.ld (iblk m c 5 t) (Rect.unit ![0, 2304] ![1024, 256] inb_S1024x2840_S1024x256_0_2304))) k0_pay30⟩,
      ⟨Rect.unit ![0, 0, 0, 0] ![1, 1, 80, 512] inb_S1x2x80x512_S1x1x80x512_0_0_0_0, k0_pay33 (k0_pay22 (HID m c t) (View.ld (iblk m c 5 t) (Rect.unit ![0, 2304] ![1024, 256] inb_S1024x2840_S1024x256_0_2304)))⟩] (ix4 z g i j) : EReal)
      = (args m c).out5 (seqOf t) g i (tokOf t j) := by
  rw [tiles_v]
  split
  · rename_i hg
    rw [vsa0_at]
    unfold Args.out5
    split
    · exact (vs_at _ j _ _ 2304 (cols256 m c t j 2304 _ (by omega)) _).trans
        (congrArg _ (by show 2304 + 128 + i.val = _; omega))
    · rfl
  · rename_i hg
    have hg1 : g.val = 1 := by omega
    rw [vsa1_at]
    unfold Args.out5
    split
    · exact (vs_at _ j _ _ 2304 (cols256 m c t j 2304 _ (by omega)) _).trans
        (congrArg _ (by show 2304 + 128 + (64 + i.val) = _; omega))
    · rfl

theorem vs_block (c : Dev nD) (t : Fin cfg0.N) (z : Fin 1) (g : Fin 2) (i : Fin 80) (j : Fin 512) :
    ((outsAt0 m c t.val t.isLt).2.2.2.2.2.1 (ix4 z g i j) : EReal) = (args m c).out5 (seqOf t) g i (tokOf t j) := by
  by_cases h : t.val % 16 = 0
  · rw [outsAt0_A m c t h]; frame_out; exact vs_core m c t z g i j
  · rw [outsAt0_B m c t h]; frame_out; exact vs_core m c t z g i j

theorem final16 (c : Dev nD) : (dats m 0 c).arrAt 16 cfg0.N
    = fun y : S2x2x80x8192.Idx => (args m c).out5 (y 0) (y 1) (y 2) (y 3) := by
  refine (dats m 0 c).arrAt_eq_of_covers 16 _ (by decide +kernel) fun t _ y => ?_
  obtain ⟨z, g, i, j, rfl⟩ : ∃ (z : Fin 1) (g : Fin 2) (i : Fin 80) (j : Fin 512), y = ix4 z g i j :=
    ⟨y 0, y 1, y 2, y 3, by idx_ext⟩
  blk_simp
  rw [after0_16]
  refine (vs_block m c t z g i j).trans ?_
  rw [out16_w]
  rfl

theorem out17_w (t : Fin cfg0.N) (z : Fin 1) (g : Fin 2) (i : Fin 512) (j : Fin 64) :
    (win0_17.blk t).view.emb (ix4 z g i j) = ix4 (seqOf t) g (tokOf t i) j := by
  blk_ext [index_o t, seqOf, tokOf]

theorem kw_core (c : Dev nD) (t : Fin cfg0.N) (z : Fin 1) (g : Fin 2) (i : Fin 512) (j : Fin 64) :
    (View.canon (Val := Elt Ideal) (s := S1x2x512x64) (e := .bf16)
      [⟨Rect.unit ![0, 1, 0, 0] ![1, 1, 512, 64] inb_S1x2x512x64_S1x1x512x64_0_1_0_0, k0_pay38 (k0_pay27 (COS (iblk m c 1 t)) (SIN (iblk m c 2 t)) (k0_pay15 k0_pay4) (k0_pay24 (HID m c t) (View.ld (iblk m c 5 t) (Rect.unit ![0, 2560] ![1024, 256] inb_S1024x2840_S1024x256_0_2560))) (k0_pay25 (HID m c t) (View.ld (iblk m c 5 t) (Rect.unit ![0, 2560] ![1024, 256] inb_S1024x2840_S1024x256_0_2560)))
        (k0_pay26 (HID m c t) (View.ld (iblk m c 5 t) (Rect.unit ![0, 2560] ![1024, 256] inb_S1024x2840_S1024x256_0_2560))))⟩,
      ⟨Rect.unit ![0, 0, 0, 0] ![1, 1, 512, 64] inb_S1x2x512x64_S1x1x512x64_0_0_0_0, k0_pay32 (COS (iblk m c 1 t)) (SIN (iblk m c 2 t)) (k0_pay15 k0_pay4) (k0_pay24 (HID m c t) (View.ld (iblk m c 5 t) (Rect.unit ![0, 2560] ![1024, 256] inb_S1024x2840_S1024x256_0_2560))) (k0_pay25 (HID m c t) (View.ld (iblk m c 5 t) (Rect.unit ![0, 2560] ![1024, 256] inb_S1024x2840_S1024x256_0_2560)))
        (k0_pay26 (HID m c t) (View.ld (iblk m c 5 t) (Rect.unit ![0, 2560] ![1024, 256] inb_S1024x2840_S1024x256_0_2560)))⟩] (ix4 z g i j) : EReal)
      = (args m c).out6 (seqOf t) g (tokOf t i) j := by
  rw [tiles_kw]
  split
  · rename_i hg
    rw [kw0_at]
    exact (kw_at _ _ _ i _ _ 2560 rfl (cols256 m c t i 2560 _ (by omega)) _).trans
      ((roped_w m c t i _).trans (congrArg _ (by show 2560 + j.val = _; omega)))
  · rename_i hg
    have hg1 : g.val = 1 := by omega
    rw [kw1_at]
    exact (kw_at _ _ _ i _ _ 2560 rfl (cols256 m c t i 2560 _ (by omega)) _).trans
      ((roped_w m c t i _).trans (congrArg _ (by show 2560 + (64 + j.val) = _; omega)))

theorem kw_block (c : Dev nD) (t : Fin cfg0.N) (z : Fin 1) (g : Fin 2) (i : Fin 512) (j : Fin 64) :
    ((outsAt0 m c t.val t.isLt).2.2.2.2.2.2.1 (ix4 z g i j) : EReal) = (args m c).out6 (seqOf t) g (tokOf t i) j := by
  by_cases h : t.val % 16 = 0
  · rw [outsAt0_A m c t h]; frame_out; exact kw_core m c t z g i j
  · rw [outsAt0_B m c t h]; frame_out; exact kw_core m c t z g i j

theorem final17 (c : Dev nD) : (dats m 0 c).arrAt 17 cfg0.N
    = fun y : S2x2x8192x64.Idx => (args m c).out6 (y 0) (y 1) (y 2) (y 3) := by
  refine (dats m 0 c).arrAt_eq_of_covers 17 _ (by decide +kernel) fun t _ y => ?_
  obtain ⟨z, g, i, j, rfl⟩ : ∃ (z : Fin 1) (g : Fin 2) (i : Fin 512) (j : Fin 64), y = ix4 z g i j :=
    ⟨y 0, y 1, y 2, y 3, by idx_ext⟩
  blk_simp
  rw [after0_17]
  refine (kw_block m c t z g i j).trans ?_
  rw [out17_w]
  rfl

theorem out18_w (t : Fin cfg0.N) (z : Fin 1) (g : Fin 2) (i : Fin 80) (j : Fin 512) :
    (win0_18.blk t).view.emb (ix4 z g i j) = ix4 (seqOf t) g i (tokOf t j) := by
  blk_ext [index_o t, seqOf, tokOf]

theorem vw_core (c : Dev nD) (t : Fin cfg0.N) (z : Fin 1) (g : Fin 2) (i : Fin 80) (j : Fin 512) :
    (View.canon (Val := Elt Ideal) (s := S1x2x80x512) (e := .bf16)
      [⟨Rect.unit ![0, 1, 0, 0] ![1, 1, 80, 512] inb_S1x2x80x512_S1x1x80x512_0_1_0_0, k0_pay40 (k0_pay28 (k0_pay23 (HID m c t) (View.ld (iblk m c 5 t) (Rect.unit ![0, 2560] ![1024, 256] inb_S1024x2840_S1024x256_0_2560)))) k0_pay30⟩,
      ⟨Rect.unit ![0, 0, 0, 0] ![1, 1, 80, 512] inb_S1x2x80x512_S1x1x80x512_0_0_0_0, k0_pay34 (k0_pay23 (HID m c t) (View.ld (iblk m c 5 t) (Rect.unit ![0, 2560] ![1024, 256] inb_S1024x2840_S1024x256_0_2560)))⟩] (ix4 z g i j) : EReal)
      = (args m c).out7 (seqOf t) g i (tokOf t j) := by
  rw [tiles_v]
  split
  · rename_i hg
    rw [vwa0_at]
    unfold Args.out7
    split
    · exact (vw_at _ j _ _ 2560 (cols256 m c t j 2560 _ (by omega)) _).trans
        (congrArg _ (by show 2560 + 128 + i.val = _; omega))
    · rfl
  · rename_i hg
    have hg1 : g.val = 1 := by omega
    rw [vwa1_at]
    unfold Args.out7
    split
    · exact (vw_at _ j _ _ 2560 (cols256 m c t j 2560 _ (by omega)) _).trans
        (congrArg _ (by show 2560 + 128 + (64 + i.val) = _; omega))
    · rfl

theorem vw_block (c : Dev nD) (t : Fin cfg0.N) (z : Fin 1) (g : Fin 2) (i : Fin 80) (j : Fin 512) :
    ((outsAt0 m c t.val t.isLt).2.2.2.2.2.2.2.1 (ix4 z g i j) : EReal) = (args m c).out7 (seqOf t) g i (tokOf t j) := by
  by_cases h : t.val % 16 = 0
  · rw [outsAt0_A m c t h]; frame_out; exact vw_core m c t z g i j
  · rw [outsAt0_B m c t h]; frame_out; exact vw_core m c t z g i j

theorem final18 (c : Dev nD) : (dats m 0 c).arrAt 18 cfg0.N
    = fun y : S2x2x80x8192.Idx => (args m c).out7 (y 0) (y 1) (y 2) (y 3) := by
  refine (dats m 0 c).arrAt_eq_of_covers 18 _ (by decide +kernel) fun t _ y => ?_
  obtain ⟨z, g, i, j, rfl⟩ : ∃ (z : Fin 1) (g : Fin 2) (i : Fin 80) (j : Fin 512), y = ix4 z g i j :=
    ⟨y 0, y 1, y 2, y 3, by idx_ext⟩
  blk_simp
  rw [after0_18]
  refine (vw_block m c t z g i j).trans ?_
  rw [out18_w]
  rfl

end Cert.Kernel4Ideal.Inproj

end
-- ==== Proof.Inproj.Conv.lean ====
/-
  What the input projection leaves in the convolution's result: the gated convolution of the last three tokens over its
  group's root mean square, of the arguments. A block's first two tokens read the two before them from the scratch
  buffer that the point before left, zeros at a sequence's first block.
-/
module

public import proofs.«01_k».proof.Proof.Inproj.Value

@[expose] public section

set_option maxRecDepth 65536

noncomputable section

open Idealize.ShloMosaic Idealize.ShloMosaic.TcCoe Idealize.SL.Sem
open Idealize.ShloMosaic.Pipeline (Dat)

namespace Cert.Kernel4Ideal.Inproj

open Cert.Kernel4Ideal Cert.Kernel4Ideal.Gen Cert.Plain

variable (m : (ℓ : Loc nD τ sig) → Buf (Elt Ideal) ℓ)

/-! ## One block's gated channels -/

/-- Three groups of 512 columns of the projection. -/
abbrev W0 (c : Dev nD) (t : Fin cfg0.N) : Vec Ideal S1024x512 .bf16 :=
  View.ld (iblk m c 5 t) (Rect.unit ![0, 0] ![1024, 512] inb_S1024x2840_S1024x512_0_0)
abbrev W1 (c : Dev nD) (t : Fin cfg0.N) : Vec Ideal S1024x512 .bf16 :=
  View.ld (iblk m c 5 t) (Rect.unit ![0, 512] ![1024, 512] inb_S1024x2840_S1024x512_0_512)
abbrev W2 (c : Dev nD) (t : Fin cfg0.N) : Vec Ideal S1024x512 .bf16 :=
  View.ld (iblk m c 5 t) (Rect.unit ![0, 1024] ![1024, 512] inb_S1024x2840_S1024x512_0_1024)

theorem p_w (c : Dev nD) (t : Fin cfg0.N) (r n : Fin 512) :
    (k0_pay42 (F := Ideal) (HID m c t) (W0 m c t) (ix2 r n) : EReal) = (args m c).P (seqOf t) (tokOf t r) n := by
  refine (proj_at _ _ r n).trans ((cols512 m c t r 0 _ (by omega) n).trans ?_)
  rw [Nat.zero_add]

theorem u_w (c : Dev nD) (t : Fin cfg0.N) (r n : Fin 512) :
    (k0_pay43 (F := Ideal) (HID m c t) (W1 m c t) (W2 m c t) (ix2 r n) : EReal)
      = gated ((args m c).P (seqOf t) (tokOf t r)) n := by
  refine (gated_at _ _ _ r n).trans ?_
  exact congrArg₂ (fun a b : EReal => a * b) ((proj_at _ _ r n).trans (cols512 m c t r 512 _ (by omega) n))
    ((proj_at _ _ r n).trans (cols512 m c t r 1024 _ (by omega) n))

theorem back_in (c : Dev nD) (t : Fin cfg0.N) (d : ℕ) (r r' : Fin 512) (n : ℕ) (h : r.val = r'.val + d) :
    gated ((args m c).P (seqOf t) (tokOf t r')) n = (args m c).back d (seqOf t) (tokOf t r) n := by
  unfold Args.back
  have e : (tokOf t r).val = t.val % 16 * 512 + r.val := rfl
  rw [dif_pos (by omega)]
  exact congrArg (fun s => gated ((args m c).P (seqOf t) s) n) (Fin.ext (by
    show t.val % 16 * 512 + r'.val = (tokOf t r).val - d
    omega))

/-! ## One block's result -/

theorem y_core (c : Dev nD) (t : Fin cfg0.N) (p1 p2 : Vec Ideal S1x512 .f32)
    (h1 : ∀ n : Fin 512, (p1 (ix2 0 n) : EReal) = (args m c).back 1 (seqOf t) (tokOf t 0) n)
    (h1' : ∀ n : Fin 512, (p1 (ix2 0 n) : EReal) = (args m c).back 2 (seqOf t) (tokOf t 1) n)
    (h2 : ∀ n : Fin 512, (p2 (ix2 0 n) : EReal) = (args m c).back 2 (seqOf t) (tokOf t 0) n)
    (z : Fin 1) (r n : Fin 512) :
    (k0_pay1 (F := Ideal) (k0_pay42 (HID m c t) (W0 m c t)) (k0_pay43 (HID m c t) (W1 m c t) (W2 m c t))
      (k0_pay44 (HID m c t) (W1 m c t) (W2 m c t) p1)
      (k0_pay46 (HID m c t) (W1 m c t) (W2 m c t) p1 p2
        (View.ld (iblk m c 7 t) (Rect.unit ![0, 0] ![1, 512] inb_S3x512_S1x512_0_0)))
      (View.ld (iblk m c 7 t) (Rect.unit ![1, 0] ![1, 512] inb_S3x512_S1x512_1_0))
      (View.ld (iblk m c 7 t) (Rect.unit ![2, 0] ![1, 512] inb_S3x512_S1x512_2_0))
      (iblk m c 9 t) (iblk m c 8 t) (ix3 z r n) : EReal)
      = (args m c).out0 (seqOf t) (tokOf t r) n := by
  have hb1 : ∀ n : Fin 512, (k0_pay44 (F := Ideal) (HID m c t) (W1 m c t) (W2 m c t) p1 (ix2 r n) : EReal)
      = (args m c).back 1 (seqOf t) (tokOf t r) n := fun n => by
    refine (back1_at _ _ _ p1 r n).trans ?_
    split
    · rename_i h
      exact (u_w m c t _ n).trans (back_in m c t 1 r _ n (by show r.val = (r.val + 511) % 512 + 1; omega))
    · rename_i h
      rw [h1, show r = 0 from Fin.ext (by show r.val = 0; omega)]
  have hb2 : ∀ n : Fin 512, (k0_pay46 (F := Ideal) (HID m c t) (W1 m c t) (W2 m c t) p1 p2
        (View.ld (iblk m c 7 t) (Rect.unit ![0, 0] ![1, 512] inb_S3x512_S1x512_0_0)) (ix2 r n) : EReal)
      = ext ((args m c).cw 0) n * (args m c).back 2 (seqOf t) (tokOf t r) n := fun n => by
    refine (back2_at _ _ _ p1 p2 _ r n).trans (congrArg₂ (fun a b : EReal => a * b) ?_ ?_)
    · exact (tap_at _ 0 0 rfl _ n).trans ((taps_w m c t 0 n).trans (ext_fin _ n))
    split
    · rename_i h
      exact (u_w m c t _ n).trans (back_in m c t 2 r _ n (by show r.val = (r.val + 510) % 512 + 2; omega))
    · split
      · rename_i h h'
        rw [h1', show r = 1 from Fin.ext h']
      · rename_i h h'
        rw [h2, show r = 0 from Fin.ext (by show r.val = 0; omega)]
  refine (normed_at _ _ _ _ _ _ _ _ z r n (fun n => (args m c).y (seqOf t) (tokOf t r) n) (fun n => ?_)).trans ?_
  · rw [p_w, hb1, hb2, u_w]
    unfold Args.y conv
    have e1 : (View.ld (iblk m c 7 t) (Rect.unit ![1, 0] ![1, 512] inb_S3x512_S1x512_1_0) (ix2 0 n) : EReal)
      = ext ((args m c).cw 1) n := (tap_at _ 1 1 rfl _ n).trans ((taps_w m c t 1 n).trans (ext_fin _ n))
    have e2 : (View.ld (iblk m c 7 t) (Rect.unit ![2, 0] ![1, 512] inb_S3x512_S1x512_2_0) (ix2 0 n) : EReal)
      = ext ((args m c).cw 2) n := (tap_at _ 2 2 rfl _ n).trans ((taps_w m c t 2 n).trans (ext_fin _ n))
    rw [e1, e2]
  · unfold Args.out0 grouped
    rw [mean_sum ((args m c).y (seqOf t) (tokOf t r)) _ n (fun k => mean_w m c t k n), last_w, ext_fin ((args m c).gc) n]

/-! ## The carried channels -/

theorem carried (c : Dev nD) (t : Fin cfg0.N) : (outsAt0 m c t.val t.isLt).2.2.2.2.2.2.2.2.2
    = k0_pay45 (F := Ideal) (HID m c t) (W1 m c t) (W2 m c t) := by
  by_cases h : t.val % 16 = 0
  · rw [outsAt0_A m c t h]; frame_out; rfl
  · rw [outsAt0_B m c t h]; frame_out; rfl

theorem row_of (v : Vec Ideal S8x512 .f32) (o : ℕ) (i : Fin 8) (hi : (i : ℕ) = o)
    (inb : ∀ a, (![o, 0] : Fin 2 → ℕ) a + S1x512.size a ≤ S8x512.size a) (n : Fin 512) :
    (View.ld v (Rect.unit (s := S8x512) ![o, 0] S1x512.size inb) (ix2 0 n) : EReal) = v (ix2 i n) :=
  View.ld_unit_apply_of _ _ _ _ _ _ fun e => by
    match e with
    | ⟨0, _⟩ => exact hi
    | ⟨1, _⟩ => exact (Nat.zero_add _).symm

theorem zeros_at (i : Fin 8) (n : Fin 512) :
    (View.canon (Val := Elt Ideal) (s := S8x512) (e := .f32)
      [⟨Rect.unit ![0, 0] ![8, 512] inb_S8x512_S8x512_0_0, k0_pay2 (F := Ideal)⟩] (ix2 i n) : EReal) = 0 := by
  canon_tiles x h
  pointwise [k0_pay2]

theorem read_zeros (v : View sig .tc .vmem S8x512 .f32) (r : Rect S8x512) : v.readCov (Val := Elt Ideal)
      [⟨Rect.unit ![0, 0] ![8, 512] inb_S8x512_S8x512_0_0, k0_pay2 (F := Ideal)⟩] r.toLoadRect
      = View.ld (View.canon (Val := Elt Ideal) (s := S8x512) (e := .f32)
        [⟨Rect.unit ![0, 0] ![8, 512] inb_S8x512_S8x512_0_0, k0_pay2 (F := Ideal)⟩]) r := by
  rw [View.readCov_eq_canon_ld _ _ _ (View.cover_of_tiled_head _ _ _ (by rfl))]

theorem carry_at (c : Dev nD) (t : Fin cfg0.N) (h : ¬t.val % 16 = 0) (hn : t.val - 1 < cfg0.N) (i : Fin 8) (n : Fin 512)
    (d : ℕ) (r : Fin 512) (hd : 8 + r.val = i.val + d) (h1 : r.val < d) :
    ((outsAt0 m c (t.val - 1) hn).2.2.2.2.2.2.2.2.2 (ix2 i n) : EReal)
      = (args m c).back d (seqOf t) (tokOf t r) n := by
  refine (congrFun (carried m c ⟨t.val - 1, hn⟩) (ix2 i n)).trans ((last_at _ _ _ i n).trans ((u_w m c _ _ n).trans ?_))
  have ht := point_lt t
  have e : (tokOf t r).val = t.val % 16 * 512 + r.val := rfl
  unfold Args.back
  rw [dif_pos (by omega)]
  refine congrArg₂ (fun b s => gated ((args m c).P b s) n) (Fin.ext ?_) (Fin.ext ?_)
  · show (t.val - 1) / 16 = t.val / 16
    omega
  · show (t.val - 1) % 16 * 512 + (504 + i.val) = (tokOf t r).val - d
    omega

theorem back_zero (c : Dev nD) (t : Fin cfg0.N) (h : t.val % 16 = 0) (d : ℕ) (r : Fin 512) (h1 : r.val < d) (n : ℕ) :
    (0 : EReal) = (args m c).back d (seqOf t) (tokOf t r) n := by
  unfold Args.back
  have e : (tokOf t r).val = t.val % 16 * 512 + r.val := rfl
  rw [dif_neg (by omega)]

theorem out11_w (t : Fin cfg0.N) (z : Fin 1) (r n : Fin 512) :
    (win0_11.blk t).view.emb (ix3 z r n) = ix3 (seqOf t) (tokOf t r) n := by
  blk_ext [index_o t, seqOf, tokOf]

theorem y_block (c : Dev nD) (t : Fin cfg0.N) (z : Fin 1) (r n : Fin 512) :
    ((outsAt0 m c t.val t.isLt).1 (ix3 z r n) : EReal) = (args m c).out0 (seqOf t) (tokOf t r) n := by
  by_cases h : t.val % 16 = 0
  · rw [outsAt0_A m c t h]; frame_out
    simp only [read_zeros]
    exact y_core m c t _ _
      (fun n => (row_of _ 7 7 rfl _ n).trans ((zeros_at 7 n).trans (back_zero m c t h 1 0 (by decide) n)))
      (fun n => (row_of _ 7 7 rfl _ n).trans ((zeros_at 7 n).trans (back_zero m c t h 2 1 (by decide) n)))
      (fun n => (row_of _ 6 6 rfl _ n).trans ((zeros_at 6 n).trans (back_zero m c t h 2 0 (by decide) n))) z r n
  · rw [outsAt0_B m c t h]; frame_out
    simp only [read_unread_whole]
    exact y_core m c t _ _
      (fun n => (row_of _ 7 7 rfl _ n).trans (carry_at m c t h _ 7 n 1 0 (by decide) (by decide)))
      (fun n => (row_of _ 7 7 rfl _ n).trans (carry_at m c t h _ 7 n 2 1 (by decide) (by decide)))
      (fun n => (row_of _ 6 6 rfl _ n).trans (carry_at m c t h _ 6 n 2 0 (by decide) (by decide))) z r n

theorem final11 (c : Dev nD) : (dats m 0 c).arrAt 11 cfg0.N
    = fun y : S2x8192x512.Idx => (args m c).out0 (y 0) (y 1) (y 2) := by
  refine (dats m 0 c).arrAt_eq_of_covers 11 _ (by decide +kernel) fun t _ y => ?_
  obtain ⟨z, r, n, rfl⟩ : ∃ (z : Fin 1) (r n : Fin 512), y = ix3 z r n := ⟨y 0, y 1, y 2, by idx_ext⟩
  blk_simp
  rw [after0_11]
  refine (y_block m c t z r n).trans ?_
  rw [out11_w]
  rfl

end Cert.Kernel4Ideal.Inproj

end
-- ==== Proof.Inproj.Ref.lean ====
/-
  The input projection's reference, result by result.
-/
module

public import proofs.«01_k».proof.Proof.Gen.Reference4Ideal.Run
public import Idealize.ShloMosaic.Lib.Pointwise
public import Idealize.ShloMosaic.Lib.Claim
public import proofs.«01_k».proof.Proof.Inproj.Plain
public import proofs.«01_k».proof.Proof.Inproj.Iota

@[expose] public section

set_option maxRecDepth 65536

noncomputable section

open Idealize.ShloMosaic Idealize.ShloMosaic.TcCoe Idealize.ShloMosaic.StableHlo Idealize.SL.Sem

namespace Cert.Reference4Ideal.Inproj

open Cert.Reference4Ideal Cert.Reference4Ideal.Value Cert.Plain

variable (m : (ℓ : Loc nD τ sig) → Buf (Elt Ideal) ℓ) (c : Dev nD)

/-- The arguments. -/
def args : Args where
  x b s k := m ((c.tc : Thread nD τ).loc main_arg0) (ix3 b s k)
  co b s e := m ((c.tc : Thread nD τ).loc main_arg1) (ix3 b s e)
  si b s e := m ((c.tc : Thread nD τ).loc main_arg2) (ix3 b s e)
  md b i k := m ((c.tc : Thread nD τ).loc main_arg3) (ix3 b i k)
  g k := m ((c.tc : Thread nD τ).loc main_arg4) (ix1 k)
  w k n := m ((c.tc : Thread nD τ).loc main_arg5) (ix2 k n)
  cw i n := m ((c.tc : Thread nD τ).loc main_arg6) (ix2 i n)
  gc n := m ((c.tc : Thread nD τ).loc main_arg7) (ix1 n)

theorem zero_int : (FloatOps.sitofp (F := Ideal) FTy.f32 0#32 : EReal) = 0 := by
  show ((((0#32 : BitVec 32).toInt : ℝ)) : EReal) = 0
  simp

theorem proj_at (b : Fin 2) (s : Fin 8192) (i : ℕ) (hi : i < 2840) :
    (res_main_v21 (launchContents m c) (ix3 b s ⟨i, hi⟩) : EReal) = (args m c).P b s i := by
  unfold Args.P cols
  rw [← ext_mk (fun n : Fin 2840 => ∑ k, (args m c).hid b s k * (args m c).w k n) i hi]
  pointwise [res_main_v21]
  rfl

theorem conv_of (p b2 b1 : ℕ → EReal) (k : Fin 3 → ℕ → EReal) (n : ℕ) (q a0 a1 a2 x2 x1 u : EReal) (hq : q = p n)
    (h0 : a0 = k 0 n) (h2 : x2 = b2 n) (h1 : a1 = k 1 n) (hx : x1 = b1 n) (ha : a2 = k 2 n) (hu : u = gated p n) :
    q * (a0 * x2 + a1 * x1 + a2 * u) = conv p b2 b1 k n := by
  subst hq h0 h2 h1 hx ha hu; rfl

set_option maxHeartbeats 4000000 in
theorem y_at (b : Fin 2) (s : Fin 8192) (g : Fin 8) (d : Fin 64) :
    (res_main_v56 (launchContents m c) (ix4 b s g d) : EReal) = (args m c).y b s (g.val * 64 + d.val) := by
  have hn : g.val * 64 + d.val < 512 := by omega
  pointwise [res_main_v56, res_main_v34]
  simp only [proj_at]
  unfold Args.y
  refine conv_of _ _ _ _ _ _ _ _ _ _ _ _ rfl ?_ ?_ ?_ ?_ ?_ ?_
  · exact ext_mk ((args m c).cw 0) _ hn
  · unfold Args.back gated
    split
    · rename_i h; rw [dif_pos (by omega)]
    · rename_i h; rw [dif_neg (by omega), zero_int]
  · exact ext_mk ((args m c).cw 1) _ hn
  · unfold Args.back gated
    split
    · rename_i h; rw [dif_pos (by omega)]
      exact congrArg (fun q => (args m c).P b q (512 + (g.val * 64 + d.val)) * (args m c).P b q (1024 + (g.val * 64 + d.val)))
        (Fin.ext (show 1 + s.val - 2 = s.val - 1 by omega))
    · rename_i h; rw [dif_neg (by omega), zero_int]
  · exact ext_mk ((args m c).cw 2) _ hn
  · unfold gated
    rw [dif_pos hn]

theorem res0 (b : Fin 2) (s : Fin 8192) (n : Fin 512) : (val4 (launchContents m c) (Proc.devRef .tc main_v125) (ix3 b s n) : EReal) = (args m c).out0 b s n := by
  rw [val4_main_v125]
  pointwise []
  simp only [y_at]
  unfold Args.out0 grouped
  rw [show n.val / 64 * 64 + n.val % 64 = n.val by omega]
  refine congrArg₂ (· * ·) rfl ?_
  exact ext_fin (args m c).gc n

theorem res1 (b : Fin 2) (n : Fin 512) (s : Fin 8192) : (val4 (launchContents m c) (Proc.devRef .tc main_v126) (ix3 b n s) : EReal) = (args m c).out1 b n s := by
  rw [val4_main_v126]
  pointwise [res_main_v71, res_main_v72, res_main_v73, res_main_v75, res_main_v76]
  simp only [proj_at]
  refine congrArg₂ (fun u v : EReal => Ideal.div (u * Ideal.ofBits FTy.f32 0x3E000000#32) v) ?_ rfl
  unfold Args.R
  split
  · rename_i h; refine roped_lo _ ((args m c).co b s) ((args m c).si b s) _ _ _ _ h ?_ ?_ ?_ <;> omega
  · split
    · rename_i h0 h; refine roped_hi _ ((args m c).co b s) ((args m c).si b s) _ _ _ _ h ?_ ?_ ?_ <;> omega
    · refine roped_no _ _ _ _ _ ?_ ?_ <;> omega

theorem res2 (b : Fin 2) (s : Fin 8192) (n : Fin 128) : (val4 (launchContents m c) (Proc.devRef .tc main_v144) (ix3 b s n) : EReal) = (args m c).out2 b s n := by
  rw [val4_main_v144]
  pointwise [res_main_v127, res_main_v128, res_main_v129, res_main_v131, res_main_v132]
  simp only [proj_at]
  unfold Args.out2 Args.R
  split
  · rename_i h; refine roped_lo _ ((args m c).co b s) ((args m c).si b s) _ _ _ _ h ?_ ?_ ?_ <;> omega
  · split
    · rename_i h0 h; refine roped_hi _ ((args m c).co b s) ((args m c).si b s) _ _ _ _ h ?_ ?_ ?_ <;> omega
    · refine roped_no _ _ _ _ _ ?_ ?_ <;> omega

theorem res3 (b : Fin 2) (s : Fin 8192) (n : Fin 128) : (val4 (launchContents m c) (Proc.devRef .tc main_v27) (ix3 b s n) : EReal) = (args m c).out3 b s n := by
  rw [val4_main_v27]
  pointwise []
  simp only [proj_at]
  rfl

theorem res4 (b g : Fin 2) (s : Fin 8192) (n : Fin 256) : (val4 (launchContents m c) (Proc.devRef .tc main_v145) (ix4 b g s n) : EReal) = (args m c).out4 b g s n := by
  rw [val4_main_v145]
  pointwise [id_eq, res_main_v96, res_main_v101, res_main_v102, res_main_v103, res_main_v105, res_main_v106, res_main_call1_v0, res_main_call1_v2]
  simp only [proj_at]
  unfold Args.out4
  split
  · rename_i h
    refine Eq.trans (congrArg (fun x => Scalar.select (IntOp.cmpi CmpIPredicate.eq x (BitVec.ofNat 32 n.val)) (1 : EReal) 0) (floor64_eq s.val (by omega))) ?_
    exact eq_select _ _ (by omega) (by omega) _ _
  · split
    · unfold Args.R
      split
      · rename_i h; refine roped_lo _ ((args m c).co b s) ((args m c).si b s) _ _ _ _ h ?_ ?_ ?_ <;> omega
      · split
        · rename_i h0 h; refine roped_hi _ ((args m c).co b s) ((args m c).si b s) _ _ _ _ h ?_ ?_ ?_ <;> omega
        · refine roped_no _ _ _ _ _ ?_ ?_ <;> omega
    · rfl

theorem res5 (b g : Fin 2) (n : Fin 80) (s : Fin 8192) : (val4 (launchContents m c) (Proc.devRef .tc main_v150) (ix4 b g n s) : EReal) = (args m c).out5 b g n s := by
  rw [val4_main_v150]
  pointwise []
  simp only [proj_at]
  rfl

theorem res6 (b g : Fin 2) (s : Fin 8192) (n : Fin 64) : (val4 (launchContents m c) (Proc.devRef .tc main_v169) (ix4 b g s n) : EReal) = (args m c).out6 b g s n := by
  rw [val4_main_v169]
  pointwise [res_main_v151, res_main_v152, res_main_v153, res_main_v155, res_main_v156]
  simp only [proj_at]
  unfold Args.out6 Args.R
  split
  · rename_i h; refine roped_lo _ ((args m c).co b s) ((args m c).si b s) _ _ _ _ h ?_ ?_ ?_ <;> omega
  · split
    · rename_i h0 h; refine roped_hi _ ((args m c).co b s) ((args m c).si b s) _ _ _ _ h ?_ ?_ ?_ <;> omega
    · refine roped_no _ _ _ _ _ ?_ ?_ <;> omega

theorem res7 (b g : Fin 2) (n : Fin 80) (s : Fin 8192) : (val4 (launchContents m c) (Proc.devRef .tc main_v174) (ix4 b g n s) : EReal) = (args m c).out7 b g n s := by
  rw [val4_main_v174]
  pointwise []
  simp only [proj_at]
  rfl

theorem res8 (b : Fin 2) (n : Fin 256) (s : Fin 8192) : (val4 (launchContents m c) (Proc.devRef .tc main_v181) (ix3 b n s) : EReal) = (args m c).out8 b n s := by
  rw [val4_main_v181]
  pointwise []
  simp only [proj_at]
  unfold Args.out8
  refine congrArg Ideal.logistic ?_
  split
  · rename_i h; rw [if_pos h.2]
  · rename_i h; rw [if_neg (by omega), zero_int]

end Cert.Reference4Ideal.Inproj

end
-- ==== Proof.Inproj.Claim.lean ====
/-
  The input projection and its reference leave the same nine results.
-/
module

public import proofs.«01_k».proof.Defs
public import proofs.«01_k».proof.Proof.Inproj.Conv
public import proofs.«01_k».proof.Proof.Inproj.Ref

@[expose] public section

set_option maxRecDepth 65536

noncomputable section

open Idealize.ShloMosaic Idealize.ShloMosaic.TcCoe Idealize.SL.Sem Idealize.ShloMosaic.StableHlo

namespace Cert.Reference4Ideal.Inproj

open Cert.Reference4Ideal Cert.Reference4Ideal.Value Cert.Plain

variable (m : (ℓ : Loc nD τ sig) → Buf (Elt Ideal) ℓ) (c : Dev nD)

theorem all0 : val4 (launchContents m c) (Proc.devRef .tc main_v125)
    = fun y : S2x8192x512.Idx => (args m c).out0 (y 0) (y 1) (y 2) := by
  funext y
  obtain ⟨b, i, j, rfl⟩ : ∃ (b : Fin 2) (i : Fin 8192) (j : Fin 512), y = ix3 b i j := ⟨y 0, y 1, y 2, by idx_ext⟩
  exact res0 m c b i j

theorem all1 : val4 (launchContents m c) (Proc.devRef .tc main_v126)
    = fun y : S2x512x8192.Idx => (args m c).out1 (y 0) (y 1) (y 2) := by
  funext y
  obtain ⟨b, i, j, rfl⟩ : ∃ (b : Fin 2) (i : Fin 512) (j : Fin 8192), y = ix3 b i j := ⟨y 0, y 1, y 2, by idx_ext⟩
  exact res1 m c b i j

theorem all2 : val4 (launchContents m c) (Proc.devRef .tc main_v144)
    = fun y : S2x8192x128.Idx => (args m c).out2 (y 0) (y 1) (y 2) := by
  funext y
  obtain ⟨b, i, j, rfl⟩ : ∃ (b : Fin 2) (i : Fin 8192) (j : Fin 128), y = ix3 b i j := ⟨y 0, y 1, y 2, by idx_ext⟩
  exact res2 m c b i j

theorem all3 : val4 (launchContents m c) (Proc.devRef .tc main_v27)
    = fun y : S2x8192x128.Idx => (args m c).out3 (y 0) (y 1) (y 2) := by
  funext y
  obtain ⟨b, i, j, rfl⟩ : ∃ (b : Fin 2) (i : Fin 8192) (j : Fin 128), y = ix3 b i j := ⟨y 0, y 1, y 2, by idx_ext⟩
  exact res3 m c b i j

theorem all4 : val4 (launchContents m c) (Proc.devRef .tc main_v145)
    = fun y : S2x2x8192x256.Idx => (args m c).out4 (y 0) (y 1) (y 2) (y 3) := by
  funext y
  obtain ⟨b, g, i, j, rfl⟩ : ∃ (b g : Fin 2) (i : Fin 8192) (j : Fin 256), y = ix4 b g i j :=
    ⟨y 0, y 1, y 2, y 3, by idx_ext⟩
  exact res4 m c b g i j

theorem all5 : val4 (launchContents m c) (Proc.devRef .tc main_v150)
    = fun y : S2x2x80x8192.Idx => (args m c).out5 (y 0) (y 1) (y 2) (y 3) := by
  funext y
  obtain ⟨b, g, i, j, rfl⟩ : ∃ (b g : Fin 2) (i : Fin 80) (j : Fin 8192), y = ix4 b g i j :=
    ⟨y 0, y 1, y 2, y 3, by idx_ext⟩
  exact res5 m c b g i j

theorem all6 : val4 (launchContents m c) (Proc.devRef .tc main_v169)
    = fun y : S2x2x8192x64.Idx => (args m c).out6 (y 0) (y 1) (y 2) (y 3) := by
  funext y
  obtain ⟨b, g, i, j, rfl⟩ : ∃ (b g : Fin 2) (i : Fin 8192) (j : Fin 64), y = ix4 b g i j :=
    ⟨y 0, y 1, y 2, y 3, by idx_ext⟩
  exact res6 m c b g i j

theorem all7 : val4 (launchContents m c) (Proc.devRef .tc main_v174)
    = fun y : S2x2x80x8192.Idx => (args m c).out7 (y 0) (y 1) (y 2) (y 3) := by
  funext y
  obtain ⟨b, g, i, j, rfl⟩ : ∃ (b g : Fin 2) (i : Fin 80) (j : Fin 8192), y = ix4 b g i j :=
    ⟨y 0, y 1, y 2, y 3, by idx_ext⟩
  exact res7 m c b g i j

theorem all8 : val4 (launchContents m c) (Proc.devRef .tc main_v181)
    = fun y : S2x256x8192.Idx => (args m c).out8 (y 0) (y 1) (y 2) := by
  funext y
  obtain ⟨b, i, j, rfl⟩ : ∃ (b : Fin 2) (i : Fin 256) (j : Fin 8192), y = ix3 b i j := ⟨y 0, y 1, y 2, by idx_ext⟩
  exact res8 m c b i j

/-- The reference's run, its results of the arguments. -/
theorem run_at (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v125) = (fun y : S2x8192x512.Idx => (args m c).out0 (y 0) (y 1) (y 2))
      ∧ r.2.mem ((c.tc : Thread nD τ).loc main_v126) = (fun y : S2x512x8192.Idx => (args m c).out1 (y 0) (y 1) (y 2))
      ∧ r.2.mem ((c.tc : Thread nD τ).loc main_v144) = (fun y : S2x8192x128.Idx => (args m c).out2 (y 0) (y 1) (y 2))
      ∧ r.2.mem ((c.tc : Thread nD τ).loc main_v27) = (fun y : S2x8192x128.Idx => (args m c).out3 (y 0) (y 1) (y 2))
      ∧ r.2.mem ((c.tc : Thread nD τ).loc main_v145) = (fun y : S2x2x8192x256.Idx => (args m c).out4 (y 0) (y 1) (y 2) (y 3))
      ∧ r.2.mem ((c.tc : Thread nD τ).loc main_v150) = (fun y : S2x2x80x8192.Idx => (args m c).out5 (y 0) (y 1) (y 2) (y 3))
      ∧ r.2.mem ((c.tc : Thread nD τ).loc main_v169) = (fun y : S2x2x8192x64.Idx => (args m c).out6 (y 0) (y 1) (y 2) (y 3))
      ∧ r.2.mem ((c.tc : Thread nD τ).loc main_v174) = (fun y : S2x2x80x8192.Idx => (args m c).out7 (y 0) (y 1) (y 2) (y 3))
      ∧ r.2.mem ((c.tc : Thread nD τ).loc main_v181) = (fun y : S2x256x8192.Idx => (args m c).out8 (y 0) (y 1) (y 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨
      (h c main_v125).trans ((congrFun (after_ops (launchContents m c)) (Proc.devRef .tc main_v125)).trans (all0 m c)),
      (h c main_v126).trans ((congrFun (after_ops (launchContents m c)) (Proc.devRef .tc main_v126)).trans (all1 m c)),
      (h c main_v144).trans ((congrFun (after_ops (launchContents m c)) (Proc.devRef .tc main_v144)).trans (all2 m c)),
      (h c main_v27).trans ((congrFun (after_ops (launchContents m c)) (Proc.devRef .tc main_v27)).trans (all3 m c)),
      (h c main_v145).trans ((congrFun (after_ops (launchContents m c)) (Proc.devRef .tc main_v145)).trans (all4 m c)),
      (h c main_v150).trans ((congrFun (after_ops (launchContents m c)) (Proc.devRef .tc main_v150)).trans (all5 m c)),
      (h c main_v169).trans ((congrFun (after_ops (launchContents m c)) (Proc.devRef .tc main_v169)).trans (all6 m c)),
      (h c main_v174).trans ((congrFun (after_ops (launchContents m c)) (Proc.devRef .tc main_v174)).trans (all7 m c)),
      (h c main_v181).trans ((congrFun (after_ops (launchContents m c)) (Proc.devRef .tc main_v181)).trans (all8 m c)),
      (h c main_arg0).trans ((congrFun (after_ops (launchContents m c)) (Proc.devRef .tc main_arg0)).trans (val4_main_arg0 (launchContents m c))),
      (h c main_arg1).trans ((congrFun (after_ops (launchContents m c)) (Proc.devRef .tc main_arg1)).trans (val4_main_arg1 (launchContents m c))),
      (h c main_arg2).trans ((congrFun (after_ops (launchContents m c)) (Proc.devRef .tc main_arg2)).trans (val4_main_arg2 (launchContents m c))),
      (h c main_arg3).trans ((congrFun (after_ops (launchContents m c)) (Proc.devRef .tc main_arg3)).trans (val4_main_arg3 (launchContents m c))),
      (h c main_arg4).trans ((congrFun (after_ops (launchContents m c)) (Proc.devRef .tc main_arg4)).trans (val4_main_arg4 (launchContents m c))),
      (h c main_arg5).trans ((congrFun (after_ops (launchContents m c)) (Proc.devRef .tc main_arg5)).trans (val4_main_arg5 (launchContents m c))),
      (h c main_arg6).trans ((congrFun (after_ops (launchContents m c)) (Proc.devRef .tc main_arg6)).trans (val4_main_arg6 (launchContents m c))),
      (h c main_arg7).trans ((congrFun (after_ops (launchContents m c)) (Proc.devRef .tc main_arg7)).trans (val4_main_arg7 (launchContents m c)))⟩)
    (run_seq scopedRefs_eq scopedSems_eq defs main (fun _ => ops) main_eq (fun _ => ops_sub) m ρ fun _ => ops_fresh)

end Cert.Reference4Ideal.Inproj

namespace Cert.Kernel4Ideal.Inproj

open Cert.Kernel4Ideal Cert.Kernel4Ideal.Gen Cert.Plain

/-- The kernel's run, its results of the arguments. -/
theorem run_at (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v26_0) = (fun y : S2x8192x512.Idx => (args m c).out0 (y 0) (y 1) (y 2))
      ∧ r.2.mem ((c.tc : Thread nD τ).loc main_v26_1) = (fun y : S2x512x8192.Idx => (args m c).out1 (y 0) (y 1) (y 2))
      ∧ r.2.mem ((c.tc : Thread nD τ).loc main_v26_2) = (fun y : S2x8192x128.Idx => (args m c).out2 (y 0) (y 1) (y 2))
      ∧ r.2.mem ((c.tc : Thread nD τ).loc main_v26_3) = (fun y : S2x8192x128.Idx => (args m c).out3 (y 0) (y 1) (y 2))
      ∧ r.2.mem ((c.tc : Thread nD τ).loc main_v26_4) = (fun y : S2x2x8192x256.Idx => (args m c).out4 (y 0) (y 1) (y 2) (y 3))
      ∧ r.2.mem ((c.tc : Thread nD τ).loc main_v26_5) = (fun y : S2x2x80x8192.Idx => (args m c).out5 (y 0) (y 1) (y 2) (y 3))
      ∧ r.2.mem ((c.tc : Thread nD τ).loc main_v26_6) = (fun y : S2x2x8192x64.Idx => (args m c).out6 (y 0) (y 1) (y 2) (y 3))
      ∧ r.2.mem ((c.tc : Thread nD τ).loc main_v26_7) = (fun y : S2x2x80x8192.Idx => (args m c).out7 (y 0) (y 1) (y 2) (y 3))
      ∧ r.2.mem ((c.tc : Thread nD τ).loc main_v26_8) = (fun y : S2x256x8192.Idx => (args m c).out8 (y 0) (y 1) (y 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => by
    obtain ⟨h0, h1, h2, h3, h4, h5, h6, h7, h8, hk⟩ := h c
    exact ⟨h0.trans (final11 m c), h1.trans (final12 m c), h2.trans (final13 m c), h3.trans (final14 m c),
      h4.trans (final15 m c), h5.trans (final16 m c), h6.trans (final17 m c), h7.trans (final18 m c),
      h8.trans (final19 m c), hk⟩)
    (Cert.Kernel4Ideal.Value.run_blocks m ρ)

theorem algebraic : Cert.algebraic_Kernel4Ideal_Reference4Ideal := by
  intro m g m' g' _ hagree
  refine ⟨_, _, _, _, _, _, _, _, _, run_at m g, ?_⟩
  refine (θ_run _ _ _).mono (fun _ h c => ?_) (Cert.Reference4Ideal.Inproj.run_at m' g')
  have e : Cert.Reference4Ideal.Inproj.args m' c = args m c := by
    obtain ⟨h0, h1, h2, h3, h4, h5, h6, h7⟩ := hagree c
    unfold Cert.Reference4Ideal.Inproj.args args
    rw [h0, h1, h2, h3, h4, h5, h6, h7]
  have hc := h c
  rw [e] at hc
  exact hc

end Cert.Kernel4Ideal.Inproj

end
-- ==== Proof.lean ====
/- The claims, each from its own module's theorem. -/
module

public import proofs.«01_k».proof.Defs
public import proofs.«01_k».proof.Proof.Body.Kernel.Frame
public import proofs.«01_k».proof.Proof.Body.KernelIdeal.Frame
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Ffn.Claim2
public import proofs.«01_k».proof.Proof.Ffn.Claim3
public import proofs.«01_k».proof.Proof.Inproj.Claim
public import Idealize.ShloMosaic.Adequacy
public import Idealize.ShloMosaic.Init

@[expose] public section

noncomputable section

namespace Cert.Proof

open Idealize.ShloMosaic Idealize.SL.Sem

/-- The attention call's mask constant is named −∞ at every site. -/
theorem mask_named : Cert.preserves_Kernel_KernelIdeal :=
  IdealRules.named_const.statement Cert.KernelIdeal.κ "mask" .f32 0xF149F2CA#32 ⊥ rfl

/-- The reference of the first feed-forward call ends with its arguments as they were. -/
theorem reference2_frame : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The reference of the output call ends with its arguments as they were. -/
theorem reference3_frame : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The input projection's scale is named the reference's at every site. -/
theorem scale_named : Cert.preserves_Kernel4_Kernel4Ideal :=
  IdealRules.named_const.statement Cert.Kernel4Ideal.κ "scale" .f32 0x3E38AA3B#32
    (((Real.sqrt 64)⁻¹ * (Real.log 2)⁻¹ : ℝ) : EReal) rfl

/-- The reference of the input projection ends with its arguments as they were. -/
theorem reference4_frame : Cert.quiescent_Reference4Ideal := fun m ρ _ =>
  (θ_run Cert.Reference4Ideal.defs _ _).mono
    (fun r h => ⟨fun c => (h c).2.2.2.2.2.2.2.2.2, sem_eq_zero_of_no_sems (by decide) r.2⟩)
    (Cert.Reference4Ideal.Inproj.run_at m ρ)

theorem claim : Cert.Claim :=
  ⟨Cert.Kernel.Gen.facts, Cert.KernelIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    fun m ρ _ => Cert.Kernel.Body.frame m ρ, fun m ρ _ => Cert.KernelIdeal.Body.frame m ρ,
    fun m ρ _ => Cert.Kernel2.Gen.frame m ρ, fun m ρ _ => Cert.Kernel2Ideal.Gen.frame m ρ, reference2_frame,
    fun m ρ _ => Cert.Kernel3.Gen.frame m ρ, fun m ρ _ => Cert.Kernel3Ideal.Gen.frame m ρ, reference3_frame,
    fun m ρ _ => Cert.Kernel4.Gen.frame m ρ, fun m ρ _ => Cert.Kernel4Ideal.Gen.frame m ρ, reference4_frame,
    mask_named, trivial, Cert.Kernel2Ideal.Ffn.algebraic, trivial, Cert.Kernel3Ideal.Ffn.algebraic,
    scale_named, Cert.Kernel4Ideal.Inproj.algebraic⟩

end Cert.Proof

end
